-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_SFfn (m : (ℓ : Loc Cert.SFfn.nD Cert.SFfn.τ Cert.SFfn.sig) → Buf (Elt Bits) ℓ) : Prop :=
  True

def Pre_SFfnIdeal (m : (ℓ : Loc Cert.SFfnIdeal.nD Cert.SFfnIdeal.τ Cert.SFfnIdeal.sig) → Buf (Elt Ideal) ℓ) : Prop :=
  True

def Pre_SFfnRefIdeal (m : (ℓ : Loc Cert.SFfnRefIdeal.nD Cert.SFfnRefIdeal.τ Cert.SFfnRefIdeal.sig) → Buf (Elt Ideal) ℓ) : Prop :=
  True

def Pre_SMerge (m : (ℓ : Loc Cert.SMerge.nD Cert.SMerge.τ Cert.SMerge.sig) → Buf (Elt Bits) ℓ) : Prop :=
  True

def Pre_SMergeIdeal (m : (ℓ : Loc Cert.SMergeIdeal.nD Cert.SMergeIdeal.τ Cert.SMergeIdeal.sig) → Buf (Elt Ideal) ℓ) : Prop :=
  True

def Pre_SMergeRefIdeal (m : (ℓ : Loc Cert.SMergeRefIdeal.nD Cert.SMergeRefIdeal.τ Cert.SMergeRefIdeal.sig) → Buf (Elt Ideal) ℓ) : Prop :=
  True

def Pre_SProj (m : (ℓ : Loc Cert.SProj.nD Cert.SProj.τ Cert.SProj.sig) → Buf (Elt Bits) ℓ) : Prop :=
  True

def Pre_SProjIdeal (m : (ℓ : Loc Cert.SProjIdeal.nD Cert.SProjIdeal.τ Cert.SProjIdeal.sig) → Buf (Elt Ideal) ℓ) : Prop :=
  True

def Pre_SProjRefIdeal (m : (ℓ : Loc Cert.SProjRefIdeal.nD Cert.SProjRefIdeal.τ Cert.SProjRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_SFfn [hSFfn : Cert.SFfn.Facts] : Prop :=
  ∀ (m : (ℓ : Loc Cert.SFfn.nD Cert.SFfn.τ Cert.SFfn.sig) → Buf (Elt Bits) ℓ) (g : Dev Cert.SFfn.nD → PrngReg), Pre_SFfn m →
    θ_run (Cert.SFfn.defs (F := Bits)) (onTc (τ := Cert.SFfn.τ) (Cert.SFfn.main (F := Bits))) ⟨m, fun _ => 0, g⟩ (fun r => (∀ c : Dev Cert.SFfn.nD,
      r.2.mem ((c.tc : Thread Cert.SFfn.nD Cert.SFfn.τ).loc Cert.SFfn.main_arg0) = m ((c.tc : Thread Cert.SFfn.nD Cert.SFfn.τ).loc Cert.SFfn.main_arg0)
      ∧ r.2.mem ((c.tc : Thread Cert.SFfn.nD Cert.SFfn.τ).loc Cert.SFfn.main_arg1) = m ((c.tc : Thread Cert.SFfn.nD Cert.SFfn.τ).loc Cert.SFfn.main_arg1)
      ∧ r.2.mem ((c.tc : Thread Cert.SFfn.nD Cert.SFfn.τ).loc Cert.SFfn.main_arg2) = m ((c.tc : Thread Cert.SFfn.nD Cert.SFfn.τ).loc Cert.SFfn.main_arg2)
      ∧ r.2.mem ((c.tc : Thread Cert.SFfn.nD Cert.SFfn.τ).loc Cert.SFfn.main_arg3) = m ((c.tc : Thread Cert.SFfn.nD Cert.SFfn.τ).loc Cert.SFfn.main_arg3)
      ∧ r.2.mem ((c.tc : Thread Cert.SFfn.nD Cert.SFfn.τ).loc Cert.SFfn.main_arg4) = m ((c.tc : Thread Cert.SFfn.nD Cert.SFfn.τ).loc Cert.SFfn.main_arg4)
      ∧ r.2.mem ((c.tc : Thread Cert.SFfn.nD Cert.SFfn.τ).loc Cert.SFfn.main_arg5) = m ((c.tc : Thread Cert.SFfn.nD Cert.SFfn.τ).loc Cert.SFfn.main_arg5))
      ∧ r.2.sem = fun _ => 0)

def quiescent_SFfnIdeal [hSFfnIdeal : Cert.SFfnIdeal.Facts] : Prop :=
  ∀ (m : (ℓ : Loc Cert.SFfnIdeal.nD Cert.SFfnIdeal.τ Cert.SFfnIdeal.sig) → Buf (Elt Ideal) ℓ) (g : Dev Cert.SFfnIdeal.nD → PrngReg), Pre_SFfnIdeal m →
    θ_run (Cert.SFfnIdeal.defs (F := Ideal)) (onTc (τ := Cert.SFfnIdeal.τ) (Cert.SFfnIdeal.main (F := Ideal))) ⟨m, fun _ => 0, g⟩ (fun r => (∀ c : Dev Cert.SFfnIdeal.nD,
      r.2.mem ((c.tc : Thread Cert.SFfnIdeal.nD Cert.SFfnIdeal.τ).loc Cert.SFfnIdeal.main_arg0) = m ((c.tc : Thread Cert.SFfnIdeal.nD Cert.SFfnIdeal.τ).loc Cert.SFfnIdeal.main_arg0)
      ∧ r.2.mem ((c.tc : Thread Cert.SFfnIdeal.nD Cert.SFfnIdeal.τ).loc Cert.SFfnIdeal.main_arg1) = m ((c.tc : Thread Cert.SFfnIdeal.nD Cert.SFfnIdeal.τ).loc Cert.SFfnIdeal.main_arg1)
      ∧ r.2.mem ((c.tc : Thread Cert.SFfnIdeal.nD Cert.SFfnIdeal.τ).loc Cert.SFfnIdeal.main_arg2) = m ((c.tc : Thread Cert.SFfnIdeal.nD Cert.SFfnIdeal.τ).loc Cert.SFfnIdeal.main_arg2)
      ∧ r.2.mem ((c.tc : Thread Cert.SFfnIdeal.nD Cert.SFfnIdeal.τ).loc Cert.SFfnIdeal.main_arg3) = m ((c.tc : Thread Cert.SFfnIdeal.nD Cert.SFfnIdeal.τ).loc Cert.SFfnIdeal.main_arg3)
      ∧ r.2.mem ((c.tc : Thread Cert.SFfnIdeal.nD Cert.SFfnIdeal.τ).loc Cert.SFfnIdeal.main_arg4) = m ((c.tc : Thread Cert.SFfnIdeal.nD Cert.SFfnIdeal.τ).loc Cert.SFfnIdeal.main_arg4)
      ∧ r.2.mem ((c.tc : Thread Cert.SFfnIdeal.nD Cert.SFfnIdeal.τ).loc Cert.SFfnIdeal.main_arg5) = m ((c.tc : Thread Cert.SFfnIdeal.nD Cert.SFfnIdeal.τ).loc Cert.SFfnIdeal.main_arg5))
      ∧ r.2.sem = fun _ => 0)

def quiescent_SFfnRefIdeal [hSFfnRefIdeal : Cert.SFfnRefIdeal.Facts] : Prop :=
  ∀ (m : (ℓ : Loc Cert.SFfnRefIdeal.nD Cert.SFfnRefIdeal.τ Cert.SFfnRefIdeal.sig) → Buf (Elt Ideal) ℓ) (g : Dev Cert.SFfnRefIdeal.nD → PrngReg), Pre_SFfnRefIdeal m →
    θ_run (Cert.SFfnRefIdeal.defs (F := Ideal)) (onTc (τ := Cert.SFfnRefIdeal.τ) (Cert.SFfnRefIdeal.main (F := Ideal))) ⟨m, fun _ => 0, g⟩ (fun r => (∀ c : Dev Cert.SFfnRefIdeal.nD,
      r.2.mem ((c.tc : Thread Cert.SFfnRefIdeal.nD Cert.SFfnRefIdeal.τ).loc Cert.SFfnRefIdeal.main_arg0) = m ((c.tc : Thread Cert.SFfnRefIdeal.nD Cert.SFfnRefIdeal.τ).loc Cert.SFfnRefIdeal.main_arg0)
      ∧ r.2.mem ((c.tc : Thread Cert.SFfnRefIdeal.nD Cert.SFfnRefIdeal.τ).loc Cert.SFfnRefIdeal.main_arg1) = m ((c.tc : Thread Cert.SFfnRefIdeal.nD Cert.SFfnRefIdeal.τ).loc Cert.SFfnRefIdeal.main_arg1)
      ∧ r.2.mem ((c.tc : Thread Cert.SFfnRefIdeal.nD Cert.SFfnRefIdeal.τ).loc Cert.SFfnRefIdeal.main_arg2) = m ((c.tc : Thread Cert.SFfnRefIdeal.nD Cert.SFfnRefIdeal.τ).loc Cert.SFfnRefIdeal.main_arg2)
      ∧ r.2.mem ((c.tc : Thread Cert.SFfnRefIdeal.nD Cert.SFfnRefIdeal.τ).loc Cert.SFfnRefIdeal.main_arg3) = m ((c.tc : Thread Cert.SFfnRefIdeal.nD Cert.SFfnRefIdeal.τ).loc Cert.SFfnRefIdeal.main_arg3)
      ∧ r.2.mem ((c.tc : Thread Cert.SFfnRefIdeal.nD Cert.SFfnRefIdeal.τ).loc Cert.SFfnRefIdeal.main_arg4) = m ((c.tc : Thread Cert.SFfnRefIdeal.nD Cert.SFfnRefIdeal.τ).loc Cert.SFfnRefIdeal.main_arg4)
      ∧ r.2.mem ((c.tc : Thread Cert.SFfnRefIdeal.nD Cert.SFfnRefIdeal.τ).loc Cert.SFfnRefIdeal.main_arg5) = m ((c.tc : Thread Cert.SFfnRefIdeal.nD Cert.SFfnRefIdeal.τ).loc Cert.SFfnRefIdeal.main_arg5))
      ∧ r.2.sem = fun _ => 0)

def quiescent_SMerge [hSMerge : Cert.SMerge.Facts] : Prop :=
  ∀ (m : (ℓ : Loc Cert.SMerge.nD Cert.SMerge.τ Cert.SMerge.sig) → Buf (Elt Bits) ℓ) (g : Dev Cert.SMerge.nD → PrngReg), Pre_SMerge m →
    θ_run (Cert.SMerge.defs (F := Bits)) (onTc (τ := Cert.SMerge.τ) (Cert.SMerge.main (F := Bits))) ⟨m, fun _ => 0, g⟩ (fun r => (∀ c : Dev Cert.SMerge.nD,
      r.2.mem ((c.tc : Thread Cert.SMerge.nD Cert.SMerge.τ).loc Cert.SMerge.main_arg0) = m ((c.tc : Thread Cert.SMerge.nD Cert.SMerge.τ).loc Cert.SMerge.main_arg0)
      ∧ r.2.mem ((c.tc : Thread Cert.SMerge.nD Cert.SMerge.τ).loc Cert.SMerge.main_arg1) = m ((c.tc : Thread Cert.SMerge.nD Cert.SMerge.τ).loc Cert.SMerge.main_arg1)
      ∧ r.2.mem ((c.tc : Thread Cert.SMerge.nD Cert.SMerge.τ).loc Cert.SMerge.main_arg2) = m ((c.tc : Thread Cert.SMerge.nD Cert.SMerge.τ).loc Cert.SMerge.main_arg2)
      ∧ r.2.mem ((c.tc : Thread Cert.SMerge.nD Cert.SMerge.τ).loc Cert.SMerge.main_arg3) = m ((c.tc : Thread Cert.SMerge.nD Cert.SMerge.τ).loc Cert.SMerge.main_arg3)
      ∧ r.2.mem ((c.tc : Thread Cert.SMerge.nD Cert.SMerge.τ).loc Cert.SMerge.main_arg4) = m ((c.tc : Thread Cert.SMerge.nD Cert.SMerge.τ).loc Cert.SMerge.main_arg4)
      ∧ r.2.mem ((c.tc : Thread Cert.SMerge.nD Cert.SMerge.τ).loc Cert.SMerge.main_arg5) = m ((c.tc : Thread Cert.SMerge.nD Cert.SMerge.τ).loc Cert.SMerge.main_arg5)
      ∧ r.2.mem ((c.tc : Thread Cert.SMerge.nD Cert.SMerge.τ).loc Cert.SMerge.main_arg6) = m ((c.tc : Thread Cert.SMerge.nD Cert.SMerge.τ).loc Cert.SMerge.main_arg6)
      ∧ r.2.mem ((c.tc : Thread Cert.SMerge.nD Cert.SMerge.τ).loc Cert.SMerge.main_arg7) = m ((c.tc : Thread Cert.SMerge.nD Cert.SMerge.τ).loc Cert.SMerge.main_arg7)
      ∧ r.2.mem ((c.tc : Thread Cert.SMerge.nD Cert.SMerge.τ).loc Cert.SMerge.main_arg8) = m ((c.tc : Thread Cert.SMerge.nD Cert.SMerge.τ).loc Cert.SMerge.main_arg8)
      ∧ r.2.mem ((c.tc : Thread Cert.SMerge.nD Cert.SMerge.τ).loc Cert.SMerge.main_arg9) = m ((c.tc : Thread Cert.SMerge.nD Cert.SMerge.τ).loc Cert.SMerge.main_arg9)
      ∧ r.2.mem ((c.tc : Thread Cert.SMerge.nD Cert.SMerge.τ).loc Cert.SMerge.main_arg10) = m ((c.tc : Thread Cert.SMerge.nD Cert.SMerge.τ).loc Cert.SMerge.main_arg10))
      ∧ r.2.sem = fun _ => 0)

def quiescent_SMergeIdeal [hSMergeIdeal : Cert.SMergeIdeal.Facts] : Prop :=
  ∀ (m : (ℓ : Loc Cert.SMergeIdeal.nD Cert.SMergeIdeal.τ Cert.SMergeIdeal.sig) → Buf (Elt Ideal) ℓ) (g : Dev Cert.SMergeIdeal.nD → PrngReg), Pre_SMergeIdeal m →
    θ_run (Cert.SMergeIdeal.defs (F := Ideal)) (onTc (τ := Cert.SMergeIdeal.τ) (Cert.SMergeIdeal.main (F := Ideal))) ⟨m, fun _ => 0, g⟩ (fun r => (∀ c : Dev Cert.SMergeIdeal.nD,
      r.2.mem ((c.tc : Thread Cert.SMergeIdeal.nD Cert.SMergeIdeal.τ).loc Cert.SMergeIdeal.main_arg0) = m ((c.tc : Thread Cert.SMergeIdeal.nD Cert.SMergeIdeal.τ).loc Cert.SMergeIdeal.main_arg0)
      ∧ r.2.mem ((c.tc : Thread Cert.SMergeIdeal.nD Cert.SMergeIdeal.τ).loc Cert.SMergeIdeal.main_arg1) = m ((c.tc : Thread Cert.SMergeIdeal.nD Cert.SMergeIdeal.τ).loc Cert.SMergeIdeal.main_arg1)
      ∧ r.2.mem ((c.tc : Thread Cert.SMergeIdeal.nD Cert.SMergeIdeal.τ).loc Cert.SMergeIdeal.main_arg2) = m ((c.tc : Thread Cert.SMergeIdeal.nD Cert.SMergeIdeal.τ).loc Cert.SMergeIdeal.main_arg2)
      ∧ r.2.mem ((c.tc : Thread Cert.SMergeIdeal.nD Cert.SMergeIdeal.τ).loc Cert.SMergeIdeal.main_arg3) = m ((c.tc : Thread Cert.SMergeIdeal.nD Cert.SMergeIdeal.τ).loc Cert.SMergeIdeal.main_arg3)
      ∧ r.2.mem ((c.tc : Thread Cert.SMergeIdeal.nD Cert.SMergeIdeal.τ).loc Cert.SMergeIdeal.main_arg4) = m ((c.tc : Thread Cert.SMergeIdeal.nD Cert.SMergeIdeal.τ).loc Cert.SMergeIdeal.main_arg4)
      ∧ r.2.mem ((c.tc : Thread Cert.SMergeIdeal.nD Cert.SMergeIdeal.τ).loc Cert.SMergeIdeal.main_arg5) = m ((c.tc : Thread Cert.SMergeIdeal.nD Cert.SMergeIdeal.τ).loc Cert.SMergeIdeal.main_arg5)
      ∧ r.2.mem ((c.tc : Thread Cert.SMergeIdeal.nD Cert.SMergeIdeal.τ).loc Cert.SMergeIdeal.main_arg6) = m ((c.tc : Thread Cert.SMergeIdeal.nD Cert.SMergeIdeal.τ).loc Cert.SMergeIdeal.main_arg6)
      ∧ r.2.mem ((c.tc : Thread Cert.SMergeIdeal.nD Cert.SMergeIdeal.τ).loc Cert.SMergeIdeal.main_arg7) = m ((c.tc : Thread Cert.SMergeIdeal.nD Cert.SMergeIdeal.τ).loc Cert.SMergeIdeal.main_arg7)
      ∧ r.2.mem ((c.tc : Thread Cert.SMergeIdeal.nD Cert.SMergeIdeal.τ).loc Cert.SMergeIdeal.main_arg8) = m ((c.tc : Thread Cert.SMergeIdeal.nD Cert.SMergeIdeal.τ).loc Cert.SMergeIdeal.main_arg8)
      ∧ r.2.mem ((c.tc : Thread Cert.SMergeIdeal.nD Cert.SMergeIdeal.τ).loc Cert.SMergeIdeal.main_arg9) = m ((c.tc : Thread Cert.SMergeIdeal.nD Cert.SMergeIdeal.τ).loc Cert.SMergeIdeal.main_arg9)
      ∧ r.2.mem ((c.tc : Thread Cert.SMergeIdeal.nD Cert.SMergeIdeal.τ).loc Cert.SMergeIdeal.main_arg10) = m ((c.tc : Thread Cert.SMergeIdeal.nD Cert.SMergeIdeal.τ).loc Cert.SMergeIdeal.main_arg10))
      ∧ r.2.sem = fun _ => 0)

def quiescent_SMergeRefIdeal [hSMergeRefIdeal : Cert.SMergeRefIdeal.Facts] : Prop :=
  ∀ (m : (ℓ : Loc Cert.SMergeRefIdeal.nD Cert.SMergeRefIdeal.τ Cert.SMergeRefIdeal.sig) → Buf (Elt Ideal) ℓ) (g : Dev Cert.SMergeRefIdeal.nD → PrngReg), Pre_SMergeRefIdeal m →
    θ_run (Cert.SMergeRefIdeal.defs (F := Ideal)) (onTc (τ := Cert.SMergeRefIdeal.τ) (Cert.SMergeRefIdeal.main (F := Ideal))) ⟨m, fun _ => 0, g⟩ (fun r => (∀ c : Dev Cert.SMergeRefIdeal.nD,
      r.2.mem ((c.tc : Thread Cert.SMergeRefIdeal.nD Cert.SMergeRefIdeal.τ).loc Cert.SMergeRefIdeal.main_arg0) = m ((c.tc : Thread Cert.SMergeRefIdeal.nD Cert.SMergeRefIdeal.τ).loc Cert.SMergeRefIdeal.main_arg0)
      ∧ r.2.mem ((c.tc : Thread Cert.SMergeRefIdeal.nD Cert.SMergeRefIdeal.τ).loc Cert.SMergeRefIdeal.main_arg1) = m ((c.tc : Thread Cert.SMergeRefIdeal.nD Cert.SMergeRefIdeal.τ).loc Cert.SMergeRefIdeal.main_arg1)
      ∧ r.2.mem ((c.tc : Thread Cert.SMergeRefIdeal.nD Cert.SMergeRefIdeal.τ).loc Cert.SMergeRefIdeal.main_arg2) = m ((c.tc : Thread Cert.SMergeRefIdeal.nD Cert.SMergeRefIdeal.τ).loc Cert.SMergeRefIdeal.main_arg2)
      ∧ r.2.mem ((c.tc : Thread Cert.SMergeRefIdeal.nD Cert.SMergeRefIdeal.τ).loc Cert.SMergeRefIdeal.main_arg3) = m ((c.tc : Thread Cert.SMergeRefIdeal.nD Cert.SMergeRefIdeal.τ).loc Cert.SMergeRefIdeal.main_arg3)
      ∧ r.2.mem ((c.tc : Thread Cert.SMergeRefIdeal.nD Cert.SMergeRefIdeal.τ).loc Cert.SMergeRefIdeal.main_arg4) = m ((c.tc : Thread Cert.SMergeRefIdeal.nD Cert.SMergeRefIdeal.τ).loc Cert.SMergeRefIdeal.main_arg4)
      ∧ r.2.mem ((c.tc : Thread Cert.SMergeRefIdeal.nD Cert.SMergeRefIdeal.τ).loc Cert.SMergeRefIdeal.main_arg5) = m ((c.tc : Thread Cert.SMergeRefIdeal.nD Cert.SMergeRefIdeal.τ).loc Cert.SMergeRefIdeal.main_arg5)
      ∧ r.2.mem ((c.tc : Thread Cert.SMergeRefIdeal.nD Cert.SMergeRefIdeal.τ).loc Cert.SMergeRefIdeal.main_arg6) = m ((c.tc : Thread Cert.SMergeRefIdeal.nD Cert.SMergeRefIdeal.τ).loc Cert.SMergeRefIdeal.main_arg6)
      ∧ r.2.mem ((c.tc : Thread Cert.SMergeRefIdeal.nD Cert.SMergeRefIdeal.τ).loc Cert.SMergeRefIdeal.main_arg7) = m ((c.tc : Thread Cert.SMergeRefIdeal.nD Cert.SMergeRefIdeal.τ).loc Cert.SMergeRefIdeal.main_arg7)
      ∧ r.2.mem ((c.tc : Thread Cert.SMergeRefIdeal.nD Cert.SMergeRefIdeal.τ).loc Cert.SMergeRefIdeal.main_arg8) = m ((c.tc : Thread Cert.SMergeRefIdeal.nD Cert.SMergeRefIdeal.τ).loc Cert.SMergeRefIdeal.main_arg8)
      ∧ r.2.mem ((c.tc : Thread Cert.SMergeRefIdeal.nD Cert.SMergeRefIdeal.τ).loc Cert.SMergeRefIdeal.main_arg9) = m ((c.tc : Thread Cert.SMergeRefIdeal.nD Cert.SMergeRefIdeal.τ).loc Cert.SMergeRefIdeal.main_arg9)
      ∧ r.2.mem ((c.tc : Thread Cert.SMergeRefIdeal.nD Cert.SMergeRefIdeal.τ).loc Cert.SMergeRefIdeal.main_arg10) = m ((c.tc : Thread Cert.SMergeRefIdeal.nD Cert.SMergeRefIdeal.τ).loc Cert.SMergeRefIdeal.main_arg10))
      ∧ r.2.sem = fun _ => 0)

def quiescent_SProj [hSProj : Cert.SProj.Facts] : Prop :=
  ∀ (m : (ℓ : Loc Cert.SProj.nD Cert.SProj.τ Cert.SProj.sig) → Buf (Elt Bits) ℓ) (g : Dev Cert.SProj.nD → PrngReg), Pre_SProj m →
    θ_run (Cert.SProj.defs (F := Bits)) (onTc (τ := Cert.SProj.τ) (Cert.SProj.main (F := Bits))) ⟨m, fun _ => 0, g⟩ (fun r => (∀ c : Dev Cert.SProj.nD,
      r.2.mem ((c.tc : Thread Cert.SProj.nD Cert.SProj.τ).loc Cert.SProj.main_arg0) = m ((c.tc : Thread Cert.SProj.nD Cert.SProj.τ).loc Cert.SProj.main_arg0)
      ∧ r.2.mem ((c.tc : Thread Cert.SProj.nD Cert.SProj.τ).loc Cert.SProj.main_arg1) = m ((c.tc : Thread Cert.SProj.nD Cert.SProj.τ).loc Cert.SProj.main_arg1)
      ∧ r.2.mem ((c.tc : Thread Cert.SProj.nD Cert.SProj.τ).loc Cert.SProj.main_arg2) = m ((c.tc : Thread Cert.SProj.nD Cert.SProj.τ).loc Cert.SProj.main_arg2)
      ∧ r.2.mem ((c.tc : Thread Cert.SProj.nD Cert.SProj.τ).loc Cert.SProj.main_arg3) = m ((c.tc : Thread Cert.SProj.nD Cert.SProj.τ).loc Cert.SProj.main_arg3)
      ∧ r.2.mem ((c.tc : Thread Cert.SProj.nD Cert.SProj.τ).loc Cert.SProj.main_arg4) = m ((c.tc : Thread Cert.SProj.nD Cert.SProj.τ).loc Cert.SProj.main_arg4))
      ∧ r.2.sem = fun _ => 0)

def quiescent_SProjIdeal [hSProjIdeal : Cert.SProjIdeal.Facts] : Prop :=
  ∀ (m : (ℓ : Loc Cert.SProjIdeal.nD Cert.SProjIdeal.τ Cert.SProjIdeal.sig) → Buf (Elt Ideal) ℓ) (g : Dev Cert.SProjIdeal.nD → PrngReg), Pre_SProjIdeal m →
    θ_run (Cert.SProjIdeal.defs (F := Ideal)) (onTc (τ := Cert.SProjIdeal.τ) (Cert.SProjIdeal.main (F := Ideal))) ⟨m, fun _ => 0, g⟩ (fun r => (∀ c : Dev Cert.SProjIdeal.nD,
      r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
      ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
      ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
      ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3)
      ∧ r.2.mem ((c.tc : Thread Cert.SProjIdeal.nD Cert.SProjIdeal.τ).loc Cert.SProjIdeal.main_arg4) = m ((c.tc : Thread Cert.SProjIdeal.nD Cert.SProjIdeal.τ).loc Cert.SProjIdeal.main_arg4))
      ∧ r.2.sem = fun _ => 0)

def quiescent_SProjRefIdeal [hSProjRefIdeal : Cert.SProjRefIdeal.Facts] : Prop :=
  ∀ (m : (ℓ : Loc Cert.SProjRefIdeal.nD Cert.SProjRefIdeal.τ Cert.SProjRefIdeal.sig) → Buf (Elt Ideal) ℓ) (g : Dev Cert.SProjRefIdeal.nD → PrngReg), Pre_SProjRefIdeal m →
    θ_run (Cert.SProjRefIdeal.defs (F := Ideal)) (onTc (τ := Cert.SProjRefIdeal.τ) (Cert.SProjRefIdeal.main (F := Ideal))) ⟨m, fun _ => 0, g⟩ (fun r => (∀ c : Dev Cert.SProjRefIdeal.nD,
      r.2.mem ((c.tc : Thread Cert.SProjRefIdeal.nD Cert.SProjRefIdeal.τ).loc Cert.SProjRefIdeal.main_arg0) = m ((c.tc : Thread Cert.SProjRefIdeal.nD Cert.SProjRefIdeal.τ).loc Cert.SProjRefIdeal.main_arg0)
      ∧ r.2.mem ((c.tc : Thread Cert.SProjRefIdeal.nD Cert.SProjRefIdeal.τ).loc Cert.SProjRefIdeal.main_arg1) = m ((c.tc : Thread Cert.SProjRefIdeal.nD Cert.SProjRefIdeal.τ).loc Cert.SProjRefIdeal.main_arg1)
      ∧ r.2.mem ((c.tc : Thread Cert.SProjRefIdeal.nD Cert.SProjRefIdeal.τ).loc Cert.SProjRefIdeal.main_arg2) = m ((c.tc : Thread Cert.SProjRefIdeal.nD Cert.SProjRefIdeal.τ).loc Cert.SProjRefIdeal.main_arg2)
      ∧ r.2.mem ((c.tc : Thread Cert.SProjRefIdeal.nD Cert.SProjRefIdeal.τ).loc Cert.SProjRefIdeal.main_arg3) = m ((c.tc : Thread Cert.SProjRefIdeal.nD Cert.SProjRefIdeal.τ).loc Cert.SProjRefIdeal.main_arg3)
      ∧ r.2.mem ((c.tc : Thread Cert.SProjRefIdeal.nD Cert.SProjRefIdeal.τ).loc Cert.SProjRefIdeal.main_arg4) = m ((c.tc : Thread Cert.SProjRefIdeal.nD Cert.SProjRefIdeal.τ).loc Cert.SProjRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v71) = v0 c
          ∧ r.2.mem ((c.tc : Thread Cert.MergeRefIdeal.nD Cert.MergeRefIdeal.τ).loc Cert.MergeRefIdeal.main_v73) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v17_0)) (v1 : (c : Dev Cert.ProjIdeal.nD) → Buf (Elt Ideal) ((c.tc : Thread Cert.ProjIdeal.nD Cert.ProjIdeal.τ).loc Cert.ProjIdeal.main_v17_1)) (v2 : (c : Dev Cert.ProjIdeal.nD) → Buf (Elt Ideal) ((c.tc : Thread Cert.ProjIdeal.nD Cert.ProjIdeal.τ).loc Cert.ProjIdeal.main_v17_2)) (v3 : (c : Dev Cert.ProjIdeal.nD) → Buf (Elt Ideal) ((c.tc : Thread Cert.ProjIdeal.nD Cert.ProjIdeal.τ).loc Cert.ProjIdeal.main_v17_3)) (v4 : (c : Dev Cert.ProjIdeal.nD) → Buf (Elt Ideal) ((c.tc : Thread Cert.ProjIdeal.nD Cert.ProjIdeal.τ).loc Cert.ProjIdeal.main_v17_4)) (v5 : (c : Dev Cert.ProjIdeal.nD) → Buf (Elt Ideal) ((c.tc : Thread Cert.ProjIdeal.nD Cert.ProjIdeal.τ).loc Cert.ProjIdeal.main_v17_5)) (v6 : (c : Dev Cert.ProjIdeal.nD) → Buf (Elt Ideal) ((c.tc : Thread Cert.ProjIdeal.nD Cert.ProjIdeal.τ).loc Cert.ProjIdeal.main_v17_6)) (v7 : (c : Dev Cert.ProjIdeal.nD) → Buf (Elt Ideal) ((c.tc : Thread Cert.ProjIdeal.nD Cert.ProjIdeal.τ).loc Cert.ProjIdeal.main_v17_7)) (v8 : (c : Dev Cert.ProjIdeal.nD) → Buf (Elt Ideal) ((c.tc : Thread Cert.ProjIdeal.nD Cert.ProjIdeal.τ).loc Cert.ProjIdeal.main_v17_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v17_0) = v0 c
          ∧ r.2.mem ((c.tc : Thread Cert.ProjIdeal.nD Cert.ProjIdeal.τ).loc Cert.ProjIdeal.main_v17_1) = v1 c
          ∧ r.2.mem ((c.tc : Thread Cert.ProjIdeal.nD Cert.ProjIdeal.τ).loc Cert.ProjIdeal.main_v17_2) = v2 c
          ∧ r.2.mem ((c.tc : Thread Cert.ProjIdeal.nD Cert.ProjIdeal.τ).loc Cert.ProjIdeal.main_v17_3) = v3 c
          ∧ r.2.mem ((c.tc : Thread Cert.ProjIdeal.nD Cert.ProjIdeal.τ).loc Cert.ProjIdeal.main_v17_4) = v4 c
          ∧ r.2.mem ((c.tc : Thread Cert.ProjIdeal.nD Cert.ProjIdeal.τ).loc Cert.ProjIdeal.main_v17_5) = v5 c
          ∧ r.2.mem ((c.tc : Thread Cert.ProjIdeal.nD Cert.ProjIdeal.τ).loc Cert.ProjIdeal.main_v17_6) = v6 c
          ∧ r.2.mem ((c.tc : Thread Cert.ProjIdeal.nD Cert.ProjIdeal.τ).loc Cert.ProjIdeal.main_v17_7) = v7 c
          ∧ r.2.mem ((c.tc : Thread Cert.ProjIdeal.nD Cert.ProjIdeal.τ).loc Cert.ProjIdeal.main_v17_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v44) = v0 c
          ∧ r.2.mem ((c.tc : Thread Cert.ProjRefIdeal.nD Cert.ProjRefIdeal.τ).loc Cert.ProjRefIdeal.main_v45) = v1 c
          ∧ r.2.mem ((c.tc : Thread Cert.ProjRefIdeal.nD Cert.ProjRefIdeal.τ).loc Cert.ProjRefIdeal.main_v47) = v2 c
          ∧ r.2.mem ((c.tc : Thread Cert.ProjRefIdeal.nD Cert.ProjRefIdeal.τ).loc Cert.ProjRefIdeal.main_v49) = v3 c
          ∧ r.2.mem ((c.tc : Thread Cert.ProjRefIdeal.nD Cert.ProjRefIdeal.τ).loc Cert.ProjRefIdeal.main_v51) = v4 c
          ∧ r.2.mem ((c.tc : Thread Cert.ProjRefIdeal.nD Cert.ProjRefIdeal.τ).loc Cert.ProjRefIdeal.main_v52) = v5 c
          ∧ r.2.mem ((c.tc : Thread Cert.ProjRefIdeal.nD Cert.ProjRefIdeal.τ).loc Cert.ProjRefIdeal.main_v54) = v6 c
          ∧ r.2.mem ((c.tc : Thread Cert.ProjRefIdeal.nD Cert.ProjRefIdeal.τ).loc Cert.ProjRefIdeal.main_v57) = v7 c
          ∧ r.2.mem ((c.tc : Thread Cert.ProjRefIdeal.nD Cert.ProjRefIdeal.τ).loc Cert.ProjRefIdeal.main_v58) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_SFfn_SFfnIdeal : Prop :=
  True

def algebraic_SFfnIdeal_SFfnRefIdeal [hSFfnIdeal : Cert.SFfnIdeal.Facts] [hSFfnRefIdeal : Cert.SFfnRefIdeal.Facts] : Prop :=
  ∀ (m : (ℓ : Loc Cert.SFfnIdeal.nD Cert.SFfnIdeal.τ Cert.SFfnIdeal.sig) → Buf (Elt Ideal) ℓ) (g : Dev Cert.SFfnIdeal.nD → PrngReg)
    (m' : (ℓ : Loc Cert.SFfnRefIdeal.nD Cert.SFfnRefIdeal.τ Cert.SFfnRefIdeal.sig) → Buf (Elt Ideal) ℓ) (g' : Dev Cert.SFfnRefIdeal.nD → PrngReg), Pre_SFfnIdeal m →
    (∀ c : Dev Cert.SFfnIdeal.nD,
      m' ((c.tc : Thread Cert.SFfnRefIdeal.nD Cert.SFfnRefIdeal.τ).loc Cert.SFfnRefIdeal.main_arg0) = m ((c.tc : Thread Cert.SFfnIdeal.nD Cert.SFfnIdeal.τ).loc Cert.SFfnIdeal.main_arg0)
      ∧ m' ((c.tc : Thread Cert.SFfnRefIdeal.nD Cert.SFfnRefIdeal.τ).loc Cert.SFfnRefIdeal.main_arg1) = m ((c.tc : Thread Cert.SFfnIdeal.nD Cert.SFfnIdeal.τ).loc Cert.SFfnIdeal.main_arg1)
      ∧ m' ((c.tc : Thread Cert.SFfnRefIdeal.nD Cert.SFfnRefIdeal.τ).loc Cert.SFfnRefIdeal.main_arg2) = m ((c.tc : Thread Cert.SFfnIdeal.nD Cert.SFfnIdeal.τ).loc Cert.SFfnIdeal.main_arg2)
      ∧ m' ((c.tc : Thread Cert.SFfnRefIdeal.nD Cert.SFfnRefIdeal.τ).loc Cert.SFfnRefIdeal.main_arg3) = m ((c.tc : Thread Cert.SFfnIdeal.nD Cert.SFfnIdeal.τ).loc Cert.SFfnIdeal.main_arg3)
      ∧ m' ((c.tc : Thread Cert.SFfnRefIdeal.nD Cert.SFfnRefIdeal.τ).loc Cert.SFfnRefIdeal.main_arg4) = m ((c.tc : Thread Cert.SFfnIdeal.nD Cert.SFfnIdeal.τ).loc Cert.SFfnIdeal.main_arg4)
      ∧ m' ((c.tc : Thread Cert.SFfnRefIdeal.nD Cert.SFfnRefIdeal.τ).loc Cert.SFfnRefIdeal.main_arg5) = m ((c.tc : Thread Cert.SFfnIdeal.nD Cert.SFfnIdeal.τ).loc Cert.SFfnIdeal.main_arg5)) →
    ∃ (v0 : (c : Dev Cert.SFfnIdeal.nD) → Buf (Elt Ideal) ((c.tc : Thread Cert.SFfnIdeal.nD Cert.SFfnIdeal.τ).loc Cert.SFfnIdeal.main_v7)),
      θ_run (Cert.SFfnIdeal.defs (F := Ideal)) (onTc (τ := Cert.SFfnIdeal.τ) (Cert.SFfnIdeal.main (F := Ideal))) ⟨m, fun _ => 0, g⟩ (fun r => ∀ c : Dev Cert.SFfnIdeal.nD,
          r.2.mem ((c.tc : Thread Cert.SFfnIdeal.nD Cert.SFfnIdeal.τ).loc Cert.SFfnIdeal.main_v7) = v0 c
          ∧ r.2.mem ((c.tc : Thread Cert.SFfnIdeal.nD Cert.SFfnIdeal.τ).loc Cert.SFfnIdeal.main_arg0) = m ((c.tc : Thread Cert.SFfnIdeal.nD Cert.SFfnIdeal.τ).loc Cert.SFfnIdeal.main_arg0)
          ∧ r.2.mem ((c.tc : Thread Cert.SFfnIdeal.nD Cert.SFfnIdeal.τ).loc Cert.SFfnIdeal.main_arg1) = m ((c.tc : Thread Cert.SFfnIdeal.nD Cert.SFfnIdeal.τ).loc Cert.SFfnIdeal.main_arg1)
          ∧ r.2.mem ((c.tc : Thread Cert.SFfnIdeal.nD Cert.SFfnIdeal.τ).loc Cert.SFfnIdeal.main_arg2) = m ((c.tc : Thread Cert.SFfnIdeal.nD Cert.SFfnIdeal.τ).loc Cert.SFfnIdeal.main_arg2)
          ∧ r.2.mem ((c.tc : Thread Cert.SFfnIdeal.nD Cert.SFfnIdeal.τ).loc Cert.SFfnIdeal.main_arg3) = m ((c.tc : Thread Cert.SFfnIdeal.nD Cert.SFfnIdeal.τ).loc Cert.SFfnIdeal.main_arg3)
          ∧ r.2.mem ((c.tc : Thread Cert.SFfnIdeal.nD Cert.SFfnIdeal.τ).loc Cert.SFfnIdeal.main_arg4) = m ((c.tc : Thread Cert.SFfnIdeal.nD Cert.SFfnIdeal.τ).loc Cert.SFfnIdeal.main_arg4)
          ∧ r.2.mem ((c.tc : Thread Cert.SFfnIdeal.nD Cert.SFfnIdeal.τ).loc Cert.SFfnIdeal.main_arg5) = m ((c.tc : Thread Cert.SFfnIdeal.nD Cert.SFfnIdeal.τ).loc Cert.SFfnIdeal.main_arg5))
      ∧ θ_run (Cert.SFfnRefIdeal.defs (F := Ideal)) (onTc (τ := Cert.SFfnRefIdeal.τ) (Cert.SFfnRefIdeal.main (F := Ideal))) ⟨m', fun _ => 0, g'⟩ (fun r => ∀ c : Dev Cert.SFfnRefIdeal.nD,
          r.2.mem ((c.tc : Thread Cert.SFfnRefIdeal.nD Cert.SFfnRefIdeal.τ).loc Cert.SFfnRefIdeal.main_v29) = v0 c
          ∧ r.2.mem ((c.tc : Thread Cert.SFfnRefIdeal.nD Cert.SFfnRefIdeal.τ).loc Cert.SFfnRefIdeal.main_arg0) = m' ((c.tc : Thread Cert.SFfnRefIdeal.nD Cert.SFfnRefIdeal.τ).loc Cert.SFfnRefIdeal.main_arg0)
          ∧ r.2.mem ((c.tc : Thread Cert.SFfnRefIdeal.nD Cert.SFfnRefIdeal.τ).loc Cert.SFfnRefIdeal.main_arg1) = m' ((c.tc : Thread Cert.SFfnRefIdeal.nD Cert.SFfnRefIdeal.τ).loc Cert.SFfnRefIdeal.main_arg1)
          ∧ r.2.mem ((c.tc : Thread Cert.SFfnRefIdeal.nD Cert.SFfnRefIdeal.τ).loc Cert.SFfnRefIdeal.main_arg2) = m' ((c.tc : Thread Cert.SFfnRefIdeal.nD Cert.SFfnRefIdeal.τ).loc Cert.SFfnRefIdeal.main_arg2)
          ∧ r.2.mem ((c.tc : Thread Cert.SFfnRefIdeal.nD Cert.SFfnRefIdeal.τ).loc Cert.SFfnRefIdeal.main_arg3) = m' ((c.tc : Thread Cert.SFfnRefIdeal.nD Cert.SFfnRefIdeal.τ).loc Cert.SFfnRefIdeal.main_arg3)
          ∧ r.2.mem ((c.tc : Thread Cert.SFfnRefIdeal.nD Cert.SFfnRefIdeal.τ).loc Cert.SFfnRefIdeal.main_arg4) = m' ((c.tc : Thread Cert.SFfnRefIdeal.nD Cert.SFfnRefIdeal.τ).loc Cert.SFfnRefIdeal.main_arg4)
          ∧ r.2.mem ((c.tc : Thread Cert.SFfnRefIdeal.nD Cert.SFfnRefIdeal.τ).loc Cert.SFfnRefIdeal.main_arg5) = m' ((c.tc : Thread Cert.SFfnRefIdeal.nD Cert.SFfnRefIdeal.τ).loc Cert.SFfnRefIdeal.main_arg5))

def preserves_SMerge_SMergeIdeal : Prop :=
  True

def algebraic_SMergeIdeal_SMergeRefIdeal [hSMergeIdeal : Cert.SMergeIdeal.Facts] [hSMergeRefIdeal : Cert.SMergeRefIdeal.Facts] : Prop :=
  ∀ (m : (ℓ : Loc Cert.SMergeIdeal.nD Cert.SMergeIdeal.τ Cert.SMergeIdeal.sig) → Buf (Elt Ideal) ℓ) (g : Dev Cert.SMergeIdeal.nD → PrngReg)
    (m' : (ℓ : Loc Cert.SMergeRefIdeal.nD Cert.SMergeRefIdeal.τ Cert.SMergeRefIdeal.sig) → Buf (Elt Ideal) ℓ) (g' : Dev Cert.SMergeRefIdeal.nD → PrngReg), Pre_SMergeIdeal m →
    (∀ c : Dev Cert.SMergeIdeal.nD,
      m' ((c.tc : Thread Cert.SMergeRefIdeal.nD Cert.SMergeRefIdeal.τ).loc Cert.SMergeRefIdeal.main_arg0) = m ((c.tc : Thread Cert.SMergeIdeal.nD Cert.SMergeIdeal.τ).loc Cert.SMergeIdeal.main_arg0)
      ∧ m' ((c.tc : Thread Cert.SMergeRefIdeal.nD Cert.SMergeRefIdeal.τ).loc Cert.SMergeRefIdeal.main_arg1) = m ((c.tc : Thread Cert.SMergeIdeal.nD Cert.SMergeIdeal.τ).loc Cert.SMergeIdeal.main_arg1)
      ∧ m' ((c.tc : Thread Cert.SMergeRefIdeal.nD Cert.SMergeRefIdeal.τ).loc Cert.SMergeRefIdeal.main_arg2) = m ((c.tc : Thread Cert.SMergeIdeal.nD Cert.SMergeIdeal.τ).loc Cert.SMergeIdeal.main_arg2)
      ∧ m' ((c.tc : Thread Cert.SMergeRefIdeal.nD Cert.SMergeRefIdeal.τ).loc Cert.SMergeRefIdeal.main_arg3) = m ((c.tc : Thread Cert.SMergeIdeal.nD Cert.SMergeIdeal.τ).loc Cert.SMergeIdeal.main_arg3)
      ∧ m' ((c.tc : Thread Cert.SMergeRefIdeal.nD Cert.SMergeRefIdeal.τ).loc Cert.SMergeRefIdeal.main_arg4) = m ((c.tc : Thread Cert.SMergeIdeal.nD Cert.SMergeIdeal.τ).loc Cert.SMergeIdeal.main_arg4)
      ∧ m' ((c.tc : Thread Cert.SMergeRefIdeal.nD Cert.SMergeRefIdeal.τ).loc Cert.SMergeRefIdeal.main_arg5) = m ((c.tc : Thread Cert.SMergeIdeal.nD Cert.SMergeIdeal.τ).loc Cert.SMergeIdeal.main_arg5)
      ∧ m' ((c.tc : Thread Cert.SMergeRefIdeal.nD Cert.SMergeRefIdeal.τ).loc Cert.SMergeRefIdeal.main_arg6) = m ((c.tc : Thread Cert.SMergeIdeal.nD Cert.SMergeIdeal.τ).loc Cert.SMergeIdeal.main_arg6)
      ∧ m' ((c.tc : Thread Cert.SMergeRefIdeal.nD Cert.SMergeRefIdeal.τ).loc Cert.SMergeRefIdeal.main_arg7) = m ((c.tc : Thread Cert.SMergeIdeal.nD Cert.SMergeIdeal.τ).loc Cert.SMergeIdeal.main_arg7)
      ∧ m' ((c.tc : Thread Cert.SMergeRefIdeal.nD Cert.SMergeRefIdeal.τ).loc Cert.SMergeRefIdeal.main_arg8) = m ((c.tc : Thread Cert.SMergeIdeal.nD Cert.SMergeIdeal.τ).loc Cert.SMergeIdeal.main_arg8)
      ∧ m' ((c.tc : Thread Cert.SMergeRefIdeal.nD Cert.SMergeRefIdeal.τ).loc Cert.SMergeRefIdeal.main_arg9) = m ((c.tc : Thread Cert.SMergeIdeal.nD Cert.SMergeIdeal.τ).loc Cert.SMergeIdeal.main_arg9)
      ∧ m' ((c.tc : Thread Cert.SMergeRefIdeal.nD Cert.SMergeRefIdeal.τ).loc Cert.SMergeRefIdeal.main_arg10) = m ((c.tc : Thread Cert.SMergeIdeal.nD Cert.SMergeIdeal.τ).loc Cert.SMergeIdeal.main_arg10)) →
    ∃ (v0 : (c : Dev Cert.SMergeIdeal.nD) → Buf (Elt Ideal) ((c.tc : Thread Cert.SMergeIdeal.nD Cert.SMergeIdeal.τ).loc Cert.SMergeIdeal.main_v11_0)) (v1 : (c : Dev Cert.SMergeIdeal.nD) → Buf (Elt Ideal) ((c.tc : Thread Cert.SMergeIdeal.nD Cert.SMergeIdeal.τ).loc Cert.SMergeIdeal.main_v11_1)),
      θ_run (Cert.SMergeIdeal.defs (F := Ideal)) (onTc (τ := Cert.SMergeIdeal.τ) (Cert.SMergeIdeal.main (F := Ideal))) ⟨m, fun _ => 0, g⟩ (fun r => ∀ c : Dev Cert.SMergeIdeal.nD,
          r.2.mem ((c.tc : Thread Cert.SMergeIdeal.nD Cert.SMergeIdeal.τ).loc Cert.SMergeIdeal.main_v11_0) = v0 c
          ∧ r.2.mem ((c.tc : Thread Cert.SMergeIdeal.nD Cert.SMergeIdeal.τ).loc Cert.SMergeIdeal.main_v11_1) = v1 c
          ∧ r.2.mem ((c.tc : Thread Cert.SMergeIdeal.nD Cert.SMergeIdeal.τ).loc Cert.SMergeIdeal.main_arg0) = m ((c.tc : Thread Cert.SMergeIdeal.nD Cert.SMergeIdeal.τ).loc Cert.SMergeIdeal.main_arg0)
          ∧ r.2.mem ((c.tc : Thread Cert.SMergeIdeal.nD Cert.SMergeIdeal.τ).loc Cert.SMergeIdeal.main_arg1) = m ((c.tc : Thread Cert.SMergeIdeal.nD Cert.SMergeIdeal.τ).loc Cert.SMergeIdeal.main_arg1)
          ∧ r.2.mem ((c.tc : Thread Cert.SMergeIdeal.nD Cert.SMergeIdeal.τ).loc Cert.SMergeIdeal.main_arg2) = m ((c.tc : Thread Cert.SMergeIdeal.nD Cert.SMergeIdeal.τ).loc Cert.SMergeIdeal.main_arg2)
          ∧ r.2.mem ((c.tc : Thread Cert.SMergeIdeal.nD Cert.SMergeIdeal.τ).loc Cert.SMergeIdeal.main_arg3) = m ((c.tc : Thread Cert.SMergeIdeal.nD Cert.SMergeIdeal.τ).loc Cert.SMergeIdeal.main_arg3)
          ∧ r.2.mem ((c.tc : Thread Cert.SMergeIdeal.nD Cert.SMergeIdeal.τ).loc Cert.SMergeIdeal.main_arg4) = m ((c.tc : Thread Cert.SMergeIdeal.nD Cert.SMergeIdeal.τ).loc Cert.SMergeIdeal.main_arg4)
          ∧ r.2.mem ((c.tc : Thread Cert.SMergeIdeal.nD Cert.SMergeIdeal.τ).loc Cert.SMergeIdeal.main_arg5) = m ((c.tc : Thread Cert.SMergeIdeal.nD Cert.SMergeIdeal.τ).loc Cert.SMergeIdeal.main_arg5)
          ∧ r.2.mem ((c.tc : Thread Cert.SMergeIdeal.nD Cert.SMergeIdeal.τ).loc Cert.SMergeIdeal.main_arg6) = m ((c.tc : Thread Cert.SMergeIdeal.nD Cert.SMergeIdeal.τ).loc Cert.SMergeIdeal.main_arg6)
          ∧ r.2.mem ((c.tc : Thread Cert.SMergeIdeal.nD Cert.SMergeIdeal.τ).loc Cert.SMergeIdeal.main_arg7) = m ((c.tc : Thread Cert.SMergeIdeal.nD Cert.SMergeIdeal.τ).loc Cert.SMergeIdeal.main_arg7)
          ∧ r.2.mem ((c.tc : Thread Cert.SMergeIdeal.nD Cert.SMergeIdeal.τ).loc Cert.SMergeIdeal.main_arg8) = m ((c.tc : Thread Cert.SMergeIdeal.nD Cert.SMergeIdeal.τ).loc Cert.SMergeIdeal.main_arg8)
          ∧ r.2.mem ((c.tc : Thread Cert.SMergeIdeal.nD Cert.SMergeIdeal.τ).loc Cert.SMergeIdeal.main_arg9) = m ((c.tc : Thread Cert.SMergeIdeal.nD Cert.SMergeIdeal.τ).loc Cert.SMergeIdeal.main_arg9)
          ∧ r.2.mem ((c.tc : Thread Cert.SMergeIdeal.nD Cert.SMergeIdeal.τ).loc Cert.SMergeIdeal.main_arg10) = m ((c.tc : Thread Cert.SMergeIdeal.nD Cert.SMergeIdeal.τ).loc Cert.SMergeIdeal.main_arg10))
      ∧ θ_run (Cert.SMergeRefIdeal.defs (F := Ideal)) (onTc (τ := Cert.SMergeRefIdeal.τ) (Cert.SMergeRefIdeal.main (F := Ideal))) ⟨m', fun _ => 0, g'⟩ (fun r => ∀ c : Dev Cert.SMergeRefIdeal.nD,
          r.2.mem ((c.tc : Thread Cert.SMergeRefIdeal.nD Cert.SMergeRefIdeal.τ).loc Cert.SMergeRefIdeal.main_v74) = v0 c
          ∧ r.2.mem ((c.tc : Thread Cert.SMergeRefIdeal.nD Cert.SMergeRefIdeal.τ).loc Cert.SMergeRefIdeal.main_v76) = v1 c
          ∧ r.2.mem ((c.tc : Thread Cert.SMergeRefIdeal.nD Cert.SMergeRefIdeal.τ).loc Cert.SMergeRefIdeal.main_arg0) = m' ((c.tc : Thread Cert.SMergeRefIdeal.nD Cert.SMergeRefIdeal.τ).loc Cert.SMergeRefIdeal.main_arg0)
          ∧ r.2.mem ((c.tc : Thread Cert.SMergeRefIdeal.nD Cert.SMergeRefIdeal.τ).loc Cert.SMergeRefIdeal.main_arg1) = m' ((c.tc : Thread Cert.SMergeRefIdeal.nD Cert.SMergeRefIdeal.τ).loc Cert.SMergeRefIdeal.main_arg1)
          ∧ r.2.mem ((c.tc : Thread Cert.SMergeRefIdeal.nD Cert.SMergeRefIdeal.τ).loc Cert.SMergeRefIdeal.main_arg2) = m' ((c.tc : Thread Cert.SMergeRefIdeal.nD Cert.SMergeRefIdeal.τ).loc Cert.SMergeRefIdeal.main_arg2)
          ∧ r.2.mem ((c.tc : Thread Cert.SMergeRefIdeal.nD Cert.SMergeRefIdeal.τ).loc Cert.SMergeRefIdeal.main_arg3) = m' ((c.tc : Thread Cert.SMergeRefIdeal.nD Cert.SMergeRefIdeal.τ).loc Cert.SMergeRefIdeal.main_arg3)
          ∧ r.2.mem ((c.tc : Thread Cert.SMergeRefIdeal.nD Cert.SMergeRefIdeal.τ).loc Cert.SMergeRefIdeal.main_arg4) = m' ((c.tc : Thread Cert.SMergeRefIdeal.nD Cert.SMergeRefIdeal.τ).loc Cert.SMergeRefIdeal.main_arg4)
          ∧ r.2.mem ((c.tc : Thread Cert.SMergeRefIdeal.nD Cert.SMergeRefIdeal.τ).loc Cert.SMergeRefIdeal.main_arg5) = m' ((c.tc : Thread Cert.SMergeRefIdeal.nD Cert.SMergeRefIdeal.τ).loc Cert.SMergeRefIdeal.main_arg5)
          ∧ r.2.mem ((c.tc : Thread Cert.SMergeRefIdeal.nD Cert.SMergeRefIdeal.τ).loc Cert.SMergeRefIdeal.main_arg6) = m' ((c.tc : Thread Cert.SMergeRefIdeal.nD Cert.SMergeRefIdeal.τ).loc Cert.SMergeRefIdeal.main_arg6)
          ∧ r.2.mem ((c.tc : Thread Cert.SMergeRefIdeal.nD Cert.SMergeRefIdeal.τ).loc Cert.SMergeRefIdeal.main_arg7) = m' ((c.tc : Thread Cert.SMergeRefIdeal.nD Cert.SMergeRefIdeal.τ).loc Cert.SMergeRefIdeal.main_arg7)
          ∧ r.2.mem ((c.tc : Thread Cert.SMergeRefIdeal.nD Cert.SMergeRefIdeal.τ).loc Cert.SMergeRefIdeal.main_arg8) = m' ((c.tc : Thread Cert.SMergeRefIdeal.nD Cert.SMergeRefIdeal.τ).loc Cert.SMergeRefIdeal.main_arg8)
          ∧ r.2.mem ((c.tc : Thread Cert.SMergeRefIdeal.nD Cert.SMergeRefIdeal.τ).loc Cert.SMergeRefIdeal.main_arg9) = m' ((c.tc : Thread Cert.SMergeRefIdeal.nD Cert.SMergeRefIdeal.τ).loc Cert.SMergeRefIdeal.main_arg9)
          ∧ r.2.mem ((c.tc : Thread Cert.SMergeRefIdeal.nD Cert.SMergeRefIdeal.τ).loc Cert.SMergeRefIdeal.main_arg10) = m' ((c.tc : Thread Cert.SMergeRefIdeal.nD Cert.SMergeRefIdeal.τ).loc Cert.SMergeRefIdeal.main_arg10))

def preserves_SProj_SProjIdeal : Prop :=
  True

def algebraic_SProjIdeal_SProjRefIdeal [hSProjIdeal : Cert.SProjIdeal.Facts] [hSProjRefIdeal : Cert.SProjRefIdeal.Facts] : Prop :=
  ∀ (m : (ℓ : Loc Cert.SProjIdeal.nD Cert.SProjIdeal.τ Cert.SProjIdeal.sig) → Buf (Elt Ideal) ℓ) (g : Dev Cert.SProjIdeal.nD → PrngReg)
    (m' : (ℓ : Loc Cert.SProjRefIdeal.nD Cert.SProjRefIdeal.τ Cert.SProjRefIdeal.sig) → Buf (Elt Ideal) ℓ) (g' : Dev Cert.SProjRefIdeal.nD → PrngReg), Pre_SProjIdeal m →
    (∀ c : Dev Cert.SProjIdeal.nD,
      m' ((c.tc : Thread Cert.SProjRefIdeal.nD Cert.SProjRefIdeal.τ).loc Cert.SProjRefIdeal.main_arg0) = m ((c.tc : Thread Cert.SProjIdeal.nD Cert.SProjIdeal.τ).loc Cert.SProjIdeal.main_arg0)
      ∧ m' ((c.tc : Thread Cert.SProjRefIdeal.nD Cert.SProjRefIdeal.τ).loc Cert.SProjRefIdeal.main_arg1) = m ((c.tc : Thread Cert.SProjIdeal.nD Cert.SProjIdeal.τ).loc Cert.SProjIdeal.main_arg1)
      ∧ m' ((c.tc : Thread Cert.SProjRefIdeal.nD Cert.SProjRefIdeal.τ).loc Cert.SProjRefIdeal.main_arg2) = m ((c.tc : Thread Cert.SProjIdeal.nD Cert.SProjIdeal.τ).loc Cert.SProjIdeal.main_arg2)
      ∧ m' ((c.tc : Thread Cert.SProjRefIdeal.nD Cert.SProjRefIdeal.τ).loc Cert.SProjRefIdeal.main_arg3) = m ((c.tc : Thread Cert.SProjIdeal.nD Cert.SProjIdeal.τ).loc Cert.SProjIdeal.main_arg3)
      ∧ m' ((c.tc : Thread Cert.SProjRefIdeal.nD Cert.SProjRefIdeal.τ).loc Cert.SProjRefIdeal.main_arg4) = m ((c.tc : Thread Cert.SProjIdeal.nD Cert.SProjIdeal.τ).loc Cert.SProjIdeal.main_arg4)) →
    ∃ (v0 : (c : Dev Cert.SProjIdeal.nD) → Buf (Elt Ideal) ((c.tc : Thread Cert.SProjIdeal.nD Cert.SProjIdeal.τ).loc Cert.SProjIdeal.main_v23_0)) (v1 : (c : Dev Cert.SProjIdeal.nD) → Buf (Elt Ideal) ((c.tc : Thread Cert.SProjIdeal.nD Cert.SProjIdeal.τ).loc Cert.SProjIdeal.main_v23_1)) (v2 : (c : Dev Cert.SProjIdeal.nD) → Buf (Elt Ideal) ((c.tc : Thread Cert.SProjIdeal.nD Cert.SProjIdeal.τ).loc Cert.SProjIdeal.main_v23_2)) (v3 : (c : Dev Cert.SProjIdeal.nD) → Buf (Elt Ideal) ((c.tc : Thread Cert.SProjIdeal.nD Cert.SProjIdeal.τ).loc Cert.SProjIdeal.main_v23_3)) (v4 : (c : Dev Cert.SProjIdeal.nD) → Buf (Elt Ideal) ((c.tc : Thread Cert.SProjIdeal.nD Cert.SProjIdeal.τ).loc Cert.SProjIdeal.main_v23_4)) (v5 : (c : Dev Cert.SProjIdeal.nD) → Buf (Elt Ideal) ((c.tc : Thread Cert.SProjIdeal.nD Cert.SProjIdeal.τ).loc Cert.SProjIdeal.main_v23_5)) (v6 : (c : Dev Cert.SProjIdeal.nD) → Buf (Elt Ideal) ((c.tc : Thread Cert.SProjIdeal.nD Cert.SProjIdeal.τ).loc Cert.SProjIdeal.main_v23_6)) (v7 : (c : Dev Cert.SProjIdeal.nD) → Buf (Elt Ideal) ((c.tc : Thread Cert.SProjIdeal.nD Cert.SProjIdeal.τ).loc Cert.SProjIdeal.main_v23_7)) (v8 : (c : Dev Cert.SProjIdeal.nD) → Buf (Elt Ideal) ((c.tc : Thread Cert.SProjIdeal.nD Cert.SProjIdeal.τ).loc Cert.SProjIdeal.main_v23_8)),
      θ_run (Cert.SProjIdeal.defs (F := Ideal)) (onTc (τ := Cert.SProjIdeal.τ) (Cert.SProjIdeal.main (F := Ideal))) ⟨m, fun _ => 0, g⟩ (fun r => ∀ c : Dev Cert.SProjIdeal.nD,
          r.2.mem ((c.tc : Thread Cert.SProjIdeal.nD Cert.SProjIdeal.τ).loc Cert.SProjIdeal.main_v23_0) = v0 c
          ∧ r.2.mem ((c.tc : Thread Cert.SProjIdeal.nD Cert.SProjIdeal.τ).loc Cert.SProjIdeal.main_v23_1) = v1 c
          ∧ r.2.mem ((c.tc : Thread Cert.SProjIdeal.nD Cert.SProjIdeal.τ).loc Cert.SProjIdeal.main_v23_2) = v2 c
          ∧ r.2.mem ((c.tc : Thread Cert.SProjIdeal.nD Cert.SProjIdeal.τ).loc Cert.SProjIdeal.main_v23_3) = v3 c
          ∧ r.2.mem ((c.tc : Thread Cert.SProjIdeal.nD Cert.SProjIdeal.τ).loc Cert.SProjIdeal.main_v23_4) = v4 c
          ∧ r.2.mem ((c.tc : Thread Cert.SProjIdeal.nD Cert.SProjIdeal.τ).loc Cert.SProjIdeal.main_v23_5) = v5 c
          ∧ r.2.mem ((c.tc : Thread Cert.SProjIdeal.nD Cert.SProjIdeal.τ).loc Cert.SProjIdeal.main_v23_6) = v6 c
          ∧ r.2.mem ((c.tc : Thread Cert.SProjIdeal.nD Cert.SProjIdeal.τ).loc Cert.SProjIdeal.main_v23_7) = v7 c
          ∧ r.2.mem ((c.tc : Thread Cert.SProjIdeal.nD Cert.SProjIdeal.τ).loc Cert.SProjIdeal.main_v23_8) = v8 c
          ∧ r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
          ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
          ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
          ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3)
          ∧ r.2.mem ((c.tc : Thread Cert.SProjIdeal.nD Cert.SProjIdeal.τ).loc Cert.SProjIdeal.main_arg4) = m ((c.tc : Thread Cert.SProjIdeal.nD Cert.SProjIdeal.τ).loc Cert.SProjIdeal.main_arg4))
      ∧ θ_run (Cert.SProjRefIdeal.defs (F := Ideal)) (onTc (τ := Cert.SProjRefIdeal.τ) (Cert.SProjRefIdeal.main (F := Ideal))) ⟨m', fun _ => 0, g'⟩ (fun r => ∀ c : Dev Cert.SProjRefIdeal.nD,
          r.2.mem ((c.tc : Thread Cert.SProjRefIdeal.nD Cert.SProjRefIdeal.τ).loc Cert.SProjRefIdeal.main_v46) = v0 c
          ∧ r.2.mem ((c.tc : Thread Cert.SProjRefIdeal.nD Cert.SProjRefIdeal.τ).loc Cert.SProjRefIdeal.main_v47) = v1 c
          ∧ r.2.mem ((c.tc : Thread Cert.SProjRefIdeal.nD Cert.SProjRefIdeal.τ).loc Cert.SProjRefIdeal.main_v49) = v2 c
          ∧ r.2.mem ((c.tc : Thread Cert.SProjRefIdeal.nD Cert.SProjRefIdeal.τ).loc Cert.SProjRefIdeal.main_v51) = v3 c
          ∧ r.2.mem ((c.tc : Thread Cert.SProjRefIdeal.nD Cert.SProjRefIdeal.τ).loc Cert.SProjRefIdeal.main_v53) = v4 c
          ∧ r.2.mem ((c.tc : Thread Cert.SProjRefIdeal.nD Cert.SProjRefIdeal.τ).loc Cert.SProjRefIdeal.main_v54) = v5 c
          ∧ r.2.mem ((c.tc : Thread Cert.SProjRefIdeal.nD Cert.SProjRefIdeal.τ).loc Cert.SProjRefIdeal.main_v56) = v6 c
          ∧ r.2.mem ((c.tc : Thread Cert.SProjRefIdeal.nD Cert.SProjRefIdeal.τ).loc Cert.SProjRefIdeal.main_v59) = v7 c
          ∧ r.2.mem ((c.tc : Thread Cert.SProjRefIdeal.nD Cert.SProjRefIdeal.τ).loc Cert.SProjRefIdeal.main_v62) = v8 c
          ∧ r.2.mem ((c.tc : Thread Cert.SProjRefIdeal.nD Cert.SProjRefIdeal.τ).loc Cert.SProjRefIdeal.main_arg0) = m' ((c.tc : Thread Cert.SProjRefIdeal.nD Cert.SProjRefIdeal.τ).loc Cert.SProjRefIdeal.main_arg0)
          ∧ r.2.mem ((c.tc : Thread Cert.SProjRefIdeal.nD Cert.SProjRefIdeal.τ).loc Cert.SProjRefIdeal.main_arg1) = m' ((c.tc : Thread Cert.SProjRefIdeal.nD Cert.SProjRefIdeal.τ).loc Cert.SProjRefIdeal.main_arg1)
          ∧ r.2.mem ((c.tc : Thread Cert.SProjRefIdeal.nD Cert.SProjRefIdeal.τ).loc Cert.SProjRefIdeal.main_arg2) = m' ((c.tc : Thread Cert.SProjRefIdeal.nD Cert.SProjRefIdeal.τ).loc Cert.SProjRefIdeal.main_arg2)
          ∧ r.2.mem ((c.tc : Thread Cert.SProjRefIdeal.nD Cert.SProjRefIdeal.τ).loc Cert.SProjRefIdeal.main_arg3) = m' ((c.tc : Thread Cert.SProjRefIdeal.nD Cert.SProjRefIdeal.τ).loc Cert.SProjRefIdeal.main_arg3)
          ∧ r.2.mem ((c.tc : Thread Cert.SProjRefIdeal.nD Cert.SProjRefIdeal.τ).loc Cert.SProjRefIdeal.main_arg4) = m' ((c.tc : Thread Cert.SProjRefIdeal.nD Cert.SProjRefIdeal.τ).loc Cert.SProjRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v14) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v34) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hSFfn : Cert.SFfn.Facts) (hSFfnIdeal : Cert.SFfnIdeal.Facts) (hSFfnRefIdeal : Cert.SFfnRefIdeal.Facts) (hSMerge : Cert.SMerge.Facts) (hSMergeIdeal : Cert.SMergeIdeal.Facts) (hSMergeRefIdeal : Cert.SMergeRefIdeal.Facts) (hSProj : Cert.SProj.Facts) (hSProjIdeal : Cert.SProjIdeal.Facts) (hSProjRefIdeal : Cert.SProjRefIdeal.Facts) (hMod : Cert.Mod.Facts) (hModIdeal : Cert.ModIdeal.Facts) (hModRefIdeal : Cert.ModRefIdeal.Facts) (hBias : Cert.Bias.Facts) (hBiasIdeal : Cert.BiasIdeal.Facts) (hBiasRefIdeal : Cert.BiasRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_SFfn (hSFfn := hSFfn)
    ∧ quiescent_SFfnIdeal (hSFfnIdeal := hSFfnIdeal)
    ∧ quiescent_SFfnRefIdeal (hSFfnRefIdeal := hSFfnRefIdeal)
    ∧ quiescent_SMerge (hSMerge := hSMerge)
    ∧ quiescent_SMergeIdeal (hSMergeIdeal := hSMergeIdeal)
    ∧ quiescent_SMergeRefIdeal (hSMergeRefIdeal := hSMergeRefIdeal)
    ∧ quiescent_SProj (hSProj := hSProj)
    ∧ quiescent_SProjIdeal (hSProjIdeal := hSProjIdeal)
    ∧ quiescent_SProjRefIdeal (hSProjRefIdeal := hSProjRefIdeal)
    ∧ quiescent_Mod (hMod := hMod)
    ∧ quiescent_ModIdeal (hModIdeal := hModIdeal)
    ∧ quiescent_ModRefIdeal (hModRefIdeal := hModRefIdeal)
    ∧ quiescent_Bias (hBias := hBias)
    ∧ quiescent_BiasIdeal (hBiasIdeal := hBiasIdeal)
    ∧ quiescent_BiasRefIdeal (hBiasRefIdeal := hBiasRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_SFfn_SFfnIdeal
    ∧ algebraic_SFfnIdeal_SFfnRefIdeal (hSFfnIdeal := hSFfnIdeal) (hSFfnRefIdeal := hSFfnRefIdeal)
    ∧ preserves_SMerge_SMergeIdeal
    ∧ algebraic_SMergeIdeal_SMergeRefIdeal (hSMergeIdeal := hSMergeIdeal) (hSMergeRefIdeal := hSMergeRefIdeal)
    ∧ preserves_SProj_SProjIdeal
    ∧ algebraic_SProjIdeal_SProjRefIdeal (hSProjIdeal := hSProjIdeal) (hSProjRefIdeal := hSProjRefIdeal)
    ∧ preserves_Mod_ModIdeal
    ∧ algebraic_ModIdeal_ModRefIdeal (hModIdeal := hModIdeal) (hModRefIdeal := hModRefIdeal)
    ∧ preserves_Bias_BiasIdeal
    ∧ algebraic_BiasIdeal_BiasRefIdeal (hBiasIdeal := hBiasIdeal) (hBiasRefIdeal := hBiasRefIdeal)
-- ==== Ffn.lean ====
abbrev S16384x2048 : Shape := ⟨2, ![16384, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S8x1x2048 : Shape := ⟨3, ![8, 1, 2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S5632x512 : Shape := ⟨2, ![5632, 512]⟩
abbrev S1x1x2048 : Shape := ⟨3, ![1, 1, 2048]⟩
abbrev S11x512x512 : Shape := ⟨3, ![11, 512, 512]⟩
abbrev S4x512x512 : Shape := ⟨3, ![4, 512, 512]⟩
abbrev S512x512 : Shape := ⟨2, ![512, 512]⟩
abbrev S1x512x512 : Shape := ⟨3, ![1, 512, 512]⟩
abbrev S512x5632 : Shape := ⟨2, ![512, 5632]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S1x5632x2048, .f32⟩
  | .hbm, ⟨3, _⟩ => ⟨S16384x2048, .f32⟩
  | .hbm, ⟨4, _⟩ => ⟨S1x2048, .f32⟩
  | .hbm, ⟨5, _⟩ => ⟨S8x1x2048, .f32⟩
  | .hbm, ⟨6, _⟩ => ⟨S2048x11264, .f32⟩
  | .hbm, ⟨7, _⟩ => ⟨S2048x11264, .bf16⟩
  | .hbm, ⟨8, _⟩ => ⟨S5632x2048, .f32⟩
  | .hbm, ⟨9, _⟩ => ⟨S5632x2048, .bf16⟩
  | .hbm, ⟨10, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S5632x512, .bf16⟩
  | .local _ .vmem, ⟨7, _⟩ => ⟨S5632x512, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x1x2048, .f32⟩
  | .local _ .vmem, ⟨12, _⟩ => ⟨S1x1x2048, .f32⟩
  | .local _ .vmem, ⟨13, _⟩ => ⟨S512x2048, .f32⟩
  | .local _ .vmem, ⟨14, _⟩ => ⟨S512x2048, .f32⟩
  | .local _ .vmem, ⟨15, _⟩ => ⟨S11x512x512, .bf16⟩
  | .local _ .vmem, ⟨16, _⟩ => ⟨S4x512x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 15], ![false, false]⟩

def k0_cond1 (i : grid0.Coords) : BitVec 1 :=
  let arg1 : BitVec 32 := BitVec.ofNat 32 (i 1).val
  let c11_i32 : BitVec 32 := 11#32
  let v0 : BitVec 1 := Scalar.cmpi .slt arg1 c11_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v20 : Index := Scalar.indexCast arg1
  let c0_9 : Index := 0#32
  let c0_10 : Index := 0#32
  ![v20.toNat, 0, 0]
def k0_cond2 (i : grid0.Coords) : BitVec 1 :=
  let arg1 : BitVec 32 := BitVec.ofNat 32 (i 1).val
  let c11_i32_0 : BitVec 32 := 11#32
  let v3 : BitVec 1 := Scalar.cmpi .sge arg1 c11_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let c11_i32_27 : BitVec 32 := 11#32
  let v35 : BitVec 32 := Scalar.subi arg1 c11_i32_27
  let v36 : Index := Scalar.indexCast v35
  let c0_28 : Index := 0#32
  let c0_29 : Index := 0#32
  ![v36.toNat, 0, 0]
def k0_cond3 (i : grid0.Coords) : BitVec 1 :=
  let arg1 : BitVec 32 := BitVec.ofNat 32 (i 1).val
  let c14_i32 : BitVec 32 := 14#32
  let v6 : BitVec 1 := Scalar.cmpi .eq arg1 c14_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S16384x2048 : Shape := ⟨2, ![16384, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S8x1x2048 : Shape := ⟨3, ![8, 1, 2048]⟩
abbrev S8x2048x2048 : Shape := ⟨3, ![8, 2048, 2048]⟩
abbrev S2048x11264 : Shape := ⟨2, ![2048, 11264]⟩
abbrev S8x2048x11264 : Shape := ⟨3, ![8, 2048, 11264]⟩
abbrev S8x2048x5632 : Shape := ⟨3, ![8, 2048, 5632]⟩
abbrev S_ : Shape := ⟨0, ![]⟩
abbrev S5632x2048 : Shape := ⟨2, ![5632, 2048]⟩
abbrev S2048 : Shape := ⟨1, ![2048]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x11264, .f32⟩
  | .hbm, ⟨2, _⟩ => ⟨S1x5632x2048, .f32⟩
  | .hbm, ⟨3, _⟩ => ⟨S16384x2048, .f32⟩
  | .hbm, ⟨4, _⟩ => ⟨S1x2048, .f32⟩
  | .hbm, ⟨5, _⟩ => ⟨S8x1x2048, .f32⟩
  | .hbm, ⟨6, _⟩ => ⟨S16384x2048, .f32⟩
  | .hbm, ⟨7, _⟩ => ⟨S8x2048x2048, .f32⟩
  | .hbm, ⟨8, _⟩ => ⟨S8x2048x2048, .f32⟩
  | .hbm, ⟨9, _⟩ => ⟨S2048x11264, .f32⟩
  | .hbm, ⟨10, _⟩ => ⟨S8x2048x11264, .f32⟩
  | .hbm, ⟨11, _⟩ => ⟨S8x2048x5632, .f32⟩
  | .hbm, ⟨12, _⟩ => ⟨S8x2048x5632, .f32⟩
  | .hbm, ⟨13, _⟩ => ⟨S8x2048x5632, .f32⟩
  | .hbm, ⟨14, _⟩ => ⟨S8x2048x5632, .f32⟩
  | .hbm, ⟨15, _⟩ => ⟨S_, .f32⟩
  | .hbm, ⟨16, _⟩ => ⟨S8x2048x5632, .f32⟩
  | .hbm, ⟨17, _⟩ => ⟨S8x2048x5632, .f32⟩
  | .hbm, ⟨18, _⟩ => ⟨S_, .f32⟩
  | .hbm, ⟨19, _⟩ => ⟨S8x2048x5632, .f32⟩
  | .hbm, ⟨20, _⟩ => ⟨S8x2048x5632, .f32⟩
  | .hbm, ⟨21, _⟩ => ⟨S8x2048x5632, .f32⟩
  | .hbm, ⟨22, _⟩ => ⟨S8x2048x5632, .f32⟩
  | .hbm, ⟨23, _⟩ => ⟨S5632x2048, .f32⟩
  | .hbm, ⟨24, _⟩ => ⟨S8x2048x2048, .f32⟩
  | .hbm, ⟨25, _⟩ => ⟨S2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S1x1x2048, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Merge.lean ====
abbrev S16384x1024 : Shape := ⟨2, ![16384, 1024]⟩
abbrev S1x1024 : Shape := ⟨2, ![1, 1024]⟩
abbrev S1x2048x2048 : Shape := ⟨3, ![1, 2048, 2048]⟩
abbrev S16384x2048 : Shape := ⟨2, ![16384, 2048]⟩
abbrev S1x2048 : Shape := ⟨2, ![1, 2048]⟩
abbrev S8x1x2048 : Shape := ⟨3, ![8, 1, 2048]⟩
abbrev S2048x2048 : Shape := ⟨2, ![2048, 2048]⟩
abbrev S512x1024 : Shape := ⟨2, ![512, 1024]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 15
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S16384x2048, .f32⟩
  | .hbm, ⟨6, _⟩ => ⟨S1x2048, .f32⟩
  | .hbm, ⟨7, _⟩ => ⟨S8x1x2048, .f32⟩
  | .hbm, ⟨8, _⟩ => ⟨S1x2048, .f32⟩
  | .hbm, ⟨9, _⟩ => ⟨S8x1x2048, .f32⟩
  | .hbm, ⟨10, _⟩ => ⟨S8x1x2048, .f32⟩
  | .hbm, ⟨11, _⟩ => ⟨S2048x2048, .f32⟩
  | .hbm, ⟨12, _⟩ => ⟨S2048x2048, .bf16⟩
  | .hbm, ⟨13, _⟩ => ⟨S16384x2048, .f32⟩
  | .hbm, ⟨14, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x1024 : Shape := ⟨2, ![16384, 1024]⟩
abbrev S1x1024 : Shape := ⟨2, ![1, 1024]⟩
abbrev S1x2048x2048 : Shape := ⟨3, ![1, 2048, 2048]⟩
abbrev S16384x2048 : Shape := ⟨2, ![16384, 2048]⟩
abbrev S1x2048 : Shape := ⟨2, ![1, 2048]⟩
abbrev S8x1x2048 : Shape := ⟨3, ![8, 1, 2048]⟩
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S2048x2048 : Shape := ⟨2, ![2048, 2048]⟩
abbrev S2048 : Shape := ⟨1, ![2048]⟩
abbrev S1x1x2048 : Shape := ⟨3, ![1, 1, 2048]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S16384x2048, .f32⟩
  | .hbm, ⟨6, _⟩ => ⟨S1x2048, .f32⟩
  | .hbm, ⟨7, _⟩ => ⟨S8x1x2048, .f32⟩
  | .hbm, ⟨8, _⟩ => ⟨S1x2048, .f32⟩
  | .hbm, ⟨9, _⟩ => ⟨S8x1x2048, .f32⟩
  | .hbm, ⟨10, _⟩ => ⟨S8x1x2048, .f32⟩
  | .hbm, ⟨11, _⟩ => ⟨S8x2048x1024, .f32⟩
  | .hbm, ⟨12, _⟩ => ⟨S1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S1x1x1024, .f32⟩
  | .hbm, ⟨45, _⟩ => ⟨S8x2048x1024, .f32⟩
  | .hbm, ⟨46, _⟩ => ⟨S8x2048x1024, .f32⟩
  | .hbm, ⟨47, _⟩ => ⟨S8x2048x2048, .f32⟩
  | .hbm, ⟨48, _⟩ => ⟨S2048x2048, .f32⟩
  | .hbm, ⟨49, _⟩ => ⟨S8x2048x2048, .f32⟩
  | .hbm, ⟨50, _⟩ => ⟨S8x2048x2048, .f32⟩
  | .hbm, ⟨51, _⟩ => ⟨S2048, .f32⟩
  | .hbm, ⟨52, _⟩ => ⟨S8x2048x2048, .f32⟩
  | .hbm, ⟨53, _⟩ => ⟨S_, .f32⟩
  | .hbm, ⟨54, _⟩ => ⟨S8x2048, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1, .f32⟩
  | .hbm, ⟨63, _⟩ => ⟨S8x2048x2048, .f32⟩
  | .hbm, ⟨64, _⟩ => ⟨S8x2048x2048, .f32⟩
  | .hbm, ⟨65, _⟩ => ⟨S1x1x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S2048, .f32⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S_, .f32⟩
  | .hbm, ⟨80, _⟩ => ⟨S8x2048x1, .f32⟩
  | .hbm, ⟨81, _⟩ => ⟨S8x2048x1, .f32⟩
  | .hbm, ⟨82, _⟩ => ⟨S8x2048x1, .f32⟩
  | .hbm, ⟨83, _⟩ => ⟨S8x2048x2048, .f32⟩
  | .hbm, ⟨84, _⟩ => ⟨S8x2048x2048, .f32⟩
  | .hbm, ⟨85, _⟩ => ⟨S1x1x2048, .f32⟩
  | .hbm, ⟨86, _⟩ => ⟨S8x2048x2048, .f32⟩
  | .hbm, ⟨87, _⟩ => ⟨S8x2048x2048, .f32⟩
  | .hbm, ⟨88, _⟩ => ⟨S_, .f32⟩
  | .hbm, ⟨89, _⟩ => ⟨S8x1x2048, .f32⟩
  | .hbm, ⟨90, _⟩ => ⟨S8x1x2048, .f32⟩
  | .hbm, ⟨91, _⟩ => ⟨S8x2048x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S16384x2048, .f32⟩
  | .hbm, ⟨96, _⟩ => ⟨S16384x2048, .f32⟩
  | .hbm, ⟨97, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Proj.lean ====
abbrev S8x2048x2048 : Shape := ⟨3, ![8, 2048, 2048]⟩
abbrev S1x2048 : Shape := ⟨2, ![1, 2048]⟩
abbrev S8x1x2048 : Shape := ⟨3, ![8, 1, 2048]⟩
abbrev S1x2048x6224 : Shape := ⟨3, ![1, 2048, 6224]⟩
abbrev S2048x6224 : Shape := ⟨2, ![2048, 6224]⟩
abbrev S2048x1024 : Shape := ⟨2, ![2048, 1024]⟩
abbrev S2048x512 : Shape := ⟨2, ![2048, 512]⟩
abbrev S2048x6144 : Shape := ⟨2, ![2048, 6144]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x128 : Shape := ⟨2, ![2048, 128]⟩
abbrev S128x2048 : Shape := ⟨2, ![128, 2048]⟩
abbrev S16384x2048 : Shape := ⟨2, ![16384, 2048]⟩
abbrev S16384x1024 : Shape := ⟨2, ![16384, 1024]⟩
abbrev S131072x128 : Shape := ⟨2, ![131072, 128]⟩
abbrev S262144x128 : Shape := ⟨2, ![262144, 128]⟩
abbrev S16384x128 : Shape := ⟨2, ![16384, 128]⟩
abbrev S8x64x2048 : Shape := ⟨3, ![8, 64, 2048]⟩
abbrev S512x2048 : Shape := ⟨2, ![512, 2048]⟩
abbrev S1x1x2048 : Shape := ⟨3, ![1, 1, 2048]⟩
abbrev S512x1024 : Shape := ⟨2, ![512, 1024]⟩
abbrev S4096x128 : Shape := ⟨2, ![4096, 128]⟩
abbrev S8192x128 : Shape := ⟨2, ![8192, 128]⟩
abbrev S512x128 : Shape := ⟨2, ![512, 128]⟩
abbrev S1x64x512 : Shape := ⟨3, ![1, 64, 512]⟩
abbrev S512 : Shape := ⟨1, ![512]⟩
abbrev S512x1 : Shape := ⟨2, ![512, 1]⟩
abbrev S128x512 : Shape := ⟨2, ![128, 512]⟩
abbrev S64x512 : Shape := ⟨2, ![64, 512]⟩

abbrev nBuf : Space → Nat
  | .hbm => 32
  | .vmem => 30
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S1x2048x6224, .f32⟩
  | .hbm, ⟨5, _⟩ => ⟨S2048x6224, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x6144, .f32⟩
  | .hbm, ⟨14, _⟩ => ⟨S2048x6144, .bf16⟩
  | .hbm, ⟨15, _⟩ => ⟨S2048x64, .f32⟩
  | .hbm, ⟨16, _⟩ => ⟨S2048x16, .f32⟩
  | .hbm, ⟨17, _⟩ => ⟨S_, .f32⟩
  | .hbm, ⟨18, _⟩ => ⟨S2048x48, .f32⟩
  | .hbm, ⟨19, _⟩ => ⟨S2048x128, .f32⟩
  | .hbm, ⟨20, _⟩ => ⟨S2048x128, .bf16⟩
  | .hbm, ⟨21, _⟩ => ⟨S128x2048, .bf16⟩
  | .hbm, ⟨22, _⟩ => ⟨S16384x2048, .f32⟩
  | .hbm, ⟨23, _⟩ => ⟨S16384x1024, .bf16⟩
  | .hbm, ⟨24, _⟩ => ⟨S131072x128, .f32⟩
  | .hbm, ⟨25, _⟩ => ⟨S16384x1024, .bf16⟩
  | .hbm, ⟨26, _⟩ => ⟨S16384x1024, .bf16⟩
  | .hbm, ⟨27, _⟩ => ⟨S16384x1024, .bf16⟩
  | .hbm, ⟨28, _⟩ => ⟨S262144x128, .f32⟩
  | .hbm, ⟨29, _⟩ => ⟨S16384x2048, .bf16⟩
  | .hbm, ⟨30, _⟩ => ⟨S16384x128, .f32⟩
  | .hbm, ⟨31, _⟩ => ⟨S8x64x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S2048x128, .bf16⟩
  | .local _ .vmem, ⟨10, _⟩ => ⟨S128x2048, .bf16⟩
  | .local _ .vmem, ⟨11, _⟩ => ⟨S512x1024, .bf16⟩
  | .local _ .vmem, ⟨12, _⟩ => ⟨S512x1024, .bf16⟩
  | .local _ .vmem, ⟨13, _⟩ => ⟨S4096x128, .f32⟩
  | .local _ .vmem, ⟨14, _⟩ => ⟨S4096x128, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S8192x128, .f32⟩
  | .local _ .vmem, ⟨22, _⟩ => ⟨S8192x128, .f32⟩
  | .local _ .vmem, ⟨23, _⟩ => ⟨S512x1024, .bf16⟩
  | .local _ .vmem, ⟨24, _⟩ => ⟨S512x1024, .bf16⟩
  | .local _ .vmem, ⟨25, _⟩ => ⟨S512x128, .f32⟩
  | .local _ .vmem, ⟨26, _⟩ => ⟨S512x128, .f32⟩
  | .local _ .vmem, ⟨27, _⟩ => ⟨S1x64x512, .f32⟩
  | .local _ .vmem, ⟨28, _⟩ => ⟨S1x64x512, .f32⟩
  | .local _ .vmem, ⟨29, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v17_3 : Ref sig .tc := ⟨.hbm, 26, rfl⟩
abbrev main_v17_4 : Ref sig .tc := ⟨.hbm, 27, rfl⟩
abbrev main_v17_5 : Ref sig .tc := ⟨.hbm, 28, rfl⟩
abbrev main_v17_6 : Ref sig .tc := ⟨.hbm, 29, rfl⟩
abbrev main_v17_7 : Ref sig .tc := ⟨.hbm, 30, rfl⟩
abbrev main_v17_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![32, 7], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32_5 : BitVec 32 := 2#32
  let v13 : BitVec 1 := Scalar.cmpi .sge arg1 c2_i32_5
  let c3_i32 : BitVec 32 := 3#32
  let v14 : BitVec 1 := Scalar.cmpi .slt arg1 c3_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c3_i32_7 : BitVec 32 := 3#32
  let v18 : BitVec 1 := Scalar.cmpi .sge arg1 c3_i32_7
  let c4_i32 : BitVec 32 := 4#32
  let v19 : BitVec 1 := Scalar.cmpi .slt arg1 c4_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c4_i32_9 : BitVec 32 := 4#32
  let v23 : BitVec 1 := Scalar.cmpi .eq arg1 c4_i32_9
  let v24 : BitVec 32 := Scalar.extui v23
  let c0_i32_10 : BitVec 32 := 0#32
  let v25 : BitVec 1 := Scalar.cmpi .ne v24 c0_i32_10
  v25

def k0_cond7 (i : grid0.Coords) : BitVec 1 :=
  let arg1 : BitVec 32 := BitVec.ofNat 32 (i 1).val
  let c5_i32 : BitVec 32 := 5#32
  let v26 : BitVec 1 := Scalar.cmpi .eq arg1 c5_i32
  let v27 : BitVec 32 := Scalar.extui v26
  let c0_i32_11 : BitVec 32 := 0#32
  let v28 : BitVec 1 := Scalar.cmpi .ne v27 c0_i32_11
  v28

def k0_cond8 (i : grid0.Coords) : BitVec 1 :=
  let arg1 : BitVec 32 := BitVec.ofNat 32 (i 1).val
  let c6_i32 : BitVec 32 := 6#32
  let v29 : BitVec 1 := Scalar.cmpi .eq arg1 c6_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ProjRefIdeal.lean ====
abbrev S8x2048x2048 : Shape := ⟨3, ![8, 2048, 2048]⟩
abbrev S1x2048 : Shape := ⟨2, ![1, 2048]⟩
abbrev S8x1x2048 : Shape := ⟨3, ![8, 1, 2048]⟩
abbrev S1x2048x6224 : Shape := ⟨3, ![1, 2048, 6224]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x6224 : Shape := ⟨2, ![2048, 6224]⟩
abbrev S8x2048x6224 : Shape := ⟨3, ![8, 2048, 6224]⟩
abbrev S8x2048x1024 : Shape := ⟨3, ![8, 2048, 1024]⟩
abbrev S8x2048x512 : Shape := ⟨3, ![8, 2048, 512]⟩
abbrev S8x2048x64 : Shape := ⟨3, ![8, 2048, 64]⟩
abbrev S8x2048x16 : Shape := ⟨3, ![8, 2048, 16]⟩
abbrev S8x2048x4x128 : Shape := ⟨4, ![8, 2048, 4, 128]⟩
abbrev S8x2048x1x4x128 : Shape := ⟨5, ![8, 2048, 1, 4, 128]⟩
abbrev S8x2048x2x4x128 : Shape := ⟨5, ![8, 2048, 2, 4, 128]⟩
abbrev S8x2048x8x128 : Shape := ⟨4, ![8, 2048, 8, 128]⟩
abbrev S8x2048x1x8x128 : Shape := ⟨5, ![8, 2048, 1, 8, 128]⟩
abbrev S8x2048x2x8x128 : Shape := ⟨5, ![8, 2048, 2, 8, 128]⟩
abbrev S16384x1024 : Shape := ⟨2, ![16384, 1024]⟩
abbrev S131072x128 : Shape := ⟨2, ![131072, 128]⟩
abbrev S262144x128 : Shape := ⟨2, ![262144, 128]⟩
abbrev S16384x2048 : Shape := ⟨2, ![16384, 2048]⟩
abbrev S8x2048x48 : Shape := ⟨3, ![8, 2048, 48]⟩
abbrev S8x2048x128 : Shape := ⟨3, ![8, 2048, 128]⟩
abbrev S16384x128 : Shape := ⟨2, ![16384, 128]⟩
abbrev S8x64x2048 : Shape := ⟨3, ![8, 64, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S1x2048x6224, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S2048x6224, .f32⟩
  | .hbm, ⟨30, _⟩ => ⟨S8x2048x6224, .f32⟩
  | .hbm, ⟨31, _⟩ => ⟨S8x2048x1024, .f32⟩
  | .hbm, ⟨32, _⟩ => ⟨S8x2048x512, .f32⟩
  | .hbm, ⟨33, _⟩ => ⟨S8x2048x512, .f32⟩
  | .hbm, ⟨34, _⟩ => ⟨S8x2048x1024, .f32⟩
  | .hbm, ⟨35, _⟩ => ⟨S8x2048x64, .f32⟩
  | .hbm, ⟨36, _⟩ => ⟨S8x2048x16, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x16, .f32⟩
  | .hbm, ⟨42, _⟩ => ⟨S8x2048x16, .f32⟩
  | .hbm, ⟨43, _⟩ => ⟨S8x2048x4x128, .f32⟩
  | .hbm, ⟨44, _⟩ => ⟨S8x2048x4x128, .f32⟩
  | .hbm, ⟨45, _⟩ => ⟨S8x2048x1x4x128, .f32⟩
  | .hbm, ⟨46, _⟩ => ⟨S8x2048x1x4x128, .f32⟩
  | .hbm, ⟨47, _⟩ => ⟨S8x2048x2x4x128, .f32⟩
  | .hbm, ⟨48, _⟩ => ⟨S8x2048x8x128, .f32⟩
  | .hbm, ⟨49, _⟩ => ⟨S8x2048x8x128, .f32⟩
  | .hbm, ⟨50, _⟩ => ⟨S8x2048x1x8x128, .f32⟩
  | .hbm, ⟨51, _⟩ => ⟨S8x2048x1x8x128, .f32⟩
  | .hbm, ⟨52, _⟩ => ⟨S8x2048x2x8x128, .f32⟩
  | .hbm, ⟨53, _⟩ => ⟨S16384x1024, .f32⟩
  | .hbm, ⟨54, _⟩ => ⟨S16384x1024, .bf16⟩
  | .hbm, ⟨55, _⟩ => ⟨S131072x128, .f32⟩
  | .hbm, ⟨56, _⟩ => ⟨S16384x1024, .f32⟩
  | .hbm, ⟨57, _⟩ => ⟨S16384x1024, .bf16⟩
  | .hbm, ⟨58, _⟩ => ⟨S16384x1024, .f32⟩
  | .hbm, ⟨59, _⟩ => ⟨S16384x1024, .bf16⟩
  | .hbm, ⟨60, _⟩ => ⟨S16384x1024, .f32⟩
  | .hbm, ⟨61, _⟩ => ⟨S16384x1024, .bf16⟩
  | .hbm, ⟨62, _⟩ => ⟨S262144x128, .f32⟩
  | .hbm, ⟨63, _⟩ => ⟨S16384x2048, .f32⟩
  | .hbm, ⟨64, _⟩ => ⟨S16384x2048, .bf16⟩
  | .hbm, ⟨65, _⟩ => ⟨S_, .f32⟩
  | .hbm, ⟨66, _⟩ => ⟨S8x2048x48, .f32⟩
  | .hbm, ⟨67, _⟩ => ⟨S8x2048x128, .f32⟩
  | .hbm, ⟨68, _⟩ => ⟨S16384x128, .f32⟩
  | .hbm, ⟨69, _⟩ => ⟨S8x64x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩

abbrev nD : Nat := 1
abbrev τ : Topo := Topo.v7x

variable {F : FTy → Type} [FloatOps F]
-- ==== SFfn.lean ====
abbrev S128x2048 : Shape := ⟨2, ![128, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S32x2048 : Shape := ⟨2, ![32, 2048]⟩
abbrev S2048x11264 : Shape := ⟨2, ![2048, 11264]⟩
abbrev S5632x2048 : Shape := ⟨2, ![5632, 2048]⟩
abbrev S32x4x2048 : Shape := ⟨3, ![32, 4, 2048]⟩
abbrev S1x128x2048 : Shape := ⟨3, ![1, 128, 2048]⟩
abbrev S2048x512 : Shape := ⟨2, ![2048, 512]⟩
abbrev S5632x512 : Shape := ⟨2, ![5632, 512]⟩
abbrev S11x128x512 : Shape := ⟨3, ![11, 128, 512]⟩
abbrev S4x128x512 : Shape := ⟨3, ![4, 128, 512]⟩
abbrev S128x512 : Shape := ⟨2, ![128, 512]⟩
abbrev S1x128x512 : Shape := ⟨3, ![1, 128, 512]⟩
abbrev S128x5632 : Shape := ⟨2, ![128, 5632]⟩
abbrev S128 : Shape := ⟨1, ![128]⟩
abbrev S128x1 : Shape := ⟨2, ![128, 1]⟩

abbrev nBuf : Space → Nat
  | .hbm => 14
  | .vmem => 13
  | .smem => 0
  | _ => 0

abbrev bufTy : (tb : Table) → Fin (tcTables nBuf tb) → BufTy
  | .hbm, ⟨0, _⟩ => ⟨S128x2048, .bf16⟩
  | .hbm, ⟨1, _⟩ => ⟨S1x2048x11264, .f32⟩
  | .hbm, ⟨2, _⟩ => ⟨S1x5632x2048, .f32⟩
  | .hbm, ⟨3, _⟩ => ⟨S128x2048, .f32⟩
  | .hbm, ⟨4, _⟩ => ⟨S1x2048, .f32⟩
  | .hbm, ⟨5, _⟩ => ⟨S32x2048, .f32⟩
  | .hbm, ⟨6, _⟩ => ⟨S2048x11264, .f32⟩
  | .hbm, ⟨7, _⟩ => ⟨S2048x11264, .bf16⟩
  | .hbm, ⟨8, _⟩ => ⟨S5632x2048, .f32⟩
  | .hbm, ⟨9, _⟩ => ⟨S5632x2048, .bf16⟩
  | .hbm, ⟨10, _⟩ => ⟨S32x4x2048, .f32⟩
  | .hbm, ⟨11, _⟩ => ⟨S128x2048, .f32⟩
  | .hbm, ⟨12, _⟩ => ⟨S1x128x2048, .f32⟩
  | .hbm, ⟨13, _⟩ => ⟨S128x2048, .f32⟩
  | .local _ .vmem, ⟨0, _⟩ => ⟨S128x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S5632x512, .bf16⟩
  | .local _ .vmem, ⟨6, _⟩ => ⟨S5632x512, .bf16⟩
  | .local _ .vmem, ⟨7, _⟩ => ⟨S128x2048, .f32⟩
  | .local _ .vmem, ⟨8, _⟩ => ⟨S1x2048, .f32⟩
  | .local _ .vmem, ⟨9, _⟩ => ⟨S1x128x2048, .f32⟩
  | .local _ .vmem, ⟨10, _⟩ => ⟨S128x2048, .f32⟩
  | .local _ .vmem, ⟨11, _⟩ => ⟨S11x128x512, .bf16⟩
  | .local _ .vmem, ⟨12, _⟩ => ⟨S4x128x512, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![1, 15], ![false, false]⟩

def k0_cond1 (i : grid0.Coords) : BitVec 1 :=
  let arg1 : BitVec 32 := BitVec.ofNat 32 (i 1).val
  let c11_i32 : BitVec 32 := 11#32
  let v0 : BitVec 1 := Scalar.cmpi .slt arg1 c11_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v20 : Index := Scalar.indexCast arg1
  let c0_9 : Index := 0#32
  let c0_10 : Index := 0#32
  ![v20.toNat, 0, 0]
def k0_cond2 (i : grid0.Coords) : BitVec 1 :=
  let arg1 : BitVec 32 := BitVec.ofNat 32 (i 1).val
  let c11_i32_0 : BitVec 32 := 11#32
  let v3 : BitVec 1 := Scalar.cmpi .sge arg1 c11_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let c11_i32_27 : BitVec 32 := 11#32
  let v35 : BitVec 32 := Scalar.subi arg1 c11_i32_27
  let v36 : Index := Scalar.indexCast v35
  let c0_28 : Index := 0#32
  let c0_29 : Index := 0#32
  ![v36.toNat, 0, 0]
def k0_cond3 (i : grid0.Coords) : BitVec 1 :=
  let arg1 : BitVec 32 := BitVec.ofNat 32 (i 1).val
  let c14_i32 : BitVec 32 := 14#32
  let v6 : BitVec 1 := Scalar.cmpi .eq arg1 c14_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.minsi arg1 c10_i32
  let c11_i32 : BitVec 32 := 11#32
  let v1 : BitVec 32 := Scalar.addi c11_i32 v0
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== SFfnRefIdeal.lean ====
abbrev S128x2048 : Shape := ⟨2, ![128, 2048]⟩
abbrev S1x2048x11264 : Shape := ⟨3, ![1, 2048, 11264]⟩
abbrev S1x5632x2048 : Shape := ⟨3, ![1, 5632, 2048]⟩
abbrev S1x2048 : Shape := ⟨2, ![1, 2048]⟩
abbrev S32x2048 : Shape := ⟨2, ![32, 2048]⟩
abbrev S32x4x2048 : Shape := ⟨3, ![32, 4, 2048]⟩
abbrev S2048x11264 : Shape := ⟨2, ![2048, 11264]⟩
abbrev S32x4x11264 : Shape := ⟨3, ![32, 4, 11264]⟩
abbrev S32x4x5632 : Shape := ⟨3, ![32, 4, 5632]⟩
abbrev S_ : Shape := ⟨0, ![]⟩
abbrev S5632x2048 : Shape := ⟨2, ![5632, 2048]⟩
abbrev S32x1x2048 : Shape := ⟨3, ![32, 1, 2048]⟩
abbrev S2048 : Shape := ⟨1, ![2048]⟩
abbrev S32x4 : Shape := ⟨2, ![32, 4]⟩
abbrev S32x4x1 : Shape := ⟨3, ![32, 4, 1]⟩
abbrev S1x1x2048 : Shape := ⟨3, ![1, 1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S1x2048x11264, .f32⟩
  | .hbm, ⟨2, _⟩ => ⟨S1x5632x2048, .f32⟩
  | .hbm, ⟨3, _⟩ => ⟨S128x2048, .f32⟩
  | .hbm, ⟨4, _⟩ => ⟨S1x2048, .f32⟩
  | .hbm, ⟨5, _⟩ => ⟨S32x2048, .f32⟩
  | .hbm, ⟨6, _⟩ => ⟨S128x2048, .f32⟩
  | .hbm, ⟨7, _⟩ => ⟨S32x4x2048, .f32⟩
  | .hbm, ⟨8, _⟩ => ⟨S32x4x2048, .f32⟩
  | .hbm, ⟨9, _⟩ => ⟨S2048x11264, .f32⟩
  | .hbm, ⟨10, _⟩ => ⟨S32x4x11264, .f32⟩
  | .hbm, ⟨11, _⟩ => ⟨S32x4x5632, .f32⟩
  | .hbm, ⟨12, _⟩ => ⟨S32x4x5632, .f32⟩
  | .hbm, ⟨13, _⟩ => ⟨S32x4x5632, .f32⟩
  | .hbm, ⟨14, _⟩ => ⟨S32x4x5632, .f32⟩
  | .hbm, ⟨15, _⟩ => ⟨S_, .f32⟩
  | .hbm, ⟨16, _⟩ => ⟨S32x4x5632, .f32⟩
  | .hbm, ⟨17, _⟩ => ⟨S32x4x5632, .f32⟩
  | .hbm, ⟨18, _⟩ => ⟨S_, .f32⟩
  | .hbm, ⟨19, _⟩ => ⟨S32x4x5632, .f32⟩
  | .hbm, ⟨20, _⟩ => ⟨S32x4x5632, .f32⟩
  | .hbm, ⟨21, _⟩ => ⟨S32x4x5632, .f32⟩
  | .hbm, ⟨22, _⟩ => ⟨S32x4x5632, .f32⟩
  | .hbm, ⟨23, _⟩ => ⟨S5632x2048, .f32⟩
  | .hbm, ⟨24, _⟩ => ⟨S32x4x2048, .f32⟩
  | .hbm, ⟨25, _⟩ => ⟨S32x1x2048, .f32⟩
  | .hbm, ⟨26, _⟩ => ⟨S2048, .f32⟩
  | .hbm, ⟨27, _⟩ => ⟨S32x4x2048, .f32⟩
  | .hbm, ⟨28, _⟩ => ⟨S_, .f32⟩
  | .hbm, ⟨29, _⟩ => ⟨S32x4, .f32⟩
  | .hbm, ⟨30, _⟩ => ⟨S32x4x1, .f32⟩
  | .hbm, ⟨31, _⟩ => ⟨S_, .f32⟩
  | .hbm, ⟨32, _⟩ => ⟨S32x4x1, .f32⟩
  | .hbm, ⟨33, _⟩ => ⟨S32x4x1, .f32⟩
  | .hbm, ⟨34, _⟩ => ⟨S_, .f32⟩
  | .hbm, ⟨35, _⟩ => ⟨S32x4x1, .f32⟩
  | .hbm, ⟨36, _⟩ => ⟨S32x4x1, .f32⟩
  | .hbm, ⟨37, _⟩ => ⟨S32x4x1, .f32⟩
  | .hbm, ⟨38, _⟩ => ⟨S32x4x2048, .f32⟩
  | .hbm, ⟨39, _⟩ => ⟨S32x4x2048, .f32⟩
  | .hbm, ⟨40, _⟩ => ⟨S1x1x2048, .f32⟩
  | .hbm, ⟨41, _⟩ => ⟨S32x4x2048, .f32⟩
  | .hbm, ⟨42, _⟩ => ⟨S32x4x2048, .f32⟩
  | .hbm, ⟨43, _⟩ => ⟨S32x4x2048, .f32⟩
  | .hbm, ⟨44, _⟩ => ⟨S32x4x2048, .f32⟩
  | .hbm, ⟨45, _⟩ => ⟨S32x4x2048, .f32⟩
  | .hbm, ⟨46, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== SMerge.lean ====
abbrev S128x1024 : Shape := ⟨2, ![128, 1024]⟩
abbrev S1x1024 : Shape := ⟨2, ![1, 1024]⟩
abbrev S1x2048x2048 : Shape := ⟨3, ![1, 2048, 2048]⟩
abbrev S128x2048 : Shape := ⟨2, ![128, 2048]⟩
abbrev S1x2048 : Shape := ⟨2, ![1, 2048]⟩
abbrev S32x2048 : Shape := ⟨2, ![32, 2048]⟩
abbrev S2048x2048 : Shape := ⟨2, ![2048, 2048]⟩
abbrev S32x4x2048 : Shape := ⟨3, ![32, 4, 2048]⟩
abbrev S1x128x2048 : Shape := ⟨3, ![1, 128, 2048]⟩
abbrev S128 : Shape := ⟨1, ![128]⟩
abbrev S128x1 : Shape := ⟨2, ![128, 1]⟩
abbrev S1024x2048 : Shape := ⟨2, ![1024, 2048]⟩

abbrev nBuf : Space → Nat
  | .hbm => 24
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S128x2048, .f32⟩
  | .hbm, ⟨6, _⟩ => ⟨S1x2048, .f32⟩
  | .hbm, ⟨7, _⟩ => ⟨S32x2048, .f32⟩
  | .hbm, ⟨8, _⟩ => ⟨S1x2048, .f32⟩
  | .hbm, ⟨9, _⟩ => ⟨S32x2048, .f32⟩
  | .hbm, ⟨10, _⟩ => ⟨S32x2048, .f32⟩
  | .hbm, ⟨11, _⟩ => ⟨S2048x2048, .f32⟩
  | .hbm, ⟨12, _⟩ => ⟨S2048x2048, .bf16⟩
  | .hbm, ⟨13, _⟩ => ⟨S32x4x2048, .f32⟩
  | .hbm, ⟨14, _⟩ => ⟨S128x2048, .f32⟩
  | .hbm, ⟨15, _⟩ => ⟨S1x128x2048, .f32⟩
  | .hbm, ⟨16, _⟩ => ⟨S32x4x2048, .f32⟩
  | .hbm, ⟨17, _⟩ => ⟨S128x2048, .f32⟩
  | .hbm, ⟨18, _⟩ => ⟨S1x128x2048, .f32⟩
  | .hbm, ⟨19, _⟩ => ⟨S32x4x2048, .f32⟩
  | .hbm, ⟨20, _⟩ => ⟨S128x2048, .f32⟩
  | .hbm, ⟨21, _⟩ => ⟨S1x128x2048, .f32⟩
  | .hbm, ⟨22, _⟩ => ⟨S128x2048, .f32⟩
  | .hbm, ⟨23, _⟩ => ⟨S128x2048, .bf16⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S1x1024, .f32⟩
  | .local _ .vmem, ⟨4, _⟩ => ⟨S2048x2048, .bf16⟩
  | .local _ .vmem, ⟨5, _⟩ => ⟨S128x2048, .f32⟩
  | .local _ .vmem, ⟨6, _⟩ => ⟨S1x2048, .f32⟩
  | .local _ .vmem, ⟨7, _⟩ => ⟨S1x128x2048, .f32⟩
  | .local _ .vmem, ⟨8, _⟩ => ⟨S1x2048, .f32⟩
  | .local _ .vmem, ⟨9, _⟩ => ⟨S1x128x2048, .f32⟩
  | .local _ .vmem, ⟨10, _⟩ => ⟨S1x128x2048, .f32⟩
  | .local _ .vmem, ⟨11, _⟩ => ⟨S128x2048, .f32⟩
  | .local _ .vmem, ⟨12, _⟩ => ⟨S128x2048, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== SMergeRefIdeal.lean ====
abbrev S128x1024 : Shape := ⟨2, ![128, 1024]⟩
abbrev S1x1024 : Shape := ⟨2, ![1, 1024]⟩
abbrev S1x2048x2048 : Shape := ⟨3, ![1, 2048, 2048]⟩
abbrev S128x2048 : Shape := ⟨2, ![128, 2048]⟩
abbrev S1x2048 : Shape := ⟨2, ![1, 2048]⟩
abbrev S32x2048 : Shape := ⟨2, ![32, 2048]⟩
abbrev S32x4x1024 : Shape := ⟨3, ![32, 4, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2048 : Shape := ⟨3, ![32, 4, 2048]⟩
abbrev S2048x2048 : Shape := ⟨2, ![2048, 2048]⟩
abbrev S32x1x2048 : Shape := ⟨3, ![32, 1, 2048]⟩
abbrev S2048 : Shape := ⟨1, ![2048]⟩
abbrev S1x1x2048 : Shape := ⟨3, ![1, 1, 2048]⟩

abbrev nBuf : Space → Nat
  | .hbm => 101
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1024, .f32⟩
  | .hbm, ⟨3, _⟩ => ⟨S1x1024, .f32⟩
  | .hbm, ⟨4, _⟩ => ⟨S1x2048x2048, .f32⟩
  | .hbm, ⟨5, _⟩ => ⟨S128x2048, .f32⟩
  | .hbm, ⟨6, _⟩ => ⟨S1x2048, .f32⟩
  | .hbm, ⟨7, _⟩ => ⟨S32x2048, .f32⟩
  | .hbm, ⟨8, _⟩ => ⟨S1x2048, .f32⟩
  | .hbm, ⟨9, _⟩ => ⟨S32x2048, .f32⟩
  | .hbm, ⟨10, _⟩ => ⟨S32x2048, .f32⟩
  | .hbm, ⟨11, _⟩ => ⟨S32x4x1024, .f32⟩
  | .hbm, ⟨12, _⟩ => ⟨S1024, .f32⟩
  | .hbm, ⟨13, _⟩ => ⟨S32x4x1024, .f32⟩
  | .hbm, ⟨14, _⟩ => ⟨S_, .f32⟩
  | .hbm, ⟨15, _⟩ => ⟨S32x4, .f32⟩
  | .hbm, ⟨16, _⟩ => ⟨S32x4x1, .f32⟩
  | .hbm, ⟨17, _⟩ => ⟨S_, .f32⟩
  | .hbm, ⟨18, _⟩ => ⟨S32x4x1, .f32⟩
  | .hbm, ⟨19, _⟩ => ⟨S32x4x1, .f32⟩
  | .hbm, ⟨20, _⟩ => ⟨S_, .f32⟩
  | .hbm, ⟨21, _⟩ => ⟨S32x4x1, .f32⟩
  | .hbm, ⟨22, _⟩ => ⟨S32x4x1, .f32⟩
  | .hbm, ⟨23, _⟩ => ⟨S32x4x1, .f32⟩
  | .hbm, ⟨24, _⟩ => ⟨S32x4x1024, .f32⟩
  | .hbm, ⟨25, _⟩ => ⟨S32x4x1024, .f32⟩
  | .hbm, ⟨26, _⟩ => ⟨S1x1x1024, .f32⟩
  | .hbm, ⟨27, _⟩ => ⟨S32x4x1024, .f32⟩
  | .hbm, ⟨28, _⟩ => ⟨S32x4x1024, .f32⟩
  | .hbm, ⟨29, _⟩ => ⟨S32x4x1024, .f32⟩
  | .hbm, ⟨30, _⟩ => ⟨S1024, .f32⟩
  | .hbm, ⟨31, _⟩ => ⟨S32x4x1024, .f32⟩
  | .hbm, ⟨32, _⟩ => ⟨S_, .f32⟩
  | .hbm, ⟨33, _⟩ => ⟨S32x4, .f32⟩
  | .hbm, ⟨34, _⟩ => ⟨S32x4x1, .f32⟩
  | .hbm, ⟨35, _⟩ => ⟨S_, .f32⟩
  | .hbm, ⟨36, _⟩ => ⟨S32x4x1, .f32⟩
  | .hbm, ⟨37, _⟩ => ⟨S32x4x1, .f32⟩
  | .hbm, ⟨38, _⟩ => ⟨S_, .f32⟩
  | .hbm, ⟨39, _⟩ => ⟨S32x4x1, .f32⟩
  | .hbm, ⟨40, _⟩ => ⟨S32x4x1, .f32⟩
  | .hbm, ⟨41, _⟩ => ⟨S32x4x1, .f32⟩
  | .hbm, ⟨42, _⟩ => ⟨S32x4x1024, .f32⟩
  | .hbm, ⟨43, _⟩ => ⟨S32x4x1024, .f32⟩
  | .hbm, ⟨44, _⟩ => ⟨S1x1x1024, .f32⟩
  | .hbm, ⟨45, _⟩ => ⟨S32x4x1024, .f32⟩
  | .hbm, ⟨46, _⟩ => ⟨S32x4x1024, .f32⟩
  | .hbm, ⟨47, _⟩ => ⟨S32x4x2048, .f32⟩
  | .hbm, ⟨48, _⟩ => ⟨S2048x2048, .f32⟩
  | .hbm, ⟨49, _⟩ => ⟨S32x4x2048, .f32⟩
  | .hbm, ⟨50, _⟩ => ⟨S32x4x2048, .f32⟩
  | .hbm, ⟨51, _⟩ => ⟨S32x1x2048, .f32⟩
  | .hbm, ⟨52, _⟩ => ⟨S2048, .f32⟩
  | .hbm, ⟨53, _⟩ => ⟨S32x4x2048, .f32⟩
  | .hbm, ⟨54, _⟩ => ⟨S_, .f32⟩
  | .hbm, ⟨55, _⟩ => ⟨S32x4, .f32⟩
  | .hbm, ⟨56, _⟩ => ⟨S32x4x1, .f32⟩
  | .hbm, ⟨57, _⟩ => ⟨S_, .f32⟩
  | .hbm, ⟨58, _⟩ => ⟨S32x4x1, .f32⟩
  | .hbm, ⟨59, _⟩ => ⟨S32x4x1, .f32⟩
  | .hbm, ⟨60, _⟩ => ⟨S_, .f32⟩
  | .hbm, ⟨61, _⟩ => ⟨S32x4x1, .f32⟩
  | .hbm, ⟨62, _⟩ => ⟨S32x4x1, .f32⟩
  | .hbm, ⟨63, _⟩ => ⟨S32x4x1, .f32⟩
  | .hbm, ⟨64, _⟩ => ⟨S32x4x2048, .f32⟩
  | .hbm, ⟨65, _⟩ => ⟨S32x4x2048, .f32⟩
  | .hbm, ⟨66, _⟩ => ⟨S1x1x2048, .f32⟩
  | .hbm, ⟨67, _⟩ => ⟨S32x4x2048, .f32⟩
  | .hbm, ⟨68, _⟩ => ⟨S32x4x2048, .f32⟩
  | .hbm, ⟨69, _⟩ => ⟨S32x4x2048, .f32⟩
  | .hbm, ⟨70, _⟩ => ⟨S32x4x2048, .f32⟩
  | .hbm, ⟨71, _⟩ => ⟨S32x4x2048, .f32⟩
  | .hbm, ⟨72, _⟩ => ⟨S2048, .f32⟩
  | .hbm, ⟨73, _⟩ => ⟨S32x4x2048, .f32⟩
  | .hbm, ⟨74, _⟩ => ⟨S_, .f32⟩
  | .hbm, ⟨75, _⟩ => ⟨S32x4, .f32⟩
  | .hbm, ⟨76, _⟩ => ⟨S32x4x1, .f32⟩
  | .hbm, ⟨77, _⟩ => ⟨S_, .f32⟩
  | .hbm, ⟨78, _⟩ => ⟨S32x4x1, .f32⟩
  | .hbm, ⟨79, _⟩ => ⟨S32x4x1, .f32⟩
  | .hbm, ⟨80, _⟩ => ⟨S_, .f32⟩
  | .hbm, ⟨81, _⟩ => ⟨S32x4x1, .f32⟩
  | .hbm, ⟨82, _⟩ => ⟨S32x4x1, .f32⟩
  | .hbm, ⟨83, _⟩ => ⟨S32x4x1, .f32⟩
  | .hbm, ⟨84, _⟩ => ⟨S32x4x2048, .f32⟩
  | .hbm, ⟨85, _⟩ => ⟨S32x4x2048, .f32⟩
  | .hbm, ⟨86, _⟩ => ⟨S1x1x2048, .f32⟩
  | .hbm, ⟨87, _⟩ => ⟨S32x4x2048, .f32⟩
  | .hbm, ⟨88, _⟩ => ⟨S32x4x2048, .f32⟩
  | .hbm, ⟨89, _⟩ => ⟨S32x1x2048, .f32⟩
  | .hbm, ⟨90, _⟩ => ⟨S_, .f32⟩
  | .hbm, ⟨91, _⟩ => ⟨S32x1x2048, .f32⟩
  | .hbm, ⟨92, _⟩ => ⟨S32x1x2048, .f32⟩
  | .hbm, ⟨93, _⟩ => ⟨S32x4x2048, .f32⟩
  | .hbm, ⟨94, _⟩ => ⟨S32x4x2048, .f32⟩
  | .hbm, ⟨95, _⟩ => ⟨S32x1x2048, .f32⟩
  | .hbm, ⟨96, _⟩ => ⟨S32x4x2048, .f32⟩
  | .hbm, ⟨97, _⟩ => ⟨S32x4x2048, .f32⟩
  | .hbm, ⟨98, _⟩ => ⟨S128x2048, .f32⟩
  | .hbm, ⟨99, _⟩ => ⟨S128x2048, .f32⟩
  | .hbm, ⟨100, _⟩ => ⟨S128x2048, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== SProj.lean ====
abbrev S32x4x2048 : Shape := ⟨3, ![32, 4, 2048]⟩
abbrev S1x2048 : Shape := ⟨2, ![1, 2048]⟩
abbrev S32x2048 : Shape := ⟨2, ![32, 2048]⟩
abbrev S1x2048x6224 : Shape := ⟨3, ![1, 2048, 6224]⟩
abbrev S2048x6224 : Shape := ⟨2, ![2048, 6224]⟩
abbrev S2048x1024 : Shape := ⟨2, ![2048, 1024]⟩
abbrev S2048x512 : Shape := ⟨2, ![2048, 512]⟩
abbrev S2048x6144 : Shape := ⟨2, ![2048, 6144]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x128 : Shape := ⟨2, ![2048, 128]⟩
abbrev S128x2048 : Shape := ⟨2, ![128, 2048]⟩
abbrev S1x128x2048 : Shape := ⟨3, ![1, 128, 2048]⟩
abbrev S128x1024 : Shape := ⟨2, ![128, 1024]⟩
abbrev S1024x128 : Shape := ⟨2, ![1024, 128]⟩
abbrev S128x128 : Shape := ⟨2, ![128, 128]⟩
abbrev S1x64x128 : Shape := ⟨3, ![1, 64, 128]⟩
abbrev S128 : Shape := ⟨1, ![128]⟩
abbrev S128x1 : Shape := ⟨2, ![128, 1]⟩
abbrev S64x128 : Shape := ⟨2, ![64, 128]⟩

abbrev nBuf : Space → Nat
  | .hbm => 38
  | .vmem => 23
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S32x2048, .f32⟩
  | .hbm, ⟨3, _⟩ => ⟨S32x2048, .f32⟩
  | .hbm, ⟨4, _⟩ => ⟨S1x2048x6224, .f32⟩
  | .hbm, ⟨5, _⟩ => ⟨S2048x6224, .f32⟩
  | .hbm, ⟨6, _⟩ => ⟨S2048x1024, .f32⟩
  | .hbm, ⟨7, _⟩ => ⟨S2048x512, .f32⟩
  | .hbm, ⟨8, _⟩ => ⟨S2048x512, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x6144, .f32⟩
  | .hbm, ⟨14, _⟩ => ⟨S2048x6144, .bf16⟩
  | .hbm, ⟨15, _⟩ => ⟨S2048x64, .f32⟩
  | .hbm, ⟨16, _⟩ => ⟨S2048x16, .f32⟩
  | .hbm, ⟨17, _⟩ => ⟨S_, .f32⟩
  | .hbm, ⟨18, _⟩ => ⟨S2048x48, .f32⟩
  | .hbm, ⟨19, _⟩ => ⟨S2048x128, .f32⟩
  | .hbm, ⟨20, _⟩ => ⟨S2048x128, .bf16⟩
  | .hbm, ⟨21, _⟩ => ⟨S128x2048, .bf16⟩
  | .hbm, ⟨22, _⟩ => ⟨S128x2048, .f32⟩
  | .hbm, ⟨23, _⟩ => ⟨S32x4x2048, .f32⟩
  | .hbm, ⟨24, _⟩ => ⟨S128x2048, .f32⟩
  | .hbm, ⟨25, _⟩ => ⟨S1x128x2048, .f32⟩
  | .hbm, ⟨26, _⟩ => ⟨S32x4x2048, .f32⟩
  | .hbm, ⟨27, _⟩ => ⟨S128x2048, .f32⟩
  | .hbm, ⟨28, _⟩ => ⟨S1x128x2048, .f32⟩
  | .hbm, ⟨29, _⟩ => ⟨S128x1024, .bf16⟩
  | .hbm, ⟨30, _⟩ => ⟨S1024x128, .f32⟩
  | .hbm, ⟨31, _⟩ => ⟨S128x1024, .bf16⟩
  | .hbm, ⟨32, _⟩ => ⟨S128x1024, .bf16⟩
  | .hbm, ⟨33, _⟩ => ⟨S128x1024, .bf16⟩
  | .hbm, ⟨34, _⟩ => ⟨S2048x128, .f32⟩
  | .hbm, ⟨35, _⟩ => ⟨S128x2048, .bf16⟩
  | .hbm, ⟨36, _⟩ => ⟨S128x128, .f32⟩
  | .hbm, ⟨37, _⟩ => ⟨S1x64x128, .f32⟩
  | .local _ .vmem, ⟨0, _⟩ => ⟨S128x2048, .f32⟩
  | .local _ .vmem, ⟨1, _⟩ => ⟨S1x2048, .f32⟩
  | .local _ .vmem, ⟨2, _⟩ => ⟨S1x128x2048, .f32⟩
  | .local _ .vmem, ⟨3, _⟩ => ⟨S1x128x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S128x2048, .bf16⟩
  | .local _ .vmem, ⟨8, _⟩ => ⟨S128x1024, .bf16⟩
  | .local _ .vmem, ⟨9, _⟩ => ⟨S128x1024, .bf16⟩
  | .local _ .vmem, ⟨10, _⟩ => ⟨S1024x128, .f32⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S2048x128, .f32⟩
  | .local _ .vmem, ⟨18, _⟩ => ⟨S128x1024, .bf16⟩
  | .local _ .vmem, ⟨19, _⟩ => ⟨S128x1024, .bf16⟩
  | .local _ .vmem, ⟨20, _⟩ => ⟨S128x128, .f32⟩
  | .local _ .vmem, ⟨21, _⟩ => ⟨S1x64x128, .f32⟩
  | .local _ .vmem, ⟨22, _⟩ => ⟨S128x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev main_v23_4 : Ref sig .tc := ⟨.hbm, 33, rfl⟩
abbrev main_v23_5 : Ref sig .tc := ⟨.hbm, 34, rfl⟩
abbrev main_v23_6 : Ref sig .tc := ⟨.hbm, 35, rfl⟩
abbrev main_v23_7 : Ref sig .tc := ⟨.hbm, 36, rfl⟩
abbrev main_v23_8 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨2, ![1, 7], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32_5 : BitVec 32 := 2#32
  let v13 : BitVec 1 := Scalar.cmpi .sge arg1 c2_i32_5
  let c3_i32 : BitVec 32 := 3#32
  let v14 : BitVec 1 := Scalar.cmpi .slt arg1 c3_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c3_i32_7 : BitVec 32 := 3#32
  let v18 : BitVec 1 := Scalar.cmpi .sge arg1 c3_i32_7
  let c4_i32 : BitVec 32 := 4#32
  let v19 : BitVec 1 := Scalar.cmpi .slt arg1 c4_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c4_i32_9 : BitVec 32 := 4#32
  let v23 : BitVec 1 := Scalar.cmpi .eq arg1 c4_i32_9
  let v24 : BitVec 32 := Scalar.extui v23
  let c0_i32_10 : BitVec 32 := 0#32
  let v25 : BitVec 1 := Scalar.cmpi .ne v24 c0_i32_10
  v25

def k0_cond7 (i : grid0.Coords) : BitVec 1 :=
  let arg1 : BitVec 32 := BitVec.ofNat 32 (i 1).val
  let c5_i32 : BitVec 32 := 5#32
  let v26 : BitVec 1 := Scalar.cmpi .eq arg1 c5_i32
  let v27 : BitVec 32 := Scalar.extui v26
  let c0_i32_11 : BitVec 32 := 0#32
  let v28 : BitVec 1 := Scalar.cmpi .ne v27 c0_i32_11
  v28

def k0_cond8 (i : grid0.Coords) : BitVec 1 :=
  let arg1 : BitVec 32 := BitVec.ofNat 32 (i 1).val
  let c6_i32 : BitVec 32 := 6#32
  let v29 : BitVec 1 := Scalar.cmpi .eq arg1 c6_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S2048x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== SProjRefIdeal.lean ====
abbrev S32x4x2048 : Shape := ⟨3, ![32, 4, 2048]⟩
abbrev S1x2048 : Shape := ⟨2, ![1, 2048]⟩
abbrev S32x2048 : Shape := ⟨2, ![32, 2048]⟩
abbrev S1x2048x6224 : Shape := ⟨3, ![1, 2048, 6224]⟩
abbrev S2048 : Shape := ⟨1, ![2048]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S32x1x2048 : Shape := ⟨3, ![32, 1, 2048]⟩
abbrev S2048x6224 : Shape := ⟨2, ![2048, 6224]⟩
abbrev S32x4x6224 : Shape := ⟨3, ![32, 4, 6224]⟩
abbrev S32x4x1024 : Shape := ⟨3, ![32, 4, 1024]⟩
abbrev S32x4x512 : Shape := ⟨3, ![32, 4, 512]⟩
abbrev S32x4x64 : Shape := ⟨3, ![32, 4, 64]⟩
abbrev S32x4x16 : Shape := ⟨3, ![32, 4, 16]⟩
abbrev S32x4x4x128 : Shape := ⟨4, ![32, 4, 4, 128]⟩
abbrev S32x4x1x4x128 : Shape := ⟨5, ![32, 4, 1, 4, 128]⟩
abbrev S32x4x2x4x128 : Shape := ⟨5, ![32, 4, 2, 4, 128]⟩
abbrev S32x4x8x128 : Shape := ⟨4, ![32, 4, 8, 128]⟩
abbrev S32x4x1x8x128 : Shape := ⟨5, ![32, 4, 1, 8, 128]⟩
abbrev S32x4x2x8x128 : Shape := ⟨5, ![32, 4, 2, 8, 128]⟩
abbrev S128x1024 : Shape := ⟨2, ![128, 1024]⟩
abbrev S1024x128 : Shape := ⟨2, ![1024, 128]⟩
abbrev S2048x128 : Shape := ⟨2, ![2048, 128]⟩
abbrev S128x2048 : Shape := ⟨2, ![128, 2048]⟩
abbrev S32x4x48 : Shape := ⟨3, ![32, 4, 48]⟩
abbrev S32x4x128 : Shape := ⟨3, ![32, 4, 128]⟩
abbrev S128x128 : Shape := ⟨2, ![128, 128]⟩
abbrev S128x64 : Shape := ⟨2, ![128, 64]⟩
abbrev S64x128 : Shape := ⟨2, ![64, 128]⟩
abbrev S1x64x128 : Shape := ⟨3, ![1, 64, 128]⟩

abbrev nBuf : Space → Nat
  | .hbm => 74
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S32x2048, .f32⟩
  | .hbm, ⟨3, _⟩ => ⟨S32x2048, .f32⟩
  | .hbm, ⟨4, _⟩ => ⟨S1x2048x6224, .f32⟩
  | .hbm, ⟨5, _⟩ => ⟨S2048, .f32⟩
  | .hbm, ⟨6, _⟩ => ⟨S32x4x2048, .f32⟩
  | .hbm, ⟨7, _⟩ => ⟨S_, .f32⟩
  | .hbm, ⟨8, _⟩ => ⟨S32x4, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S32x4x1, .f32⟩
  | .hbm, ⟨17, _⟩ => ⟨S32x4x2048, .f32⟩
  | .hbm, ⟨18, _⟩ => ⟨S32x4x2048, .f32⟩
  | .hbm, ⟨19, _⟩ => ⟨S1x1x2048, .f32⟩
  | .hbm, ⟨20, _⟩ => ⟨S32x4x2048, .f32⟩
  | .hbm, ⟨21, _⟩ => ⟨S32x4x2048, .f32⟩
  | .hbm, ⟨22, _⟩ => ⟨S32x1x2048, .f32⟩
  | .hbm, ⟨23, _⟩ => ⟨S_, .f32⟩
  | .hbm, ⟨24, _⟩ => ⟨S32x1x2048, .f32⟩
  | .hbm, ⟨25, _⟩ => ⟨S32x1x2048, .f32⟩
  | .hbm, ⟨26, _⟩ => ⟨S32x4x2048, .f32⟩
  | .hbm, ⟨27, _⟩ => ⟨S32x4x2048, .f32⟩
  | .hbm, ⟨28, _⟩ => ⟨S32x1x2048, .f32⟩
  | .hbm, ⟨29, _⟩ => ⟨S32x4x2048, .f32⟩
  | .hbm, ⟨30, _⟩ => ⟨S32x4x2048, .f32⟩
  | .hbm, ⟨31, _⟩ => ⟨S2048x6224, .f32⟩
  | .hbm, ⟨32, _⟩ => ⟨S32x4x6224, .f32⟩
  | .hbm, ⟨33, _⟩ => ⟨S32x4x1024, .f32⟩
  | .hbm, ⟨34, _⟩ => ⟨S32x4x512, .f32⟩
  | .hbm, ⟨35, _⟩ => ⟨S32x4x512, .f32⟩
  | .hbm, ⟨36, _⟩ => ⟨S32x4x1024, .f32⟩
  | .hbm, ⟨37, _⟩ => ⟨S32x4x64, .f32⟩
  | .hbm, ⟨38, _⟩ => ⟨S32x4x16, .f32⟩
  | .hbm, ⟨39, _⟩ => ⟨S32x4x1024, .f32⟩
  | .hbm, ⟨40, _⟩ => ⟨S32x4x1024, .f32⟩
  | .hbm, ⟨41, _⟩ => ⟨S32x4x1024, .f32⟩
  | .hbm, ⟨42, _⟩ => ⟨S_, .f32⟩
  | .hbm, ⟨43, _⟩ => ⟨S32x4x16, .f32⟩
  | .hbm, ⟨44, _⟩ => ⟨S32x4x16, .f32⟩
  | .hbm, ⟨45, _⟩ => ⟨S32x4x4x128, .f32⟩
  | .hbm, ⟨46, _⟩ => ⟨S32x4x4x128, .f32⟩
  | .hbm, ⟨47, _⟩ => ⟨S32x4x1x4x128, .f32⟩
  | .hbm, ⟨48, _⟩ => ⟨S32x4x1x4x128, .f32⟩
  | .hbm, ⟨49, _⟩ => ⟨S32x4x2x4x128, .f32⟩
  | .hbm, ⟨50, _⟩ => ⟨S32x4x8x128, .f32⟩
  | .hbm, ⟨51, _⟩ => ⟨S32x4x8x128, .f32⟩
  | .hbm, ⟨52, _⟩ => ⟨S32x4x1x8x128, .f32⟩
  | .hbm, ⟨53, _⟩ => ⟨S32x4x1x8x128, .f32⟩
  | .hbm, ⟨54, _⟩ => ⟨S32x4x2x8x128, .f32⟩
  | .hbm, ⟨55, _⟩ => ⟨S128x1024, .f32⟩
  | .hbm, ⟨56, _⟩ => ⟨S128x1024, .bf16⟩
  | .hbm, ⟨57, _⟩ => ⟨S1024x128, .f32⟩
  | .hbm, ⟨58, _⟩ => ⟨S128x1024, .f32⟩
  | .hbm, ⟨59, _⟩ => ⟨S128x1024, .bf16⟩
  | .hbm, ⟨60, _⟩ => ⟨S128x1024, .f32⟩
  | .hbm, ⟨61, _⟩ => ⟨S128x1024, .bf16⟩
  | .hbm, ⟨62, _⟩ => ⟨S128x1024, .f32⟩
  | .hbm, ⟨63, _⟩ => ⟨S128x1024, .bf16⟩
  | .hbm, ⟨64, _⟩ => ⟨S2048x128, .f32⟩
  | .hbm, ⟨65, _⟩ => ⟨S128x2048, .f32⟩
  | .hbm, ⟨66, _⟩ => ⟨S128x2048, .bf16⟩
  | .hbm, ⟨67, _⟩ => ⟨S_, .f32⟩
  | .hbm, ⟨68, _⟩ => ⟨S32x4x48, .f32⟩
  | .hbm, ⟨69, _⟩ => ⟨S32x4x128, .f32⟩
  | .hbm, ⟨70, _⟩ => ⟨S128x128, .f32⟩
  | .hbm, ⟨71, _⟩ => ⟨S128x64, .f32⟩
  | .hbm, ⟨72, _⟩ => ⟨S64x128, .f32⟩
  | .hbm, ⟨73, _⟩ => ⟨S1x64x128, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_4 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩

abbrev nD : Nat := 1
abbrev τ : Topo := Topo.v7x

variable {F : FTy → Type} [FloatOps F]
-- ==== Mod.lean ====
abbrev S8x2048 : Shape := ⟨2, ![8, 2048]⟩
abbrev S32x2048 : Shape := ⟨2, ![32, 2048]⟩
abbrev S1x2048x12288 : Shape := ⟨3, ![1, 2048, 12288]⟩
abbrev S1x12288 : Shape := ⟨2, ![1, 12288]⟩
abbrev S40x2048 : Shape := ⟨2, ![40, 2048]⟩
abbrev S2048x12288 : Shape := ⟨2, ![2048, 12288]⟩
abbrev S40x12288 : Shape := ⟨2, ![40, 12288]⟩
abbrev S2048x1024 : Shape := ⟨2, ![2048, 1024]⟩
abbrev S1x1024 : Shape := ⟨2, ![1, 1024]⟩
abbrev S40x1024 : Shape := ⟨2, ![40, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S40x2048, .f32⟩
  | .hbm, ⟨5, _⟩ => ⟨S2048x12288, .f32⟩
  | .hbm, ⟨6, _⟩ => ⟨S40x12288, .f32⟩
  | .local _ .vmem, ⟨0, _⟩ => ⟨S40x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x2048 : Shape := ⟨2, ![8, 2048]⟩
abbrev S32x2048 : Shape := ⟨2, ![32, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩
abbrev S32x12288 : Shape := ⟨2, ![32, 12288]⟩
abbrev S40x12288 : Shape := ⟨2, ![40, 12288]⟩

abbrev nBuf : Space → Nat
  | .hbm => 35
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S32x2048, .f32⟩
  | .hbm, ⟨2, _⟩ => ⟨S1x2048x12288, .f32⟩
  | .hbm, ⟨3, _⟩ => ⟨S1x12288, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S2048x12288, .f32⟩
  | .hbm, ⟨14, _⟩ => ⟨S8x12288, .f32⟩
  | .hbm, ⟨15, _⟩ => ⟨S12288, .f32⟩
  | .hbm, ⟨16, _⟩ => ⟨S1x12288, .f32⟩
  | .hbm, ⟨17, _⟩ => ⟨S8x12288, .f32⟩
  | .hbm, ⟨18, _⟩ => ⟨S8x12288, .f32⟩
  | .hbm, ⟨19, _⟩ => ⟨S32x2048, .f32⟩
  | .hbm, ⟨20, _⟩ => ⟨S32x2048, .f32⟩
  | .hbm, ⟨21, _⟩ => ⟨S_, .f32⟩
  | .hbm, ⟨22, _⟩ => ⟨S32x2048, .f32⟩
  | .hbm, ⟨23, _⟩ => ⟨S32x2048, .f32⟩
  | .hbm, ⟨24, _⟩ => ⟨S_, .f32⟩
  | .hbm, ⟨25, _⟩ => ⟨S32x2048, .f32⟩
  | .hbm, ⟨26, _⟩ => ⟨S32x2048, .f32⟩
  | .hbm, ⟨27, _⟩ => ⟨S32x2048, .f32⟩
  | .hbm, ⟨28, _⟩ => ⟨S2048x12288, .f32⟩
  | .hbm, ⟨29, _⟩ => ⟨S32x12288, .f32⟩
  | .hbm, ⟨30, _⟩ => ⟨S12288, .f32⟩
  | .hbm, ⟨31, _⟩ => ⟨S1x12288, .f32⟩
  | .hbm, ⟨32, _⟩ => ⟨S32x12288, .f32⟩
  | .hbm, ⟨33, _⟩ => ⟨S32x12288, .f32⟩
  | .hbm, ⟨34, _⟩ => ⟨S40x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Bias.lean ====
abbrev S32x8 : Shape := ⟨2, ![32, 8]⟩
abbrev S2x8x256x256 : Shape := ⟨4, ![2, 8, 256, 256]⟩
abbrev S2x1x256x256 : Shape := ⟨4, ![2, 1, 256, 256]⟩
abbrev S256x256 : Shape := ⟨2, ![256, 256]⟩
abbrev S1x1 : Shape := ⟨2, ![1, 1]⟩
abbrev S1x1x256x256 : Shape := ⟨4, ![1, 1, 256, 256]⟩

abbrev nBuf : Space → Nat
  | .hbm => 2
  | .vmem => 2
  | .smem => 1
  | _ => 0

abbrev bufTy : (tb : Table) → Fin (tcTables nBuf tb) → BufTy
  | .hbm, ⟨0, _⟩ => ⟨S32x8, .f32⟩
  | .hbm, ⟨1, _⟩ => ⟨S2x8x256x256, .f32⟩
  | .local _ .vmem, ⟨0, _⟩ => ⟨S2x1x256x256, .f32⟩
  | .local _ .vmem, ⟨1, _⟩ => ⟨S2x1x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v10 : Index := Scalar.indexCast arg0
  ![1, v10.toNat]
def k0_off3 (i : grid0.Coords) : Fin 2 → Nat :=
  let c2 : Index := 2#32
  let arg0 : BitVec 32 := BitVec.ofNat 32 (i 0).val
  let v16 : Index := Scalar.indexCast arg0
  ![2, v16.toNat]
def k0_off4 (i : grid0.Coords) : Fin 2 → Nat :=
  let c3 : Index := 3#32
  let arg0 : BitVec 32 := BitVec.ofNat 32 (i 0).val
  let v22 : Index := Scalar.indexCast arg0
  ![3, v22.toNat]
def k0_off5 (i : grid0.Coords) : Fin 2 → Nat :=
  let c4 : Index := 4#32
  let arg0 : BitVec 32 := BitVec.ofNat 32 (i 0).val
  let v28 : Index := Scalar.indexCast arg0
  ![4, v28.toNat]
def k0_off6 (i : grid0.Coords) : Fin 2 → Nat :=
  let c5 : Index := 5#32
  let arg0 : BitVec 32 := BitVec.ofNat 32 (i 0).val
  let v34 : Index := Scalar.indexCast arg0
  ![5, v34.toNat]
def k0_off7 (i : grid0.Coords) : Fin 2 → Nat :=
  let c6 : Index := 6#32
  let arg0 : BitVec 32 := BitVec.ofNat 32 (i 0).val
  let v40 : Index := Scalar.indexCast arg0
  ![6, v40.toNat]
def k0_off8 (i : grid0.Coords) : Fin 2 → Nat :=
  let c7 : Index := 7#32
  let arg0 : BitVec 32 := BitVec.ofNat 32 (i 0).val
  let v46 : Index := Scalar.indexCast arg0
  ![7, v46.toNat]
def k0_off9 (i : grid0.Coords) : Fin 2 → Nat :=
  let c8 : Index := 8#32
  let arg0 : BitVec 32 := BitVec.ofNat 32 (i 0).val
  let v52 : Index := Scalar.indexCast arg0
  ![8, v52.toNat]
def k0_off10 (i : grid0.Coords) : Fin 2 → Nat :=
  let c9 : Index := 9#32
  let arg0 : BitVec 32 := BitVec.ofNat 32 (i 0).val
  let v58 : Index := Scalar.indexCast arg0
  ![9, v58.toNat]
def k0_off11 (i : grid0.Coords) : Fin 2 → Nat :=
  let c10 : Index := 10#32
  let arg0 : BitVec 32 := BitVec.ofNat 32 (i 0).val
  let v64 : Index := Scalar.indexCast arg0
  ![10, v64.toNat]
def k0_off12 (i : grid0.Coords) : Fin 2 → Nat :=
  let c11 : Index := 11#32
  let arg0 : BitVec 32 := BitVec.ofNat 32 (i 0).val
  let v70 : Index := Scalar.indexCast arg0
  ![11, v70.toNat]
def k0_off13 (i : grid0.Coords) : Fin 2 → Nat :=
  let c12 : Index := 12#32
  let arg0 : BitVec 32 := BitVec.ofNat 32 (i 0).val
  let v76 : Index := Scalar.indexCast arg0
  ![12, v76.toNat]
def k0_off14 (i : grid0.Coords) : Fin 2 → Nat :=
  let c13 : Index := 13#32
  let arg0 : BitVec 32 := BitVec.ofNat 32 (i 0).val
  let v82 : Index := Scalar.indexCast arg0
  ![13, v82.toNat]
def k0_off15 (i : grid0.Coords) : Fin 2 → Nat :=
  let c14 : Index := 14#32
  let arg0 : BitVec 32 := BitVec.ofNat 32 (i 0).val
  let v88 : Index := Scalar.indexCast arg0
  ![14, v88.toNat]
def k0_off16 (i : grid0.Coords) : Fin 2 → Nat :=
  let c15 : Index := 15#32
  let arg0 : BitVec 32 := BitVec.ofNat 32 (i 0).val
  let v94 : Index := Scalar.indexCast arg0
  ![15, v94.toNat]
def k0_off17 (i : grid0.Coords) : Fin 2 → Nat :=
  let c16 : Index := 16#32
  let arg0 : BitVec 32 := BitVec.ofNat 32 (i 0).val
  let v100 : Index := Scalar.indexCast arg0
  ![16, v100.toNat]
def k0_off18 (i : grid0.Coords) : Fin 2 → Nat :=
  let c17 : Index := 17#32
  let arg0 : BitVec 32 := BitVec.ofNat 32 (i 0).val
  let v106 : Index := Scalar.indexCast arg0
  ![17, v106.toNat]
def k0_off19 (i : grid0.Coords) : Fin 2 → Nat :=
  let c18 : Index := 18#32
  let arg0 : BitVec 32 := BitVec.ofNat 32 (i 0).val
  let v112 : Index := Scalar.indexCast arg0
  ![18, v112.toNat]
def k0_off20 (i : grid0.Coords) : Fin 2 → Nat :=
  let c19 : Index := 19#32
  let arg0 : BitVec 32 := BitVec.ofNat 32 (i 0).val
  let v118 : Index := Scalar.indexCast arg0
  ![19, v118.toNat]
def k0_off21 (i : grid0.Coords) : Fin 2 → Nat :=
  let c20 : Index := 20#32
  let arg0 : BitVec 32 := BitVec.ofNat 32 (i 0).val
  let v124 : Index := Scalar.indexCast arg0
  ![20, v124.toNat]
def k0_off22 (i : grid0.Coords) : Fin 2 → Nat :=
  let c21 : Index := 21#32
  let arg0 : BitVec 32 := BitVec.ofNat 32 (i 0).val
  let v130 : Index := Scalar.indexCast arg0
  ![21, v130.toNat]
def k0_off23 (i : grid0.Coords) : Fin 2 → Nat :=
  let c22 : Index := 22#32
  let arg0 : BitVec 32 := BitVec.ofNat 32 (i 0).val
  let v136 : Index := Scalar.indexCast arg0
  ![22, v136.toNat]
def k0_off24 (i : grid0.Coords) : Fin 2 → Nat :=
  let c23 : Index := 23#32
  let arg0 : BitVec 32 := BitVec.ofNat 32 (i 0).val
  let v142 : Index := Scalar.indexCast arg0
  ![23, v142.toNat]
def k0_off25 (i : grid0.Coords) : Fin 2 → Nat :=
  let c24 : Index := 24#32
  let arg0 : BitVec 32 := BitVec.ofNat 32 (i 0).val
  let v148 : Index := Scalar.indexCast arg0
  ![24, v148.toNat]
def k0_off26 (i : grid0.Coords) : Fin 2 → Nat :=
  let c25 : Index := 25#32
  let arg0 : BitVec 32 := BitVec.ofNat 32 (i 0).val
  let v154 : Index := Scalar.indexCast arg0
  ![25, v154.toNat]
def k0_off27 (i : grid0.Coords) : Fin 2 → Nat :=
  let c26 : Index := 26#32
  let arg0 : BitVec 32 := BitVec.ofNat 32 (i 0).val
  let v160 : Index := Scalar.indexCast arg0
  ![26, v160.toNat]
def k0_off28 (i : grid0.Coords) : Fin 2 → Nat :=
  let c27 : Index := 27#32
  let arg0 : BitVec 32 := BitVec.ofNat 32 (i 0).val
  let v166 : Index := Scalar.indexCast arg0
  ![27, v166.toNat]
def k0_off29 (i : grid0.Coords) : Fin 2 → Nat :=
  let c28 : Index := 28#32
  let arg0 : BitVec 32 := BitVec.ofNat 32 (i 0).val
  let v172 : Index := Scalar.indexCast arg0
  ![28, v172.toNat]
def k0_off30 (i : grid0.Coords) : Fin 2 → Nat :=
  let c29 : Index := 29#32
  let arg0 : BitVec 32 := BitVec.ofNat 32 (i 0).val
  let v178 : Index := Scalar.indexCast arg0
  ![29, v178.toNat]
def k0_off31 (i : grid0.Coords) : Fin 2 → Nat :=
  let c30 : Index := 30#32
  let arg0 : BitVec 32 := BitVec.ofNat 32 (i 0).val
  let v184 : Index := Scalar.indexCast arg0
  ![30, v184.toNat]
def k0_off32 (i : grid0.Coords) : Fin 2 → Nat :=
  let c31 : Index := 31#32
  let arg0 : BitVec 32 := BitVec.ofNat 32 (i 0).val
  let v190 : Index := Scalar.indexCast arg0
  ![31, v190.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasRefIdeal.lean ====
abbrev S32x8 : Shape := ⟨2, ![32, 8]⟩
abbrev S256 : Shape := ⟨1, ![256]⟩
abbrev S512 : Shape := ⟨1, ![512]⟩
abbrev S2x1x256 : Shape := ⟨3, ![2, 1, 256]⟩
abbrev S1x256x1 : Shape := ⟨3, ![1, 256, 1]⟩
abbrev S2x256x256 : Shape := ⟨3, ![2, 256, 256]⟩
abbrev S_ : Shape := ⟨0, ![]⟩
abbrev S2x256x256x1 : Shape := ⟨4, ![2, 256, 256, 1]⟩
abbrev S2x256x256x8 : Shape := ⟨4, ![2, 256, 256, 8]⟩
abbrev S2x8x256x256 : Shape := ⟨4, ![2, 8, 256, 256]⟩

abbrev nBuf : Space → Nat
  | .hbm => 46
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S512, .i32⟩
  | .hbm, ⟨3, _⟩ => ⟨S2x1x256, .i32⟩
  | .hbm, ⟨4, _⟩ => ⟨S1x256x1, .i32⟩
  | .hbm, ⟨5, _⟩ => ⟨S2x256x256, .i32⟩
  | .hbm, ⟨6, _⟩ => ⟨S2x256x256, .i32⟩
  | .hbm, ⟨7, _⟩ => ⟨S2x256x256, .i32⟩
  | .hbm, ⟨8, _⟩ => ⟨S_, .i32⟩
  | .hbm, ⟨9, _⟩ => ⟨S2x256x256, .i32⟩
  | .hbm, ⟨10, _⟩ => ⟨S2x256x256, .i32⟩
  | .hbm, ⟨11, _⟩ => ⟨S_, .i32⟩
  | .hbm, ⟨12, _⟩ => ⟨S2x256x256, .i32⟩
  | .hbm, ⟨13, _⟩ => ⟨S2x256x256, .i32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .i32⟩
  | .hbm, ⟨26, _⟩ => ⟨S_, .i32⟩
  | .hbm, ⟨27, _⟩ => ⟨S2x256x256, .i32⟩
  | .hbm, ⟨28, _⟩ => ⟨S2x256x256, .i32⟩
  | .hbm, ⟨29, _⟩ => ⟨S_, .i32⟩
  | .hbm, ⟨30, _⟩ => ⟨S2x256x256, .i32⟩
  | .hbm, ⟨31, _⟩ => ⟨S2x256x256, .i32⟩
  | .hbm, ⟨32, _⟩ => ⟨S_, .i32⟩
  | .hbm, ⟨33, _⟩ => ⟨S2x256x256, .i32⟩
  | .hbm, ⟨34, _⟩ => ⟨S2x256x256, .i1⟩
  | .hbm, ⟨35, _⟩ => ⟨S2x256x256, .i32⟩
  | .hbm, ⟨36, _⟩ => ⟨S_, .i32⟩
  | .hbm, ⟨37, _⟩ => ⟨S2x256x256, .i32⟩
  | .hbm, ⟨38, _⟩ => ⟨S2x256x256, .i1⟩
  | .hbm, ⟨39, _⟩ => ⟨S_, .i32⟩
  | .hbm, ⟨40, _⟩ => ⟨S2x256x256, .i32⟩
  | .hbm, ⟨41, _⟩ => ⟨S2x256x256, .i32⟩
  | .hbm, ⟨42, _⟩ => ⟨S2x256x256, .i32⟩
  | .hbm, ⟨43, _⟩ => ⟨S2x256x256x1, .i32⟩
  | .hbm, ⟨44, _⟩ => ⟨S2x256x256x8, .f32⟩
  | .hbm, ⟨45, _⟩ => ⟨S2x8x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Model.lean ====
/-
The layer's mathematics on extended reals, one row at a time: root-mean-square normalisation and the output mixing step.
-/
module

public import Idealize.ShloMosaic.Lib.Pointwise

@[expose] public section

noncomputable section

namespace Cert.Model

open Idealize.ShloMosaic

/-- The small constant added to a mean square before its inverse root is taken. -/
abbrev eps : EReal := Ideal.ofBits .f32 0x358637BD#32

/-- Entry `k` of the root-mean-square normalisation of the row `f` with gains `g`; `cnt` is the row's length as a number. -/
def rms {n : ℕ} (cnt : EReal) (f g : Fin n → EReal) (k : Fin n) : EReal :=
  f k * Ideal.rsqrt (Ideal.div (∑ l, f l * f l) cnt + eps) * g k

/-- The row length 1024 as the programs write it. -/
abbrev n1024 : EReal := Ideal.ofBits .f32 0x44800000#32
/-- The row length 2048 as the programs write it. -/
abbrev n2048 : EReal := Ideal.ofBits .f32 0x45000000#32

/-- Column `e` of the output projection of a token: both attention groups' rows normalised, then multiplied by the
    first and the last 1024 rows of the projection. -/
def mix (a b ga gb : Fin 1024 → EReal) (w : Fin 2048 → Fin 2048 → EReal) (e : Fin 2048) : EReal :=
  (∑ k : Fin 1024, rms n1024 a ga k * w ⟨k.val, by omega⟩ e) + ∑ k : Fin 1024, rms n1024 b gb k * w ⟨1024 + k.val, by omega⟩ e

/-- The residual stream after the mixing half: the input plus the gated normalised projection `o`. -/
def resid (x gate o g : Fin 2048 → EReal) (e : Fin 2048) : EReal := x e + gate e * rms n2048 o g e

/-- A normalised row, scaled by `1 + scale` and shifted. -/
def modulated (f g shift scale : Fin 2048 → EReal) (e : Fin 2048) : EReal :=
  rms n2048 f g e * (1 + scale e) + shift e

/-- Entry `f` of the gated activation of the row `h`: the first half of the widened row through `a ↦ a · σ(a)`, times the second half. -/
def swiglu (h : Fin 2048 → EReal) (w : Fin 2048 → Fin 11264 → EReal) (f : Fin 5632) : EReal :=
  (∑ d, h d * w d ⟨f.val, by omega⟩) * Ideal.logistic (∑ d, h d * w d ⟨f.val, by omega⟩) * ∑ d, h d * w d ⟨5632 + f.val, by omega⟩

/-- Entry `e` of the feed-forward map of the row `h`. -/
def ffn (h : Fin 2048 → EReal) (w : Fin 2048 → Fin 11264 → EReal) (wd : Fin 5632 → Fin 2048 → EReal) (e : Fin 2048) : EReal :=
  ∑ f, swiglu h w f * wd f e

end Cert.Model

end
-- ==== Proof.FfnBody.lean ====
/-
  The body of the feed-forward call at one grid point, in its three phases.

  A block of 512 tokens takes fifteen points.  At the first eleven the body computes one slab of the
  gated activation and keeps it in the first scratch buffer; at the last four it contracts all eleven
  slabs with one column block of the down projection and keeps the product in the second scratch buffer;
  at the very last it also normalises the four products and adds the gated result to the residual.
-/
module

public import proofs.«01_k».proof.Proof.Gen.FfnIdeal.Frame
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WritesUnit
public import Idealize.ShloMosaic.Lib.Pointwise
public import Idealize.ShloMosaic.Lib.UnfoldOut
public import Idealize.ShloMosaic.Lib.WordCmp

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Slabs of the two scratch buffers -/

/-- Slab `j` of the buffer of activations. -/
def slabA (x : Vec F S11x512x512 .bf16) (j : Fin 11) : Vec F S1x512x512 .bf16 := fun z => x (ix3 j (z 1) (z 2))

/-- Slab `j` of the buffer of products. -/
def slabB (x : Vec F S4x512x512 .f32) (j : Fin 4) : Vec F S1x512x512 .f32 := fun z => x (ix3 j (z 1) (z 2))

/-- All eleven slabs of activations against one column block of the down projection. -/
def down (a : Fin 11 → Vec F S1x512x512 .bf16) (w : Vec F S5632x512 .bf16) : Vec F S1x512x512 .f32 :=
  k0_pay2 (k0_pay4 (a 0) (a 1) (a 2) (a 3) (a 4) (a 5) (a 6) (a 7) (a 8) (a 9) (a 10)) (k0_pay5 w)

/-- A load of a whole view reads its contents. -/
theorem readAt_whole2 {e : EltTy} {a b : ℕ} (v : View sig .tc .vmem ⟨2, ![a, b]⟩ e) (f : v.ty.Contents (Elt F)) (inb) :
    v.readAt (Elt F) (Rect.unit (s := ⟨2, ![a, b]⟩) ![0, 0] ![a, b] inb).toLoadRect f = v.read (Elt F) f := by
  funext y
  rw [View.readAt_apply]
  refine congrArg _ (funext fun d => Fin.ext ?_)
  fin_cases d <;> simp [LoadRect.idx, Rect.toLoadRect, Rect.unit]

theorem read_writes_whole2 {e : EltTy} {a b : ℕ} (v : View sig .tc .vmem ⟨2, ![a, b]⟩ e) (f : v.ty.Contents (Elt F)) (inb)
    (w : (⟨2, ![a, b]⟩ : Shape).Idx → Elt F e) :
    v.read (Elt F) (v.writes (Elt F) f [⟨Rect.unit (s := ⟨2, ![a, b]⟩) ![0, 0] ![a, b] inb, w⟩]) = w := by
  funext y
  refine View.read_writes_cons_unit_of_mem v f inb w [] y y rfl fun d => ?_
  fin_cases d <;> simp

theorem readAt_whole3 {e : EltTy} {a b d : ℕ} (v : View sig .tc .vmem ⟨3, ![a, b, d]⟩ e) (f : v.ty.Contents (Elt F)) (inb) :
    v.readAt (Elt F) (Rect.unit (s := ⟨3, ![a, b, d]⟩) ![0, 0, 0] ![a, b, d] inb).toLoadRect f = v.read (Elt F) f := by
  funext y
  rw [View.readAt_apply]
  refine congrArg _ (funext fun d => Fin.ext ?_)
  fin_cases d <;> simp [LoadRect.idx, Rect.toLoadRect, Rect.unit]

/-- A load of one slab reads that slab. -/
theorem readAt_slabA (v : View sig .tc .vmem S11x512x512 .bf16) (f : v.ty.Contents (Elt F)) (k : ℕ) (hk : k < 11) (inb) :
    v.readAt (Elt F) (Rect.unit (s := S11x512x512) ![k, 0, 0] ![1, 512, 512] inb).toLoadRect f
      = slabA (v.read (Elt F) f) ⟨k, hk⟩ := by
  funext y
  rw [View.readAt_apply]
  refine congrArg _ (funext fun d => Fin.ext ?_)
  have h0 : (y 0).val = 0 := by have := (y 0).isLt; simpa [S1x512x512] using this
  fin_cases d <;> simp [LoadRect.idx, Rect.toLoadRect, Rect.unit, ix3, h0]

theorem readAt_slabB (v : View sig .tc .vmem S4x512x512 .f32) (f : v.ty.Contents (Elt F)) (k : ℕ) (hk : k < 4) (inb) :
    v.readAt (Elt F) (Rect.unit (s := S4x512x512) ![k, 0, 0] ![1, 512, 512] inb).toLoadRect f
      = slabB (v.read (Elt F) f) ⟨k, hk⟩ := by
  funext y
  rw [View.readAt_apply]
  refine congrArg _ (funext fun d => Fin.ext ?_)
  have h0 : (y 0).val = 0 := by have := (y 0).isLt; simpa [S1x512x512] using this
  fin_cases d <;> simp [LoadRect.idx, Rect.toLoadRect, Rect.unit, ix3, h0]

/-- A store of slab `k` leaves that slab at the stored payload and every other slab as it was. -/
theorem slabA_store (v : View sig .tc .vmem S11x512x512 .bf16) (f : v.ty.Contents (Elt F)) (off : Fin 3 → ℕ) (k : Fin 11)
    (hoff : off = ![k.val, 0, 0]) (inb) (w : Vec F S1x512x512 .bf16) (j : Fin 11) :
    slabA (v.read (Elt F) (v.writes (Elt F) f [⟨Rect.unit (s := S11x512x512) off ![1, 512, 512] inb, w⟩])) j
      = if j = k then w else slabA (v.read (Elt F) f) j := by
  funext z
  have h0 : (z 0).val = 0 := by have := (z 0).isLt; simpa [S1x512x512] using this
  by_cases h : j = k
  · rw [if_pos h, slabA]
    refine View.read_writes_cons_unit_of_mem v f inb w [] _ z hoff fun a => ?_
    subst h
    fin_cases a <;> simp [ix3, h0]
  · rw [if_neg h, slabA]
    refine (View.read_writes_cons_unit_of_not_mem v f inb w [] _ hoff 0 ?_).trans rfl
    have : j.val ≠ k.val := fun e => h (Fin.ext e)
    simp [ix3]; omega

theorem slabB_store (v : View sig .tc .vmem S4x512x512 .f32) (f : v.ty.Contents (Elt F)) (off : Fin 3 → ℕ) (k : Fin 4)
    (hoff : off = ![k.val, 0, 0]) (inb) (w : Vec F S1x512x512 .f32) (j : Fin 4) :
    slabB (v.read (Elt F) (v.writes (Elt F) f [⟨Rect.unit (s := S4x512x512) off ![1, 512, 512] inb, w⟩])) j
      = if j = k then w else slabB (v.read (Elt F) f) j := by
  funext z
  have h0 : (z 0).val = 0 := by have := (z 0).isLt; simpa [S1x512x512] using this
  by_cases h : j = k
  · rw [if_pos h, slabB]
    refine View.read_writes_cons_unit_of_mem v f inb w [] _ z hoff fun a => ?_
    subst h
    fin_cases a <;> simp [ix3, h0]
  · rw [if_neg h, slabB]
    refine (View.read_writes_cons_unit_of_not_mem v f inb w [] _ hoff 0 ?_).trans rfl
    have : j.val ≠ k.val := fun e => h (Fin.ext e)
    simp [ix3]; omega

/-! ## The three phases -/

/-- Where the second phase stores, in closed form: slab `(i 1) - 11`, written as the word arithmetic has it. -/
theorem off2_eq : ∀ i : grid0.Coords, k0_off2 i = ![((i 1).val + 4294967285) % 4294967296, 0, 0] := by
  decide +kernel
instance closedOff2 (i : grid0.Coords) : ClosedOff (k0_off2 i) := ⟨![((i 1).val + 4294967285) % 4294967296, 0, 0], off2_eq i⟩

set_option maxHeartbeats 1000000 in
/-- A point of the first phase stores one slab of activations. -/
theorem kernel_gate (c : Dev nD) (E : Set ℕ) (i : grid0.Coords) (k : Fin 11) (hoff : k0_off1 i = ![k.val, 0, 0]) (h1 : k0_cond1 i = 1#1) (h2 : ¬ k0_cond2 i = 1#1) (h3 : ¬ k0_cond3 i = 1#1)
    (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S5632x512 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S11x512x512 .bf16) (harg10 : arg10.IsWhole) (arg11 : Memref sig .tc .vmem S4x512x512 .f32) (harg11 : arg11.IsWhole)
    (x2 : Vec F S512x2048 .bf16) (x3 x4 : Vec F S2048x512 .bf16) (x10 : Vec F S11x512x512 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg10 fullShare x10
        ∗ (iprop(owns (c : Thread nD τ) arg2 fullShare x2 ∗ owns (c : Thread nD τ) arg3 fullShare x3 ∗ owns (c : Thread nD τ) arg4 fullShare x4
           ∗ ∃ y10 : Vec F S11x512x512 .bf16, ⌜∀ j, slabA y10 j = if j = k then k0_pay1 x2 x3 x4 else slabA x10 j⌝ ∗ owns (c : Thread nD τ) arg10 fullShare y10) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11) K := by
  simp only [cc0_swiglu_ffn_eq_skeleton]; unfold cc0_swiglu_ffn_skel
  simp only [dif_pos h1, dif_neg h2, dif_neg h3]

  unfold owns
  iintro ⟨⟨%f2, %hf2, H2⟩, ⟨%f3, %hf3, H3⟩, ⟨%f4, %hf4, H4⟩, ⟨%f10, %hf10, H10⟩, Hk⟩
  subst hf2 hf3 hf4 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _
  isplitr
  swap
  · iexists _; isplitr
    swap; · iexact H10
    ipureintro; rfl
  ipureintro
  intro j
  refine (slabA_store _ _ _ k hoff _ _ j).trans ?_
  rw [readAt_whole2, readAt_whole2, readAt_whole2]

set_option maxHeartbeats 1000000 in
/-- A point of the second phase stores one slab of products. -/
theorem kernel_down (c : Dev nD) (E : Set ℕ) (i : grid0.Coords) (k : Fin 4) (hoff : k0_off2 i = ![k.val, 0, 0]) (h1 : ¬ k0_cond1 i = 1#1) (h2 : k0_cond2 i = 1#1) (h3 : ¬ k0_cond3 i = 1#1)
    (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S5632x512 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S11x512x512 .bf16) (harg10 : arg10.IsWhole) (arg11 : Memref sig .tc .vmem S4x512x512 .f32) (harg11 : arg11.IsWhole)
    (x5 : Vec F S5632x512 .bf16) (x10 : Vec F S11x512x512 .bf16) (x11 : Vec F S4x512x512 .f32) (K : PUnit → sProp 𝕄) :
    iprop(owns (c : Thread nD τ) arg5 fullShare x5 ∗ owns (c : Thread nD τ) arg10 fullShare x10 ∗ owns (c : Thread nD τ) arg11 fullShare x11
        ∗ (iprop(owns (c : Thread nD τ) arg5 fullShare x5 ∗ owns (c : Thread nD τ) arg10 fullShare x10
           ∗ ∃ y11 : Vec F S4x512x512 .f32, ⌜∀ j, slabB y11 j = if j = k then down (slabA x10) x5 else slabB x11 j⌝ ∗ owns (c : Thread nD τ) arg11 fullShare y11) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11) K := by
  simp only [cc0_swiglu_ffn_eq_skeleton]; unfold cc0_swiglu_ffn_skel
  simp only [dif_neg h1, dif_pos h2, dif_neg h3]
  simp only [k0_part1_eq_skeleton]

  unfold owns
  iintro ⟨⟨%f5, %hf5, H5⟩, ⟨%f10, %hf10, H10⟩, ⟨%f11, %hf11, H11⟩, Hk⟩
  subst hf5 hf10 hf11
  sl_exec
  sl_step
  iapply Hk
  isplitl [H5]
  · iexists f5; isplitr; · ipureintro; rfl
    iexact H5
  isplitl [H10]
  · iexists f10; isplitr; · ipureintro; rfl
    iexact H10
  iexists _
  isplitr
  swap
  · iexists _; isplitr
    swap; · iexact H11
    ipureintro; rfl
  ipureintro
  intro j
  refine (slabB_store _ _ _ k hoff _ _ j).trans ?_
  delta kernel_down.sl.r kernel_down.sl.r_1
  rw [readAt_whole2, readAt_slabA _ _ 0 (by decide), readAt_slabA _ _ 1 (by decide), readAt_slabA _ _ 2 (by decide), readAt_slabA _ _ 3 (by decide),
    readAt_slabA _ _ 4 (by decide), readAt_slabA _ _ 5 (by decide), readAt_slabA _ _ 6 (by decide), readAt_slabA _ _ 7 (by decide),
    readAt_slabA _ _ 8 (by decide), readAt_slabA _ _ 9 (by decide), readAt_slabA _ _ 10 (by decide)]
  unfold down
  rfl

set_option maxHeartbeats 1000000 in
/-- The last point of a block stores the last slab of products and the block of results. -/
theorem kernel_last (c : Dev nD) (E : Set ℕ) (i : grid0.Coords) (hoff : k0_off2 i = ![3, 0, 0]) (h1 : ¬ k0_cond1 i = 1#1) (h2 : k0_cond2 i = 1#1) (h3 : k0_cond3 i = 1#1)
    (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S5632x512 .bf16) (harg5 : arg5.IsWhole) (arg6 : Memref sig .tc .vmem S512x2048 .f32) (harg6 : arg6.IsWhole) (arg7 : Memref sig .tc .vmem S1x2048 .f32) (harg7 : arg7.IsWhole) (arg8 : Memref sig .tc .vmem S1x1x2048 .f32) (harg8 : arg8.IsWhole) (arg9 : Memref sig .tc .vmem S512x2048 .f32) (harg9 : arg9.IsWhole) (arg10 : Memref sig .tc .vmem S11x512x512 .bf16) (harg10 : arg10.IsWhole) (arg11 : Memref sig .tc .vmem S4x512x512 .f32) (harg11 : arg11.IsWhole)
    (x5 : Vec F S5632x512 .bf16) (x6 : Vec F S512x2048 .f32) (x7 : Vec F S1x2048 .f32) (x8 : Vec F S1x1x2048 .f32) (x10 : Vec F S11x512x512 .bf16) (x11 : Vec F S4x512x512 .f32) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare x10 ∗ owns (c : Thread nD τ) arg11 fullShare x11 ∗ (∃ d, owns (c : Thread nD τ) arg9 fullShare d)
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare x10
           ∗ ∃ y11 : Vec F S4x512x512 .f32, ⌜∀ j, slabB y11 j = if j = 3 then down (slabA x10) x5 else slabB x11 j⌝ ∗ owns (c : Thread nD τ) arg11 fullShare y11
           ∗ owns (c : Thread nD τ) arg9 fullShare (k0_pay3 (slabB x11 0) (slabB x11 1) (slabB x11 2) (down (slabA x10) x5) x6 x8 x7)) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11) K := by
  simp only [cc0_swiglu_ffn_eq_skeleton]; unfold cc0_swiglu_ffn_skel
  simp only [dif_neg h1, dif_pos h2, dif_pos h3]
  simp only [k0_part1_eq_skeleton]
  have h14 : (i 1).val = 14 := by revert h3; revert i; decide +kernel
  unfold owns
  iintro ⟨⟨%f5, %hf5, H5⟩, ⟨%f6, %hf6, H6⟩, ⟨%f7, %hf7, H7⟩, ⟨%f8, %hf8, H8⟩, ⟨%f10, %hf10, H10⟩, ⟨%f11, %hf11, H11⟩, ⟨%d9, %f9, -, H9⟩, Hk⟩
  subst hf5 hf6 hf7 hf8 hf10 hf11
  sl_exec
  sl_step
  iapply Hk
  have hB : ∀ j, slabB (View.read (Elt F) arg11.view (arg11.view.writes (Elt F) f11 (kernel_last.sl.H11_1 c i h2 arg5 arg10 f5 f10))) j
      = if j = 3 then down (slabA (arg10.view.read (Elt F) f10)) (arg5.view.read (Elt F) f5) else slabB (arg11.view.read (Elt F) f11) j := by
    delta kernel_last.sl.H11_1
    intro j
    refine (slabB_store _ _ _ (3 : Fin 4) hoff _ _ j).trans ?_
    delta kernel_last.sl.r kernel_last.sl.r_1
    rw [readAt_whole2, readAt_slabA _ _ 0 (by decide), readAt_slabA _ _ 1 (by decide), readAt_slabA _ _ 2 (by decide), readAt_slabA _ _ 3 (by decide),
      readAt_slabA _ _ 4 (by decide), readAt_slabA _ _ 5 (by decide), readAt_slabA _ _ 6 (by decide), readAt_slabA _ _ 7 (by decide),
      readAt_slabA _ _ 8 (by decide), readAt_slabA _ _ 9 (by decide), readAt_slabA _ _ 10 (by decide)]
    unfold down
    rfl
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H10]
  · iexists f10; isplitr; · ipureintro; rfl
    iexact H10
  iexists _
  isplitr
  swap
  · isplitl [H11]
    · iexists _; isplitr
      swap; · iexact H11
      ipureintro; rfl
    iexists _; isplitr
    swap; · iexact H9
    ipureintro
    delta kernel_last.sl.v9 kernel_last.sl.v11 kernel_last.sl.v13 kernel_last.sl.v15
    rw [readAt_slabB _ _ 0 (by decide), readAt_slabB _ _ 1 (by decide), readAt_slabB _ _ 2 (by decide), readAt_slabB _ _ 3 (by decide),
      readAt_whole2, readAt_whole2, readAt_whole3, hB, hB, hB, hB]
    refine (read_writes_whole2 _ _ _ _).trans ?_
    rfl
  ipureintro
  exact hB

end Cert.FfnIdeal.Body
-- ==== Proof.FfnFrame.lean ====
/-
  The feed-forward call as a whole: what its scratch buffers hold between the points, what its result
  window holds when it is written back, and the run of the program from these.
-/
module

public import proofs.«01_k».proof.Proof.FfnBody
public import proofs.«01_k».proof.Proof.Gen.FfnIdeal.Frame
public import proofs.«01_k».proof.Proof.Gen.FfnIdeal.Launch
public import proofs.«01_k».proof.Proof.Gen.FfnIdeal.Skeleton
public import proofs.«01_k».proof.Proof.Gen.FfnIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WritesUnit
public import Idealize.ShloMosaic.Lib.Pointwise
public import Idealize.ShloMosaic.Lib.UnfoldOut
public import Idealize.ShloMosaic.Lib.WordCmp

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Point `s` of block `b`. -/
def pt (b : Fin 32) (s : Fin 15) : Fin cfg0.N := ⟨15 * b.val + s.val, by have := b.isLt; have := s.isLt; have := N_0; show _ < grid0.N; omega⟩

/-- The block a point belongs to. -/
def blockOf (t : Fin cfg0.N) : Fin 32 := ⟨t.val / 15, by have h : t.val < grid0.N := t.isLt; rw [N_0] at h; omega⟩

/-- Slab `j` of the activations of block `b`. -/
def actS (c : Dev nD) (b : Fin 32) (j : Fin 11) : Vec F S1x512x512 .bf16 :=
  k0_pay1 (iblk m c 0 (pt b (j.castLE (by decide)))) (iblk m c 1 (pt b (j.castLE (by decide)))) (iblk m c 2 (pt b (j.castLE (by decide))))

/-- Slab `j` of the products of block `b`. -/
def dnS (c : Dev nD) (b : Fin 32) (j : Fin 4) : Vec F S1x512x512 .f32 :=
  down (actS m c b) (iblk m c 3 (pt b (Fin.natAdd 11 j)))

/-- The results of block `b`. -/
def outS (c : Dev nD) (b : Fin 32) : Vec F S512x2048 .f32 :=
  k0_pay3 (dnS m c b 0) (dnS m c b 1) (dnS m c b 2) (dnS m c b 3) (iblk m c 4 (pt b 14)) (iblk m c 6 (pt b 14)) (iblk m c 5 (pt b 14))

/-- Before point `n` the slabs the block's earlier points stored are in place. -/
def Inv (c : Dev nD) (n : ℕ) (x10 : Vec F S11x512x512 .bf16) (x11 : Vec F S4x512x512 .f32) : Prop :=
  ∀ b : Fin 32, b.val = n / 15 → (∀ j : Fin 11, j.val < n % 15 → slabA x10 j = actS m c b j) ∧ (∀ j : Fin 4, 11 + j.val < n % 15 → slabB x11 j = dnS m c b j)

theorem pt_block (t : Fin cfg0.N) (b : Fin 32) (hb : b.val = t.val / 15) (s : Fin 15) (hs : s.val = t.val % 15) : pt b s = t :=
  Fin.ext (by show 15 * b.val + s.val = t.val; omega)

theorem inv_start (c : Dev nD) (n : ℕ) (h : n % 15 = 0) (x10) (x11) : Inv m c n x10 x11 := fun b _ => ⟨fun j hj => by omega, fun j hj => by omega⟩

theorem inv_gate (c : Dev nD) (t : Fin cfg0.N) (k : Fin 11) (hk : k.val = t.val % 15) (x10 y10) (x11) (h : Inv m c t.val x10 x11)
    (hy : ∀ j, slabA y10 j = if j = k then k0_pay1 (iblk m c 0 t) (iblk m c 1 t) (iblk m c 2 t) else slabA x10 j) : Inv m c (t.val + 1) y10 x11 := by
  intro b hb
  have hk' := k.isLt
  have hb' : b.val = t.val / 15 := by omega
  refine ⟨fun j hj => ?_, fun j hj => by omega⟩
  rw [hy]
  by_cases e : j = k
  · rw [if_pos e, actS, pt_block t b hb' (j.castLE (by decide)) (by subst e; exact hk)]
  · rw [if_neg e]
    have : j.val ≠ k.val := fun h => e (Fin.ext h)
    exact (h b hb').1 j (by omega)

theorem inv_all (c : Dev nD) (t : Fin cfg0.N) (hk : 11 ≤ t.val % 15) (x10) (x11) (h : Inv m c t.val x10 x11) (b : Fin 32) (hb : b.val = t.val / 15) :
    slabA x10 = actS m c b := funext fun j => (h b hb).1 j (by have := j.isLt; omega)

theorem inv_down (c : Dev nD) (t : Fin cfg0.N) (k : Fin 4) (hk : 11 + k.val = t.val % 15) (h14 : t.val % 15 < 14) (x10) (x11 y11) (h : Inv m c t.val x10 x11)
    (hy : ∀ j, slabB y11 j = if j = k then down (slabA x10) (iblk m c 3 t) else slabB x11 j) : Inv m c (t.val + 1) x10 y11 := by
  intro b hb
  have hb' : b.val = t.val / 15 := by omega
  refine ⟨fun j hj => (h b hb').1 j (by have := j.isLt; omega), fun j hj => ?_⟩
  rw [hy]
  by_cases e : j = k
  · rw [if_pos e, dnS, pt_block t b hb' (Fin.natAdd 11 j) (by subst e; exact hk), inv_all m c t (by omega) x10 x11 h b hb']
  · rw [if_neg e]
    have : j.val ≠ k.val := fun h => e (Fin.ext h)
    exact (h b hb').2 j (by omega)

theorem inv_out (c : Dev nD) (t : Fin cfg0.N) (h14 : t.val % 15 = 14) (x10) (x11) (h : Inv m c t.val x10 x11) :
    k0_pay3 (slabB x11 0) (slabB x11 1) (slabB x11 2) (down (slabA x10) (iblk m c 3 t)) (iblk m c 4 t) (iblk m c 6 t) (iblk m c 5 t) = outS m c (blockOf t) := by
  have hB := (h (blockOf t) rfl).2
  rw [hB 0 (by rw [h14]; decide), hB 1 (by rw [h14]; decide), hB 2 (by rw [h14]; decide), inv_all m c t (by omega) x10 x11 h (blockOf t) rfl, outS,
    pt_block t (blockOf t) rfl 14 h14.symm]
  rw [show dnS m c (blockOf t) 3 = down (actS m c (blockOf t)) (iblk m c 3 t) from by
    exact congrArg (fun s => down (actS m c (blockOf t)) (iblk m c 3 s)) (pt_block t (blockOf t) rfl (Fin.natAdd 11 (3 : Fin 4) : Fin 15) h14.symm)]

/-! ## The proof data -/

/-- The two scratch buffers with the slabs stored so far, and the generator register. -/
def held (c : Dev nD) (n : ℕ) : sProp 𝕄 :=
  iprop((∃ x10 : Vec F S11x512x512 .bf16, ∃ x11 : Vec F S4x512x512 .f32, ⌜Inv m c n x10 x11⌝ ∗ owns (c : Thread nD τ) (Memref.whole cc0_scratch0) fullShare x10
    ∗ owns (c : Thread nD τ) (Memref.whole cc0_scratch1) fullShare x11) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outS m c (blockOf t)
  Φ t := held m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outS m c (blockOf t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The conditions of a point -/

theorem coord : ∀ t : Fin cfg0.N, (grid0.coords t 1).val = t.val % 15 := by decide +kernel
theorem cond1_iff : ∀ i : grid0.Coords, k0_cond1 i = 1#1 ↔ (i 1).val < 11 := by decide +kernel
theorem cond2_iff : ∀ i : grid0.Coords, k0_cond2 i = 1#1 ↔ 11 ≤ (i 1).val := by decide +kernel
theorem cond3_iff : ∀ i : grid0.Coords, k0_cond3 i = 1#1 ↔ (i 1).val = 14 := by decide +kernel

/-- What the point leaves of the result window's buffer. -/
def leave7 (c : Dev nD) (t : Fin cfg0.N) : sProp 𝕄 :=
  match cfg0.idle 7 (cfg0.grid.coords t) with
  | true => match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

theorem leave7_idle (c : Dev nD) (t : Fin cfg0.N) (h : t.val % 15 ≠ 14) :
    leave7 m c t = iprop(∃ d, owns (c : Thread nD τ) (st0_7 t) fullShare ((dats m 0 c).before 7 t d)) := by
  have h1 : cfg0.idle 7 (cfg0.grid.coords t) = true := by
    show (!(k0_cond3 (grid0.coords t) == 1#1)) = true
    have : ¬ k0_cond3 (grid0.coords t) = 1#1 := fun e => h (by rw [← coord]; exact (cond3_iff _).1 e)
    simp [this]
  have h2 : (cfg0.win 7).flush t = false := by
    cases e : (cfg0.win 7).flush t
    · rfl
    · exact absurd ((flush0_7 t).1 e) h
  unfold leave7
  rw [h1, h2]

theorem leave7_last (c : Dev nD) (t : Fin cfg0.N) (h : t.val % 15 = 14) :
    leave7 m c t = owns (c : Thread nD τ) (st0_7 t) fullShare (outS m c (blockOf t)) := by
  have h1 : cfg0.idle 7 (cfg0.grid.coords t) = false := by
    show (!(k0_cond3 (grid0.coords t) == 1#1)) = false
    have : k0_cond3 (grid0.coords t) = 1#1 := (cond3_iff _).2 (by rw [coord]; exact h)
    simp [this]
  unfold leave7
  rw [h1, after_7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ leave7 m c t)

theorem body_gate (c : Dev nD) (t : Fin cfg0.N) (ht : t.val % 15 < 11) :
    bodyPre m c t ⊢ wp frame (wpE (defs₀ (F := F)) Variants.none c none) Set.univ (bodyAt0 t) (fun _ => bodyPost m c t) := by
  have e := coord t
  have h1 : k0_cond1 (grid0.coords t) = 1#1 := (cond1_iff _).2 (by omega)
  have h2 : ¬ k0_cond2 (grid0.coords t) = 1#1 := fun h => by have := (cond2_iff _).1 h; omega
  have h3 : ¬ k0_cond3 (grid0.coords t) = 1#1 := fun h => by have := (cond3_iff _).1 h; omega
  have hoff : k0_off1 (grid0.coords t) = ![(⟨t.val % 15, ht⟩ : Fin 11).val, 0, 0] := by rw [k0_off1_eq, e]
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6, leave7_idle m c t (by omega)]
  unfold held
  iintro ⟨⟨⟨%x10, %x11, %hI, HA, HB⟩, HR⟩, Ho, ⟨%d0, H0⟩, ⟨%d1, H1⟩, ⟨%d2, H2⟩, ⟨%d3, H3⟩, ⟨%d4, H4⟩, ⟨%d5, H5⟩, ⟨%d6, H6⟩, H7⟩
  iapply (kernel_gate c Set.univ (grid0.coords t) ⟨t.val % 15, ht⟩ hoff h1 h2 h3 _ _ _ _ _ _ _ _ _ _ _ _ _ _ _ _ _ _ _ _ (iblk m c 0 t) (iblk m c 1 t) (iblk m c 2 t) x10 _)
  isplitl [H0]; · iexact H0
  isplitl [H1]; · iexact H1
  isplitl [H2]; · iexact H2
  isplitl [HA]; · iexact HA
  iintro ⟨H0, H1, H2, %y10, %hy, HA⟩
  isplitl [HA HB HR]
  · isplitr [HR]
    · iexists y10; iexists x11
      isplitr; · ipureintro; exact inv_gate m c t ⟨t.val % 15, ht⟩ rfl x10 y10 x11 hI hy
      isplitl [HA]; · iexact HA
      iexact HB
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_down (c : Dev nD) (t : Fin cfg0.N) (hk : 11 ≤ t.val % 15) (ht : t.val % 15 < 14) :
    bodyPre m c t ⊢ wp frame (wpE (defs₀ (F := F)) Variants.none c none) Set.univ (bodyAt0 t) (fun _ => bodyPost m c t) := by
  have e := coord t
  have h1 : ¬ k0_cond1 (grid0.coords t) = 1#1 := fun h => by have := (cond1_iff _).1 h; omega
  have h2 : k0_cond2 (grid0.coords t) = 1#1 := (cond2_iff _).2 (by omega)
  have h3 : ¬ k0_cond3 (grid0.coords t) = 1#1 := fun h => by have := (cond3_iff _).1 h; omega
  have hlt : t.val % 15 - 11 < 4 := by omega
  have hoff : k0_off2 (grid0.coords t) = ![(⟨t.val % 15 - 11, hlt⟩ : Fin 4).val, 0, 0] := by
    rw [off2_eq, e, show (t.val % 15 + 4294967285) % 4294967296 = t.val % 15 - 11 from by omega]
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6, leave7_idle m c t (by omega)]
  unfold held
  iintro ⟨⟨⟨%x10, %x11, %hI, HA, HB⟩, HR⟩, Ho, ⟨%d0, H0⟩, ⟨%d1, H1⟩, ⟨%d2, H2⟩, ⟨%d3, H3⟩, ⟨%d4, H4⟩, ⟨%d5, H5⟩, ⟨%d6, H6⟩, H7⟩
  iapply (kernel_down c Set.univ (grid0.coords t) ⟨t.val % 15 - 11, hlt⟩ hoff h1 h2 h3 _ _ _ _ _ _ _ _ _ _ _ _ _ _ _ _ _ _ _ _ (iblk m c 3 t) x10 x11 _)
  isplitl [H3]; · iexact H3
  isplitl [HA]; · iexact HA
  isplitl [HB]; · iexact HB
  iintro ⟨H3, HA, %y11, %hy, HB⟩
  isplitl [HA HB HR]
  · isplitr [HR]
    · iexists x10; iexists y11
      isplitr; · ipureintro; exact inv_down m c t ⟨t.val % 15 - 11, hlt⟩ (by show 11 + (t.val % 15 - 11) = _; omega) ht x10 x11 y11 hI hy
      isplitl [HA]; · iexact HA
      iexact HB
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_last (c : Dev nD) (t : Fin cfg0.N) (ht : t.val % 15 = 14) :
    bodyPre m c t ⊢ wp frame (wpE (defs₀ (F := F)) Variants.none c none) Set.univ (bodyAt0 t) (fun _ => bodyPost m c t) := by
  have e := coord t
  have h1 : ¬ k0_cond1 (grid0.coords t) = 1#1 := fun h => by have := (cond1_iff _).1 h; omega
  have h2 : k0_cond2 (grid0.coords t) = 1#1 := (cond2_iff _).2 (by omega)
  have h3 : k0_cond3 (grid0.coords t) = 1#1 := (cond3_iff _).2 (by omega)
  have hoff : k0_off2 (grid0.coords t) = ![3, 0, 0] := by rw [off2_eq, e, ht]
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6, leave7_last m c t ht]
  unfold held
  iintro ⟨⟨⟨%x10, %x11, %hI, HA, HB⟩, HR⟩, Ho, ⟨%d0, H0⟩, ⟨%d1, H1⟩, ⟨%d2, H2⟩, ⟨%d3, H3⟩, ⟨%d4, H4⟩, ⟨%d5, H5⟩, ⟨%d6, H6⟩, H7⟩
  iapply (kernel_last c Set.univ (grid0.coords t) hoff h1 h2 h3 _ _ _ _ _ _ _ _ _ _ _ _ _ _ _ _ _ _ _ _ (iblk m c 3 t) (iblk m c 4 t) (iblk m c 5 t) (iblk m c 6 t) x10 x11 _)
  isplitl [H3]; · iexact H3
  isplitl [H4]; · iexact H4
  isplitl [H5]; · iexact H5
  isplitl [H6]; · iexact H6
  isplitl [HA]; · iexact HA
  isplitl [HB]; · iexact HB
  isplitl [H7]
  · icases H7 with ⟨%d7, H7⟩
    iexists _; iexact H7
  rw [inv_out m c t ht x10 x11 hI]
  iintro ⟨H3, H4, H5, H6, HA, %y11, %hy, HB, H7⟩
  isplitl [HA HB HR]
  · isplitr [HR]
    · iexists x10; iexists y11
      isplitr; · ipureintro; exact inv_start m c _ (by omega) _ _
      isplitl [HA]; · iexact HA
      iexact HB
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := F)) Variants.none c none) Set.univ (bodyAt0 t) (fun _ => bodyPost m c t) := by
  by_cases h : t.val % 15 < 11
  · exact body_gate m c t h
  · by_cases h' : t.val % 15 < 14
    · exact body_down m c t (by omega) h'
    · exact body_last m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The class's invariant is the tracked one before the first point, -/
theorem held_in (c : Dev nD) : Pipeline.ΦA spec0 c ⊢ (dats (F := F) m 0 c).Φ 0 := by
  show _ ⊢ held m c 0
  unfold Pipeline.ΦA held
  rw [scopedRest0_eq]
  iintro ⟨⟨⟨%f, HA⟩, ⟨%g, HB⟩⟩, HR⟩
  isplitr [HR]
  · iexists f; iexists g
    isplitr; · ipureintro; exact inv_start m c 0 rfl _ _
    rw [owns_whole, owns_whole]
    isplitl [HA]; · iexact HA
    iexact HB
  · iexact HR

/-- and the tracked one is the class's after the last. -/
theorem held_out (c : Dev nD) : (dats (F := F) m 0 c).Φ (Fin.last cfg0.N) ⊢ Pipeline.ΦA spec0 c := by
  show held m c _ ⊢ _
  unfold Pipeline.ΦA held
  rw [scopedRest0_eq]
  simp only [owns_whole]
  iintro ⟨⟨%x, %y, -, HA, HB⟩, HR⟩
  isplitr [HR]
  · isplitl [HA]
    · iexists x; iexact HA
    · iexists y; iexact HB
  · iexact HR

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnIdeal.Body
-- ==== Proof.FfnValue.lean ====
/-
The feed-forward half as the pipelined program computes it: its result array is, row by row, the gated residual of the
feed-forward map of the token's row.
-/
module

public import proofs.«01_k».proof.Proof.Model
public import proofs.«01_k».proof.Proof.FfnFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Model

open Cert.FfnIdeal Cert.FfnIdeal.Gen Cert.FfnIdeal.Body Cert.Model

/-- One slab of the gated activation, entry by entry. -/
theorem pay1_at (x : FVec Ideal S512x2048 .bf16) (wa wb : FVec Ideal S2048x512 .bf16) (r q : Fin 512) :
    k0_pay1 (F := Ideal) x wa wb (ix3 0 r q)
      = (∑ k : Fin 2048, x (ix2 r k) * wa (ix2 k q)) * Ideal.logistic (∑ k : Fin 2048, x (ix2 r k) * wa (ix2 k q)) * ∑ k : Fin 2048, x (ix2 r k) * wb (ix2 k q) := by
  pointwise! [k0_pay1]

/-- The eleven slabs side by side. -/
theorem pay4_at (a : Fin 11 → FVec Ideal S1x512x512 .bf16) (r : Fin 512) (f : Fin 5632) :
    k0_pay4 (F := Ideal) (a 0) (a 1) (a 2) (a 3) (a 4) (a 5) (a 6) (a 7) (a 8) (a 9) (a 10) (ix2 r f)
      = a ⟨f.val / 512, by omega⟩ (ix3 0 r ⟨f.val % 512, by omega⟩) := by
  refine (concatenate_ofFn_apply (t := S512x5632) (s₁ := S512x512) 1 (fun n : Fin 11 => shapeCast S512x512 (a n) shapeCasts_S1x512x512_S512x512)
    concatenates_S512x512_S512x512_S512x512_S512x512_S512x512_S512x512_S512x512_S512x512_S512x512_S512x512_S512x512_S512x5632_d1 rfl 512 rfl (ix2 r f) ⟨f.val / 512, by omega⟩ rfl
    (ix2 r ⟨f.val % 512, by omega⟩) rfl ?_).trans ?_
  · intro b hb
    fin_cases b
    · rfl
    · exact absurd rfl hb
  · pointwise

/-- A slab of the down projection, entry by entry. -/
theorem down_at (a : Fin 11 → FVec Ideal S1x512x512 .bf16) (w : FVec Ideal S5632x512 .bf16) (r q : Fin 512) :
    down (F := Ideal) a w (ix3 0 r q) = ∑ f : Fin 5632, a ⟨f.val / 512, by omega⟩ (ix3 0 r ⟨f.val % 512, by omega⟩) * w (ix2 f q) := by
  unfold down
  have h := pay4_at a
  generalize k0_pay4 (F := Ideal) (a 0) (a 1) (a 2) (a 3) (a 4) (a 5) (a 6) (a 7) (a 8) (a 9) (a 10) = A at h ⊢
  pointwise! [k0_pay2, k0_pay5, h]

/-- The four slabs of products side by side. -/
def cat (b : Fin 4 → FVec Ideal S1x512x512 .f32) : FVec Ideal S512x2048 .f32 :=
  concatenate S512x2048 1 (List.ofFn fun n : Fin 4 => ⟨S512x512, shapeCast S512x512 (b n) shapeCasts_S1x512x512_S512x512⟩) concatenates_S512x512_S512x512_S512x512_S512x512_S512x2048_d1

theorem cat_at (b : Fin 4 → FVec Ideal S1x512x512 .f32) (r : Fin 512) (e : Fin 2048) :
    cat b (ix2 r e) = b ⟨e.val / 512, by omega⟩ (ix3 0 r ⟨e.val % 512, by omega⟩) := by
  refine (concatenate_ofFn_apply (t := S512x2048) (s₁ := S512x512) 1 (fun n : Fin 4 => shapeCast S512x512 (b n) shapeCasts_S1x512x512_S512x512)
    concatenates_S512x512_S512x512_S512x512_S512x512_S512x2048_d1 rfl 512 rfl (ix2 r e) ⟨e.val / 512, by omega⟩ rfl
    (ix2 r ⟨e.val % 512, by omega⟩) rfl ?_).trans ?_
  · intro b hb
    fin_cases b
    · rfl
    · exact absurd rfl hb
  · pointwise

/-- What the last point does with the products side by side. -/
def tail (v17 x : FVec Ideal S512x2048 .f32) (gate : FVec Ideal S1x1x2048 .f32) (g : FVec Ideal S1x2048 .f32) : FVec Ideal S512x2048 .f32 :=
  addf x (mulf (broadcastTo S512x2048 (shapeCast S1x2048 gate shapeCasts_S1x1x2048_S1x2048) broadcasts_S1x2048_S512x2048)
    (mulf (mulf v17 (broadcastTo S512x2048 (rsqrt (addf (divf (shapeCast S512x1 (multiReduction .add [1] S512 (mulf v17 v17) 0x00000000#32 reduces_S512x2048_S512 (.inl rfl) rfl) shapeCasts_S512_S512x1)
        (broadcast S512x1 (Scalar.ofBits .f32 0x45000000#32))) (broadcast S512x1 (Scalar.ofBits .f32 0x358637BD#32)))) broadcasts_S512x1_S512x2048))
      (broadcastTo S512x2048 g broadcasts_S1x2048_S512x2048)))

theorem tail_at (o x : FVec Ideal S512x2048 .f32) (gate : FVec Ideal S1x1x2048 .f32) (g : FVec Ideal S1x2048 .f32) (r : Fin 512) (e : Fin 2048) :
    tail o x gate g (ix2 r e) = resid (fun e => x (ix2 r e)) (fun e => gate (ix3 0 0 e)) (fun e => o (ix2 r e)) (fun e => g (ix2 0 e)) e := by
  pointwise! [tail, resid, rms]

theorem pay3_at (b : Fin 4 → FVec Ideal S1x512x512 .f32) (x : FVec Ideal S512x2048 .f32) (gate : FVec Ideal S1x1x2048 .f32) (g : FVec Ideal S1x2048 .f32) (r : Fin 512) (e : Fin 2048) :
    k0_pay3 (F := Ideal) (b 0) (b 1) (b 2) (b 3) x gate g (ix2 r e)
      = resid (fun e => x (ix2 r e)) (fun e => gate (ix3 0 0 e)) (fun e => b ⟨e.val / 512, by omega⟩ (ix3 0 r ⟨e.val % 512, by omega⟩)) (fun e => g (ix2 0 e)) e := by
  refine (show _ = tail (cat b) x gate g (ix2 r e) from rfl).trans ?_
  rw [tail_at, funext fun e => cat_at b r e]

variable (m : (ℓ : Loc nD τ sig) → Buf (Elt Ideal) ℓ)

/-- Where each window's block sits: at the points of the first phase, -/
theorem idxA : ∀ (b : Fin 32) (j : Fin 11), win0_0.index (pt b (j.castLE (by decide))) = ![b.val, 0] ∧ win0_1.index (pt b (j.castLE (by decide))) = ![0, j.val] ∧ win0_2.index (pt b (j.castLE (by decide))) = ![0, 11 + j.val] := by
  decide +kernel
/-- of the second, -/
theorem idxB : ∀ (b : Fin 32) (j : Fin 4), win0_3.index (pt b (Fin.natAdd 11 j)) = ![0, j.val] := by decide +kernel
/-- and at the last. -/
theorem idxC : ∀ b : Fin 32, win0_4.index (pt b 14) = ![b.val, 0] ∧ win0_5.index (pt b 14) = ![0, 0] ∧ win0_6.index (pt b 14) = ![b.val / 4, 0, 0] ∧ win0_7.index (pt b 14) = ![b.val, 0] := by
  decide +kernel

/-- The feed-forward row of token `n`. -/
def row (h : FVec Ideal S16384x2048 .bf16) (w : FVec Ideal S1x2048x11264 .f32) (wd : FVec Ideal S1x5632x2048 .f32) (n : Fin 16384) : Fin 2048 → EReal :=
  ffn (fun d => h (ix2 n d)) (fun d f => w (ix3 0 d f)) fun f e => wd (ix3 0 f e)

/-- The result array. -/
def Out (h : FVec Ideal S16384x2048 .bf16) (w : FVec Ideal S1x2048x11264 .f32) (wd : FVec Ideal S1x5632x2048 .f32) (x : FVec Ideal S16384x2048 .f32)
    (g : FVec Ideal S1x2048 .f32) (gate : FVec Ideal S8x1x2048 .f32) : FVec Ideal S16384x2048 .f32 := fun i =>
  resid (fun e => x (ix2 (i 0) e)) (fun e => gate (ix3 ⟨(i 0).val / 2048, by have h : (i 0).val < 16384 := (i 0).isLt; omega⟩ 0 e)) (row h w wd (i 0)) (fun e => g (ix2 0 e)) (i 1)

theorem act_at (c : Dev nD) (b : Fin 32) (j : Fin 11) (r q : Fin 512) (n : Fin 16384) (hn : n.val = b.val * 512 + r.val) (f : Fin 5632) (hf : f.val = j.val * 512 + q.val) :
    actS (F := Ideal) m c b j (ix3 0 r q)
      = swiglu (fun d => m ((c : Thread nD τ).loc main_arg0) (ix2 n d : S16384x2048.Idx)) (fun d f => m ((c : Thread nD τ).loc main_arg1) (ix3 0 d f : S1x2048x11264.Idx)) f := by
  obtain ⟨i0, i1, i2⟩ := idxA b j
  unfold actS
  rw [pay1_at]
  unfold swiglu
  pointwise
  blk_point [iblk, V, i0, i1, i2]

theorem dn_at (c : Dev nD) (b : Fin 32) (j : Fin 4) (r q : Fin 512) (n : Fin 16384) (hn : n.val = b.val * 512 + r.val) (e : Fin 2048) (he : e.val = j.val * 512 + q.val) :
    dnS (F := Ideal) m c b j (ix3 0 r q)
      = row (m ((c : Thread nD τ).loc main_arg0)) (m ((c : Thread nD τ).loc main_arg1)) (m ((c : Thread nD τ).loc main_arg2)) n e := by
  have i3 := idxB b j
  unfold dnS row ffn
  rw [down_at]
  refine Finset.sum_congr rfl fun f _ => ?_
  rw [act_at m c b ⟨f.val / 512, by omega⟩ r ⟨f.val % 512, by omega⟩ n hn f (by show f.val = f.val / 512 * 512 + f.val % 512; omega)]
  refine congrArg _ ?_
  blk_point [iblk, V, i3]

theorem out_at (c : Dev nD) (b : Fin 32) (r : Fin 512) (e : Fin 2048) (n : Fin 16384) (hn : n.val = b.val * 512 + r.val) :
    outS (F := Ideal) m c b (ix2 r e)
      = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n e) := by
  obtain ⟨i4, i5, i6, -⟩ := idxC b
  unfold outS Out
  rw [pay3_at (dnS m c b)]
  rw [show (fun e : Fin 2048 => dnS (F := Ideal) m c b ⟨e.val / 512, by omega⟩ (ix3 0 r ⟨e.val % 512, by omega⟩)) = row (m ((c : Thread nD τ).loc main_arg0)) (m ((c : Thread nD τ).loc main_arg1)) (m ((c : Thread nD τ).loc main_arg2)) n from
    funext fun e => dn_at m c b ⟨e.val / 512, by omega⟩ r ⟨e.val % 512, by omega⟩ n hn e (by show e.val = e.val / 512 * 512 + e.val % 512; omega)]
  pointwise
  generalize row _ _ _ n = O
  unfold resid
  pointwise [rms]
  blk_point [iblk, V, i4, i5, i6]

/-- The result array after the run. -/
theorem final7 (c : Dev nD) : (dats (F := Ideal) m 0 c).arrAt 7 cfg0.N
    = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t ht y => ?_
  have h14 : t.val % 15 = 14 := (flush0_7 t).1 ht
  have hp : pt (blockOf t) 14 = t := pt_block t (blockOf t) rfl 14 h14.symm
  have i7 := (idxC (blockOf t)).2.2.2
  rw [hp] at i7
  blk_simp
  rw [after_7]
  generalize blockOf t = b at i7
  idx_vars y
  obtain ⟨n, hn⟩ : ∃ n : Fin 16384, n.val = b.val * 512 + y0.val := ⟨⟨b.val * 512 + y0.val, by omega⟩, rfl⟩
  have hemb : ((View.whole main_v4).slice (win0_7.rect t)).emb (ix2 y0 y1) = (ix2 n y1 : S16384x2048.Idx) := by
    blk_ext [i7]
  rw [hemb]
  exact out_at m c b y0 y1 n hn

end Cert.FfnIdeal.Model

end
-- ==== Proof.FfnRef.lean ====
/-
The feed-forward half as the layer's mathematics writes it, read row by row.
-/
module

public import proofs.«01_k».proof.Proof.Model
public import proofs.«01_k».proof.Proof.Gen.FfnRefIdeal.Run
public import Idealize.ShloMosaic.Lib.Pipeline.ValueKit

@[expose] public section

set_option maxRecDepth 16384

noncomputable section

open Idealize.ShloMosaic Idealize.ShloMosaic.TcCoe Idealize.SL.Sem

namespace Cert.FfnRefIdeal.Model

open Cert.FfnRefIdeal Cert.FfnRefIdeal.Gen Cert.FfnRefIdeal.Value Cert.Model

variable (m : (ℓ : Loc nD τ sig) → Buf (Elt Ideal) ℓ)

/-- The reference's normalisation of a row of 2048, as its host operations write it. -/
def hostRms (X : FVec Ideal S8x2048x2048 .f32) (g : FVec Ideal S1x2048 .f32) : FVec Ideal S8x2048x2048 .f32 :=
  mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ g shapeCasts_S1x2048_S2048)))

theorem hostRms_at (X : FVec Ideal S8x2048x2048 .f32) (g : FVec Ideal S1x2048 .f32) (b : Fin 8) (t e : Fin 2048) :
    hostRms X g (ix3 b t e) = rms n2048 (fun e => X (ix3 b t e)) (fun e => g (ix2 0 e)) e := by
  pointwise! [hostRms, rms]

/-- Both halves of the widened rows. -/
def hostUp (h : FVec Ideal S16384x2048 .bf16) (w : FVec Ideal S1x2048x11264 .f32) : FVec Ideal S8x2048x11264 .f32 :=
  Host.dotGeneral (φ₁ := .f32) (φ₂ := .f32) dot_S8x2048x2048_S2048x11264_S8x2048x11264_2_0_01_1_n_n none (shapeCast S8x2048x2048 (extf .f32 h bitsLt_bf16_f32) shapeCasts_S16384x2048_S8x2048x2048) (shapeCast S2048x11264 w shapeCasts_S1x2048x11264_S2048x11264)

theorem hostUp_at (h : FVec Ideal S16384x2048 .bf16) (w : FVec Ideal S1x2048x11264 .f32) (b : Fin 8) (t : Fin 2048) (f : Fin 11264) :
    hostUp h w (ix3 b t f) = ∑ d : Fin 2048, h (ix2 ⟨b.val * 2048 + t.val, by omega⟩ d) * w (ix3 0 d f) := by
  pointwise! [hostUp]

/-- The gated activation. -/
def hostAct (U : FVec Ideal S8x2048x11264 .f32) : FVec Ideal S8x2048x5632 .f32 :=
  mulf (mulf (extractStridedSlice S8x2048x5632 ![0, 0, 0] U slices_S8x2048x11264_S8x2048x5632_0_0_0)
    (Host.divf (broadcastInDim S8x2048x5632 ![] bcast_S_S8x2048x5632 (constant S_ .f32 0x3F800000#32)) (addf (broadcastInDim S8x2048x5632 ![] bcast_S_S8x2048x5632 (constant S_ .f32 0x3F800000#32)) (Host.exp (Host.negf (extractStridedSlice S8x2048x5632 ![0, 0, 0] U slices_S8x2048x11264_S8x2048x5632_0_0_0))))))
    (extractStridedSlice S8x2048x5632 ![0, 0, 5632] U slices_S8x2048x11264_S8x2048x5632_0_0_5632)

theorem hostAct_at (U : FVec Ideal S8x2048x11264 .f32) (b : Fin 8) (t : Fin 2048) (f : Fin 5632) :
    hostAct U (ix3 b t f) = U (ix3 b t ⟨f.val, by omega⟩) * Ideal.logistic (U (ix3 b t ⟨f.val, by omega⟩)) * U (ix3 b t ⟨5632 + f.val, by omega⟩) := by
  pointwise! [hostAct, Ideal.logistic]

/-- The down projection. -/
def hostDown (A : FVec Ideal S8x2048x5632 .f32) (wd : FVec Ideal S1x5632x2048 .f32) : FVec Ideal S8x2048x2048 .f32 :=
  Host.dotGeneral (φ₁ := .f32) (φ₂ := .f32) dot_S8x2048x5632_S5632x2048_S8x2048x2048_2_0_01_1_n_n none A (shapeCast S5632x2048 wd shapeCasts_S1x5632x2048_S5632x2048)

theorem hostDown_at (A : FVec Ideal S8x2048x5632 .f32) (wd : FVec Ideal S1x5632x2048 .f32) (b : Fin 8) (t e : Fin 2048) :
    hostDown A wd (ix3 b t e) = ∑ f : Fin 5632, A (ix3 b t f) * wd (ix3 0 f e) := by
  pointwise! [hostDown]

/-- The whole half, over both axes of tokens. -/
def hostOut (h : FVec Ideal S16384x2048 .bf16) (w : FVec Ideal S1x2048x11264 .f32) (wd : FVec Ideal S1x5632x2048 .f32)
    (x : FVec Ideal S16384x2048 .f32) (g : FVec Ideal S1x2048 .f32) (gate : FVec Ideal S8x1x2048 .f32) : FVec Ideal S8x2048x2048 .f32 :=
  addf (shapeCast _ x shapeCasts_S16384x2048_S8x2048x2048) (mulf (broadcastInDim S8x2048x2048 ![0, 1, 2] bcast_S8x1x2048_S8x2048x2048_0_1_2 gate) (hostRms (hostDown (hostAct (hostUp h w)) wd) g))

/-- The feed-forward row of token `n`. -/
def row (h : FVec Ideal S16384x2048 .bf16) (w : FVec Ideal S1x2048x11264 .f32) (wd : FVec Ideal S1x5632x2048 .f32) (n : Fin 16384) : Fin 2048 → EReal :=
  ffn (fun d => h (ix2 n d)) (fun d f => w (ix3 0 d f)) fun f e => wd (ix3 0 f e)

theorem hostOut_at (h : FVec Ideal S16384x2048 .bf16) (w : FVec Ideal S1x2048x11264 .f32) (wd : FVec Ideal S1x5632x2048 .f32)
    (x : FVec Ideal S16384x2048 .f32) (g : FVec Ideal S1x2048 .f32) (gate : FVec Ideal S8x1x2048 .f32) (b : Fin 8) (t e : Fin 2048) :
    hostOut h w wd x g gate (ix3 b t e)
      = resid (fun e => x (ix2 ⟨b.val * 2048 + t.val, by omega⟩ e)) (fun e => gate (ix3 b 0 e)) (row h w wd ⟨b.val * 2048 + t.val, by omega⟩) (fun e => g (ix2 0 e)) e := by
  have hrow : (fun e => hostDown (hostAct (hostUp h w)) wd (ix3 b t e)) = row h w wd ⟨b.val * 2048 + t.val, by omega⟩ := by
    funext e
    unfold row ffn swiglu
    simp only [hostDown_at, hostAct_at, hostUp_at]
  unfold hostOut
  generalize hostDown (hostAct (hostUp h w)) wd = O at hrow
  rw [← hrow]
  pointwise [hostRms_at, resid]

/-- A token's index recovered from its batch and its place in it. -/
theorem tok (n : Fin 16384) (h : n.val / 2048 * 2048 + n.val % 2048 < 16384) : (⟨n.val / 2048 * 2048 + n.val % 2048, h⟩ : Fin 16384) = n :=
  Fin.ext (by show n.val / 2048 * 2048 + n.val % 2048 = n.val; omega)

/-- The result of the reference, entry by entry. -/
theorem out0_at (c : Dev nD) (n : Fin 16384) (e : Fin 2048) :
    (res_out0 m c : FVec Ideal S16384x2048 .f32) (ix2 n e)
      = resid (fun e => m ((c.tc : Thread nD τ).loc main_arg3) (ix2 n e : S16384x2048.Idx)) (fun e => m ((c.tc : Thread nD τ).loc main_arg5) (ix3 ⟨n.val / 2048, by omega⟩ 0 e : S8x1x2048.Idx))
          (row (m ((c.tc : Thread nD τ).loc main_arg0)) (m ((c.tc : Thread nD τ).loc main_arg1)) (m ((c.tc : Thread nD τ).loc main_arg2)) n)
          (fun e => m ((c.tc : Thread nD τ).loc main_arg4) (ix2 0 e : S1x2048.Idx)) e := by
  show shapeCast S16384x2048 (hostOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S8x2048x2048_S16384x2048 (ix2 n e) = _
  pointwise [hostOut_at, tok]
  try rfl

end Cert.FfnRefIdeal.Model

end
-- ==== Proof.FfnClaims.lean ====
/-
The claims of the feed-forward half: the runs, and that the pipelined program and the layer's mathematics end alike.
-/
module

public import proofs.«01_k».proof.Defs
public import proofs.«01_k».proof.Proof.FfnValue
public import proofs.«01_k».proof.Proof.FfnRef
public import proofs.«01_k».proof.Proof.FfnFrame
public import proofs.«01_k».proof.Proof.Gen.Ffn
public import proofs.«01_k».proof.Proof.Gen.FfnIdeal
public import proofs.«01_k».proof.Proof.Gen.FfnRefIdeal
public import Idealize.ShloMosaic.Adequacy
public import Idealize.ShloMosaic.Init

@[expose] public section

set_option maxRecDepth 16384

noncomputable section

open Idealize.ShloMosaic Idealize.ShloMosaic.TcCoe Idealize.SL.Sem

namespace Cert.Proof.FfnClaims

/-- The program read over bits runs the same body as the one read over the extended reals: the two are printed line for line alike. -/
theorem bodies_same : Cert.Ffn.defs₀ (F := Bits) = Cert.FfnIdeal.defs₀ := by
  unfold Cert.Ffn.defs₀ Cert.FfnIdeal.defs₀
  refine congrArg Defs.onTc (funext fun l => funext fun p => ?_)
  rcases l with ⟨_ | n, h⟩
  · rcases p with ⟨t, s⟩; rfl
  · exact absurd h (Nat.not_lt.2 (Nat.le_add_left _ _))

theorem defs_same : Cert.Ffn.defs (F := Bits) = Cert.FfnIdeal.defs := congrArg (Idealize.ShloMosaic.Pipeline.defs (Cert.Ffn.pcfgs (F := Bits))) bodies_same

/-- So its frame is the frame proved for any float values, taken at bits. -/
theorem frame_bits : Cert.quiescent_Ffn := fun m ρ _ => by
  rw [defs_same]
  exact Cert.FfnIdeal.Body.frame (F := Bits) m ρ

theorem frame_ideal : Cert.quiescent_FfnIdeal := fun m ρ _ => Cert.FfnIdeal.Body.frame m ρ
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)
theorem preserves : Cert.preserves_Ffn_FfnIdeal := trivial

open Cert.FfnIdeal.Model in
theorem algebraic : Cert.algebraic_FfnIdeal_FfnRefIdeal := by
  intro m ρ m' ρ' _ hagree
  refine ⟨fun c => Out (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)), ?_, ?_⟩
  · exact (θ_run Cert.FfnIdeal.defs _ _).mono (fun r h c => ⟨((h.2.1 c).1 7).trans (final7 m c), h.1.1 c⟩)
      (θ_run_and (Cert.FfnIdeal.Body.frame m ρ) (Cert.FfnIdeal.Body.run_main_quiescent m ρ))
  · refine (θ_run Cert.FfnRefIdeal.defs _ _).mono (fun r h c => ⟨(h c).1.trans ?_, (h c).2⟩) (Cert.FfnRefIdeal.Value.run (F := Ideal) m' ρ')
    obtain ⟨h0, h1, h2, h3, h4, h5⟩ := hagree c
    beta_reduce
    rw [← h0, ← h1, ← h2, ← h3, ← h4, ← h5]
    funext i
    obtain ⟨n, e, rfl⟩ : ∃ (n : Fin 16384) (e : Fin 2048), i = ix2 n e := ⟨i 0, i 1, eq_ix2 i⟩
    exact Cert.FfnRefIdeal.Model.out0_at m' c n e

end Cert.Proof.FfnClaims

end
-- ==== Proof.MergeValue.lean ====
/-
The mixing half's output step as the pipelined program computes it: its two result arrays are, row by row, the gated
residual of the projected attention outputs and that residual normalised, scaled and shifted.
-/
module

public import proofs.«01_k».proof.Proof.Model
public import proofs.«01_k».proof.Proof.Gen.MergeIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Model

open Cert.MergeIdeal Cert.MergeIdeal.Gen Cert.Model

/-- The mixed row of token `n`, column by column. -/
def mixRow (oa ob : FVec Ideal S16384x1024 .f32) (ga gb : FVec Ideal S1x1024 .f32) (w : FVec Ideal S1x2048x2048 .f32)
    (n : Fin 16384) : Fin 2048 → EReal :=
  mix (fun k => oa (ix2 n k)) (fun k => ob (ix2 n k)) (fun k => ga (ix2 0 k)) (fun k => gb (ix2 0 k)) fun d e => w (ix3 0 d e)

/-- The residual stream's row of token `n`. -/
def x1Row (oa ob : FVec Ideal S16384x1024 .f32) (ga gb : FVec Ideal S1x1024 .f32) (w : FVec Ideal S1x2048x2048 .f32)
    (x : FVec Ideal S16384x2048 .f32) (gpost : FVec Ideal S1x2048 .f32) (gate : FVec Ideal S8x1x2048 .f32)
    (n : Fin 16384) : Fin 2048 → EReal :=
  resid (fun e => x (ix2 n e)) (fun e => gate (ix3 ⟨n.val / 2048, by omega⟩ 0 e)) (mixRow oa ob ga gb w n) fun e => gpost (ix2 0 e)

/-- The first result array. -/
def X1 (oa ob : FVec Ideal S16384x1024 .f32) (ga gb : FVec Ideal S1x1024 .f32) (w : FVec Ideal S1x2048x2048 .f32)
    (x : FVec Ideal S16384x2048 .f32) (gpost : FVec Ideal S1x2048 .f32) (gate : FVec Ideal S8x1x2048 .f32) :
    FVec Ideal S16384x2048 .f32 := fun i => x1Row oa ob ga gb w x gpost gate (i 0) (i 1)

/-- The second result array. -/
def H2 (oa ob : FVec Ideal S16384x1024 .f32) (ga gb : FVec Ideal S1x1024 .f32) (w : FVec Ideal S1x2048x2048 .f32)
    (x : FVec Ideal S16384x2048 .f32) (gpost : FVec Ideal S1x2048 .f32) (gate : FVec Ideal S8x1x2048 .f32)
    (gpre : FVec Ideal S1x2048 .f32) (shift scale : FVec Ideal S8x1x2048 .f32) : FVec Ideal S16384x2048 .bf16 := fun i =>
  modulated (x1Row oa ob ga gb w x gpost gate (i 0)) (fun e => gpre (ix2 0 e)) (fun e => shift (ix3 ⟨(i 0).val / 2048, by have h : (i 0).val < 16384 := (i 0).isLt; omega⟩ 0 e))
    (fun e => scale (ix3 ⟨(i 0).val / 2048, by have h : (i 0).val < 16384 := (i 0).isLt; omega⟩ 0 e)) (i 1)

/-- The body's projected sum, entry by entry. -/
theorem pay2_at (a : FVec Ideal S512x1024 .f32) (ga : FVec Ideal S1x1024 .f32) (b : FVec Ideal S512x1024 .f32) (gb : FVec Ideal S1x1024 .f32)
    (wa wb : FVec Ideal S1024x2048 .bf16) (r : Fin 512) (e : Fin 2048) :
    k0_pay2 (F := Ideal) a ga b gb wa wb (ix2 r e)
      = (∑ k : Fin 1024, rms n1024 (fun k => a (ix2 r k)) (fun k => ga (ix2 0 k)) k * wa (ix2 k e))
        + ∑ k : Fin 1024, rms n1024 (fun k => b (ix2 r k)) (fun k => gb (ix2 0 k)) k * wb (ix2 k e) := by
  pointwise! [k0_pay2, rms]

/-- The body's residual, entry by entry. -/
theorem pay3_at (o x : FVec Ideal S512x2048 .f32) (gate : FVec Ideal S1x1x2048 .f32) (g : FVec Ideal S1x2048 .f32) (r : Fin 512) (e : Fin 2048) :
    k0_pay3 (F := Ideal) o x gate g (ix2 r e)
      = resid (fun e => x (ix2 r e)) (fun e => gate (ix3 0 0 e)) (fun e => o (ix2 r e)) (fun e => g (ix2 0 e)) e := by
  pointwise! [k0_pay3, resid, rms]

/-- The body's second result, entry by entry, over its residual. -/
theorem pay1_at (o x : FVec Ideal S512x2048 .f32) (gate : FVec Ideal S1x1x2048 .f32) (g g2 : FVec Ideal S1x2048 .f32)
    (sc sh : FVec Ideal S1x1x2048 .f32) (r : Fin 512) (e : Fin 2048) :
    k0_pay1 (F := Ideal) (k0_pay4 o x gate g g2 sc) sh (ix2 r e)
      = modulated (fun e => k0_pay3 (F := Ideal) o x gate g (ix2 r e)) (fun e => g2 (ix2 0 e)) (fun e => sh (ix3 0 0 e)) (fun e => sc (ix3 0 0 e)) e := by
  generalize hP : k0_pay3 (F := Ideal) o x gate g = P
  pointwise! [k0_pay1, k0_pay4, hP, modulated, rms]

variable (m : (ℓ : Loc nD τ sig) → Buf (Elt Ideal) ℓ)

/-- Where each window's block sits at each point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![0, 0] ∧ win0_7.index t = ![t.val / 4, 0, 0] ∧ win0_8.index t = ![0, 0]
    ∧ win0_9.index t = ![t.val / 4, 0, 0] ∧ win0_10.index t = ![t.val / 4, 0, 0] ∧ win0_11.index t = ![t.val, 0] ∧ win0_12.index t = ![t.val, 0] :=
  (by decide +kernel : ∀ t : Fin grid0.N, _)

/-- The body's projected sum over the staged blocks is the mixed row of the token that the block's row holds. -/
theorem proj_at (c : Dev nD) (t : Fin cfg0.N) (r : Fin 512) (e : Fin 2048) (n : Fin 16384) (hn : n.val = t.val * 512 + r.val) :
    Gen.k0_pay5 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e)
      = mixRow (m ((c : Thread nD τ).loc main_arg0)) (m ((c : Thread nD τ).loc main_arg1)) (m ((c : Thread nD τ).loc main_arg2)) (m ((c : Thread nD τ).loc main_arg3)) (m ((c : Thread nD τ).loc main_arg4)) n e := by
  unfold Gen.k0_pay5
  rw [pay2_at]
  unfold mixRow mix
  pointwise [rms]
  blk_point [iblk, V, idx t]

/-- The body's residual over the staged blocks is the residual row of the token that the block's row holds. -/
theorem resid_at (c : Dev nD) (t : Fin cfg0.N) (r : Fin 512) (e : Fin 2048) (n : Fin 16384) (hn : n.val = t.val * 512 + r.val) :
    k0_pay3 (F := Ideal) (Gen.k0_pay5 (iblk m c 0 t) (iblk m c 1 t) (iblk m c 2 t) (iblk m c 3 t) (iblk m c 4 t) (iblk m c 5 t) (iblk m c 6 t) (iblk m c 7 t) (iblk m c 8 t) (iblk m c 9 t) (iblk m c 10 t))
        (View.ld (iblk m c 5 t) r0_4) (View.ld (iblk m c 7 t) r0_5) (View.ld (iblk m c 6 t) r0_6) (ix2 r e)
      = x1Row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n e := by
  rw [pay3_at]
  unfold x1Row
  rw [funext fun e => proj_at m c t r e n hn]
  generalize mixRow _ _ _ _ _ n = O
  unfold resid
  pointwise [rms]
  blk_point [iblk, V, idx t]

theorem N_eq : cfg0.N = 32 := N_0

/-- The first result array after the run. -/
theorem final11 (c : Dev nD) : (dats m 0 c).arrAt 11 cfg0.N
    = X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]; unfold out0_11
  rw [View.canon_unit_zero (by funext a; fin_cases a <;> rfl)]
  have ht : t.val < 32 := N_eq ▸ t.isLt
  idx_vars y
  obtain ⟨n, hn⟩ : ∃ n : Fin 16384, n.val = t.val * 512 + y0.val := ⟨⟨t.val * 512 + y0.val, by omega⟩, rfl⟩
  have hemb : ((View.whole main_v2_0).slice (win0_11.rect t)).emb (ix2 y0 y1) = (ix2 n y1 : S16384x2048.Idx) := by
    blk_ext [idx t]
  rw [hemb]
  exact resid_at m c t y0 y1 n hn

/-- The second result array after the run. -/
theorem final12 (c : Dev nD) : (dats m 0 c).arrAt 12 cfg0.N
    = H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]; unfold out0_12
  rw [View.canon_unit_zero (by funext a; fin_cases a <;> rfl)]
  have ht : t.val < 32 := N_eq ▸ t.isLt
  idx_vars y
  obtain ⟨n, hn⟩ : ∃ n : Fin 16384, n.val = t.val * 512 + y0.val := ⟨⟨t.val * 512 + y0.val, by omega⟩, rfl⟩
  have hemb : ((View.whole main_v2_1).slice (win0_12.rect t)).emb (ix2 y0 y1) = (ix2 n y1 : S16384x2048.Idx) := by
    blk_ext [idx t]
  rw [hemb, pay1_at]
  refine (congrArg (fun f => modulated f _ _ _ y1) (funext fun e => resid_at m c t y0 e n hn)).trans ?_
  unfold H2
  pointwise
  generalize x1Row _ _ _ _ _ _ _ _ _ = O
  pointwise [modulated, rms]
  blk_point [iblk, V, idx t]

end Cert.MergeIdeal.Model

end
-- ==== Proof.MergeRef.lean ====
/-
The mixing half's output step as the layer's mathematics writes it, read row by row.
-/
module

public import proofs.«01_k».proof.Proof.Model
public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem

namespace Cert.MergeRefIdeal.Model

open Cert.MergeRefIdeal Cert.MergeRefIdeal.Gen Cert.MergeRefIdeal.Value Cert.Model

variable (m : (ℓ : Loc nD τ sig) → Buf (Elt Ideal) ℓ)

/-- The residual row of token `n`. -/
def row (c : Dev nD) (n : Fin 16384) : Fin 2048 → EReal :=
  resid (fun e => m ((c.tc : Thread nD τ).loc main_arg5) (ix2 n e : S16384x2048.Idx)) (fun e => m ((c.tc : Thread nD τ).loc main_arg7) (ix3 ⟨n.val / 2048, by omega⟩ 0 e : S8x1x2048.Idx))
    (mix (fun k => m ((c.tc : Thread nD τ).loc main_arg0) (ix2 n k : S16384x1024.Idx)) (fun k => m ((c.tc : Thread nD τ).loc main_arg1) (ix2 n k : S16384x1024.Idx))
      (fun k => m ((c.tc : Thread nD τ).loc main_arg2) (ix2 0 k : S1x1024.Idx)) (fun k => m ((c.tc : Thread nD τ).loc main_arg3) (ix2 0 k : S1x1024.Idx))
      fun d e => m ((c.tc : Thread nD τ).loc main_arg4) (ix3 0 d e : S1x2048x2048.Idx))
    fun e => m ((c.tc : Thread nD τ).loc main_arg6) (ix2 0 e : S1x2048.Idx)

/-- The reference's normalisation of a row of 2048, as its host operations write it. -/
def hostRms (X : FVec Ideal S8x2048x2048 .f32) (g : FVec Ideal S1x2048 .f32) : FVec Ideal S8x2048x2048 .f32 :=
  mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ g shapeCasts_S1x2048_S2048)))

/-- The same for a row of 1024, of an array with all tokens on one axis. -/
def hostRms1 (x : FVec Ideal S16384x1024 .f32) (g : FVec Ideal S1x1024 .f32) : FVec Ideal S8x2048x1024 .f32 :=
  mulf (mulf (shapeCast _ x shapeCasts_S16384x1024_S8x2048x1024) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (shapeCast _ x shapeCasts_S16384x1024_S8x2048x1024) (shapeCast _ x shapeCasts_S16384x1024_S8x2048x1024)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ g shapeCasts_S1x1024_S1024)))

theorem hostRms_at (X : FVec Ideal S8x2048x2048 .f32) (g : FVec Ideal S1x2048 .f32) (b : Fin 8) (t e : Fin 2048) :
    hostRms X g (ix3 b t e) = rms n2048 (fun e => X (ix3 b t e)) (fun e => g (ix2 0 e)) e := by
  pointwise! [hostRms, rms]

theorem hostRms1_at (x : FVec Ideal S16384x1024 .f32) (g : FVec Ideal S1x1024 .f32) (b : Fin 8) (t : Fin 2048) (k : Fin 1024) :
    hostRms1 x g (ix3 b t k)
      = rms n1024 (fun k => x (ix2 ⟨b.val * 2048 + t.val, by omega⟩ k)) (fun k => g (ix2 0 k)) k := by
  pointwise! [hostRms1, rms]

/-- The output projection of both groups' normalised outputs. -/
def hostMix (oa ob : FVec Ideal S16384x1024 .f32) (ga gb : FVec Ideal S1x1024 .f32) (w : FVec Ideal S1x2048x2048 .f32) : FVec Ideal S8x2048x2048 .f32 :=
  Host.dotGeneral (φ₁ := .f32) (φ₂ := .f32) dot_S8x2048x2048_S2048x2048_S8x2048x2048_2_0_01_1_n_n none (concatenate S8x2048x2048 2 [⟨S8x2048x1024, hostRms1 oa ga⟩, ⟨S8x2048x1024, hostRms1 ob gb⟩] concatenates_S8x2048x1024_S8x2048x1024_S8x2048x2048_d2) (shapeCast _ w shapeCasts_S1x2048x2048_S2048x2048)

theorem hostMix_at (oa ob : FVec Ideal S16384x1024 .f32) (ga gb : FVec Ideal S1x1024 .f32) (w : FVec Ideal S1x2048x2048 .f32) (b : Fin 8) (t e : Fin 2048) :
    hostMix oa ob ga gb w (ix3 b t e)
      = mix (fun k => oa (ix2 ⟨b.val * 2048 + t.val, by omega⟩ k)) (fun k => ob (ix2 ⟨b.val * 2048 + t.val, by omega⟩ k)) (fun k => ga (ix2 0 k)) (fun k => gb (ix2 0 k)) (fun d e => w (ix3 0 d e)) e := by
  pointwise [hostMix, hostRms1_at]
  rfl

/-- The residual stream over both axes of tokens. -/
def hostX1 (oa ob : FVec Ideal S16384x1024 .f32) (ga gb : FVec Ideal S1x1024 .f32) (w : FVec Ideal S1x2048x2048 .f32)
    (x : FVec Ideal S16384x2048 .f32) (gpost : FVec Ideal S1x2048 .f32) (gate : FVec Ideal S8x1x2048 .f32) : FVec Ideal S8x2048x2048 .f32 :=
  addf (shapeCast _ x shapeCasts_S16384x2048_S8x2048x2048) (mulf (broadcastInDim S8x2048x2048 ![0, 1, 2] bcast_S8x1x2048_S8x2048x2048_0_1_2 gate) (hostRms (hostMix oa ob ga gb w) gpost))

theorem hostX1_at (oa ob : FVec Ideal S16384x1024 .f32) (ga gb : FVec Ideal S1x1024 .f32) (w : FVec Ideal S1x2048x2048 .f32)
    (x : FVec Ideal S16384x2048 .f32) (gpost : FVec Ideal S1x2048 .f32) (gate : FVec Ideal S8x1x2048 .f32) (b : Fin 8) (t e : Fin 2048) :
    hostX1 oa ob ga gb w x gpost gate (ix3 b t e)
      = resid (fun e => x (ix2 ⟨b.val * 2048 + t.val, by omega⟩ e)) (fun e => gate (ix3 b 0 e))
          (mix (fun k => oa (ix2 ⟨b.val * 2048 + t.val, by omega⟩ k)) (fun k => ob (ix2 ⟨b.val * 2048 + t.val, by omega⟩ k)) (fun k => ga (ix2 0 k)) (fun k => gb (ix2 0 k)) fun d e => w (ix3 0 d e))
          (fun e => gpost (ix2 0 e)) e := by
  pointwise [hostX1, hostRms_at, hostMix_at]
  rfl

/-- A token's index recovered from its batch and its place in it. -/
theorem tok (n : Fin 16384) (h : n.val / 2048 * 2048 + n.val % 2048 < 16384) : (⟨n.val / 2048 * 2048 + n.val % 2048, h⟩ : Fin 16384) = n :=
  Fin.ext (by show n.val / 2048 * 2048 + n.val % 2048 = n.val; omega)

/-- The first result of the reference, entry by entry. -/
theorem out0_at (c : Dev nD) (n : Fin 16384) (e : Fin 2048) :
    (res_out0 m c : FVec Ideal S16384x2048 .f32) (ix2 n e) = row m c n e := by
  show shapeCast S16384x2048 (hostX1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S8x2048x2048_S16384x2048 (ix2 n e) = _
  pointwise [hostX1_at, tok]
  rfl

/-- The second result of the reference, entry by entry. -/
theorem out1_at (c : Dev nD) (n : Fin 16384) (e : Fin 2048) :
    (res_out1 m c : FVec Ideal S16384x2048 .bf16) (ix2 n e)
      = modulated (row m c n) (fun e => m ((c.tc : Thread nD τ).loc main_arg8) (ix2 0 e : S1x2048.Idx))
          (fun e => m ((c.tc : Thread nD τ).loc main_arg9) (ix3 ⟨n.val / 2048, by omega⟩ 0 e : S8x1x2048.Idx))
          (fun e => m ((c.tc : Thread nD τ).loc main_arg10) (ix3 ⟨n.val / 2048, by omega⟩ 0 e : S8x1x2048.Idx)) e := by
  show truncf (F := Ideal) .bf16 (shapeCast S16384x2048 (addf (mulf (hostRms (hostX1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)))
    (broadcastInDim S8x2048x2048 ![0, 1, 2] bcast_S8x1x2048_S8x2048x2048_0_1_2 (addf (broadcastInDim S8x1x2048 ![] bcast_S_S8x1x2048 (constant S_ .f32 0x3F800000#32)) (m ((c.tc : Thread nD τ).loc main_arg10))))) (broadcastInDim S8x2048x2048 ![0, 1, 2] bcast_S8x1x2048_S8x2048x2048_0_1_2 (m ((c.tc : Thread nD τ).loc main_arg9)))) shapeCasts_S8x2048x2048_S16384x2048) bitsLt_bf16_f32 (ix2 n e) = _
  pointwise [hostRms_at, hostX1_at, tok]
  rfl

end Cert.MergeRefIdeal.Model

end
-- ==== Proof.MergeClaims.lean ====
/-
The claims of the output step: the runs, and that the pipelined program and the layer's mathematics end alike.
-/
module

public import proofs.«01_k».proof.Defs
public import proofs.«01_k».proof.Proof.MergeValue
public import proofs.«01_k».proof.Proof.MergeRef
public import proofs.«01_k».proof.Proof.Gen.Merge
public import proofs.«01_k».proof.Proof.Gen.Merge.Frame
public import proofs.«01_k».proof.Proof.Gen.MergeIdeal
public import proofs.«01_k».proof.Proof.Gen.MergeRefIdeal
public import Idealize.ShloMosaic.Adequacy
public import Idealize.ShloMosaic.Init

@[expose] public section

set_option maxRecDepth 16384

noncomputable section

open Idealize.ShloMosaic Idealize.ShloMosaic.TcCoe Idealize.SL.Sem

namespace Cert.Proof.MergeClaims

theorem frame_bits : Cert.quiescent_Merge := fun m ρ _ => Cert.Merge.Gen.frame m ρ
theorem frame_ideal : Cert.quiescent_MergeIdeal := fun m ρ _ => Cert.MergeIdeal.Gen.frame m ρ
theorem frame_ref : Cert.quiescent_MergeRefIdeal := fun m ρ _ =>
  (θ_run Cert.MergeRefIdeal.defs _ _).mono (fun r h => ⟨fun c => (h c).2.2, Idealize.ShloMosaic.sem_eq_zero_of_no_sems (by decide) r.2⟩)
    (Cert.MergeRefIdeal.Value.run (F := Ideal) m ρ)
theorem preserves : Cert.preserves_Merge_MergeIdeal := trivial

open Cert.MergeIdeal.Model in
theorem algebraic : Cert.algebraic_MergeIdeal_MergeRefIdeal := by
  intro m ρ m' ρ' _ hagree
  refine ⟨fun c => X1 (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)), fun c => H2 (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)), ?_, ?_⟩
  · exact (θ_run Cert.MergeIdeal.defs _ _).mono (fun r h c => ⟨(h c).1.trans (final11 m c), (h c).2.1.trans (final12 m c), (h c).2.2⟩)
      (Cert.MergeIdeal.Value.run_blocks m ρ)
  · refine (θ_run Cert.MergeRefIdeal.defs _ _).mono (fun r h c => ⟨(h c).1.trans ?_, (h c).2.1.trans ?_, (h c).2.2⟩) (Cert.MergeRefIdeal.Value.run (F := Ideal) m' ρ')
    all_goals
      obtain ⟨h0, h1, h2, h3, h4, h5, h6, h7, h8, h9, h10⟩ := hagree c
      beta_reduce
    · rw [← h0, ← h1, ← h2, ← h3, ← h4, ← h5, ← h6, ← h7]
      funext i
      obtain ⟨n, e, rfl⟩ : ∃ (n : Fin 16384) (e : Fin 2048), i = ix2 n e := ⟨i 0, i 1, eq_ix2 i⟩
      exact Cert.MergeRefIdeal.Model.out0_at m' c n e
    · rw [← h0, ← h1, ← h2, ← h3, ← h4, ← h5, ← h6, ← h7, ← h8, ← h9, ← h10]
      funext i
      obtain ⟨n, e, rfl⟩ : ∃ (n : Fin 16384) (e : Fin 2048), i = ix2 n e := ⟨i 0, i 1, eq_ix2 i⟩
      exact Cert.MergeRefIdeal.Model.out1_at m' c n e

end Cert.Proof.MergeClaims

end
-- ==== Proof.ProjBody.lean ====
/-
  The body of the projection call at one grid point.

  A block of 512 tokens takes seven points.  The first normalises and modulates the block into the scratch
  buffer and multiplies it with the first block of 1024 columns; the next five multiply it with one further block
  of columns each; the last multiplies it with the narrow remaining columns, once as they are and once transposed.
  The heads of the keys and values are stored as strided rows, one row of every token at a time.
-/
module

public import proofs.«01_k».proof.Proof.Gen.ProjIdeal.Frame
public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Pipeline.DatRel
public import Idealize.ShloMosaic.Lib.Pipeline.ArrRel
public import Idealize.ShloMosaic.Lib.Claim
public import Idealize.ShloMosaic.Lib.Ring
public import Idealize.ShloMosaic.Lib.Tactic
public import Idealize.ShloMosaic.Lib.WritesUnit
public import Idealize.ShloMosaic.Lib.Pointwise
public import Idealize.ShloMosaic.Lib.UnfoldOut
public import Idealize.ShloMosaic.Lib.WordCmp

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores of whole buffers and of strided rows -/

/-- A load of a whole view reads its contents. -/
theorem readAt_whole2 {e : EltTy} {a b : ℕ} (v : View sig .tc .vmem ⟨2, ![a, b]⟩ e) (f : v.ty.Contents (Elt F)) (inb) :
    v.readAt (Elt F) (Rect.unit (s := ⟨2, ![a, b]⟩) ![0, 0] ![a, b] inb).toLoadRect f = v.read (Elt F) f := by
  funext y
  rw [View.readAt_apply]
  refine congrArg _ (funext fun d => Fin.ext ?_)
  fin_cases d <;> simp [LoadRect.idx, Rect.toLoadRect, Rect.unit]

theorem readAt_whole3 {e : EltTy} {a b d : ℕ} (v : View sig .tc .vmem ⟨3, ![a, b, d]⟩ e) (f : v.ty.Contents (Elt F)) (inb) :
    v.readAt (Elt F) (Rect.unit (s := ⟨3, ![a, b, d]⟩) ![0, 0, 0] ![a, b, d] inb).toLoadRect f = v.read (Elt F) f := by
  funext y
  rw [View.readAt_apply]
  refine congrArg _ (funext fun d => Fin.ext ?_)
  fin_cases d <;> simp [LoadRect.idx, Rect.toLoadRect, Rect.unit]

/-- After a store of a whole view it holds the payload. -/
theorem read_writes_whole2 {e : EltTy} {a b : ℕ} (v : View sig .tc .vmem ⟨2, ![a, b]⟩ e) (f : v.ty.Contents (Elt F)) (inb)
    (w : (⟨2, ![a, b]⟩ : Shape).Idx → Elt F e) :
    v.read (Elt F) (v.writes (Elt F) f [⟨Rect.unit (s := ⟨2, ![a, b]⟩) ![0, 0] ![a, b] inb, w⟩]) = w := by
  funext y
  refine View.read_writes_cons_unit_of_mem v f inb w [] y y rfl fun d => ?_
  fin_cases d <;> simp

/-- A load of a whole view after such a store is the payload. -/
theorem readCov_whole2 [∀ e, Nonempty (Elt F e)] {e : EltTy} {a b : ℕ} (v : View sig .tc .vmem ⟨2, ![a, b]⟩ e) (inb) (w : (⟨2, ![a, b]⟩ : Shape).Idx → Elt F e) :
    v.readCov [(⟨Rect.unit (s := ⟨2, ![a, b]⟩) ![0, 0] ![a, b] inb, w⟩ : View.Piece (Elt F) ⟨2, ![a, b]⟩ e)]
        (Rect.unit (s := ⟨2, ![a, b]⟩) ![0, 0] ![a, b] inb).toLoadRect = w :=
  (readAt_whole2 v _ inb).trans (read_writes_whole2 v _ inb w)

theorem read_writes_whole3 {e : EltTy} {a b d : ℕ} (v : View sig .tc .vmem ⟨3, ![a, b, d]⟩ e) (f : v.ty.Contents (Elt F)) (inb)
    (w : (⟨3, ![a, b, d]⟩ : Shape).Idx → Elt F e) :
    v.read (Elt F) (v.writes (Elt F) f [⟨Rect.unit (s := ⟨3, ![a, b, d]⟩) ![0, 0, 0] ![a, b, d] inb, w⟩]) = w := by
  funext y
  refine View.read_writes_cons_unit_of_mem v f inb w [] y y rfl fun d => ?_
  fin_cases d <;> simp

/-- Of a store of every `D`-th row from row `j` on, row `j + D·t` reads row `t` of the payload, -/
theorem strided_mem {e : EltTy} {R D j : ℕ} (v : View sig .tc .vmem ⟨2, ![R, 128]⟩ e) (f : v.ty.Contents (Elt F)) (inb) (pos)
    (w : S512x128.Idx → Elt F e) (L : List (View.Piece (Elt F) ⟨2, ![R, 128]⟩ e)) (n : Fin R) (t : Fin 512) (l : Fin 128) (hn : n.val = j + D * t.val) :
    v.read (Elt F) (v.writes (Elt F) f ((⟨⟨(⟨![j, 0], ![512, 128], ![D, 1], inb⟩ : LoadRect ⟨2, ![R, 128]⟩), pos⟩, w⟩ : View.Piece (Elt F) ⟨2, ![R, 128]⟩ e) :: L)) (ix2 n l)
      = w (ix2 t l) := by
  have hy : (⟨(⟨![j, 0], ![512, 128], ![D, 1], inb⟩ : LoadRect ⟨2, ![R, 128]⟩), pos⟩ : Rect ⟨2, ![R, 128]⟩).emb (ix2 t l) = ix2 n l :=
    funext fun a => Fin.ext (by
      fin_cases a
      · show j + D * t.val = n.val; omega
      · show 0 + 1 * l.val = l.val; omega)
  exact (congrArg (v.read (Elt F) (v.writes (Elt F) f ((⟨⟨(⟨![j, 0], ![512, 128], ![D, 1], inb⟩ : LoadRect ⟨2, ![R, 128]⟩), pos⟩, w⟩ : View.Piece (Elt F) ⟨2, ![R, 128]⟩ e) :: L))) hy.symm).trans
    (View.read_writes_cons_emb v f (⟨(⟨![j, 0], ![512, 128], ![D, 1], inb⟩ : LoadRect ⟨2, ![R, 128]⟩), pos⟩ : Rect ⟨2, ![R, 128]⟩) w L (ix2 t l))

/-- and a row of another remainder is left as it was. -/
theorem strided_not_mem {e : EltTy} {R D j : ℕ} (v : View sig .tc .vmem ⟨2, ![R, 128]⟩ e) (f : v.ty.Contents (Elt F)) (inb) (pos)
    (w : S512x128.Idx → Elt F e) (L : List (View.Piece (Elt F) ⟨2, ![R, 128]⟩ e)) (n : Fin R) (l : Fin 128) (hn : n.val % D ≠ j % D) :
    v.read (Elt F) (v.writes (Elt F) f ((⟨⟨(⟨![j, 0], ![512, 128], ![D, 1], inb⟩ : LoadRect ⟨2, ![R, 128]⟩), pos⟩, w⟩ : View.Piece (Elt F) ⟨2, ![R, 128]⟩ e) :: L)) (ix2 n l)
      = v.read (Elt F) (v.writes (Elt F) f L) (ix2 n l) := by
  rw [View.writes_cons]
  refine View.read_slice_write_of_not_mem _ _ _ _ fun hmem => hn ?_
  obtain ⟨x, -, hx⟩ := Finset.mem_map.1 hmem
  have h0 : j + D * (x 0).val = n.val := congrArg (fun y : (⟨2, ![R, 128]⟩ : Shape).Idx => (y 0).val) hx
  rw [← h0, Nat.add_mul_mod_self_left]

/-- Row `j` of token `t` among eight rows a token, -/
def row8 (t : Fin 512) (j : Fin 8) : Fin 4096 := ⟨j.val + 8 * t.val, by have := t.isLt; have := j.isLt; omega⟩

/-- and among sixteen. -/
def row16 (t : Fin 512) (j : Fin 16) : Fin 8192 := ⟨j.val + 16 * t.val, by have := t.isLt; have := j.isLt; omega⟩

/-- The condition of the first point of a block, as it is printed. -/
def first (i : grid0.Coords) : Prop :=
  Scalar.cmpi .ne (Scalar.extui (Scalar.cmpi .eq (BitVec.ofNat 32 (i 1).val) 0#32) : BitVec 32) 0#32 = 1#1

/-! ## The seven points -/

set_option maxHeartbeats 1600000 in
/-- The first point of a block fills the scratch buffer and stores the first block of columns. -/
theorem kernel_0 (c : Dev nD) (E : Set ℕ) (i : grid0.Coords) (h1 : first i) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1)
    (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8192x128 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x64x512 .f32) (harg17 : arg17.IsWhole) (arg18 : Memref sig .tc .vmem S512x2048 .bf16) (harg18 : arg18.IsWhole)
    (x2 : Vec F S512x2048 .f32) (x3 : Vec F S1x2048 .f32) (x4 : Vec F S1x1x2048 .f32) (x5 : Vec F S1x1x2048 .f32) (x6 : Vec F S2048x1024 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg9 fullShare d) ∗ (∃ d, owns (c : Thread nD τ) arg18 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg18 fullShare (k0_pay3 x2 x3 x5 x4) ∗ owns (c : Thread nD τ) arg9 fullShare (k0_pay4 (k0_pay3 x2 x3 x5 x4) x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_pos h1, dif_pos h2, dif_neg h3, dif_neg h4, dif_neg h5, dif_neg h6, dif_neg h7, dif_neg h8]
  unfold owns
  iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%d18, %f18, -, H18⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H18]
  · iexists _; isplitr
    swap; · iexact H18
    ipureintro
    refine (read_writes_whole2 _ _ _ _).trans ?_
    rw [readAt_whole2, readAt_whole2, readAt_whole3, readAt_whole3]
  · iexists _; isplitr
    swap; · iexact H9
    ipureintro
    refine (read_writes_whole2 _ _ _ _).trans ?_
    delta kernel_0.sl.v32
    refine congrArg₂ k0_pay4 ((readCov_whole2 _ _ _).trans ?_) (readAt_whole2 _ _ _)
    rw [readAt_whole2, readAt_whole2, readAt_whole3, readAt_whole3]

set_option maxHeartbeats 1600000 in
/-- The second point stores the keys and values of the first attention, by heads and whole. -/
theorem kernel_1 (c : Dev nD) (E : Set ℕ) (i : grid0.Coords) (h1 : ¬ first i) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1)
    (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8192x128 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x64x512 .f32) (harg17 : arg17.IsWhole) (arg18 : Memref sig .tc .vmem S512x2048 .bf16) (harg18 : arg18.IsWhole)
    (x6 : Vec F S2048x1024 .bf16) (x18 : Vec F S512x2048 .bf16) (K : PUnit → sProp 𝕄) :
    iprop(owns (c : Thread nD τ) arg6 fullShare x6 ∗ owns (c : Thread nD τ) arg18 fullShare x18 ∗ (∃ d, owns (c : Thread nD τ) arg10 fullShare d) ∗ (∃ d, owns (c : Thread nD τ) arg11 fullShare d)
        ∗ (iprop(owns (c : Thread nD τ) arg6 fullShare x6 ∗ owns (c : Thread nD τ) arg18 fullShare x18 ∗ (∃ y10 : Vec F S4096x128 .f32, ⌜∀ (t : Fin 512) (j : Fin 8) (l : Fin 128), y10 (ix2 (row8 t j) l) = ![k0_pay6 x18 x6, k0_pay7 x18 x6, k0_pay8 x18 x6, k0_pay9 x18 x6, k0_pay10 x18 x6, k0_pay11 x18 x6, k0_pay12 x18 x6, k0_pay13 x18 x6] j (ix2 t l)⌝ ∗ owns (c : Thread nD τ) arg10 fullShare y10) ∗ owns (c : Thread nD τ) arg11 fullShare (k0_pay14 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_pos h3, dif_neg h4, dif_neg h5, dif_neg h6, dif_neg h7, dif_neg h8]
  unfold owns
  iintro ⟨⟨%f6, %hf6, H6⟩, ⟨%f18, %hf18, H18⟩, ⟨%d10, %f10, -, H10⟩, ⟨%d11, %f11, -, H11⟩, Hk⟩
  subst hf6 hf18
  sl_exec
  sl_step
  iapply Hk
  isplitl [H6]
  · iexists f6; isplitr; · ipureintro; rfl
    iexact H6
  isplitl [H18]
  · iexists f18; isplitr; · ipureintro; rfl
    iexact H18
  isplitl [H10]
  · iexists _
    isplitr
    swap
    · iexists _; isplitr
      swap; · iexact H10
      ipureintro; rfl
    ipureintro
    rw [readAt_whole2, readAt_whole2]
    intro t j l
    fin_cases j
    · refine (strided_not_mem _ _ _ _ _ _ _ _ (by show (0 + 8 * t.val) % 8 ≠ 7 % 8; omega)).trans ?_
      refine (strided_not_mem _ _ _ _ _ _ _ _ (by show (0 + 8 * t.val) % 8 ≠ 6 % 8; omega)).trans ?_
      refine (strided_not_mem _ _ _ _ _ _ _ _ (by show (0 + 8 * t.val) % 8 ≠ 5 % 8; omega)).trans ?_
      refine (strided_not_mem _ _ _ _ _ _ _ _ (by show (0 + 8 * t.val) % 8 ≠ 4 % 8; omega)).trans ?_
      refine (strided_not_mem _ _ _ _ _ _ _ _ (by show (0 + 8 * t.val) % 8 ≠ 3 % 8; omega)).trans ?_
      refine (strided_not_mem _ _ _ _ _ _ _ _ (by show (0 + 8 * t.val) % 8 ≠ 2 % 8; omega)).trans ?_
      refine (strided_not_mem _ _ _ _ _ _ _ _ (by show (0 + 8 * t.val) % 8 ≠ 1 % 8; omega)).trans ?_
      exact strided_mem _ _ _ _ _ _ _ t l rfl
    · refine (strided_not_mem _ _ _ _ _ _ _ _ (by show (1 + 8 * t.val) % 8 ≠ 7 % 8; omega)).trans ?_
      refine (strided_not_mem _ _ _ _ _ _ _ _ (by show (1 + 8 * t.val) % 8 ≠ 6 % 8; omega)).trans ?_
      refine (strided_not_mem _ _ _ _ _ _ _ _ (by show (1 + 8 * t.val) % 8 ≠ 5 % 8; omega)).trans ?_
      refine (strided_not_mem _ _ _ _ _ _ _ _ (by show (1 + 8 * t.val) % 8 ≠ 4 % 8; omega)).trans ?_
      refine (strided_not_mem _ _ _ _ _ _ _ _ (by show (1 + 8 * t.val) % 8 ≠ 3 % 8; omega)).trans ?_
      refine (strided_not_mem _ _ _ _ _ _ _ _ (by show (1 + 8 * t.val) % 8 ≠ 2 % 8; omega)).trans ?_
      exact strided_mem _ _ _ _ _ _ _ t l rfl
    · refine (strided_not_mem _ _ _ _ _ _ _ _ (by show (2 + 8 * t.val) % 8 ≠ 7 % 8; omega)).trans ?_
      refine (strided_not_mem _ _ _ _ _ _ _ _ (by show (2 + 8 * t.val) % 8 ≠ 6 % 8; omega)).trans ?_
      refine (strided_not_mem _ _ _ _ _ _ _ _ (by show (2 + 8 * t.val) % 8 ≠ 5 % 8; omega)).trans ?_
      refine (strided_not_mem _ _ _ _ _ _ _ _ (by show (2 + 8 * t.val) % 8 ≠ 4 % 8; omega)).trans ?_
      refine (strided_not_mem _ _ _ _ _ _ _ _ (by show (2 + 8 * t.val) % 8 ≠ 3 % 8; omega)).trans ?_
      exact strided_mem _ _ _ _ _ _ _ t l rfl
    · refine (strided_not_mem _ _ _ _ _ _ _ _ (by show (3 + 8 * t.val) % 8 ≠ 7 % 8; omega)).trans ?_
      refine (strided_not_mem _ _ _ _ _ _ _ _ (by show (3 + 8 * t.val) % 8 ≠ 6 % 8; omega)).trans ?_
      refine (strided_not_mem _ _ _ _ _ _ _ _ (by show (3 + 8 * t.val) % 8 ≠ 5 % 8; omega)).trans ?_
      refine (strided_not_mem _ _ _ _ _ _ _ _ (by show (3 + 8 * t.val) % 8 ≠ 4 % 8; omega)).trans ?_
      exact strided_mem _ _ _ _ _ _ _ t l rfl
    · refine (strided_not_mem _ _ _ _ _ _ _ _ (by show (4 + 8 * t.val) % 8 ≠ 7 % 8; omega)).trans ?_
      refine (strided_not_mem _ _ _ _ _ _ _ _ (by show (4 + 8 * t.val) % 8 ≠ 6 % 8; omega)).trans ?_
      refine (strided_not_mem _ _ _ _ _ _ _ _ (by show (4 + 8 * t.val) % 8 ≠ 5 % 8; omega)).trans ?_
      exact strided_mem _ _ _ _ _ _ _ t l rfl
    · refine (strided_not_mem _ _ _ _ _ _ _ _ (by show (5 + 8 * t.val) % 8 ≠ 7 % 8; omega)).trans ?_
      refine (strided_not_mem _ _ _ _ _ _ _ _ (by show (5 + 8 * t.val) % 8 ≠ 6 % 8; omega)).trans ?_
      exact strided_mem _ _ _ _ _ _ _ t l rfl
    · refine (strided_not_mem _ _ _ _ _ _ _ _ (by show (6 + 8 * t.val) % 8 ≠ 7 % 8; omega)).trans ?_
      exact strided_mem _ _ _ _ _ _ _ t l rfl
    · exact strided_mem _ _ _ _ _ _ _ t l rfl
  · iexists _; isplitr
    swap; · iexact H11
    ipureintro
    refine (read_writes_whole2 _ _ _ _).trans ?_
    rw [readAt_whole2, readAt_whole2]

set_option maxHeartbeats 1600000 in
/-- The third point stores one block of columns, the queries of the indexer. -/
theorem kernel_2 (c : Dev nD) (E : Set ℕ) (i : grid0.Coords) (h1 : ¬ first i) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) (h8 : ¬ k0_cond8 i = 1#1)
    (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8192x128 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x64x512 .f32) (harg17 : arg17.IsWhole) (arg18 : Memref sig .tc .vmem S512x2048 .bf16) (harg18 : arg18.IsWhole)
    (x6 : Vec F S2048x1024 .bf16) (x18 : Vec F S512x2048 .bf16) (K : PUnit → sProp 𝕄) :
    iprop(owns (c : Thread nD τ) arg6 fullShare x6 ∗ owns (c : Thread nD τ) arg18 fullShare x18 ∗ (∃ d, owns (c : Thread nD τ) arg12 fullShare d)
        ∗ (iprop(owns (c : Thread nD τ) arg6 fullShare x6 ∗ owns (c : Thread nD τ) arg18 fullShare x18 ∗ owns (c : Thread nD τ) arg12 fullShare (k0_pay15 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_pos h4, dif_neg h5, dif_neg h6, dif_neg h7, dif_neg h8]
  unfold owns
  iintro ⟨⟨%f6, %hf6, H6⟩, ⟨%f18, %hf18, H18⟩, ⟨%d12, %f12, -, H12⟩, Hk⟩
  subst hf6 hf18
  sl_exec
  sl_step
  iapply Hk
  isplitl [H6]
  · iexists f6; isplitr; · ipureintro; rfl
    iexact H6
  isplitl [H18]
  · iexists f18; isplitr; · ipureintro; rfl
    iexact H18
  · iexists _; isplitr
    swap; · iexact H12
    ipureintro
    refine (read_writes_whole2 _ _ _ _).trans ?_
    rw [readAt_whole2, readAt_whole2]

set_option maxHeartbeats 1600000 in
/-- The fourth point stores one block of columns, the queries of the second attention. -/
theorem kernel_3 (c : Dev nD) (E : Set ℕ) (i : grid0.Coords) (h1 : ¬ first i) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) (h8 : ¬ k0_cond8 i = 1#1)
    (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8192x128 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x64x512 .f32) (harg17 : arg17.IsWhole) (arg18 : Memref sig .tc .vmem S512x2048 .bf16) (harg18 : arg18.IsWhole)
    (x6 : Vec F S2048x1024 .bf16) (x18 : Vec F S512x2048 .bf16) (K : PUnit → sProp 𝕄) :
    iprop(owns (c : Thread nD τ) arg6 fullShare x6 ∗ owns (c : Thread nD τ) arg18 fullShare x18 ∗ (∃ d, owns (c : Thread nD τ) arg13 fullShare d)
        ∗ (iprop(owns (c : Thread nD τ) arg6 fullShare x6 ∗ owns (c : Thread nD τ) arg18 fullShare x18 ∗ owns (c : Thread nD τ) arg13 fullShare (k0_pay16 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_neg h4, dif_pos h5, dif_neg h6, dif_neg h7, dif_neg h8]
  unfold owns
  iintro ⟨⟨%f6, %hf6, H6⟩, ⟨%f18, %hf18, H18⟩, ⟨%d13, %f13, -, H13⟩, Hk⟩
  subst hf6 hf18
  sl_exec
  sl_step
  iapply Hk
  isplitl [H6]
  · iexists f6; isplitr; · ipureintro; rfl
    iexact H6
  isplitl [H18]
  · iexists f18; isplitr; · ipureintro; rfl
    iexact H18
  · iexists _; isplitr
    swap; · iexact H13
    ipureintro
    refine (read_writes_whole2 _ _ _ _).trans ?_
    rw [readAt_whole2, readAt_whole2]

set_option maxHeartbeats 1600000 in
/-- The fifth point stores the first eight rows of every token, and the same columns whole. -/
theorem kernel_4 (c : Dev nD) (E : Set ℕ) (i : grid0.Coords) (h1 : ¬ first i) (h2 : ¬ k0_cond2 i = 1#1) (h3 : ¬ k0_cond3 i = 1#1) (h4 : ¬ k0_cond4 i = 1#1) (h5 : ¬ k0_cond5 i = 1#1) (h6 : k0_cond6 i = 1#1) (h7 : ¬ k0_cond7 i = 1#1) (h8 : ¬ k0_cond8 i = 1#1)
    (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8192x128 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x64x512 .f32) (harg17 : arg17.IsWhole) (arg18 : Memref sig .tc .vmem S512x2048 .bf16) (harg18 : arg18.IsWhole)
    (x6 : Vec F S2048x1024 .bf16) (x18 : Vec F S512x2048 .bf16) (x14 : Vec F S8192x128 .f32) (K : PUnit → sProp 𝕄) :
    iprop(owns (c : Thread nD τ) arg6 fullShare x6 ∗ owns (c : Thread nD τ) arg18 fullShare x18 ∗ owns (c : Thread nD τ) arg14 fullShare x14 ∗ (∃ d, owns (c : Thread nD τ) arg15 fullShare d)
        ∗ (iprop(owns (c : Thread nD τ) arg6 fullShare x6 ∗ owns (c : Thread nD τ) arg18 fullShare x18 ∗ (∃ y14 : Vec F S8192x128 .f32, ⌜∀ (t : Fin 512) (j : Fin 8) (l : Fin 128), y14 (ix2 (row16 t (j.castLE (by decide))) l) = ![k0_pay18 x18 x6, k0_pay19 x18 x6, k0_pay20 x18 x6, k0_pay21 x18 x6, k0_pay22 x18 x6, k0_pay23 x18 x6, k0_pay24 x18 x6, k0_pay25 x18 x6] j (ix2 t l)⌝ ∗ owns (c : Thread nD τ) arg14 fullShare y14) ∗ owns (c : Thread nD τ) arg15 fullShare (k0_pay26 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_neg h4, dif_neg h5, dif_pos h6, dif_neg h7, dif_neg h8]
  unfold owns
  iintro ⟨⟨%f6, %hf6, H6⟩, ⟨%f18, %hf18, H18⟩, ⟨%f14, %hf14, H14⟩, ⟨%d15, %f15, -, H15⟩, Hk⟩
  subst hf6 hf18 hf14
  sl_exec
  sl_step
  iapply Hk
  isplitl [H6]
  · iexists f6; isplitr; · ipureintro; rfl
    iexact H6
  isplitl [H18]
  · iexists f18; isplitr; · ipureintro; rfl
    iexact H18
  isplitl [H14]
  · iexists _
    isplitr
    swap
    · iexists _; isplitr
      swap; · iexact H14
      ipureintro; rfl
    ipureintro
    rw [readAt_whole2, readAt_whole2]
    intro t j l
    fin_cases j
    · refine (strided_not_mem _ _ _ _ _ _ _ _ (by show (0 + 16 * t.val) % 16 ≠ 7 % 16; omega)).trans ?_
      refine (strided_not_mem _ _ _ _ _ _ _ _ (by show (0 + 16 * t.val) % 16 ≠ 6 % 16; omega)).trans ?_
      refine (strided_not_mem _ _ _ _ _ _ _ _ (by show (0 + 16 * t.val) % 16 ≠ 5 % 16; omega)).trans ?_
      refine (strided_not_mem _ _ _ _ _ _ _ _ (by show (0 + 16 * t.val) % 16 ≠ 4 % 16; omega)).trans ?_
      refine (strided_not_mem _ _ _ _ _ _ _ _ (by show (0 + 16 * t.val) % 16 ≠ 3 % 16; omega)).trans ?_
      refine (strided_not_mem _ _ _ _ _ _ _ _ (by show (0 + 16 * t.val) % 16 ≠ 2 % 16; omega)).trans ?_
      refine (strided_not_mem _ _ _ _ _ _ _ _ (by show (0 + 16 * t.val) % 16 ≠ 1 % 16; omega)).trans ?_
      exact strided_mem _ _ _ _ _ _ _ t l rfl
    · refine (strided_not_mem _ _ _ _ _ _ _ _ (by show (1 + 16 * t.val) % 16 ≠ 7 % 16; omega)).trans ?_
      refine (strided_not_mem _ _ _ _ _ _ _ _ (by show (1 + 16 * t.val) % 16 ≠ 6 % 16; omega)).trans ?_
      refine (strided_not_mem _ _ _ _ _ _ _ _ (by show (1 + 16 * t.val) % 16 ≠ 5 % 16; omega)).trans ?_
      refine (strided_not_mem _ _ _ _ _ _ _ _ (by show (1 + 16 * t.val) % 16 ≠ 4 % 16; omega)).trans ?_
      refine (strided_not_mem _ _ _ _ _ _ _ _ (by show (1 + 16 * t.val) % 16 ≠ 3 % 16; omega)).trans ?_
      refine (strided_not_mem _ _ _ _ _ _ _ _ (by show (1 + 16 * t.val) % 16 ≠ 2 % 16; omega)).trans ?_
      exact strided_mem _ _ _ _ _ _ _ t l rfl
    · refine (strided_not_mem _ _ _ _ _ _ _ _ (by show (2 + 16 * t.val) % 16 ≠ 7 % 16; omega)).trans ?_
      refine (strided_not_mem _ _ _ _ _ _ _ _ (by show (2 + 16 * t.val) % 16 ≠ 6 % 16; omega)).trans ?_
      refine (strided_not_mem _ _ _ _ _ _ _ _ (by show (2 + 16 * t.val) % 16 ≠ 5 % 16; omega)).trans ?_
      refine (strided_not_mem _ _ _ _ _ _ _ _ (by show (2 + 16 * t.val) % 16 ≠ 4 % 16; omega)).trans ?_
      refine (strided_not_mem _ _ _ _ _ _ _ _ (by show (2 + 16 * t.val) % 16 ≠ 3 % 16; omega)).trans ?_
      exact strided_mem _ _ _ _ _ _ _ t l rfl
    · refine (strided_not_mem _ _ _ _ _ _ _ _ (by show (3 + 16 * t.val) % 16 ≠ 7 % 16; omega)).trans ?_
      refine (strided_not_mem _ _ _ _ _ _ _ _ (by show (3 + 16 * t.val) % 16 ≠ 6 % 16; omega)).trans ?_
      refine (strided_not_mem _ _ _ _ _ _ _ _ (by show (3 + 16 * t.val) % 16 ≠ 5 % 16; omega)).trans ?_
      refine (strided_not_mem _ _ _ _ _ _ _ _ (by show (3 + 16 * t.val) % 16 ≠ 4 % 16; omega)).trans ?_
      exact strided_mem _ _ _ _ _ _ _ t l rfl
    · refine (strided_not_mem _ _ _ _ _ _ _ _ (by show (4 + 16 * t.val) % 16 ≠ 7 % 16; omega)).trans ?_
      refine (strided_not_mem _ _ _ _ _ _ _ _ (by show (4 + 16 * t.val) % 16 ≠ 6 % 16; omega)).trans ?_
      refine (strided_not_mem _ _ _ _ _ _ _ _ (by show (4 + 16 * t.val) % 16 ≠ 5 % 16; omega)).trans ?_
      exact strided_mem _ _ _ _ _ _ _ t l rfl
    · refine (strided_not_mem _ _ _ _ _ _ _ _ (by show (5 + 16 * t.val) % 16 ≠ 7 % 16; omega)).trans ?_
      refine (strided_not_mem _ _ _ _ _ _ _ _ (by show (5 + 16 * t.val) % 16 ≠ 6 % 16; omega)).trans ?_
      exact strided_mem _ _ _ _ _ _ _ t l rfl
    · refine (strided_not_mem _ _ _ _ _ _ _ _ (by show (6 + 16 * t.val) % 16 ≠ 7 % 16; omega)).trans ?_
      exact strided_mem _ _ _ _ _ _ _ t l rfl
    · exact strided_mem _ _ _ _ _ _ _ t l rfl
  · iexists _; isplitr
    swap; · iexact H15
    ipureintro
    refine (read_writes_whole2 _ _ _ _).trans ?_
    rw [readAt_whole2, readAt_whole2]

set_option maxHeartbeats 1600000 in
/-- The sixth point stores the other eight rows of every token, leaving the first eight, and the same columns whole. -/
theorem kernel_5 (c : Dev nD) (E : Set ℕ) (i : grid0.Coords) (h1 : ¬ first i) (h2 : ¬ k0_cond2 i = 1#1) (h3 : ¬ k0_cond3 i = 1#1) (h4 : ¬ k0_cond4 i = 1#1) (h5 : ¬ k0_cond5 i = 1#1) (h6 : ¬ k0_cond6 i = 1#1) (h7 : k0_cond7 i = 1#1) (h8 : ¬ k0_cond8 i = 1#1)
    (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8192x128 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x64x512 .f32) (harg17 : arg17.IsWhole) (arg18 : Memref sig .tc .vmem S512x2048 .bf16) (harg18 : arg18.IsWhole)
    (x6 : Vec F S2048x1024 .bf16) (x18 : Vec F S512x2048 .bf16) (x14 : Vec F S8192x128 .f32) (K : PUnit → sProp 𝕄) :
    iprop(owns (c : Thread nD τ) arg6 fullShare x6 ∗ owns (c : Thread nD τ) arg18 fullShare x18 ∗ owns (c : Thread nD τ) arg14 fullShare x14 ∗ (∃ d, owns (c : Thread nD τ) arg15 fullShare d)
        ∗ (iprop(owns (c : Thread nD τ) arg6 fullShare x6 ∗ owns (c : Thread nD τ) arg18 fullShare x18 ∗ (∃ y14 : Vec F S8192x128 .f32, ⌜(∀ (t : Fin 512) (j : Fin 8) (l : Fin 128), y14 (ix2 (row16 t (j.castLE (by decide))) l) = x14 (ix2 (row16 t (j.castLE (by decide))) l)) ∧ ∀ (t : Fin 512) (j : Fin 8) (l : Fin 128), y14 (ix2 (row16 t (Fin.natAdd 8 j)) l) = ![k0_pay28 x18 x6, k0_pay29 x18 x6, k0_pay30 x18 x6, k0_pay31 x18 x6, k0_pay32 x18 x6, k0_pay33 x18 x6, k0_pay34 x18 x6, k0_pay35 x18 x6] j (ix2 t l)⌝ ∗ owns (c : Thread nD τ) arg14 fullShare y14) ∗ owns (c : Thread nD τ) arg15 fullShare (k0_pay36 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_neg h4, dif_neg h5, dif_neg h6, dif_pos h7, dif_neg h8]
  unfold owns
  iintro ⟨⟨%f6, %hf6, H6⟩, ⟨%f18, %hf18, H18⟩, ⟨%f14, %hf14, H14⟩, ⟨%d15, %f15, -, H15⟩, Hk⟩
  subst hf6 hf18 hf14
  sl_exec
  sl_step
  iapply Hk
  isplitl [H6]
  · iexists f6; isplitr; · ipureintro; rfl
    iexact H6
  isplitl [H18]
  · iexists f18; isplitr; · ipureintro; rfl
    iexact H18
  isplitl [H14]
  · iexists _
    isplitr
    swap
    · iexists _; isplitr
      swap; · iexact H14
      ipureintro; rfl
    ipureintro
    rw [readAt_whole2, readAt_whole2]
    constructor
    · intro t j l
      fin_cases j
      · refine (strided_not_mem _ _ _ _ _ _ _ _ (by show (0 + 16 * t.val) % 16 ≠ 15 % 16; omega)).trans ?_
        refine (strided_not_mem _ _ _ _ _ _ _ _ (by show (0 + 16 * t.val) % 16 ≠ 14 % 16; omega)).trans ?_
        refine (strided_not_mem _ _ _ _ _ _ _ _ (by show (0 + 16 * t.val) % 16 ≠ 13 % 16; omega)).trans ?_
        refine (strided_not_mem _ _ _ _ _ _ _ _ (by show (0 + 16 * t.val) % 16 ≠ 12 % 16; omega)).trans ?_
        refine (strided_not_mem _ _ _ _ _ _ _ _ (by show (0 + 16 * t.val) % 16 ≠ 11 % 16; omega)).trans ?_
        refine (strided_not_mem _ _ _ _ _ _ _ _ (by show (0 + 16 * t.val) % 16 ≠ 10 % 16; omega)).trans ?_
        refine (strided_not_mem _ _ _ _ _ _ _ _ (by show (0 + 16 * t.val) % 16 ≠ 9 % 16; omega)).trans ?_
        refine (strided_not_mem _ _ _ _ _ _ _ _ (by show (0 + 16 * t.val) % 16 ≠ 8 % 16; omega)).trans ?_
        rfl
      · refine (strided_not_mem _ _ _ _ _ _ _ _ (by show (1 + 16 * t.val) % 16 ≠ 15 % 16; omega)).trans ?_
        refine (strided_not_mem _ _ _ _ _ _ _ _ (by show (1 + 16 * t.val) % 16 ≠ 14 % 16; omega)).trans ?_
        refine (strided_not_mem _ _ _ _ _ _ _ _ (by show (1 + 16 * t.val) % 16 ≠ 13 % 16; omega)).trans ?_
        refine (strided_not_mem _ _ _ _ _ _ _ _ (by show (1 + 16 * t.val) % 16 ≠ 12 % 16; omega)).trans ?_
        refine (strided_not_mem _ _ _ _ _ _ _ _ (by show (1 + 16 * t.val) % 16 ≠ 11 % 16; omega)).trans ?_
        refine (strided_not_mem _ _ _ _ _ _ _ _ (by show (1 + 16 * t.val) % 16 ≠ 10 % 16; omega)).trans ?_
        refine (strided_not_mem _ _ _ _ _ _ _ _ (by show (1 + 16 * t.val) % 16 ≠ 9 % 16; omega)).trans ?_
        refine (strided_not_mem _ _ _ _ _ _ _ _ (by show (1 + 16 * t.val) % 16 ≠ 8 % 16; omega)).trans ?_
        rfl
      · refine (strided_not_mem _ _ _ _ _ _ _ _ (by show (2 + 16 * t.val) % 16 ≠ 15 % 16; omega)).trans ?_
        refine (strided_not_mem _ _ _ _ _ _ _ _ (by show (2 + 16 * t.val) % 16 ≠ 14 % 16; omega)).trans ?_
        refine (strided_not_mem _ _ _ _ _ _ _ _ (by show (2 + 16 * t.val) % 16 ≠ 13 % 16; omega)).trans ?_
        refine (strided_not_mem _ _ _ _ _ _ _ _ (by show (2 + 16 * t.val) % 16 ≠ 12 % 16; omega)).trans ?_
        refine (strided_not_mem _ _ _ _ _ _ _ _ (by show (2 + 16 * t.val) % 16 ≠ 11 % 16; omega)).trans ?_
        refine (strided_not_mem _ _ _ _ _ _ _ _ (by show (2 + 16 * t.val) % 16 ≠ 10 % 16; omega)).trans ?_
        refine (strided_not_mem _ _ _ _ _ _ _ _ (by show (2 + 16 * t.val) % 16 ≠ 9 % 16; omega)).trans ?_
        refine (strided_not_mem _ _ _ _ _ _ _ _ (by show (2 + 16 * t.val) % 16 ≠ 8 % 16; omega)).trans ?_
        rfl
      · refine (strided_not_mem _ _ _ _ _ _ _ _ (by show (3 + 16 * t.val) % 16 ≠ 15 % 16; omega)).trans ?_
        refine (strided_not_mem _ _ _ _ _ _ _ _ (by show (3 + 16 * t.val) % 16 ≠ 14 % 16; omega)).trans ?_
        refine (strided_not_mem _ _ _ _ _ _ _ _ (by show (3 + 16 * t.val) % 16 ≠ 13 % 16; omega)).trans ?_
        refine (strided_not_mem _ _ _ _ _ _ _ _ (by show (3 + 16 * t.val) % 16 ≠ 12 % 16; omega)).trans ?_
        refine (strided_not_mem _ _ _ _ _ _ _ _ (by show (3 + 16 * t.val) % 16 ≠ 11 % 16; omega)).trans ?_
        refine (strided_not_mem _ _ _ _ _ _ _ _ (by show (3 + 16 * t.val) % 16 ≠ 10 % 16; omega)).trans ?_
        refine (strided_not_mem _ _ _ _ _ _ _ _ (by show (3 + 16 * t.val) % 16 ≠ 9 % 16; omega)).trans ?_
        refine (strided_not_mem _ _ _ _ _ _ _ _ (by show (3 + 16 * t.val) % 16 ≠ 8 % 16; omega)).trans ?_
        rfl
      · refine (strided_not_mem _ _ _ _ _ _ _ _ (by show (4 + 16 * t.val) % 16 ≠ 15 % 16; omega)).trans ?_
        refine (strided_not_mem _ _ _ _ _ _ _ _ (by show (4 + 16 * t.val) % 16 ≠ 14 % 16; omega)).trans ?_
        refine (strided_not_mem _ _ _ _ _ _ _ _ (by show (4 + 16 * t.val) % 16 ≠ 13 % 16; omega)).trans ?_
        refine (strided_not_mem _ _ _ _ _ _ _ _ (by show (4 + 16 * t.val) % 16 ≠ 12 % 16; omega)).trans ?_
        refine (strided_not_mem _ _ _ _ _ _ _ _ (by show (4 + 16 * t.val) % 16 ≠ 11 % 16; omega)).trans ?_
        refine (strided_not_mem _ _ _ _ _ _ _ _ (by show (4 + 16 * t.val) % 16 ≠ 10 % 16; omega)).trans ?_
        refine (strided_not_mem _ _ _ _ _ _ _ _ (by show (4 + 16 * t.val) % 16 ≠ 9 % 16; omega)).trans ?_
        refine (strided_not_mem _ _ _ _ _ _ _ _ (by show (4 + 16 * t.val) % 16 ≠ 8 % 16; omega)).trans ?_
        rfl
      · refine (strided_not_mem _ _ _ _ _ _ _ _ (by show (5 + 16 * t.val) % 16 ≠ 15 % 16; omega)).trans ?_
        refine (strided_not_mem _ _ _ _ _ _ _ _ (by show (5 + 16 * t.val) % 16 ≠ 14 % 16; omega)).trans ?_
        refine (strided_not_mem _ _ _ _ _ _ _ _ (by show (5 + 16 * t.val) % 16 ≠ 13 % 16; omega)).trans ?_
        refine (strided_not_mem _ _ _ _ _ _ _ _ (by show (5 + 16 * t.val) % 16 ≠ 12 % 16; omega)).trans ?_
        refine (strided_not_mem _ _ _ _ _ _ _ _ (by show (5 + 16 * t.val) % 16 ≠ 11 % 16; omega)).trans ?_
        refine (strided_not_mem _ _ _ _ _ _ _ _ (by show (5 + 16 * t.val) % 16 ≠ 10 % 16; omega)).trans ?_
        refine (strided_not_mem _ _ _ _ _ _ _ _ (by show (5 + 16 * t.val) % 16 ≠ 9 % 16; omega)).trans ?_
        refine (strided_not_mem _ _ _ _ _ _ _ _ (by show (5 + 16 * t.val) % 16 ≠ 8 % 16; omega)).trans ?_
        rfl
      · refine (strided_not_mem _ _ _ _ _ _ _ _ (by show (6 + 16 * t.val) % 16 ≠ 15 % 16; omega)).trans ?_
        refine (strided_not_mem _ _ _ _ _ _ _ _ (by show (6 + 16 * t.val) % 16 ≠ 14 % 16; omega)).trans ?_
        refine (strided_not_mem _ _ _ _ _ _ _ _ (by show (6 + 16 * t.val) % 16 ≠ 13 % 16; omega)).trans ?_
        refine (strided_not_mem _ _ _ _ _ _ _ _ (by show (6 + 16 * t.val) % 16 ≠ 12 % 16; omega)).trans ?_
        refine (strided_not_mem _ _ _ _ _ _ _ _ (by show (6 + 16 * t.val) % 16 ≠ 11 % 16; omega)).trans ?_
        refine (strided_not_mem _ _ _ _ _ _ _ _ (by show (6 + 16 * t.val) % 16 ≠ 10 % 16; omega)).trans ?_
        refine (strided_not_mem _ _ _ _ _ _ _ _ (by show (6 + 16 * t.val) % 16 ≠ 9 % 16; omega)).trans ?_
        refine (strided_not_mem _ _ _ _ _ _ _ _ (by show (6 + 16 * t.val) % 16 ≠ 8 % 16; omega)).trans ?_
        rfl
      · refine (strided_not_mem _ _ _ _ _ _ _ _ (by show (7 + 16 * t.val) % 16 ≠ 15 % 16; omega)).trans ?_
        refine (strided_not_mem _ _ _ _ _ _ _ _ (by show (7 + 16 * t.val) % 16 ≠ 14 % 16; omega)).trans ?_
        refine (strided_not_mem _ _ _ _ _ _ _ _ (by show (7 + 16 * t.val) % 16 ≠ 13 % 16; omega)).trans ?_
        refine (strided_not_mem _ _ _ _ _ _ _ _ (by show (7 + 16 * t.val) % 16 ≠ 12 % 16; omega)).trans ?_
        refine (strided_not_mem _ _ _ _ _ _ _ _ (by show (7 + 16 * t.val) % 16 ≠ 11 % 16; omega)).trans ?_
        refine (strided_not_mem _ _ _ _ _ _ _ _ (by show (7 + 16 * t.val) % 16 ≠ 10 % 16; omega)).trans ?_
        refine (strided_not_mem _ _ _ _ _ _ _ _ (by show (7 + 16 * t.val) % 16 ≠ 9 % 16; omega)).trans ?_
        refine (strided_not_mem _ _ _ _ _ _ _ _ (by show (7 + 16 * t.val) % 16 ≠ 8 % 16; omega)).trans ?_
        rfl
    · intro t j l
      fin_cases j
      · refine (strided_not_mem _ _ _ _ _ _ _ _ (by show (8 + 16 * t.val) % 16 ≠ 15 % 16; omega)).trans ?_
        refine (strided_not_mem _ _ _ _ _ _ _ _ (by show (8 + 16 * t.val) % 16 ≠ 14 % 16; omega)).trans ?_
        refine (strided_not_mem _ _ _ _ _ _ _ _ (by show (8 + 16 * t.val) % 16 ≠ 13 % 16; omega)).trans ?_
        refine (strided_not_mem _ _ _ _ _ _ _ _ (by show (8 + 16 * t.val) % 16 ≠ 12 % 16; omega)).trans ?_
        refine (strided_not_mem _ _ _ _ _ _ _ _ (by show (8 + 16 * t.val) % 16 ≠ 11 % 16; omega)).trans ?_
        refine (strided_not_mem _ _ _ _ _ _ _ _ (by show (8 + 16 * t.val) % 16 ≠ 10 % 16; omega)).trans ?_
        refine (strided_not_mem _ _ _ _ _ _ _ _ (by show (8 + 16 * t.val) % 16 ≠ 9 % 16; omega)).trans ?_
        exact strided_mem _ _ _ _ _ _ _ t l rfl
      · refine (strided_not_mem _ _ _ _ _ _ _ _ (by show (9 + 16 * t.val) % 16 ≠ 15 % 16; omega)).trans ?_
        refine (strided_not_mem _ _ _ _ _ _ _ _ (by show (9 + 16 * t.val) % 16 ≠ 14 % 16; omega)).trans ?_
        refine (strided_not_mem _ _ _ _ _ _ _ _ (by show (9 + 16 * t.val) % 16 ≠ 13 % 16; omega)).trans ?_
        refine (strided_not_mem _ _ _ _ _ _ _ _ (by show (9 + 16 * t.val) % 16 ≠ 12 % 16; omega)).trans ?_
        refine (strided_not_mem _ _ _ _ _ _ _ _ (by show (9 + 16 * t.val) % 16 ≠ 11 % 16; omega)).trans ?_
        refine (strided_not_mem _ _ _ _ _ _ _ _ (by show (9 + 16 * t.val) % 16 ≠ 10 % 16; omega)).trans ?_
        exact strided_mem _ _ _ _ _ _ _ t l rfl
      · refine (strided_not_mem _ _ _ _ _ _ _ _ (by show (10 + 16 * t.val) % 16 ≠ 15 % 16; omega)).trans ?_
        refine (strided_not_mem _ _ _ _ _ _ _ _ (by show (10 + 16 * t.val) % 16 ≠ 14 % 16; omega)).trans ?_
        refine (strided_not_mem _ _ _ _ _ _ _ _ (by show (10 + 16 * t.val) % 16 ≠ 13 % 16; omega)).trans ?_
        refine (strided_not_mem _ _ _ _ _ _ _ _ (by show (10 + 16 * t.val) % 16 ≠ 12 % 16; omega)).trans ?_
        refine (strided_not_mem _ _ _ _ _ _ _ _ (by show (10 + 16 * t.val) % 16 ≠ 11 % 16; omega)).trans ?_
        exact strided_mem _ _ _ _ _ _ _ t l rfl
      · refine (strided_not_mem _ _ _ _ _ _ _ _ (by show (11 + 16 * t.val) % 16 ≠ 15 % 16; omega)).trans ?_
        refine (strided_not_mem _ _ _ _ _ _ _ _ (by show (11 + 16 * t.val) % 16 ≠ 14 % 16; omega)).trans ?_
        refine (strided_not_mem _ _ _ _ _ _ _ _ (by show (11 + 16 * t.val) % 16 ≠ 13 % 16; omega)).trans ?_
        refine (strided_not_mem _ _ _ _ _ _ _ _ (by show (11 + 16 * t.val) % 16 ≠ 12 % 16; omega)).trans ?_
        exact strided_mem _ _ _ _ _ _ _ t l rfl
      · refine (strided_not_mem _ _ _ _ _ _ _ _ (by show (12 + 16 * t.val) % 16 ≠ 15 % 16; omega)).trans ?_
        refine (strided_not_mem _ _ _ _ _ _ _ _ (by show (12 + 16 * t.val) % 16 ≠ 14 % 16; omega)).trans ?_
        refine (strided_not_mem _ _ _ _ _ _ _ _ (by show (12 + 16 * t.val) % 16 ≠ 13 % 16; omega)).trans ?_
        exact strided_mem _ _ _ _ _ _ _ t l rfl
      · refine (strided_not_mem _ _ _ _ _ _ _ _ (by show (13 + 16 * t.val) % 16 ≠ 15 % 16; omega)).trans ?_
        refine (strided_not_mem _ _ _ _ _ _ _ _ (by show (13 + 16 * t.val) % 16 ≠ 14 % 16; omega)).trans ?_
        exact strided_mem _ _ _ _ _ _ _ t l rfl
      · refine (strided_not_mem _ _ _ _ _ _ _ _ (by show (14 + 16 * t.val) % 16 ≠ 15 % 16; omega)).trans ?_
        exact strided_mem _ _ _ _ _ _ _ t l rfl
      · exact strided_mem _ _ _ _ _ _ _ t l rfl
  · iexists _; isplitr
    swap; · iexact H15
    ipureintro
    refine (read_writes_whole2 _ _ _ _).trans ?_
    rw [readAt_whole2, readAt_whole2]

set_option maxHeartbeats 1600000 in
/-- The last point stores the narrow columns, once as they are and once transposed. -/
theorem kernel_6 (c : Dev nD) (E : Set ℕ) (i : grid0.Coords) (h1 : ¬ first i) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : k0_cond8 i = 1#1)
    (arg2 : Memref sig .tc .vmem S512x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S512x1024 .bf16) (harg9 : arg9.IsWhole) (arg10 : Memref sig .tc .vmem S4096x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S8192x128 .f32) (harg14 : arg14.IsWhole) (arg15 : Memref sig .tc .vmem S512x1024 .bf16) (harg15 : arg15.IsWhole) (arg16 : Memref sig .tc .vmem S512x128 .f32) (harg16 : arg16.IsWhole) (arg17 : Memref sig .tc .vmem S1x64x512 .f32) (harg17 : arg17.IsWhole) (arg18 : Memref sig .tc .vmem S512x2048 .bf16) (harg18 : arg18.IsWhole)
    (x7 : Vec F S2048x128 .bf16) (x8 : Vec F S128x2048 .bf16) (x18 : Vec F S512x2048 .bf16) (K : PUnit → sProp 𝕄) :
    iprop(owns (c : Thread nD τ) arg7 fullShare x7 ∗ owns (c : Thread nD τ) arg8 fullShare x8 ∗ owns (c : Thread nD τ) arg18 fullShare x18 ∗ (∃ d, owns (c : Thread nD τ) arg16 fullShare d) ∗ (∃ d, owns (c : Thread nD τ) arg17 fullShare d)
        ∗ (iprop(owns (c : Thread nD τ) arg7 fullShare x7 ∗ owns (c : Thread nD τ) arg8 fullShare x8 ∗ owns (c : Thread nD τ) arg18 fullShare x18 ∗ owns (c : Thread nD τ) arg16 fullShare (k0_pay1 x18 x7) ∗ owns (c : Thread nD τ) arg17 fullShare (k0_pay2 x8 x18)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_neg h4, dif_neg h5, dif_neg h6, dif_neg h7, dif_pos h8]
  unfold owns
  iintro ⟨⟨%f7, %hf7, H7⟩, ⟨%f8, %hf8, H8⟩, ⟨%f18, %hf18, H18⟩, ⟨%d16, %f16, -, H16⟩, ⟨%d17, %f17, -, H17⟩, Hk⟩
  subst hf7 hf8 hf18
  sl_exec
  sl_step
  iapply Hk
  isplitl [H7]
  · iexists f7; isplitr; · ipureintro; rfl
    iexact H7
  isplitl [H8]
  · iexists f8; isplitr; · ipureintro; rfl
    iexact H8
  isplitl [H18]
  · iexists f18; isplitr; · ipureintro; rfl
    iexact H18
  isplitl [H16]
  · iexists _; isplitr
    swap; · iexact H16
    ipureintro
    refine (read_writes_whole2 _ _ _ _).trans ?_
    rw [readAt_whole2, readAt_whole2]
  · iexists _; isplitr
    swap; · iexact H17
    ipureintro
    refine (read_writes_whole3 _ _ _ _).trans ?_
    rw [readAt_whole2, readAt_whole2]

end Cert.ProjIdeal.Body
-- ==== Proof.ProjFrame.lean ====
/-
  The projection call as a whole: what its scratch buffer and its result windows hold between the points,
  and the run of the program from these.

  A result window is filled at one point of its block (two of them at two) and written back after the
  block's last point; in between it is carried along.  What a window holds before it is filled is not known, so
  the windows are held to predicates that say nothing until then.
-/
module

public import proofs.«01_k».proof.Proof.Gen.ProjIdeal.Frame
public import proofs.«01_k».proof.Proof.Gen.ProjIdeal.Launch
public import proofs.«01_k».proof.Proof.Gen.ProjIdeal.Skeleton
public import proofs.«01_k».proof.Proof.Gen.ProjIdeal.Points
public import proofs.«01_k».proof.Proof.ProjBody
public import Idealize.ShloMosaic.Lib.Pipeline.FrameBody
public import Idealize.ShloMosaic.Lib.Pipeline.DatRel
public import Idealize.ShloMosaic.Lib.Pipeline.ArrRel
public import Idealize.ShloMosaic.Lib.Claim
public import Idealize.ShloMosaic.Lib.Ring
public import Idealize.ShloMosaic.Lib.Tactic
public import Idealize.ShloMosaic.Lib.WritesUnit
public import Idealize.ShloMosaic.Lib.Pointwise
public import Idealize.ShloMosaic.Lib.UnfoldOut
public import Idealize.ShloMosaic.Lib.WordCmp

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Point `s` of block `b`. -/
def pt (b : Fin 32) (s : Fin 7) : Fin cfg0.N := ⟨7 * b.val + s.val, by have := b.isLt; have := s.isLt; have := N_0; show _ < grid0.N; omega⟩

/-- The block a point belongs to. -/
def blockOf (t : Fin cfg0.N) : Fin 32 := ⟨t.val / 7, by have h : t.val < grid0.N := t.isLt; rw [N_0] at h; omega⟩

/-- The point before. -/
def pred (t : Fin cfg0.N) : Fin cfg0.N := ⟨t.val - 1, Nat.lt_of_le_of_lt (Nat.sub_le _ _) t.isLt⟩

theorem pt_block (t : Fin cfg0.N) (s : Fin 7) (hs : t.val % 7 = s.val) : pt (blockOf t) s = t :=
  Fin.ext (by show 7 * (t.val / 7) + s.val = t.val; omega)

theorem blockOf_pred (t : Fin cfg0.N) (h0 : t.val % 7 ≠ 0) : blockOf (pred t) = blockOf t :=
  Fin.ext (by show (t.val - 1) / 7 = t.val / 7; omega)

/-- The normalised and modulated tokens of block `b`. -/
def hS (c : Dev nD) (b : Fin 32) : Vec F S512x2048 .bf16 :=
  k0_pay3 (iblk m c 0 (pt b 0)) (iblk m c 1 (pt b 0)) (iblk m c 3 (pt b 0)) (iblk m c 2 (pt b 0))

/-- Block `s` of the columns. -/
def wS (c : Dev nD) (b : Fin 32) (s : Fin 7) : Vec F S2048x1024 .bf16 := iblk m c 4 (pt b s)

/-- The eight groups of columns a block of columns falls into, at each of the three points that store them apart. -/
def headA (h : Vec F S512x2048 .bf16) (w : Vec F S2048x1024 .bf16) : Fin 8 → FVec F S512x128 .f32 :=
  ![k0_pay6 h w, k0_pay7 h w, k0_pay8 h w, k0_pay9 h w, k0_pay10 h w, k0_pay11 h w, k0_pay12 h w, k0_pay13 h w]
def headB (h : Vec F S512x2048 .bf16) (w : Vec F S2048x1024 .bf16) : Fin 8 → FVec F S512x128 .f32 :=
  ![k0_pay18 h w, k0_pay19 h w, k0_pay20 h w, k0_pay21 h w, k0_pay22 h w, k0_pay23 h w, k0_pay24 h w, k0_pay25 h w]
def headC (h : Vec F S512x2048 .bf16) (w : Vec F S2048x1024 .bf16) : Fin 8 → FVec F S512x128 .f32 :=
  ![k0_pay28 h w, k0_pay29 h w, k0_pay30 h w, k0_pay31 h w, k0_pay32 h w, k0_pay33 h w, k0_pay34 h w, k0_pay35 h w]

/-- The rows of the keys and values of the first attention. -/
def RowsA (c : Dev nD) (b : Fin 32) (X : Vec F S4096x128 .f32) : Prop :=
  ∀ (t : Fin 512) (j : Fin 8) (l : Fin 128), X (ix2 (row8 t j) l) = headA (hS m c b) (wS m c b 1) j (ix2 t l)

/-- The first eight rows of every token of those of the second, -/
def RowsB (c : Dev nD) (b : Fin 32) (X : Vec F S8192x128 .f32) : Prop :=
  ∀ (t : Fin 512) (j : Fin 8) (l : Fin 128), X (ix2 (row16 t (j.castLE (by decide))) l) = headB (hS m c b) (wS m c b 4) j (ix2 t l)

/-- and the other eight. -/
def RowsC (c : Dev nD) (b : Fin 32) (X : Vec F S8192x128 .f32) : Prop :=
  ∀ (t : Fin 512) (j : Fin 8) (l : Fin 128), X (ix2 (row16 t (Fin.natAdd 8 j)) l) = headC (hS m c b) (wS m c b 5) j (ix2 t l)

/-- What the point leaves in each result window. -/
def Left (c : Dev nD) (w : Fin cfg0.W) (t : Fin cfg0.N) : ((cfg0.win w).block.Idx → Elt F (cfg0.win w).elt) → Prop :=
  match w with
  | ⟨7, _⟩ => fun X => X = k0_pay4 (hS m c (blockOf t)) (wS m c (blockOf t) 0)
  | ⟨8, _⟩ => fun X => 1 ≤ t.val % 7 → RowsA m c (blockOf t) X
  | ⟨9, _⟩ => fun X => 1 ≤ t.val % 7 → X = k0_pay14 (hS m c (blockOf t)) (wS m c (blockOf t) 1)
  | ⟨10, _⟩ => fun X => 2 ≤ t.val % 7 → X = k0_pay15 (hS m c (blockOf t)) (wS m c (blockOf t) 2)
  | ⟨11, _⟩ => fun X => 3 ≤ t.val % 7 → X = k0_pay16 (hS m c (blockOf t)) (wS m c (blockOf t) 3)
  | ⟨12, _⟩ => fun X => (4 ≤ t.val % 7 → RowsB m c (blockOf t) X) ∧ (5 ≤ t.val % 7 → RowsC m c (blockOf t) X)
  | ⟨13, _⟩ => fun X => (t.val % 7 = 4 → X = k0_pay26 (hS m c (blockOf t)) (wS m c (blockOf t) 4))
      ∧ (5 ≤ t.val % 7 → X = k0_pay36 (hS m c (blockOf t)) (wS m c (blockOf t) 5))
  | ⟨14, _⟩ => fun X => 6 ≤ t.val % 7 → X = k0_pay1 (hS m c (blockOf t)) (iblk m c 5 t)
  | ⟨15, _⟩ => fun X => 6 ≤ t.val % 7 → X = k0_pay2 (iblk m c 6 t) (hS m c (blockOf t))
  | _ => fun _ => True

/-- The result windows. -/
def isRes (w : Fin cfg0.W) : Bool := Nat.ble 7 w.val

/-! ## The proof data -/

/-- Within a block the scratch buffer holds the block's tokens. -/
def Inv (c : Dev nD) (n : ℕ) (x : Vec F S512x2048 .bf16) : Prop := n % 7 ≠ 0 → ∀ b : Fin 32, b.val = n / 7 → x = hS m c b

/-- The scratch buffer, and the generator register. -/
def held (c : Dev nD) (n : ℕ) : sProp 𝕄 :=
  iprop((∃ x : Vec F S512x2048 .bf16, ⌜Inv m c n x⌝ ∗ owns (c : Thread nD τ) (Memref.whole cc0_scratch0) fullShare x) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | _ => fun _ => Classical.arbitrary _
  Φ t := held m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The data with every result window held to what the points leave in it. -/
def rdat (c : Dev nD) : Pipeline.RDat τ (Elt F) Unit ℕ (UR sig nD τ) ℕ cfg0 c := (dats m 0 c).toRRel isRes (Left m c)

/-! ## What a result window is found with -/

theorem flush13 : ∀ t : Fin cfg0.N, (cfg0.win 13).flush t = true → t.val % 7 = 4 ∨ t.val % 7 = 6 := by decide +kernel

theorem prev_7 (c : Dev nD) (t : Fin cfg0.N) (h0 : t.val % 7 ≠ 0) (Y) (h : (rdat m c).Finds 7 t Y) : Left m c 7 (pred t) Y := by
  rcases (Pipeline.RDat.finds_of_pos (rd := rdat m c) (w := 7) (t := t) rfl (by omega) Y).1 h with hfl | hl
  · exact absurd ((flush0_7 _).1 hfl) (by show ¬ (t.val - 1) % 7 = 6; omega)
  · exact (dats m 0 c).toRRel_leaves rfl hl

theorem prev_8 (c : Dev nD) (t : Fin cfg0.N) (h0 : t.val % 7 ≠ 0) (Y) (h : (rdat m c).Finds 8 t Y) : Left m c 8 (pred t) Y := by
  rcases (Pipeline.RDat.finds_of_pos (rd := rdat m c) (w := 8) (t := t) rfl (by omega) Y).1 h with hfl | hl
  · exact absurd ((flush0_8 _).1 hfl) (by show ¬ (t.val - 1) % 7 = 6; omega)
  · exact (dats m 0 c).toRRel_leaves rfl hl

theorem prev_9 (c : Dev nD) (t : Fin cfg0.N) (h0 : t.val % 7 ≠ 0) (Y) (h : (rdat m c).Finds 9 t Y) : Left m c 9 (pred t) Y := by
  rcases (Pipeline.RDat.finds_of_pos (rd := rdat m c) (w := 9) (t := t) rfl (by omega) Y).1 h with hfl | hl
  · exact absurd ((flush0_9 _).1 hfl) (by show ¬ (t.val - 1) % 7 = 6; omega)
  · exact (dats m 0 c).toRRel_leaves rfl hl

theorem prev_10 (c : Dev nD) (t : Fin cfg0.N) (h0 : t.val % 7 ≠ 0) (Y) (h : (rdat m c).Finds 10 t Y) : Left m c 10 (pred t) Y := by
  rcases (Pipeline.RDat.finds_of_pos (rd := rdat m c) (w := 10) (t := t) rfl (by omega) Y).1 h with hfl | hl
  · exact absurd ((flush0_10 _).1 hfl) (by show ¬ (t.val - 1) % 7 = 6; omega)
  · exact (dats m 0 c).toRRel_leaves rfl hl

theorem prev_11 (c : Dev nD) (t : Fin cfg0.N) (h0 : t.val % 7 ≠ 0) (Y) (h : (rdat m c).Finds 11 t Y) : Left m c 11 (pred t) Y := by
  rcases (Pipeline.RDat.finds_of_pos (rd := rdat m c) (w := 11) (t := t) rfl (by omega) Y).1 h with hfl | hl
  · exact absurd ((flush0_11 _).1 hfl) (by show ¬ (t.val - 1) % 7 = 6; omega)
  · exact (dats m 0 c).toRRel_leaves rfl hl

theorem prev_12 (c : Dev nD) (t : Fin cfg0.N) (h0 : t.val % 7 ≠ 0) (Y) (h : (rdat m c).Finds 12 t Y) : Left m c 12 (pred t) Y := by
  rcases (Pipeline.RDat.finds_of_pos (rd := rdat m c) (w := 12) (t := t) rfl (by omega) Y).1 h with hfl | hl
  · exact absurd ((flush0_12 _).1 hfl) (by show ¬ (t.val - 1) % 7 = 6; omega)
  · exact (dats m 0 c).toRRel_leaves rfl hl

theorem prev_13 (c : Dev nD) (t : Fin cfg0.N) (h0 : t.val % 7 ≠ 0) (h5 : t.val % 7 ≠ 5) (Y) (h : (rdat m c).Finds 13 t Y) : Left m c 13 (pred t) Y := by
  rcases (Pipeline.RDat.finds_of_pos (rd := rdat m c) (w := 13) (t := t) rfl (by omega) Y).1 h with hfl | hl
  · have h := flush13 _ hfl; exact absurd h (by show ¬ ((t.val - 1) % 7 = 4 ∨ (t.val - 1) % 7 = 6); omega)
  · exact (dats m 0 c).toRRel_leaves rfl hl

theorem prev_14 (c : Dev nD) (t : Fin cfg0.N) (h0 : t.val % 7 ≠ 0) (Y) (h : (rdat m c).Finds 14 t Y) : Left m c 14 (pred t) Y := by
  rcases (Pipeline.RDat.finds_of_pos (rd := rdat m c) (w := 14) (t := t) rfl (by omega) Y).1 h with hfl | hl
  · exact absurd ((flush0_14 _).1 hfl) (by show ¬ (t.val - 1) % 7 = 6; omega)
  · exact (dats m 0 c).toRRel_leaves rfl hl

theorem prev_15 (c : Dev nD) (t : Fin cfg0.N) (h0 : t.val % 7 ≠ 0) (Y) (h : (rdat m c).Finds 15 t Y) : Left m c 15 (pred t) Y := by
  rcases (Pipeline.RDat.finds_of_pos (rd := rdat m c) (w := 15) (t := t) rfl (by omega) Y).1 h with hfl | hl
  · exact absurd ((flush0_15 _).1 hfl) (by show ¬ (t.val - 1) % 7 = 6; omega)
  · exact (dats m 0 c).toRRel_leaves rfl hl

theorem carry_7 (c : Dev nD) (t : Fin cfg0.N) (h0 : t.val % 7 ≠ 0) (Y) (h : (rdat m c).Finds 7 t Y) : Left m c 7 t Y := by
  have hp : Y = _ := prev_7 m c t h0 Y h
  rw [blockOf_pred t h0] at hp
  exact hp

theorem carry_8 (c : Dev nD) (t : Fin cfg0.N) (hs : t.val % 7 ≠ 1) (Y) (h : (rdat m c).Finds 8 t Y) : Left m c 8 t Y := by
  intro hle
  have h0 : t.val % 7 ≠ 0 := by omega
  have hp := (prev_8 m c t h0 Y h) (by show 1 ≤ (t.val - 1) % 7; omega)
  rw [blockOf_pred t h0] at hp
  exact hp

theorem carry_9 (c : Dev nD) (t : Fin cfg0.N) (hs : t.val % 7 ≠ 1) (Y) (h : (rdat m c).Finds 9 t Y) : Left m c 9 t Y := by
  intro hle
  have h0 : t.val % 7 ≠ 0 := by omega
  have hp := (prev_9 m c t h0 Y h) (by show 1 ≤ (t.val - 1) % 7; omega)
  rw [blockOf_pred t h0] at hp
  exact hp

theorem carry_10 (c : Dev nD) (t : Fin cfg0.N) (hs : t.val % 7 ≠ 2) (Y) (h : (rdat m c).Finds 10 t Y) : Left m c 10 t Y := by
  intro hle
  have h0 : t.val % 7 ≠ 0 := by omega
  have hp := (prev_10 m c t h0 Y h) (by show 2 ≤ (t.val - 1) % 7; omega)
  rw [blockOf_pred t h0] at hp
  exact hp

theorem carry_11 (c : Dev nD) (t : Fin cfg0.N) (hs : t.val % 7 ≠ 3) (Y) (h : (rdat m c).Finds 11 t Y) : Left m c 11 t Y := by
  intro hle
  have h0 : t.val % 7 ≠ 0 := by omega
  have hp := (prev_11 m c t h0 Y h) (by show 3 ≤ (t.val - 1) % 7; omega)
  rw [blockOf_pred t h0] at hp
  exact hp

theorem carry_14 (c : Dev nD) (t : Fin cfg0.N) (hs : t.val % 7 ≠ 6) (Y) (h : (rdat m c).Finds 14 t Y) : Left m c 14 t Y := by
  intro hle
  exact absurd hle (by omega)

theorem carry_15 (c : Dev nD) (t : Fin cfg0.N) (hs : t.val % 7 ≠ 6) (Y) (h : (rdat m c).Finds 15 t Y) : Left m c 15 t Y := by
  intro hle
  exact absurd hle (by omega)

/-- At the sixth point of a block the rows stored at the fifth are found, -/
theorem found_12 (c : Dev nD) (t : Fin cfg0.N) (hs : t.val % 7 = 5) (Y) (h : (rdat m c).Finds 12 t Y) : RowsB m c (blockOf t) Y := by
  have h0 : t.val % 7 ≠ 0 := by omega
  have hp := (prev_12 m c t h0 Y h).1 (by show 4 ≤ (t.val - 1) % 7; omega)
  rw [blockOf_pred t h0] at hp
  exact hp

theorem carry_12 (c : Dev nD) (t : Fin cfg0.N) (hs : t.val % 7 ≠ 4) (hs5 : t.val % 7 ≠ 5) (Y) (h : (rdat m c).Finds 12 t Y) : Left m c 12 t Y := by
  refine ⟨fun hle => ?_, fun hle => ?_⟩
  · have h0 : t.val % 7 ≠ 0 := by omega
    have hp := (prev_12 m c t h0 Y h).1 (by show 4 ≤ (t.val - 1) % 7; omega)
    rw [blockOf_pred t h0] at hp
    exact hp
  · have h0 : t.val % 7 ≠ 0 := by omega
    have hp := (prev_12 m c t h0 Y h).2 (by show 5 ≤ (t.val - 1) % 7; omega)
    rw [blockOf_pred t h0] at hp
    exact hp

theorem carry_13 (c : Dev nD) (t : Fin cfg0.N) (hs : t.val % 7 ≠ 4) (hs5 : t.val % 7 ≠ 5) (Y) (h : (rdat m c).Finds 13 t Y) : Left m c 13 t Y := by
  refine ⟨fun hle => absurd hle hs, fun hle => ?_⟩
  have h0 : t.val % 7 ≠ 0 := by omega
  have hp := (prev_13 m c t h0 hs5 Y h).2 (by show 5 ≤ (t.val - 1) % 7; omega)
  rw [blockOf_pred t h0] at hp
  exact hp

/-! ## The conditions of a point -/

theorem coord : ∀ t : Fin cfg0.N, (grid0.coords t 1).val = t.val % 7 := by decide +kernel
theorem first_iff : ∀ i : grid0.Coords, first i ↔ (i 1).val = 0 := by unfold first; decide +kernel
theorem cond2_iff : ∀ i : grid0.Coords, k0_cond2 i = 1#1 ↔ (i 1).val = 0 := by decide +kernel
theorem cond3_iff : ∀ i : grid0.Coords, k0_cond3 i = 1#1 ↔ (i 1).val = 1 := by decide +kernel
theorem cond4_iff : ∀ i : grid0.Coords, k0_cond4 i = 1#1 ↔ (i 1).val = 2 := by decide +kernel
theorem cond5_iff : ∀ i : grid0.Coords, k0_cond5 i = 1#1 ↔ (i 1).val = 3 := by decide +kernel
theorem cond6_iff : ∀ i : grid0.Coords, k0_cond6 i = 1#1 ↔ (i 1).val = 4 := by decide +kernel
theorem cond7_iff : ∀ i : grid0.Coords, k0_cond7 i = 1#1 ↔ (i 1).val = 5 := by decide +kernel
theorem cond8_iff : ∀ i : grid0.Coords, k0_cond8 i = 1#1 ↔ (i 1).val = 6 := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y)
    ∗ (∃ Y, ⌜(rdat m c).Finds 14 t Y⌝ ∗ owns (c : Thread nD τ) (st0_14 t) fullShare Y)
    ∗ (∃ Y, ⌜(rdat m c).Finds 15 t Y⌝ ∗ owns (c : Thread nD τ) (st0_15 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Left m c 7 t X⌝ ∗ owns (c : Thread nD τ) (st0_7 t) fullShare X)
    ∗ (∃ X, ⌜Left m c 8 t X⌝ ∗ owns (c : Thread nD τ) (st0_8 t) fullShare X)
    ∗ (∃ X, ⌜Left m c 9 t X⌝ ∗ owns (c : Thread nD τ) (st0_9 t) fullShare X)
    ∗ (∃ X, ⌜Left m c 10 t X⌝ ∗ owns (c : Thread nD τ) (st0_10 t) fullShare X)
    ∗ (∃ X, ⌜Left m c 11 t X⌝ ∗ owns (c : Thread nD τ) (st0_11 t) fullShare X)
    ∗ (∃ X, ⌜Left m c 12 t X⌝ ∗ owns (c : Thread nD τ) (st0_12 t) fullShare X)
    ∗ (∃ X, ⌜Left m c 13 t X⌝ ∗ owns (c : Thread nD τ) (st0_13 t) fullShare X)
    ∗ (∃ X, ⌜Left m c 14 t X⌝ ∗ owns (c : Thread nD τ) (st0_14 t) fullShare X)
    ∗ (∃ X, ⌜Left m c 15 t X⌝ ∗ owns (c : Thread nD τ) (st0_15 t) fullShare X))

set_option maxHeartbeats 1600000 in
theorem body_0 (c : Dev nD) (t : Fin cfg0.N) (ht : t.val % 7 = 0) :
    bodyPre m c t ⊢ wp frame (wpE (defs₀ (F := F)) Variants.none c none) Set.univ (bodyAt0 t) (fun _ => bodyPost m c t) := by
  have e := coord t
  have h1 : first (grid0.coords t) := (first_iff _).2 (by omega)
  have h2 : k0_cond2 (grid0.coords t) = 1#1 := (cond2_iff _).2 (by omega)
  have h3 : ¬ k0_cond3 (grid0.coords t) = 1#1 := fun h => by have := (cond3_iff _).1 h; omega
  have h4 : ¬ k0_cond4 (grid0.coords t) = 1#1 := fun h => by have := (cond4_iff _).1 h; omega
  have h5 : ¬ k0_cond5 (grid0.coords t) = 1#1 := fun h => by have := (cond5_iff _).1 h; omega
  have h6 : ¬ k0_cond6 (grid0.coords t) = 1#1 := fun h => by have := (cond6_iff _).1 h; omega
  have h7 : ¬ k0_cond7 (grid0.coords t) = 1#1 := fun h => by have := (cond7_iff _).1 h; omega
  have h8 : ¬ k0_cond8 (grid0.coords t) = 1#1 := fun h => by have := (cond8_iff _).1 h; omega
  have hp := pt_block t 0 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  iapply (kernel_0 c Set.univ (grid0.coords t) h1 h2 h3 h4 h5 h6 h7 h8 _ _ _ _ _ _ _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H7]; · iexists _; iexact H7
  isplitl [HS]; · iexists _; iexact HS
  iintro ⟨H0, H1, H2, H3, H4, HS, H7⟩
  isplitl [HS HR]
  · isplitr [HR]
    · iexists _
      isplitr
      swap; · iexact HS
      ipureintro
      intro _ b hb; obtain rfl : b = blockOf t := Fin.ext (by rw [hb]; show (t.val + 1) / 7 = t.val / 7; omega); unfold hS; rw [hp]
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    show k0_pay4 _ _ = _
    unfold hS wS; rw [hp]
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_1 (c : Dev nD) (t : Fin cfg0.N) (ht : t.val % 7 = 1) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : k0_cond3 (grid0.coords t) = 1#1 := (cond3_iff _).2 (by omega)
  have h4 : ¬ k0_cond4 (grid0.coords t) = 1#1 := fun h => by have := (cond4_iff _).1 h; omega
  have h5 : ¬ k0_cond5 (grid0.coords t) = 1#1 := fun h => by have := (cond5_iff _).1 h; omega
  have h6 : ¬ k0_cond6 (grid0.coords t) = 1#1 := fun h => by have := (cond6_iff _).1 h; omega
  have h7 : ¬ k0_cond7 (grid0.coords t) = 1#1 := fun h => by have := (cond7_iff _).1 h; omega
  have h8 : ¬ k0_cond8 (grid0.coords t) = 1#1 := fun h => by have := (cond8_iff _).1 h; omega
  have hp := pt_block t 1 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_1 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) _)
  isplitl [H4]; · iexact H4
  isplitl [HS]; · iexact HS
  isplitl [H8]; · iexists _; iexact H8
  isplitl [H9]; · iexists _; iexact H9
  iintro ⟨H4, HS, ⟨%y8, %hy8, H8⟩, H9⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    intro _; unfold RowsA wS; rw [hp]; exact hy8
  isplitl [H9]
  · iexists _; isplitr
    swap; · iexact H9
    ipureintro
    intro _; unfold wS; rw [hp]
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_2 (c : Dev nD) (t : Fin cfg0.N) (ht : t.val % 7 = 2) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : k0_cond4 (grid0.coords t) = 1#1 := (cond4_iff _).2 (by omega)
  have h5 : ¬ k0_cond5 (grid0.coords t) = 1#1 := fun h => by have := (cond5_iff _).1 h; omega
  have h6 : ¬ k0_cond6 (grid0.coords t) = 1#1 := fun h => by have := (cond6_iff _).1 h; omega
  have h7 : ¬ k0_cond7 (grid0.coords t) = 1#1 := fun h => by have := (cond7_iff _).1 h; omega
  have h8 : ¬ k0_cond8 (grid0.coords t) = 1#1 := fun h => by have := (cond8_iff _).1 h; omega
  have hp := pt_block t 2 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_2 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) _)
  isplitl [H4]; · iexact H4
  isplitl [HS]; · iexact HS
  isplitl [H10]; · iexists _; iexact H10
  iintro ⟨H4, HS, H10⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    intro _; unfold wS; rw [hp]
  isplitl [H11]
  · iexists _; isplitr
    swap; · iexact H11
    ipureintro
    exact carry_11 m c t (by omega) Y11 hY11
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_3 (c : Dev nD) (t : Fin cfg0.N) (ht : t.val % 7 = 3) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : ¬ k0_cond4 (grid0.coords t) = 1#1 := fun h => by have := (cond4_iff _).1 h; omega
  have h5 : k0_cond5 (grid0.coords t) = 1#1 := (cond5_iff _).2 (by omega)
  have h6 : ¬ k0_cond6 (grid0.coords t) = 1#1 := fun h => by have := (cond6_iff _).1 h; omega
  have h7 : ¬ k0_cond7 (grid0.coords t) = 1#1 := fun h => by have := (cond7_iff _).1 h; omega
  have h8 : ¬ k0_cond8 (grid0.coords t) = 1#1 := fun h => by have := (cond8_iff _).1 h; omega
  have hp := pt_block t 3 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_3 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) _)
  isplitl [H4]; · iexact H4
  isplitl [HS]; · iexact HS
  isplitl [H11]; · iexists _; iexact H11
  iintro ⟨H4, HS, H11⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    intro _; unfold wS; rw [hp]
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_4 (c : Dev nD) (t : Fin cfg0.N) (ht : t.val % 7 = 4) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : ¬ k0_cond4 (grid0.coords t) = 1#1 := fun h => by have := (cond4_iff _).1 h; omega
  have h5 : ¬ k0_cond5 (grid0.coords t) = 1#1 := fun h => by have := (cond5_iff _).1 h; omega
  have h6 : k0_cond6 (grid0.coords t) = 1#1 := (cond6_iff _).2 (by omega)
  have h7 : ¬ k0_cond7 (grid0.coords t) = 1#1 := fun h => by have := (cond7_iff _).1 h; omega
  have h8 : ¬ k0_cond8 (grid0.coords t) = 1#1 := fun h => by have := (cond8_iff _).1 h; omega
  have hp := pt_block t 4 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_4 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) Y12 _)
  isplitl [H4]; · iexact H4
  isplitl [HS]; · iexact HS
  isplitl [H12]; · iexact H12
  isplitl [H13]; · iexists _; iexact H13
  iintro ⟨H4, HS, ⟨%y12, %hy12, H12⟩, H13⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    refine ⟨fun _ => ?_, fun h => absurd h (by omega)⟩
    unfold RowsB wS; rw [hp]; exact hy12
  isplitl [H13]
  · iexists _; isplitr
    swap; · iexact H13
    ipureintro
    refine ⟨fun _ => ?_, fun h => absurd h (by omega)⟩
    unfold wS; rw [hp]
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_5 (c : Dev nD) (t : Fin cfg0.N) (ht : t.val % 7 = 5) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : ¬ k0_cond4 (grid0.coords t) = 1#1 := fun h => by have := (cond4_iff _).1 h; omega
  have h5 : ¬ k0_cond5 (grid0.coords t) = 1#1 := fun h => by have := (cond5_iff _).1 h; omega
  have h6 : ¬ k0_cond6 (grid0.coords t) = 1#1 := fun h => by have := (cond6_iff _).1 h; omega
  have h7 : k0_cond7 (grid0.coords t) = 1#1 := (cond7_iff _).2 (by omega)
  have h8 : ¬ k0_cond8 (grid0.coords t) = 1#1 := fun h => by have := (cond8_iff _).1 h; omega
  have hp := pt_block t 5 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_5 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) Y12 _)
  isplitl [H4]; · iexact H4
  isplitl [HS]; · iexact HS
  isplitl [H12]; · iexact H12
  isplitl [H13]; · iexists _; iexact H13
  iintro ⟨H4, HS, ⟨%y12, %hy12, H12⟩, H13⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    refine ⟨fun _ => ?_, fun _ => ?_⟩
    · have hB := found_12 m c t ht Y12 hY12
      exact fun a j l => (hy12.1 a j l).trans (hB a j l)
    · unfold RowsC wS; rw [hp]; exact hy12.2
  isplitl [H13]
  · iexists _; isplitr
    swap; · iexact H13
    ipureintro
    refine ⟨fun h => absurd h (by omega), fun _ => ?_⟩
    unfold wS; rw [hp]
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_6 (c : Dev nD) (t : Fin cfg0.N) (ht : t.val % 7 = 6) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : ¬ k0_cond4 (grid0.coords t) = 1#1 := fun h => by have := (cond4_iff _).1 h; omega
  have h5 : ¬ k0_cond5 (grid0.coords t) = 1#1 := fun h => by have := (cond5_iff _).1 h; omega
  have h6 : ¬ k0_cond6 (grid0.coords t) = 1#1 := fun h => by have := (cond6_iff _).1 h; omega
  have h7 : ¬ k0_cond7 (grid0.coords t) = 1#1 := fun h => by have := (cond7_iff _).1 h; omega
  have h8 : k0_cond8 (grid0.coords t) = 1#1 := (cond8_iff _).2 (by omega)
  have hp := pt_block t 6 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_6 c Set.univ (grid0.coords t) h1 h2 h3 h4 h5 h6 h7 h8 _ _ _ _ _ _ _ _ _ _ _ _ _ _ _ _ _ _ _ _ _ _ _ _ _ _ _ _ _ _ _ _ _ _ (iblk m c 5 t) (iblk m c 6 t) (hS m c (blockOf t)) _)
  isplitl [H5]; · iexact H5
  isplitl [H6]; · iexact H6
  isplitl [HS]; · iexact HS
  isplitl [H14]; · iexists _; iexact H14
  isplitl [H15]; · iexists _; iexact H15
  iintro ⟨H5, H6, HS, H14, H15⟩
  isplitl [HS HR]
  · isplitr [HR]
    · iexists _
      isplitr
      swap; · iexact HS
      ipureintro
      intro h; exact absurd h (by omega)
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    intro _; rfl
  · iexists _; isplitr
    swap; · iexact H15
    ipureintro
    intro _; rfl

theorem sound_body (c : Dev nD) (t : Fin cfg0.N) :
    bodyPre m c t ⊢ wp frame (wpE (defs₀ (F := F)) Variants.none c none) Set.univ (bodyAt0 t) (fun _ => bodyPost m c t) := by
  have h : t.val % 7 < 7 := Nat.mod_lt _ (by decide)
  obtain h | h | h | h | h | h | h : t.val % 7 = 0 ∨ t.val % 7 = 1 ∨ t.val % 7 = 2 ∨ t.val % 7 = 3 ∨ t.val % 7 = 4 ∨ t.val % 7 = 5 ∨ t.val % 7 = 6 := by omega
  · exact body_0 m c t h
  · exact body_1 m c t h
  · exact body_2 m c t h
  · exact body_3 m c t h
  · exact body_4 m c t h
  · exact body_5 m c t h
  · exact body_6 m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ isRes (Left m c) := fun t => by
  rw [bigSep_W0, bigSep_W0, defs₀_row]
  exact triple_restated (sound_body m c t) rfl .rfl fun _ => .rfl

/-! ## The run -/

/-- The class's invariant is the tracked one before the first point, -/
theorem held_in (c : Dev nD) : Pipeline.ΦA spec0 c ⊢ (rdat (F := F) m c).Φ 0 := by
  show _ ⊢ held m c 0
  unfold Pipeline.ΦA held
  rw [scopedRest0_eq]
  iintro ⟨⟨%f, HA⟩, HR⟩
  isplitr [HR]
  · iexists f
    isplitr; · ipureintro; intro h; exact absurd rfl h
    rw [owns_whole]
    iexact HA
  · iexact HR

/-- and the tracked one is the class's after the last. -/
theorem held_out (c : Dev nD) : (rdat (F := F) m c).Φ (Fin.last cfg0.N) ⊢ Pipeline.ΦA spec0 c := by
  show held m c _ ⊢ _
  unfold Pipeline.ΦA held
  rw [scopedRest0_eq]
  simp only [owns_whole]
  iintro ⟨⟨%x, -, HA⟩, HR⟩
  isplitr [HR]
  · iexists x; iexact HA
  · iexact HR

set_option backward.isDefEq.respectTransparency.types false in
set_option maxHeartbeats 800000 in
theorem run_main_quiescent : θ_run defs (onTc (τ := τ) (main (F := F))) (s₀ m ρ) (fun r => Pipeline.RDat.FramePost cfg0 (rdat m) (V m) r ∧ r.2.sem = fun _ => 0) :=
  Pipeline.RDat.θ_run_frame_track cfgs (0 : Fin 1) launch0 defs₀ Variants.none (rdat m) m ρ main
    (hbody := fun c => (body_obligation m c).toRRel) (hshare := fun c w => by show (if (cfg0.win w).isOut then fullShare else fullShare) = fullShare; exact ite_self _)
    (howed := fun _ _ => rfl) (V := V m) (hmain := hmain m Variants.none) (hA := A_eq m) (hin := held_in m) (hout := held_out m) (Q' := _)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c)⟩, h.2⟩) (run_main_quiescent m ρ)

end Cert.ProjIdeal.Body
-- ==== Proof.ProjModel.lean ====
/-
The input projection of a layer, and where its columns go: the projected row of a token holds, side by side, the queries, keys and
values of the two attentions and the indexer's queries, key and weights.
-/
module

public import proofs.«01_k».proof.Proof.Model

@[expose] public section

noncomputable section

namespace Cert.Model

open Idealize.ShloMosaic

/-- Entry `f` of the projected row `h`. -/
def proj (h : Fin 2048 → EReal) (w : Fin 2048 → Fin 6224 → EReal) (f : Fin 6224) : EReal := ∑ d, h d * w d f

/-- The scale of the indexer's weights, `1/32`, as the programs write it. -/
abbrev wscale : EReal := Ideal.ofBits .f32 0x3D000000#32

variable (Z : Fin 16384 → Fin 6224 → EReal)

/-- Queries of the first attention, -/
def queryA (n : Fin 16384) (e : Fin 1024) : EReal := Z n ⟨e.val, by omega⟩
/-- its keys and values, one row for each of a token's eight heads of them, -/
def rowsA (p : Fin 131072) (l : Fin 128) : EReal := Z ⟨p.val / 8, by omega⟩ ⟨1024 + p.val % 8 * 128 + l.val, by omega⟩
/-- and the same one row for each token. -/
def tokA (n : Fin 16384) (e : Fin 1024) : EReal := Z n ⟨1024 + e.val, by omega⟩
/-- Queries of the indexer. -/
def queryI (n : Fin 16384) (e : Fin 1024) : EReal := Z n ⟨2048 + e.val, by omega⟩
/-- Queries of the second attention, -/
def queryB (n : Fin 16384) (e : Fin 1024) : EReal := Z n ⟨3152 + e.val, by omega⟩
/-- its keys and values, one row for each of a token's sixteen heads of them, -/
def rowsB (p : Fin 262144) (l : Fin 128) : EReal := Z ⟨p.val / 16, by omega⟩ ⟨4176 + p.val % 16 * 128 + l.val, by omega⟩
/-- and the same one row for each token. -/
def tokB (n : Fin 16384) (e : Fin 2048) : EReal := Z n ⟨4176 + e.val, by omega⟩
/-- The indexer's key, then its scaled weights, then zeros. -/
def small (n : Fin 16384) (l : Fin 128) : EReal :=
  if l.val < 64 then Z n ⟨3072 + l.val, by omega⟩ else if l.val < 80 then Z n ⟨3072 + l.val, by omega⟩ * wscale else 0
/-- The indexer's keys of a batch, each one a column. -/
def keyT (b : Fin 8) (l : Fin 64) (t : Fin 2048) : EReal := Z ⟨b.val * 2048 + t.val, by omega⟩ ⟨3072 + l.val, by omega⟩

end Cert.Model

end
-- ==== Proof.ProjValue.lean ====
/-
The input projection as the pipelined program computes it: each of its nine result arrays holds, entry by entry, a column of the
projected row of a token.
-/
module

public import proofs.«01_k».proof.Proof.ProjModel
public import proofs.«01_k».proof.Proof.ProjFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Model

open Cert.ProjIdeal Cert.ProjIdeal.Gen Cert.ProjIdeal.Body Cert.Model

/-! ## The points' expressions -/

theorem pay3_at (x : FVec Ideal S512x2048 .f32) (g : FVec Ideal S1x2048 .f32) (sc sh : FVec Ideal S1x1x2048 .f32) (r : Fin 512) (d : Fin 2048) :
    k0_pay3 (F := Ideal) x g sc sh (ix2 r d) = modulated (fun d => x (ix2 r d)) (fun d => g (ix2 0 d)) (fun d => sh (ix3 0 0 d)) (fun d => sc (ix3 0 0 d)) d := by
  pointwise! [k0_pay3, modulated, rms]

variable (h : FVec Ideal S512x2048 .bf16) (w : FVec Ideal S2048x1024 .bf16)

/-- A block of tokens times a block of columns. -/
def prod (r : Fin 512) (q : Fin 1024) : EReal := ∑ d : Fin 2048, h (ix2 r d) * w (ix2 d q)

theorem pay4_at (r : Fin 512) (q : Fin 1024) : k0_pay4 (F := Ideal) h w (ix2 r q) = prod h w r q := by pointwise! [k0_pay4, prod]
theorem pay5_at (r : Fin 512) (q : Fin 1024) : k0_pay5 (F := Ideal) h w (ix2 r q) = prod h w r q := by pointwise! [k0_pay5, prod]
theorem pay14_at (r : Fin 512) (q : Fin 1024) : k0_pay14 (F := Ideal) h w (ix2 r q) = prod h w r q := by pointwise [k0_pay14, pay5_at]
theorem pay15_at (r : Fin 512) (q : Fin 1024) : k0_pay15 (F := Ideal) h w (ix2 r q) = prod h w r q := by pointwise! [k0_pay15, prod]
theorem pay16_at (r : Fin 512) (q : Fin 1024) : k0_pay16 (F := Ideal) h w (ix2 r q) = prod h w r q := by pointwise! [k0_pay16, prod]
theorem pay17_at (r : Fin 512) (q : Fin 1024) : k0_pay17 (F := Ideal) h w (ix2 r q) = prod h w r q := by pointwise! [k0_pay17, prod]
theorem pay26_at (r : Fin 512) (q : Fin 1024) : k0_pay26 (F := Ideal) h w (ix2 r q) = prod h w r q := by pointwise [k0_pay26, pay17_at]
theorem pay27_at (r : Fin 512) (q : Fin 1024) : k0_pay27 (F := Ideal) h w (ix2 r q) = prod h w r q := by pointwise! [k0_pay27, prod]
theorem pay36_at (r : Fin 512) (q : Fin 1024) : k0_pay36 (F := Ideal) h w (ix2 r q) = prod h w r q := by pointwise [k0_pay36, pay27_at]

theorem headA_at (j : Fin 8) (r : Fin 512) (l : Fin 128) : headA (F := Ideal) h w j (ix2 r l) = prod h w r ⟨j.val * 128 + l.val, by omega⟩ := by
  fin_cases j
  · show k0_pay6 (F := Ideal) h w (ix2 r l) = _; pointwise [k0_pay6, pay5_at]
  · show k0_pay7 (F := Ideal) h w (ix2 r l) = _; pointwise [k0_pay7, pay5_at]
  · show k0_pay8 (F := Ideal) h w (ix2 r l) = _; pointwise [k0_pay8, pay5_at]
  · show k0_pay9 (F := Ideal) h w (ix2 r l) = _; pointwise [k0_pay9, pay5_at]
  · show k0_pay10 (F := Ideal) h w (ix2 r l) = _; pointwise [k0_pay10, pay5_at]
  · show k0_pay11 (F := Ideal) h w (ix2 r l) = _; pointwise [k0_pay11, pay5_at]
  · show k0_pay12 (F := Ideal) h w (ix2 r l) = _; pointwise [k0_pay12, pay5_at]
  · show k0_pay13 (F := Ideal) h w (ix2 r l) = _; pointwise [k0_pay13, pay5_at]

theorem headB_at (j : Fin 8) (r : Fin 512) (l : Fin 128) : headB (F := Ideal) h w j (ix2 r l) = prod h w r ⟨j.val * 128 + l.val, by omega⟩ := by
  fin_cases j
  · show k0_pay18 (F := Ideal) h w (ix2 r l) = _; pointwise [k0_pay18, pay17_at]
  · show k0_pay19 (F := Ideal) h w (ix2 r l) = _; pointwise [k0_pay19, pay17_at]
  · show k0_pay20 (F := Ideal) h w (ix2 r l) = _; pointwise [k0_pay20, pay17_at]
  · show k0_pay21 (F := Ideal) h w (ix2 r l) = _; pointwise [k0_pay21, pay17_at]
  · show k0_pay22 (F := Ideal) h w (ix2 r l) = _; pointwise [k0_pay22, pay17_at]
  · show k0_pay23 (F := Ideal) h w (ix2 r l) = _; pointwise [k0_pay23, pay17_at]
  · show k0_pay24 (F := Ideal) h w (ix2 r l) = _; pointwise [k0_pay24, pay17_at]
  · show k0_pay25 (F := Ideal) h w (ix2 r l) = _; pointwise [k0_pay25, pay17_at]

theorem headC_at (j : Fin 8) (r : Fin 512) (l : Fin 128) : headC (F := Ideal) h w j (ix2 r l) = prod h w r ⟨j.val * 128 + l.val, by omega⟩ := by
  fin_cases j
  · show k0_pay28 (F := Ideal) h w (ix2 r l) = _; pointwise [k0_pay28, pay27_at]
  · show k0_pay29 (F := Ideal) h w (ix2 r l) = _; pointwise [k0_pay29, pay27_at]
  · show k0_pay30 (F := Ideal) h w (ix2 r l) = _; pointwise [k0_pay30, pay27_at]
  · show k0_pay31 (F := Ideal) h w (ix2 r l) = _; pointwise [k0_pay31, pay27_at]
  · show k0_pay32 (F := Ideal) h w (ix2 r l) = _; pointwise [k0_pay32, pay27_at]
  · show k0_pay33 (F := Ideal) h w (ix2 r l) = _; pointwise [k0_pay33, pay27_at]
  · show k0_pay34 (F := Ideal) h w (ix2 r l) = _; pointwise [k0_pay34, pay27_at]
  · show k0_pay35 (F := Ideal) h w (ix2 r l) = _; pointwise [k0_pay35, pay27_at]

/-- A block of tokens times the indexer's columns, the ones of its weights scaled. -/
theorem pay1_at (v : FVec Ideal S2048x128 .bf16) (r : Fin 512) (l : Fin 128) :
    k0_pay1 (F := Ideal) h v (ix2 r l)
      = if 64 ≤ l.val ∧ l.val < 80 then (∑ d : Fin 2048, h (ix2 r d) * v (ix2 d l)) * wscale else ∑ d : Fin 2048, h (ix2 r d) * v (ix2 d l) := by
  have hc : ∀ l : Fin 128, IntOp.andi (IntOp.cmpi .sge (BitVec.ofNat 32 l.val) 64#32) (IntOp.cmpi .slt (BitVec.ofNat 32 l.val) 80#32)
      = if 64 ≤ l.val ∧ l.val < 80 then 1#1 else 0#1 := by decide +kernel
  pointwise [k0_pay1]
  rw [hc l]
  split_ifs <;> rfl

theorem pay2_at (v : FVec Ideal S128x2048 .bf16) (l : Fin 64) (t : Fin 512) :
    k0_pay2 (F := Ideal) v h (ix3 0 l t) = ∑ d : Fin 2048, v (ix2 ⟨l.val, by omega⟩ d) * h (ix2 t d) := by
  pointwise! [k0_pay2]

/-! ## The columns as the host lays them out -/

/-- The pieces of the columns of the attentions and of the indexer's queries, -/
def pieces (W : FVec Ideal S1x2048x6224 .f32) : List ((s : Shape) × (s.Idx → EReal)) := [⟨S2048x1024, extractStridedSlice S2048x1024 ![0, 0] (shapeCast S2048x6224 W shapeCasts_S1x2048x6224_S2048x6224) slices_S2048x6224_S2048x1024_0_0⟩, ⟨S2048x512, extractStridedSlice S2048x512 ![0, 1024] (shapeCast S2048x6224 W shapeCasts_S1x2048x6224_S2048x6224) slices_S2048x6224_S2048x512_0_1024⟩, ⟨S2048x512, extractStridedSlice S2048x512 ![0, 1536] (shapeCast S2048x6224 W shapeCasts_S1x2048x6224_S2048x6224) slices_S2048x6224_S2048x512_0_1536⟩, ⟨S2048x1024, extractStridedSlice S2048x1024 ![0, 2048] (shapeCast S2048x6224 W shapeCasts_S1x2048x6224_S2048x6224) slices_S2048x6224_S2048x1024_0_2048⟩, ⟨S2048x1024, extractStridedSlice S2048x1024 ![0, 3152] (shapeCast S2048x6224 W shapeCasts_S1x2048x6224_S2048x6224) slices_S2048x6224_S2048x1024_0_3152⟩, ⟨S2048x1024, extractStridedSlice S2048x1024 ![0, 4176] (shapeCast S2048x6224 W shapeCasts_S1x2048x6224_S2048x6224) slices_S2048x6224_S2048x1024_0_4176⟩, ⟨S2048x1024, extractStridedSlice S2048x1024 ![0, 5200] (shapeCast S2048x6224 W shapeCasts_S1x2048x6224_S2048x6224) slices_S2048x6224_S2048x1024_0_5200⟩]

/-- and the columns of the attentions and of the indexer's queries, side by side. -/
def wmain (W : FVec Ideal S1x2048x6224 .f32) : FVec Ideal S2048x6144 .bf16 :=
  truncf .bf16 (concatenate S2048x6144 1 (pieces W) concatenates_S2048x1024_S2048x512_S2048x512_S2048x1024_S2048x1024_S2048x1024_S2048x1024_S2048x6144_d1) bitsLt_bf16_f32

/-- The indexer's columns: its key's, its weights', then zeros. -/
def wsmall (W : FVec Ideal S1x2048x6224 .f32) : FVec Ideal S2048x128 .bf16 :=
  truncf .bf16 (concatenate S2048x128 1 [⟨S2048x64, extractStridedSlice S2048x64 ![0, 3072] (shapeCast S2048x6224 W shapeCasts_S1x2048x6224_S2048x6224) slices_S2048x6224_S2048x64_0_3072⟩, ⟨S2048x16, extractStridedSlice S2048x16 ![0, 3136] (shapeCast S2048x6224 W shapeCasts_S1x2048x6224_S2048x6224) slices_S2048x6224_S2048x16_0_3136⟩, ⟨S2048x48, broadcastInDim S2048x48 ![] bcast_S_S2048x48 (constant S_ .f32 0x00000000#32)⟩] concatenates_S2048x64_S2048x16_S2048x48_S2048x128_d1) bitsLt_bf16_f32

theorem wmain_at (W : FVec Ideal S1x2048x6224 .f32) (d : Fin 2048) (F : Fin 6144) (G : Fin 6224) (hG : G.val = if F.val < 3072 then F.val else F.val + 80) :
    wmain W (ix2 d F) = W (ix3 0 d G) := by
  have hF := F.isLt
  rcases Nat.lt_or_ge F.val 1024 with h0 | h0
  · have e : G = ⟨0 + (F.val - 0), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 0 (by show _ < 7; omega) S2048x1024 _ rfl rfl 0 rfl (ix2 d ⟨F.val - 0, by omega⟩) ?_ (by show 0 + (F.val - 0) = F.val; omega)).trans ?_
    · intro b hb
      fin_cases b
      · rfl
      · exact absurd rfl hb
    · rw [e]; pointwise
  rcases Nat.lt_or_ge F.val 1536 with h1 | h1
  · have e : G = ⟨1024 + (F.val - 1024), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 1 (by show _ < 7; omega) S2048x512 _ rfl rfl 1024 rfl (ix2 d ⟨F.val - 1024, by omega⟩) ?_ (by show 1024 + (F.val - 1024) = F.val; omega)).trans ?_
    · intro b hb
      fin_cases b
      · rfl
      · exact absurd rfl hb
    · rw [e]; pointwise
  rcases Nat.lt_or_ge F.val 2048 with h2 | h2
  · have e : G = ⟨1536 + (F.val - 1536), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 2 (by show _ < 7; omega) S2048x512 _ rfl rfl 1536 rfl (ix2 d ⟨F.val - 1536, by omega⟩) ?_ (by show 1536 + (F.val - 1536) = F.val; omega)).trans ?_
    · intro b hb
      fin_cases b
      · rfl
      · exact absurd rfl hb
    · rw [e]; pointwise
  rcases Nat.lt_or_ge F.val 3072 with h3 | h3
  · have e : G = ⟨2048 + (F.val - 2048), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 3 (by show _ < 7; omega) S2048x1024 _ rfl rfl 2048 rfl (ix2 d ⟨F.val - 2048, by omega⟩) ?_ (by show 2048 + (F.val - 2048) = F.val; omega)).trans ?_
    · intro b hb
      fin_cases b
      · rfl
      · exact absurd rfl hb
    · rw [e]; pointwise
  rcases Nat.lt_or_ge F.val 4096 with h4 | h4
  · have e : G = ⟨3152 + (F.val - 3072), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 4 (by show _ < 7; omega) S2048x1024 _ rfl rfl 3072 rfl (ix2 d ⟨F.val - 3072, by omega⟩) ?_ (by show 3072 + (F.val - 3072) = F.val; omega)).trans ?_
    · intro b hb
      fin_cases b
      · rfl
      · exact absurd rfl hb
    · rw [e]; pointwise
  rcases Nat.lt_or_ge F.val 5120 with h5 | h5
  · have e : G = ⟨4176 + (F.val - 4096), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 5 (by show _ < 7; omega) S2048x1024 _ rfl rfl 4096 rfl (ix2 d ⟨F.val - 4096, by omega⟩) ?_ (by show 4096 + (F.val - 4096) = F.val; omega)).trans ?_
    · intro b hb
      fin_cases b
      · rfl
      · exact absurd rfl hb
    · rw [e]; pointwise
  · have e : G = ⟨5200 + (F.val - 5120), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 6 (by show _ < 7; omega) S2048x1024 _ rfl rfl 5120 rfl (ix2 d ⟨F.val - 5120, by omega⟩) ?_ (by show 5120 + (F.val - 5120) = F.val; omega)).trans ?_
    · intro b hb
      fin_cases b
      · rfl
      · exact absurd rfl hb
    · rw [e]; pointwise

theorem wsmall_at (W : FVec Ideal S1x2048x6224 .f32) (d : Fin 2048) (l : Fin 128) :
    wsmall W (ix2 d l) = if h : l.val < 80 then W (ix3 0 d ⟨3072 + l.val, by omega⟩) else 0 := by
  have hi : ∀ a : ℕ, a = 3072 + l.val → ∀ h h', W (ix3 0 d ⟨a, h⟩) = W (ix3 0 d ⟨3072 + l.val, h'⟩) := fun a ha h h' => by subst ha; rfl
  pointwise [wsmall]
  rcases Nat.lt_or_ge l.val 64 with h1 | h1
  · rw [dif_pos h1, dif_pos (by omega)]
  · rw [dif_neg (by omega)]
    rcases Nat.lt_or_ge l.val 80 with h2 | h2
    · rw [dif_pos (by omega), dif_pos h2]
      exact hi _ (by omega) _ _
    · rw [dif_neg (by omega), dif_neg (by omega)]

variable (m : (ℓ : Loc nD τ sig) → Buf (Elt Ideal) ℓ)

theorem V_v9 (c : Dev nD) : (V m c main_v9 : FVec Ideal S2048x6144 .bf16) = wmain (m ((c : Thread nD τ).loc main_arg4)) := by
  rfl
theorem V_v14 (c : Dev nD) : (V m c main_v14 : FVec Ideal S2048x128 .bf16) = wsmall (m ((c : Thread nD τ).loc main_arg4)) := by
  rfl
theorem V_v15 (c : Dev nD) : (V m c main_v15 : FVec Ideal S128x2048 .bf16) = transpose S128x2048 [1, 0] (wsmall (m ((c : Thread nD τ).loc main_arg4))) transposes_S2048x128_S128x2048_1_0 := by
  rfl

/-! ## Blocks -/

/-- Where each input block sits. -/
theorem idx_in : ∀ b : Fin 32, win0_0.index (pt b 0) = ![b.val, 0] ∧ win0_1.index (pt b 0) = ![0, 0] ∧ win0_2.index (pt b 0) = ![b.val / 4, 0, 0]
    ∧ win0_3.index (pt b 0) = ![b.val / 4, 0, 0] ∧ win0_5.index (pt b 6) = ![0, 0] ∧ win0_6.index (pt b 6) = ![0, 0] := by decide +kernel
theorem idx_w : ∀ (b : Fin 32) (s : Fin 6), win0_4.index (pt b (s.castLE (by decide))) = ![0, s.val] := by decide +kernel
/-- Where each result block sits when it is written back. -/
theorem idx_out : ∀ b : Fin 32, win0_7.index (pt b 6) = ![b.val, 0] ∧ win0_8.index (pt b 6) = ![b.val, 0] ∧ win0_9.index (pt b 6) = ![b.val, 0]
    ∧ win0_10.index (pt b 6) = ![b.val, 0] ∧ win0_11.index (pt b 6) = ![b.val, 0] ∧ win0_12.index (pt b 6) = ![b.val, 0]
    ∧ win0_13.index (pt b 4) = ![b.val, 0] ∧ win0_13.index (pt b 6) = ![b.val, 1] ∧ win0_14.index (pt b 6) = ![b.val, 0]
    ∧ win0_15.index (pt b 6) = ![b.val / 4, 0, b.val % 4] := by decide +kernel

/-- The normalised and modulated row of token `n`. -/
def hrow (X : FVec Ideal S8x2048x2048 .f32) (g : FVec Ideal S1x2048 .f32) (sh sc : FVec Ideal S8x1x2048 .f32) (n : Fin 16384) : Fin 2048 → EReal :=
  modulated (fun d => X (ix3 ⟨n.val / 2048, by omega⟩ ⟨n.val % 2048, by omega⟩ d)) (fun d => g (ix2 0 d)) (fun d => sh (ix3 ⟨n.val / 2048, by omega⟩ 0 d))
    (fun d => sc (ix3 ⟨n.val / 2048, by omega⟩ 0 d))

/-- The projected rows. -/
def zed (X : FVec Ideal S8x2048x2048 .f32) (g : FVec Ideal S1x2048 .f32) (sh sc : FVec Ideal S8x1x2048 .f32) (W : FVec Ideal S1x2048x6224 .f32) (n : Fin 16384) :
    Fin 6224 → EReal :=
  proj (hrow X g sh sc n) fun d f => W (ix3 0 d f)

/-- The same of the program's arguments. -/
abbrev hr (c : Dev nD) : Fin 16384 → Fin 2048 → EReal :=
  hrow (m ((c : Thread nD τ).loc main_arg0)) (m ((c : Thread nD τ).loc main_arg1)) (m ((c : Thread nD τ).loc main_arg2)) (m ((c : Thread nD τ).loc main_arg3))
abbrev zz (c : Dev nD) : Fin 16384 → Fin 6224 → EReal :=
  zed (m ((c : Thread nD τ).loc main_arg0)) (m ((c : Thread nD τ).loc main_arg1)) (m ((c : Thread nD τ).loc main_arg2)) (m ((c : Thread nD τ).loc main_arg3)) (m ((c : Thread nD τ).loc main_arg4))

theorem hS_at (c : Dev nD) (b : Fin 32) (r : Fin 512) (d : Fin 2048) (n : Fin 16384) (hn : n.val = b.val * 512 + r.val) :
    hS (F := Ideal) m c b (ix2 r d) = hr m c n d := by
  obtain ⟨i0, i1, i2, i3, -⟩ := idx_in b
  unfold hS
  rw [pay3_at]
  unfold hr hrow modulated
  pointwise [rms]
  blk_point [iblk, V, i0, i1, i2, i3]

theorem wS_at (c : Dev nD) (b : Fin 32) (s : Fin 6) (d : Fin 2048) (q : Fin 1024) (G : Fin 6224) (hG : G.val = if s.val < 3 then s.val * 1024 + q.val else s.val * 1024 + q.val + 80) :
    wS (F := Ideal) m c b (s.castLE (by decide)) (ix2 d q) = (m ((c : Thread nD τ).loc main_arg4) : FVec Ideal S1x2048x6224 .f32) (ix3 0 d G) := by
  have i4 := idx_w b s
  refine Eq.trans ?_ (wmain_at _ d ⟨s.val * 1024 + q.val, by omega⟩ G (by rw [hG]; split_ifs <;> dsimp only at * <;> omega))
  rw [← V_v9]
  unfold wS
  blk_point [iblk, i4]

/-- A block of tokens times a block of columns is a block of the projection. -/
theorem prod_at (c : Dev nD) (b : Fin 32) (s : Fin 6) (r : Fin 512) (q : Fin 1024) (n : Fin 16384) (hn : n.val = b.val * 512 + r.val) (G : Fin 6224)
    (hG : G.val = if s.val < 3 then s.val * 1024 + q.val else s.val * 1024 + q.val + 80) :
    prod (hS m c b) (wS m c b (s.castLE (by decide))) r q = zz m c n G := by
  unfold prod zz zed proj
  exact Finset.sum_congr rfl fun d _ => by rw [hS_at m c b r d n hn, wS_at m c b s d q G hG]

theorem w5_at (c : Dev nD) (b : Fin 32) (d : Fin 2048) (l : Fin 128) :
    (iblk m c 5 (pt b 6) : FVec Ideal S2048x128 .bf16) (ix2 d l) = if h : l.val < 80 then (m ((c : Thread nD τ).loc main_arg4) : FVec Ideal S1x2048x6224 .f32) (ix3 0 d ⟨3072 + l.val, by omega⟩) else (0 : EReal) := by
  obtain ⟨-, -, -, -, i5, -⟩ := idx_in b
  refine Eq.trans ?_ (wsmall_at _ d l)
  rw [← V_v14]
  blk_point [iblk, i5]

theorem w6_at (c : Dev nD) (b : Fin 32) (d : Fin 2048) (l : Fin 128) :
    (iblk m c 6 (pt b 6) : FVec Ideal S128x2048 .bf16) (ix2 l d) = if h : l.val < 80 then (m ((c : Thread nD τ).loc main_arg4) : FVec Ideal S1x2048x6224 .f32) (ix3 0 d ⟨3072 + l.val, by omega⟩) else (0 : EReal) := by
  obtain ⟨-, -, -, -, -, i6⟩ := idx_in b
  refine Eq.trans ?_ (wsmall_at _ d l)
  refine Eq.trans (b := (V m c main_v15 : FVec Ideal S128x2048 .bf16) (ix2 l d)) ?_ ?_
  · blk_point [iblk, i6]
  · rw [V_v15]; pointwise

theorem small_at (c : Dev nD) (b : Fin 32) (r : Fin 512) (l : Fin 128) (n : Fin 16384) (hn : n.val = b.val * 512 + r.val) :
    k0_pay1 (F := Ideal) (hS m c b) (iblk m c 5 (pt b 6)) (ix2 r l) = small (zz m c) n l := by
  rw [pay1_at]
  simp only [hS_at m c b r _ n hn, w5_at]
  unfold small zz zed proj
  by_cases h1 : l.val < 80
  · simp only [dif_pos h1, h1, and_true, if_true]
    rcases Nat.lt_or_ge l.val 64 with h2 | h2
    · rw [if_neg (by omega), if_pos h2]
      exact Finset.sum_congr rfl fun d _ => by rw [dif_pos trivial]
    · rw [if_pos h2, if_neg (by omega)]
      exact congrArg (· * wscale) (Finset.sum_congr rfl fun d _ => by rw [dif_pos trivial])
  · rw [if_neg (by omega), if_neg (by omega), if_neg h1]
    exact Finset.sum_eq_zero fun d _ => by rw [dif_neg h1, mul_zero]

theorem keyT_at (c : Dev nD) (b : Fin 32) (l : Fin 64) (r : Fin 512) (a : Fin 8) (ha : a.val = b.val / 4) (t : Fin 2048) (ht : t.val = b.val % 4 * 512 + r.val) :
    k0_pay2 (F := Ideal) (iblk m c 6 (pt b 6)) (hS m c b) (ix3 0 l r) = keyT (zz m c) a l t := by
  rw [pay2_at]
  unfold keyT zz zed proj
  refine Finset.sum_congr rfl fun d _ => ?_
  rw [w6_at, hS_at m c b r d ⟨a.val * 2048 + t.val, by omega⟩ (by dsimp only; omega), dif_pos (by dsimp only; omega)]
  exact mul_comm _ _

/-! ## The nine result arrays -/

variable {m} {c : Dev nD} {after : (w : Fin cfg0.W) → Fin cfg0.N → (cfg0.win w).block.Idx → Elt Ideal (cfg0.win w).elt}

/-- What the run leaves in a result window's block at the points that write it back. -/
def Ends (m : (ℓ : Loc nD τ sig) → Buf (Elt Ideal) ℓ) (c : Dev nD) (after : (w : Fin cfg0.W) → Fin cfg0.N → (cfg0.win w).block.Idx → Elt Ideal (cfg0.win w).elt) (w : Fin cfg0.W) : Prop :=
  ∀ u : Fin cfg0.N, (cfg0.win w).flush u = true → Left m c w u (after w u)

theorem final7 (h : Ends m c after 7) : ((rdat m c).withAfter after).arrAt 7 cfg0.N = (fun i => queryA (zz m c) (i 0) (i 1) : FVec Ideal S16384x1024 .bf16) := by
  refine ((rdat m c).withAfter after).arrAt_eq_of_covers 7 _ (by decide +kernel) fun t ht y => ?_
  have h6 : t.val % 7 = 6 := (flush0_7 t).1 ht
  have hp : pt (blockOf t) 6 = t := pt_block t 6 h6
  have io := (idx_out (blockOf t)).1
  rw [hp] at io
  have hl := h t ht
  blk_simp
  rw [Pipeline.RDat.withAfter_after]
  generalize after 7 t = A at hl ⊢
  replace hl : A = k0_pay4 (hS m c (blockOf t)) (wS m c (blockOf t) 0) := hl
  generalize blockOf t = b at *
  idx_vars y
  obtain ⟨n, hn⟩ : ∃ n : Fin 16384, n.val = b.val * 512 + y0.val := ⟨⟨b.val * 512 + y0.val, by omega⟩, rfl⟩
  have hemb : ((View.whole main_v17_0).slice (win0_7.rect t)).emb (ix2 y0 y1) = (ix2 n y1 : S16384x1024.Idx) := by
    blk_ext [io]
  rw [hemb, hl, pay4_at]
  exact prod_at m c b 0 y0 y1 n hn _ (by show y1.val = _; rw [if_pos (by decide)]; show _ = 0 * 1024 + y1.val; omega)

theorem final9 (h : Ends m c after 9) : ((rdat m c).withAfter after).arrAt 9 cfg0.N = (fun i => tokA (zz m c) (i 0) (i 1) : FVec Ideal S16384x1024 .bf16) := by
  refine ((rdat m c).withAfter after).arrAt_eq_of_covers 9 _ (by decide +kernel) fun t ht y => ?_
  have h6 : t.val % 7 = 6 := (flush0_9 t).1 ht
  have hp : pt (blockOf t) 6 = t := pt_block t 6 h6
  have io := (idx_out (blockOf t)).2.2.1
  rw [hp] at io
  have hl := h t ht
  blk_simp
  rw [Pipeline.RDat.withAfter_after]
  generalize after 9 t = A at hl ⊢
  replace hl : A = k0_pay14 (hS m c (blockOf t)) (wS m c (blockOf t) 1) := hl (by omega)
  generalize blockOf t = b at *
  idx_vars y
  obtain ⟨n, hn⟩ : ∃ n : Fin 16384, n.val = b.val * 512 + y0.val := ⟨⟨b.val * 512 + y0.val, by omega⟩, rfl⟩
  have hemb : ((View.whole main_v17_2).slice (win0_9.rect t)).emb (ix2 y0 y1) = (ix2 n y1 : S16384x1024.Idx) := by
    blk_ext [io]
  rw [hemb, hl, pay14_at]
  exact prod_at m c b 1 y0 y1 n hn _ (by show 1024 + y1.val = _; rw [if_pos (by decide)]; show _ = 1 * 1024 + y1.val; omega)

theorem final10 (h : Ends m c after 10) : ((rdat m c).withAfter after).arrAt 10 cfg0.N = (fun i => queryI (zz m c) (i 0) (i 1) : FVec Ideal S16384x1024 .bf16) := by
  refine ((rdat m c).withAfter after).arrAt_eq_of_covers 10 _ (by decide +kernel) fun t ht y => ?_
  have h6 : t.val % 7 = 6 := (flush0_10 t).1 ht
  have hp : pt (blockOf t) 6 = t := pt_block t 6 h6
  have io := (idx_out (blockOf t)).2.2.2.1
  rw [hp] at io
  have hl := h t ht
  blk_simp
  rw [Pipeline.RDat.withAfter_after]
  generalize after 10 t = A at hl ⊢
  replace hl : A = k0_pay15 (hS m c (blockOf t)) (wS m c (blockOf t) 2) := hl (by omega)
  generalize blockOf t = b at *
  idx_vars y
  obtain ⟨n, hn⟩ : ∃ n : Fin 16384, n.val = b.val * 512 + y0.val := ⟨⟨b.val * 512 + y0.val, by omega⟩, rfl⟩
  have hemb : ((View.whole main_v17_3).slice (win0_10.rect t)).emb (ix2 y0 y1) = (ix2 n y1 : S16384x1024.Idx) := by
    blk_ext [io]
  rw [hemb, hl, pay15_at]
  exact prod_at m c b 2 y0 y1 n hn _ (by show 2048 + y1.val = _; rw [if_pos (by decide)]; show _ = 2 * 1024 + y1.val; omega)

theorem final11 (h : Ends m c after 11) : ((rdat m c).withAfter after).arrAt 11 cfg0.N = (fun i => queryB (zz m c) (i 0) (i 1) : FVec Ideal S16384x1024 .bf16) := by
  refine ((rdat m c).withAfter after).arrAt_eq_of_covers 11 _ (by decide +kernel) fun t ht y => ?_
  have h6 : t.val % 7 = 6 := (flush0_11 t).1 ht
  have hp : pt (blockOf t) 6 = t := pt_block t 6 h6
  have io := (idx_out (blockOf t)).2.2.2.2.1
  rw [hp] at io
  have hl := h t ht
  blk_simp
  rw [Pipeline.RDat.withAfter_after]
  generalize after 11 t = A at hl ⊢
  replace hl : A = k0_pay16 (hS m c (blockOf t)) (wS m c (blockOf t) 3) := hl (by omega)
  generalize blockOf t = b at *
  idx_vars y
  obtain ⟨n, hn⟩ : ∃ n : Fin 16384, n.val = b.val * 512 + y0.val := ⟨⟨b.val * 512 + y0.val, by omega⟩, rfl⟩
  have hemb : ((View.whole main_v17_4).slice (win0_11.rect t)).emb (ix2 y0 y1) = (ix2 n y1 : S16384x1024.Idx) := by
    blk_ext [io]
  rw [hemb, hl, pay16_at]
  exact prod_at m c b 3 y0 y1 n hn _ (by show 3152 + y1.val = _; rw [if_neg (by decide)]; show _ = 3 * 1024 + y1.val + 80; omega)

theorem final14 (h : Ends m c after 14) : ((rdat m c).withAfter after).arrAt 14 cfg0.N = (fun i => small (zz m c) (i 0) (i 1) : FVec Ideal S16384x128 .f32) := by
  refine ((rdat m c).withAfter after).arrAt_eq_of_covers 14 _ (by decide +kernel) fun t ht y => ?_
  have h6 : t.val % 7 = 6 := (flush0_14 t).1 ht
  have hp : pt (blockOf t) 6 = t := pt_block t 6 h6
  have io := (idx_out (blockOf t)).2.2.2.2.2.2.2.2.1
  rw [hp] at io
  have hl := h t ht
  blk_simp
  rw [Pipeline.RDat.withAfter_after]
  generalize after 14 t = A at hl ⊢
  replace hl : A = k0_pay1 (hS m c (blockOf t)) (iblk m c 5 (pt (blockOf t) 6)) := by rw [hp]; exact hl (by omega)
  generalize blockOf t = b at *
  idx_vars y
  obtain ⟨n, hn⟩ : ∃ n : Fin 16384, n.val = b.val * 512 + y0.val := ⟨⟨b.val * 512 + y0.val, by omega⟩, rfl⟩
  have hemb : ((View.whole main_v17_7).slice (win0_14.rect t)).emb (ix2 y0 y1) = (ix2 n y1 : S16384x128.Idx) := by
    blk_ext [io]
  rw [hemb, hl]
  exact small_at m c b y0 y1 n hn

theorem final15 (h : Ends m c after 15) : ((rdat m c).withAfter after).arrAt 15 cfg0.N = (fun i => keyT (zz m c) (i 0) (i 1) (i 2) : FVec Ideal S8x64x2048 .f32) := by
  refine ((rdat m c).withAfter after).arrAt_eq_of_covers 15 _ (by decide +kernel) fun t ht y => ?_
  have h6 : t.val % 7 = 6 := (flush0_15 t).1 ht
  have hp : pt (blockOf t) 6 = t := pt_block t 6 h6
  have io := (idx_out (blockOf t)).2.2.2.2.2.2.2.2.2
  rw [hp] at io
  have hl := h t ht
  blk_simp
  rw [Pipeline.RDat.withAfter_after]
  generalize after 15 t = A at hl ⊢
  replace hl : A = k0_pay2 (iblk m c 6 (pt (blockOf t) 6)) (hS m c (blockOf t)) := by rw [hp]; exact hl (by omega)
  generalize blockOf t = b at *
  idx_vars y
  obtain ⟨a, ha⟩ : ∃ a : Fin 8, a.val = b.val / 4 := ⟨⟨b.val / 4, by omega⟩, rfl⟩
  obtain ⟨s, hs⟩ : ∃ s : Fin 2048, s.val = b.val % 4 * 512 + y2.val := ⟨⟨b.val % 4 * 512 + y2.val, by omega⟩, rfl⟩
  obtain rfl : y0 = 0 := Subsingleton.elim _ _
  have hemb : ((View.whole main_v17_8).slice (win0_15.rect t)).emb (ix3 0 y1 y2) = (ix3 a y1 s : S8x64x2048.Idx) := by
    blk_ext [io]
  rw [hemb, hl]
  exact keyT_at m c b y1 y2 a ha s hs

theorem final8 (h : Ends m c after 8) : ((rdat m c).withAfter after).arrAt 8 cfg0.N = (fun i => rowsA (zz m c) (i 0) (i 1) : FVec Ideal S131072x128 .f32) := by
  refine ((rdat m c).withAfter after).arrAt_eq_of_covers 8 _ (by decide +kernel) fun t ht y => ?_
  have h6 : t.val % 7 = 6 := (flush0_8 t).1 ht
  have hp : pt (blockOf t) 6 = t := pt_block t 6 h6
  have io := (idx_out (blockOf t)).2.1
  rw [hp] at io
  have hl := h t ht
  blk_simp
  rw [Pipeline.RDat.withAfter_after]
  generalize after 8 t = A at hl ⊢
  replace hl : RowsA m c (blockOf t) A := hl (by omega)
  generalize blockOf t = b at *
  idx_vars y
  obtain ⟨r, hr⟩ : ∃ r : Fin 512, r.val = y0.val / 8 := ⟨⟨y0.val / 8, by omega⟩, rfl⟩
  obtain ⟨j, hj⟩ : ∃ j : Fin 8, j.val = y0.val % 8 := ⟨⟨y0.val % 8, by omega⟩, rfl⟩
  obtain ⟨n, hn⟩ : ∃ n : Fin 131072, n.val = b.val * 4096 + y0.val := ⟨⟨b.val * 4096 + y0.val, by omega⟩, rfl⟩
  have hemb : ((View.whole main_v17_1).slice (win0_8.rect t)).emb (ix2 y0 y1) = (ix2 n y1 : S131072x128.Idx) := by
    blk_ext [io]
  obtain rfl : y0 = row8 r j := Fin.ext (by show y0.val = j.val + 8 * r.val; omega)
  rw [hemb, hl, headA_at]
  exact prod_at m c b 1 r ⟨j.val * 128 + y1.val, by omega⟩ ⟨n.val / 8, by omega⟩ (by show n.val / 8 = _; omega) ⟨1024 + n.val % 8 * 128 + y1.val, by omega⟩
    (by rw [if_pos (by decide)]; show 1024 + n.val % 8 * 128 + y1.val = 1 * 1024 + (j.val * 128 + y1.val); omega)

theorem final12 (h : Ends m c after 12) : ((rdat m c).withAfter after).arrAt 12 cfg0.N = (fun i => rowsB (zz m c) (i 0) (i 1) : FVec Ideal S262144x128 .f32) := by
  refine ((rdat m c).withAfter after).arrAt_eq_of_covers 12 _ (by decide +kernel) fun t ht y => ?_
  have h6 : t.val % 7 = 6 := (flush0_12 t).1 ht
  have hp : pt (blockOf t) 6 = t := pt_block t 6 h6
  have io := (idx_out (blockOf t)).2.2.2.2.2.1
  rw [hp] at io
  have hl := h t ht
  blk_simp
  rw [Pipeline.RDat.withAfter_after]
  generalize after 12 t = A at hl ⊢
  replace hl : RowsB m c (blockOf t) A ∧ RowsC m c (blockOf t) A := ⟨hl.1 (by omega), hl.2 (by omega)⟩
  generalize blockOf t = b at *
  idx_vars y
  obtain ⟨r, hr⟩ : ∃ r : Fin 512, r.val = y0.val / 16 := ⟨⟨y0.val / 16, by omega⟩, rfl⟩
  obtain ⟨n, hn⟩ : ∃ n : Fin 262144, n.val = b.val * 8192 + y0.val := ⟨⟨b.val * 8192 + y0.val, by omega⟩, rfl⟩
  have hemb : ((View.whole main_v17_5).slice (win0_12.rect t)).emb (ix2 y0 y1) = (ix2 n y1 : S262144x128.Idx) := by
    blk_ext [io]
  rw [hemb]
  rcases Nat.lt_or_ge (y0.val % 16) 8 with h8 | h8
  · obtain ⟨j, hj⟩ : ∃ j : Fin 8, j.val = y0.val % 16 := ⟨⟨y0.val % 16, h8⟩, rfl⟩
    obtain rfl : y0 = row16 r (j.castLE (by decide)) := Fin.ext (by show y0.val = j.val + 16 * r.val; omega)
    rw [hl.1, headB_at]
    exact prod_at m c b 4 r ⟨j.val * 128 + y1.val, by omega⟩ ⟨n.val / 16, by omega⟩ (by show n.val / 16 = _; omega) ⟨4176 + n.val % 16 * 128 + y1.val, by omega⟩
      (by rw [if_neg (by decide)]; show 4176 + n.val % 16 * 128 + y1.val = 4 * 1024 + (j.val * 128 + y1.val) + 80; omega)
  · obtain ⟨j, hj⟩ : ∃ j : Fin 8, j.val = y0.val % 16 - 8 := ⟨⟨y0.val % 16 - 8, by omega⟩, rfl⟩
    obtain rfl : y0 = row16 r (Fin.natAdd 8 j) := Fin.ext (by show y0.val = 8 + j.val + 16 * r.val; omega)
    rw [hl.2, headC_at]
    exact prod_at m c b 5 r ⟨j.val * 128 + y1.val, by omega⟩ ⟨n.val / 16, by omega⟩ (by show n.val / 16 = _; omega) ⟨4176 + n.val % 16 * 128 + y1.val, by omega⟩
      (by rw [if_neg (by decide)]; show 4176 + n.val % 16 * 128 + y1.val = 5 * 1024 + (j.val * 128 + y1.val) + 80; omega)

theorem final13 (h : Ends m c after 13) : ((rdat m c).withAfter after).arrAt 13 cfg0.N = (fun i => tokB (zz m c) (i 0) (i 1) : FVec Ideal S16384x2048 .bf16) := by
  refine ((rdat m c).withAfter after).arrAt_eq_of_covers 13 _ (by decide +kernel) fun t ht y => ?_
  have hl := h t ht
  have hf := flush13 t ht
  blk_simp
  rw [Pipeline.RDat.withAfter_after]
  generalize after 13 t = A at hl ⊢
  rcases hf with h6 | h6
  · have hp : pt (blockOf t) 4 = t := pt_block t 4 h6
    have io := (idx_out (blockOf t)).2.2.2.2.2.2.1
    rw [hp] at io
    replace hl : A = k0_pay26 (hS m c (blockOf t)) (wS m c (blockOf t) 4) := hl.1 h6
    generalize blockOf t = b at *
    idx_vars y
    obtain ⟨n, hn⟩ : ∃ n : Fin 16384, n.val = b.val * 512 + y0.val := ⟨⟨b.val * 512 + y0.val, by omega⟩, rfl⟩
    obtain ⟨e, he⟩ : ∃ e : Fin 2048, e.val = 0 * 1024 + y1.val := ⟨⟨0 * 1024 + y1.val, by omega⟩, rfl⟩
    have hemb : ((View.whole main_v17_6).slice (win0_13.rect t)).emb (ix2 y0 y1) = (ix2 n e : S16384x2048.Idx) := by
      blk_ext [io]
    rw [hemb, hl, pay26_at]
    exact prod_at m c b 4 y0 y1 n hn ⟨4176 + e.val, by omega⟩ (by rw [if_neg (by decide)]; show 4176 + e.val = 4 * 1024 + y1.val + 80; omega)
  · have hp : pt (blockOf t) 6 = t := pt_block t 6 h6
    have io := (idx_out (blockOf t)).2.2.2.2.2.2.2.1
    rw [hp] at io
    replace hl : A = k0_pay36 (hS m c (blockOf t)) (wS m c (blockOf t) 5) := hl.2 (by omega)
    generalize blockOf t = b at *
    idx_vars y
    obtain ⟨n, hn⟩ : ∃ n : Fin 16384, n.val = b.val * 512 + y0.val := ⟨⟨b.val * 512 + y0.val, by omega⟩, rfl⟩
    obtain ⟨e, he⟩ : ∃ e : Fin 2048, e.val = 1 * 1024 + y1.val := ⟨⟨1 * 1024 + y1.val, by omega⟩, rfl⟩
    have hemb : ((View.whole main_v17_6).slice (win0_13.rect t)).emb (ix2 y0 y1) = (ix2 n e : S16384x2048.Idx) := by
      blk_ext [io]
    rw [hemb, hl, pay36_at]
    exact prod_at m c b 5 y0 y1 n hn ⟨4176 + e.val, by omega⟩ (by rw [if_neg (by decide)]; show 4176 + e.val = 5 * 1024 + y1.val + 80; omega)

end Cert.ProjIdeal.Model

end
-- ==== Proof.ProjRef.lean ====
/-
The input projection as the layer's mathematics writes it, read entry by entry.
-/
module

public import proofs.«01_k».proof.Proof.ProjModel
public import proofs.«01_k».proof.Proof.Gen.ProjRefIdeal.Run
public import Idealize.ShloMosaic.Lib.Pipeline.ValueKit

@[expose] public section

set_option maxRecDepth 16384

noncomputable section

open Idealize.ShloMosaic Idealize.ShloMosaic.TcCoe Idealize.SL.Sem

namespace Cert.ProjRefIdeal.Model

open Cert.ProjRefIdeal Cert.ProjRefIdeal.Gen Cert.ProjRefIdeal.Value Cert.Model

/-- The normalised and modulated tokens, as the host operations write them. -/
def hostH (X : FVec Ideal S8x2048x2048 .f32) (G : FVec Ideal S1x2048 .f32) (SH SC : FVec Ideal S8x1x2048 .f32) : FVec Ideal S8x2048x2048 .f32 :=
  (addf (mulf (mulf (mulf X (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf X X) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ G shapeCasts_S1x2048_S2048)))) (broadcastInDim S8x2048x2048 ![0, 1, 2] bcast_S8x1x2048_S8x2048x2048_0_1_2 (addf (broadcastInDim S8x1x2048 ![] bcast_S_S8x1x2048 (constant S_ .f32 0x3F800000#32)) SC))) (broadcastInDim S8x2048x2048 ![0, 1, 2] bcast_S8x1x2048_S8x2048x2048_0_1_2 SH))

theorem hostH_at (X : FVec Ideal S8x2048x2048 .f32) (G : FVec Ideal S1x2048 .f32) (SH SC : FVec Ideal S8x1x2048 .f32) (b : Fin 8) (t d : Fin 2048) :
    hostH X G SH SC (ix3 b t d) = modulated (fun d => X (ix3 b t d)) (fun d => G (ix2 0 d)) (fun d => SH (ix3 b 0 d)) (fun d => SC (ix3 b 0 d)) d := by
  pointwise! [hostH, modulated, rms]

/-- The projection. -/
def hostZ (H : FVec Ideal S8x2048x2048 .f32) (W : FVec Ideal S1x2048x6224 .f32) : FVec Ideal S8x2048x6224 .f32 :=
  Host.dotGeneral (φ₁ := .f32) (φ₂ := .f32) dot_S8x2048x2048_S2048x6224_S8x2048x6224_2_0_01_1_n_n none H (shapeCast _ W shapeCasts_S1x2048x6224_S2048x6224)

theorem hostZ_at (H : FVec Ideal S8x2048x2048 .f32) (W : FVec Ideal S1x2048x6224 .f32) (b : Fin 8) (t : Fin 2048) (f : Fin 6224) :
    hostZ H W (ix3 b t f) = proj (fun d => H (ix3 b t d)) (fun d f => W (ix3 0 d f)) f := by
  pointwise! [hostZ, proj]

/-- The projection with its two axes of tokens run together. -/
def rows (Z : FVec Ideal S8x2048x6224 .f32) (n : Fin 16384) (f : Fin 6224) : EReal := Z (ix3 ⟨n.val / 2048, by omega⟩ ⟨n.val % 2048, by omega⟩ f)

variable (Z : FVec Ideal S8x2048x6224 .f32)

/-- Two entries of the projection are the same where their coordinates are. -/
theorem same {b b' : Fin 8} {t t' : Fin 2048} {f f' : Fin 6224} (hb : b.val = b'.val) (ht : t.val = t'.val) (hf : f.val = f'.val) :
    Z (ix3 b t f) = Z (ix3 b' t' f') := by
  rw [Fin.ext hb, Fin.ext ht, Fin.ext hf]

/-- Queries of the first attention, as the host operations cut them out of the projection, -/
def hostQueryA : FVec Ideal S16384x1024 .bf16 :=
  truncf .bf16 (shapeCast S16384x1024 (extractStridedSlice S8x2048x1024 ![0, 0, 0] Z slices_S8x2048x6224_S8x2048x1024_0_0_0) shapeCasts_S8x2048x1024_S16384x1024) bitsLt_bf16_f32

theorem hostQueryA_at (n : Fin 16384) (e : Fin 1024) : hostQueryA Z (ix2 n e) = queryA (rows Z) n e := by
  pointwise [hostQueryA]
  unfold queryA
  unfold rows
  rfl

theorem hostQueryA_eq : hostQueryA Z = fun i => queryA (rows Z) (i 0) (i 1) := by
  funext i
  obtain ⟨n, e, rfl⟩ : ∃ (n : Fin 16384) (e : Fin 1024), i = ix2 n e := ⟨i 0, i 1, eq_ix2 i⟩
  exact hostQueryA_at Z n e

/-- its keys and values head by head, -/
def hostRowsA : FVec Ideal S131072x128 .f32 :=
  shapeCast S131072x128 (concatenate S8x2048x2x4x128 2 [⟨S8x2048x1x4x128, (broadcastInDim S8x2048x1x4x128 ![0, 1, 3, 4] bcast_S8x2048x4x128_S8x2048x1x4x128_0_1_3_4 (shapeCast S8x2048x4x128 (extractStridedSlice S8x2048x512 ![0, 0, 1024] Z slices_S8x2048x6224_S8x2048x512_0_0_1024) shapeCasts_S8x2048x512_S8x2048x4x128))⟩, ⟨S8x2048x1x4x128, (broadcastInDim S8x2048x1x4x128 ![0, 1, 3, 4] bcast_S8x2048x4x128_S8x2048x1x4x128_0_1_3_4 (shapeCast S8x2048x4x128 (extractStridedSlice S8x2048x512 ![0, 0, 1536] Z slices_S8x2048x6224_S8x2048x512_0_0_1536) shapeCasts_S8x2048x512_S8x2048x4x128))⟩] concatenates_S8x2048x1x4x128_S8x2048x1x4x128_S8x2048x2x4x128_d2) shapeCasts_S8x2048x2x4x128_S131072x128

theorem hostRowsA_at (n : Fin 131072) (e : Fin 128) : hostRowsA Z (ix2 n e) = rowsA (rows Z) n e := by
  pointwise [hostRowsA]
  unfold rowsA
  unfold rows
  by_cases h : n.val / 4 % 2 < 1
  · rw [dif_pos h]
    exact same Z (by first | rfl | (dsimp only; omega)) (by first | rfl | (dsimp only; omega)) (by dsimp only; omega)
  · rw [dif_neg h]
    exact same Z (by first | rfl | (dsimp only; omega)) (by first | rfl | (dsimp only; omega)) (by dsimp only; omega)

theorem hostRowsA_eq : hostRowsA Z = fun i => rowsA (rows Z) (i 0) (i 1) := by
  funext i
  obtain ⟨n, e, rfl⟩ : ∃ (n : Fin 131072) (e : Fin 128), i = ix2 n e := ⟨i 0, i 1, eq_ix2 i⟩
  exact hostRowsA_at Z n e

/-- and token by token. -/
def hostTokA : FVec Ideal S16384x1024 .bf16 :=
  truncf .bf16 (shapeCast S16384x1024 (concatenate S8x2048x2x4x128 2 [⟨S8x2048x1x4x128, (broadcastInDim S8x2048x1x4x128 ![0, 1, 3, 4] bcast_S8x2048x4x128_S8x2048x1x4x128_0_1_3_4 (shapeCast S8x2048x4x128 (extractStridedSlice S8x2048x512 ![0, 0, 1024] Z slices_S8x2048x6224_S8x2048x512_0_0_1024) shapeCasts_S8x2048x512_S8x2048x4x128))⟩, ⟨S8x2048x1x4x128, (broadcastInDim S8x2048x1x4x128 ![0, 1, 3, 4] bcast_S8x2048x4x128_S8x2048x1x4x128_0_1_3_4 (shapeCast S8x2048x4x128 (extractStridedSlice S8x2048x512 ![0, 0, 1536] Z slices_S8x2048x6224_S8x2048x512_0_0_1536) shapeCasts_S8x2048x512_S8x2048x4x128))⟩] concatenates_S8x2048x1x4x128_S8x2048x1x4x128_S8x2048x2x4x128_d2) shapeCasts_S8x2048x2x4x128_S16384x1024) bitsLt_bf16_f32

theorem hostTokA_at (n : Fin 16384) (e : Fin 1024) : hostTokA Z (ix2 n e) = tokA (rows Z) n e := by
  pointwise [hostTokA]
  unfold tokA
  unfold rows
  by_cases h : e.val / 512 < 1
  · rw [dif_pos h]
    exact same Z (by first | rfl | (dsimp only; omega)) (by first | rfl | (dsimp only; omega)) (by dsimp only; omega)
  · rw [dif_neg h]
    exact same Z (by first | rfl | (dsimp only; omega)) (by first | rfl | (dsimp only; omega)) (by dsimp only; omega)

theorem hostTokA_eq : hostTokA Z = fun i => tokA (rows Z) (i 0) (i 1) := by
  funext i
  obtain ⟨n, e, rfl⟩ : ∃ (n : Fin 16384) (e : Fin 1024), i = ix2 n e := ⟨i 0, i 1, eq_ix2 i⟩
  exact hostTokA_at Z n e

/-- Queries of the indexer. -/
def hostQueryI : FVec Ideal S16384x1024 .bf16 :=
  truncf .bf16 (shapeCast S16384x1024 (extractStridedSlice S8x2048x1024 ![0, 0, 2048] Z slices_S8x2048x6224_S8x2048x1024_0_0_2048) shapeCasts_S8x2048x1024_S16384x1024) bitsLt_bf16_f32

theorem hostQueryI_at (n : Fin 16384) (e : Fin 1024) : hostQueryI Z (ix2 n e) = queryI (rows Z) n e := by
  pointwise [hostQueryI]
  unfold queryI
  unfold rows
  rfl

theorem hostQueryI_eq : hostQueryI Z = fun i => queryI (rows Z) (i 0) (i 1) := by
  funext i
  obtain ⟨n, e, rfl⟩ : ∃ (n : Fin 16384) (e : Fin 1024), i = ix2 n e := ⟨i 0, i 1, eq_ix2 i⟩
  exact hostQueryI_at Z n e

/-- Queries of the second attention, -/
def hostQueryB : FVec Ideal S16384x1024 .bf16 :=
  truncf .bf16 (shapeCast S16384x1024 (extractStridedSlice S8x2048x1024 ![0, 0, 3152] Z slices_S8x2048x6224_S8x2048x1024_0_0_3152) shapeCasts_S8x2048x1024_S16384x1024) bitsLt_bf16_f32

theorem hostQueryB_at (n : Fin 16384) (e : Fin 1024) : hostQueryB Z (ix2 n e) = queryB (rows Z) n e := by
  pointwise [hostQueryB]
  unfold queryB
  unfold rows
  rfl

theorem hostQueryB_eq : hostQueryB Z = fun i => queryB (rows Z) (i 0) (i 1) := by
  funext i
  obtain ⟨n, e, rfl⟩ : ∃ (n : Fin 16384) (e : Fin 1024), i = ix2 n e := ⟨i 0, i 1, eq_ix2 i⟩
  exact hostQueryB_at Z n e

/-- its keys and values head by head, -/
def hostRowsB : FVec Ideal S262144x128 .f32 :=
  shapeCast S262144x128 (concatenate S8x2048x2x8x128 2 [⟨S8x2048x1x8x128, (broadcastInDim S8x2048x1x8x128 ![0, 1, 3, 4] bcast_S8x2048x8x128_S8x2048x1x8x128_0_1_3_4 (shapeCast S8x2048x8x128 (extractStridedSlice S8x2048x1024 ![0, 0, 4176] Z slices_S8x2048x6224_S8x2048x1024_0_0_4176) shapeCasts_S8x2048x1024_S8x2048x8x128))⟩, ⟨S8x2048x1x8x128, (broadcastInDim S8x2048x1x8x128 ![0, 1, 3, 4] bcast_S8x2048x8x128_S8x2048x1x8x128_0_1_3_4 (shapeCast S8x2048x8x128 (extractStridedSlice S8x2048x1024 ![0, 0, 5200] Z slices_S8x2048x6224_S8x2048x1024_0_0_5200) shapeCasts_S8x2048x1024_S8x2048x8x128))⟩] concatenates_S8x2048x1x8x128_S8x2048x1x8x128_S8x2048x2x8x128_d2) shapeCasts_S8x2048x2x8x128_S262144x128

theorem hostRowsB_at (n : Fin 262144) (e : Fin 128) : hostRowsB Z (ix2 n e) = rowsB (rows Z) n e := by
  pointwise [hostRowsB]
  unfold rowsB
  unfold rows
  by_cases h : n.val / 8 % 2 < 1
  · rw [dif_pos h]
    exact same Z (by first | rfl | (dsimp only; omega)) (by first | rfl | (dsimp only; omega)) (by dsimp only; omega)
  · rw [dif_neg h]
    exact same Z (by first | rfl | (dsimp only; omega)) (by first | rfl | (dsimp only; omega)) (by dsimp only; omega)

theorem hostRowsB_eq : hostRowsB Z = fun i => rowsB (rows Z) (i 0) (i 1) := by
  funext i
  obtain ⟨n, e, rfl⟩ : ∃ (n : Fin 262144) (e : Fin 128), i = ix2 n e := ⟨i 0, i 1, eq_ix2 i⟩
  exact hostRowsB_at Z n e

/-- and token by token. -/
def hostTokB : FVec Ideal S16384x2048 .bf16 :=
  truncf .bf16 (shapeCast S16384x2048 (concatenate S8x2048x2x8x128 2 [⟨S8x2048x1x8x128, (broadcastInDim S8x2048x1x8x128 ![0, 1, 3, 4] bcast_S8x2048x8x128_S8x2048x1x8x128_0_1_3_4 (shapeCast S8x2048x8x128 (extractStridedSlice S8x2048x1024 ![0, 0, 4176] Z slices_S8x2048x6224_S8x2048x1024_0_0_4176) shapeCasts_S8x2048x1024_S8x2048x8x128))⟩, ⟨S8x2048x1x8x128, (broadcastInDim S8x2048x1x8x128 ![0, 1, 3, 4] bcast_S8x2048x8x128_S8x2048x1x8x128_0_1_3_4 (shapeCast S8x2048x8x128 (extractStridedSlice S8x2048x1024 ![0, 0, 5200] Z slices_S8x2048x6224_S8x2048x1024_0_0_5200) shapeCasts_S8x2048x1024_S8x2048x8x128))⟩] concatenates_S8x2048x1x8x128_S8x2048x1x8x128_S8x2048x2x8x128_d2) shapeCasts_S8x2048x2x8x128_S16384x2048) bitsLt_bf16_f32

theorem hostTokB_at (n : Fin 16384) (e : Fin 2048) : hostTokB Z (ix2 n e) = tokB (rows Z) n e := by
  pointwise [hostTokB]
  unfold tokB
  unfold rows
  by_cases h : e.val / 1024 < 1
  · rw [dif_pos h]
    exact same Z (by first | rfl | (dsimp only; omega)) (by first | rfl | (dsimp only; omega)) (by dsimp only; omega)
  · rw [dif_neg h]
    exact same Z (by first | rfl | (dsimp only; omega)) (by first | rfl | (dsimp only; omega)) (by dsimp only; omega)

theorem hostTokB_eq : hostTokB Z = fun i => tokB (rows Z) (i 0) (i 1) := by
  funext i
  obtain ⟨n, e, rfl⟩ : ∃ (n : Fin 16384) (e : Fin 2048), i = ix2 n e := ⟨i 0, i 1, eq_ix2 i⟩
  exact hostTokB_at Z n e

/-- The indexer's key and weights beside zeros. -/
def hostSmall : FVec Ideal S16384x128 .f32 :=
  shapeCast S16384x128 ((concatenate S8x2048x128 2 [⟨S8x2048x64, ((extractStridedSlice S8x2048x64 ![0, 0, 3072] Z slices_S8x2048x6224_S8x2048x64_0_0_3072))⟩, ⟨S8x2048x16, ((mulf (extractStridedSlice S8x2048x16 ![0, 0, 3136] Z slices_S8x2048x6224_S8x2048x16_0_0_3136) (broadcastInDim S8x2048x16 ![] bcast_S_S8x2048x16 (constant (F := Ideal) S_ .f32 0x3D000000#32))))⟩, ⟨S8x2048x48, ((broadcastInDim S8x2048x48 ![] bcast_S_S8x2048x48 (constant (F := Ideal) S_ .f32 0x00000000#32)))⟩] concatenates_S8x2048x64_S8x2048x16_S8x2048x48_S8x2048x128_d2)) shapeCasts_S8x2048x128_S16384x128

theorem hostSmall_at (n : Fin 16384) (e : Fin 128) : hostSmall Z (ix2 n e) = small (rows Z) n e := by
  pointwise [hostSmall]
  unfold small
  unfold rows
  rcases Nat.lt_or_ge e.val 64 with h1 | h1
  · rw [dif_pos h1, if_pos h1]
  · rw [dif_neg (show ¬ e.val < 64 by omega), if_neg (show ¬ e.val < 64 by omega)]
    rcases Nat.lt_or_ge e.val 80 with h2 | h2
    · rw [dif_pos (show e.val - 64 < 16 by omega), if_pos h2]
      exact congrArg (· * wscale) (same Z rfl rfl (by dsimp only; omega))
    · rw [dif_neg (show ¬ e.val - 64 < 16 by omega), if_neg (show ¬ e.val < 80 by omega)]

theorem hostSmall_eq : hostSmall Z = fun i => small (rows Z) (i 0) (i 1) := by
  funext i
  obtain ⟨n, e, rfl⟩ : ∃ (n : Fin 16384) (e : Fin 128), i = ix2 n e := ⟨i 0, i 1, eq_ix2 i⟩
  exact hostSmall_at Z n e

/-- The indexer's keys as columns. -/
def hostKeyT : FVec Ideal S8x64x2048 .f32 :=
  transpose S8x64x2048 [0, 2, 1] (extractStridedSlice S8x2048x64 ![0, 0, 3072] Z slices_S8x2048x6224_S8x2048x64_0_0_3072) transposes_S8x2048x64_S8x64x2048_0_2_1

theorem hostKeyT_at (b : Fin 8) (l : Fin 64) (t : Fin 2048) : hostKeyT Z (ix3 b l t) = keyT (rows Z) b l t := by
  pointwise [hostKeyT]
  unfold keyT
  unfold rows
  exact same Z (by dsimp only; omega) (by dsimp only; omega) rfl

theorem hostKeyT_eq : hostKeyT Z = fun i => keyT (rows Z) (i 0) (i 1) (i 2) := by
  funext i
  obtain ⟨b, l, t, rfl⟩ : ∃ (b : Fin 8) (l : Fin 64) (t : Fin 2048), i = ix3 b l t := ⟨i 0, i 1, i 2, eq_ix3 i⟩
  exact hostKeyT_at Z b l t

/-- The projected rows of the reference's arguments. -/
theorem rows_at (X : FVec Ideal S8x2048x2048 .f32) (G : FVec Ideal S1x2048 .f32) (SH SC : FVec Ideal S8x1x2048 .f32) (W : FVec Ideal S1x2048x6224 .f32) :
    rows (hostZ (hostH X G SH SC) W) = fun n f =>
      proj (modulated (fun d => X (ix3 ⟨n.val / 2048, by omega⟩ ⟨n.val % 2048, by omega⟩ d)) (fun d => G (ix2 0 d)) (fun d => SH (ix3 ⟨n.val / 2048, by omega⟩ 0 d))
        (fun d => SC (ix3 ⟨n.val / 2048, by omega⟩ 0 d))) (fun d f => W (ix3 0 d f)) f := by
  funext n f
  unfold rows
  rw [hostZ_at]
  exact congrArg (fun H => proj H _ f) (funext fun d => hostH_at X G SH SC _ _ d)

variable (m : (ℓ : Loc nD τ sig) → Buf (Elt Ideal) ℓ)

/-- The projection of the reference's arguments. -/
def Zm (c : Dev nD) : FVec Ideal S8x2048x6224 .f32 :=
  hostZ (hostH (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- The reference's run, its results by name. -/
theorem run_named (ρ : Dev nD → PrngReg) : θ_run defs (onTc (τ := τ) (main (F := Ideal))) ⟨m, fun _ => 0, ρ⟩ fun r => ∀ c : Dev nD,
      r.2.mem ((c.tc : Thread nD τ).loc main_v44) = hostQueryA (Zm m c)
      ∧ r.2.mem ((c.tc : Thread nD τ).loc main_v45) = hostRowsA (Zm m c)
      ∧ r.2.mem ((c.tc : Thread nD τ).loc main_v47) = hostTokA (Zm m c)
      ∧ r.2.mem ((c.tc : Thread nD τ).loc main_v49) = hostQueryI (Zm m c)
      ∧ r.2.mem ((c.tc : Thread nD τ).loc main_v51) = hostQueryB (Zm m c)
      ∧ r.2.mem ((c.tc : Thread nD τ).loc main_v52) = hostRowsB (Zm m c)
      ∧ r.2.mem ((c.tc : Thread nD τ).loc main_v54) = hostTokB (Zm m c)
      ∧ r.2.mem ((c.tc : Thread nD τ).loc main_v57) = hostSmall (Zm m c)
      ∧ r.2.mem ((c.tc : Thread nD τ).loc main_v58) = hostKeyT (Zm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => h c) (Cert.ProjRefIdeal.Value.run (F := Ideal) m ρ)

end Cert.ProjRefIdeal.Model

end
-- ==== Proof.ProjClaims.lean ====
/-
The claims about the input projection.
-/
module

public import proofs.«01_k».proof.Defs
public import proofs.«01_k».proof.Proof.ProjFrame
public import proofs.«01_k».proof.Proof.Gen.Proj
public import proofs.«01_k».proof.Proof.ProjValue
public import proofs.«01_k».proof.Proof.ProjRef

@[expose] public section

set_option maxRecDepth 16384

noncomputable section

open Idealize.ShloMosaic Idealize.ShloMosaic.TcCoe Idealize.SL.Sem

namespace Cert.Proof.ProjClaims

set_option maxHeartbeats 4000000 in
/-- The program read over bits runs the same body as the one read over the extended reals: the two are printed line for line alike. -/
theorem bodies_same : Cert.Proj.defs₀ (F := Bits) = Cert.ProjIdeal.defs₀ := by
  unfold Cert.Proj.defs₀ Cert.ProjIdeal.defs₀
  refine congrArg Defs.onTc (funext fun l => funext fun p => ?_)
  rcases l with ⟨_ | n, h⟩
  · rcases p with ⟨t, s⟩
    show Cert.Proj.cc0_prenorm_proj .. = Cert.ProjIdeal.cc0_prenorm_proj ..
    unfold Cert.Proj.cc0_prenorm_proj Cert.ProjIdeal.cc0_prenorm_proj
    rfl
  · exact absurd h (Nat.not_lt.2 (Nat.le_add_left _ _))

theorem defs_same : Cert.Proj.defs (F := Bits) = Cert.ProjIdeal.defs := congrArg (Idealize.ShloMosaic.Pipeline.defs (Cert.Proj.pcfgs (F := Bits))) bodies_same

/-- So its frame is the frame proved for any float values, taken at bits. -/
theorem frame_bits : Cert.quiescent_Proj := fun m ρ _ => by
  rw [defs_same]
  exact Cert.ProjIdeal.Body.frame (F := Bits) m ρ

theorem frame_ideal : Cert.quiescent_ProjIdeal := fun m ρ _ => Cert.ProjIdeal.Body.frame m ρ
theorem frame_ref : Cert.quiescent_ProjRefIdeal := fun m ρ _ =>
  (θ_run Cert.ProjRefIdeal.defs _ _).mono (fun r h => ⟨fun c => (h c).2.2.2.2.2.2.2.2.2, Idealize.ShloMosaic.sem_eq_zero_of_no_sems (by decide) r.2⟩)
    (Cert.ProjRefIdeal.Value.run (F := Ideal) m ρ)
theorem preserves : Cert.preserves_Proj_ProjIdeal := trivial

set_option maxHeartbeats 1000000 in
open Cert.ProjIdeal.Model Cert.Model in
theorem algebraic : Cert.algebraic_ProjIdeal_ProjRefIdeal := by
  intro m ρ m' ρ' _ hagree
  refine ⟨fun c i => queryA (zz m c) (i 0) (i 1), fun c i => rowsA (zz m c) (i 0) (i 1), fun c i => tokA (zz m c) (i 0) (i 1), fun c i => queryI (zz m c) (i 0) (i 1),
    fun c i => queryB (zz m c) (i 0) (i 1), fun c i => rowsB (zz m c) (i 0) (i 1), fun c i => tokB (zz m c) (i 0) (i 1), fun c i => small (zz m c) (i 0) (i 1),
    fun c i => keyT (zz m c) (i 0) (i 1) (i 2), ?_, ?_⟩
  · refine (θ_run Cert.ProjIdeal.defs _ _).mono (fun r h c => ?_)
      (θ_run_and (Cert.ProjIdeal.Body.frame m ρ) (Cert.ProjIdeal.Body.run_main_quiescent m ρ))
    obtain ⟨after, hL, hA⟩ := Idealize.ShloMosaic.Pipeline.RDat.FramePost.exists_exact h.2.1 c
    have E : ∀ w, Cert.ProjIdeal.Body.isRes w = true → Ends m c after w := fun w hw u hf => (Cert.ProjIdeal.Body.dats m 0 c).toRRel_leaves hw (hL w u hf)
    exact ⟨(hA 7).trans (final7 (E 7 rfl)), (hA 8).trans (final8 (E 8 rfl)), (hA 9).trans (final9 (E 9 rfl)), (hA 10).trans (final10 (E 10 rfl)),
      (hA 11).trans (final11 (E 11 rfl)), (hA 12).trans (final12 (E 12 rfl)), (hA 13).trans (final13 (E 13 rfl)), (hA 14).trans (final14 (E 14 rfl)),
      (hA 15).trans (final15 (E 15 rfl)), h.1.1 c⟩
  · refine (θ_run Cert.ProjRefIdeal.defs _ _).mono (fun r h c => ?_) (Cert.ProjRefIdeal.Model.run_named m' ρ')
    obtain ⟨h0, h1, h2, h3, h4⟩ := hagree c
    have hz : Cert.ProjRefIdeal.Model.rows (Cert.ProjRefIdeal.Model.Zm m' c) = zz m c := by
      unfold Cert.ProjRefIdeal.Model.Zm
      rw [Cert.ProjRefIdeal.Model.rows_at, h0, h1, h2, h3, h4]
      rfl
    obtain ⟨r0, r1, r2, r3, r4, r5, r6, r7, r8, rest⟩ := h c
    generalize Cert.ProjRefIdeal.Model.Zm m' c = Z at *
    have e0 : Cert.ProjRefIdeal.Model.hostQueryA Z = fun i : Cert.ProjRefIdeal.S16384x1024.Idx => queryA (zz m c) (i 0) (i 1) := by
      rw [Cert.ProjRefIdeal.Model.hostQueryA_eq, hz]
    have e1 : Cert.ProjRefIdeal.Model.hostRowsA Z = fun i : Cert.ProjRefIdeal.S131072x128.Idx => rowsA (zz m c) (i 0) (i 1) := by
      rw [Cert.ProjRefIdeal.Model.hostRowsA_eq, hz]
    have e2 : Cert.ProjRefIdeal.Model.hostTokA Z = fun i : Cert.ProjRefIdeal.S16384x1024.Idx => tokA (zz m c) (i 0) (i 1) := by
      rw [Cert.ProjRefIdeal.Model.hostTokA_eq, hz]
    have e3 : Cert.ProjRefIdeal.Model.hostQueryI Z = fun i : Cert.ProjRefIdeal.S16384x1024.Idx => queryI (zz m c) (i 0) (i 1) := by
      rw [Cert.ProjRefIdeal.Model.hostQueryI_eq, hz]
    have e4 : Cert.ProjRefIdeal.Model.hostQueryB Z = fun i : Cert.ProjRefIdeal.S16384x1024.Idx => queryB (zz m c) (i 0) (i 1) := by
      rw [Cert.ProjRefIdeal.Model.hostQueryB_eq, hz]
    have e5 : Cert.ProjRefIdeal.Model.hostRowsB Z = fun i : Cert.ProjRefIdeal.S262144x128.Idx => rowsB (zz m c) (i 0) (i 1) := by
      rw [Cert.ProjRefIdeal.Model.hostRowsB_eq, hz]
    have e6 : Cert.ProjRefIdeal.Model.hostTokB Z = fun i : Cert.ProjRefIdeal.S16384x2048.Idx => tokB (zz m c) (i 0) (i 1) := by
      rw [Cert.ProjRefIdeal.Model.hostTokB_eq, hz]
    have e7 : Cert.ProjRefIdeal.Model.hostSmall Z = fun i : Cert.ProjRefIdeal.S16384x128.Idx => small (zz m c) (i 0) (i 1) := by
      rw [Cert.ProjRefIdeal.Model.hostSmall_eq, hz]
    have e8 : Cert.ProjRefIdeal.Model.hostKeyT Z = fun i : Cert.ProjRefIdeal.S8x64x2048.Idx => keyT (zz m c) (i 0) (i 1) (i 2) := by
      rw [Cert.ProjRefIdeal.Model.hostKeyT_eq, hz]
    exact ⟨r0.trans e0, r1.trans e1, r2.trans e2, r3.trans e3, r4.trans e4, r5.trans e5, r6.trans e6, r7.trans e7, r8.trans e8, rest⟩

end Cert.Proof.ProjClaims

end
-- ==== Proof.SFfnBody.lean ====
/-
  The body of the feed-forward call at one grid point, in its three phases.

  A block of 512 tokens takes fifteen points.  At the first eleven the body computes one slab of the
  gated activation and keeps it in the first scratch buffer; at the last four it contracts all eleven
  slabs with one column block of the down projection and keeps the product in the second scratch buffer;
  at the very last it also normalises the four products and adds the gated result to the residual.
-/
module

public import proofs.«01_k».proof.Proof.Gen.SFfnIdeal.Frame
public import proofs.«01_k».proof.Proof.Gen.SFfnIdeal.Launch
public import proofs.«01_k».proof.Proof.Gen.SFfnIdeal.Skeleton
public import proofs.«01_k».proof.Proof.Gen.SFfnIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WritesUnit
public import Idealize.ShloMosaic.Lib.Pointwise
public import Idealize.ShloMosaic.Lib.UnfoldOut
public import Idealize.ShloMosaic.Lib.WordCmp

@[expose] public section

set_option maxRecDepth 16384

noncomputable section

namespace Cert.SFfnIdeal.Body

open Cert.SFfnIdeal Cert.SFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Slabs of the two scratch buffers -/

/-- Slab `j` of the buffer of activations. -/
def slabA (x : Vec F S11x128x512 .bf16) (j : Fin 11) : Vec F S1x128x512 .bf16 := fun z => x (ix3 j (z 1) (z 2))

/-- Slab `j` of the buffer of products. -/
def slabB (x : Vec F S4x128x512 .f32) (j : Fin 4) : Vec F S1x128x512 .f32 := fun z => x (ix3 j (z 1) (z 2))

/-- All eleven slabs of activations against one column block of the down projection. -/
def down (a : Fin 11 → Vec F S1x128x512 .bf16) (w : Vec F S5632x512 .bf16) : Vec F S1x128x512 .f32 :=
  k0_pay2 (k0_pay4 (a 0) (a 1) (a 2) (a 3) (a 4) (a 5) (a 6) (a 7) (a 8) (a 9) (a 10)) (k0_pay5 w)

/-- A load of a whole view reads its contents. -/
theorem readAt_whole2 {e : EltTy} {a b : ℕ} (v : View sig .tc .vmem ⟨2, ![a, b]⟩ e) (f : v.ty.Contents (Elt F)) (inb) :
    v.readAt (Elt F) (Rect.unit (s := ⟨2, ![a, b]⟩) ![0, 0] ![a, b] inb).toLoadRect f = v.read (Elt F) f := by
  funext y
  rw [View.readAt_apply]
  refine congrArg _ (funext fun d => Fin.ext ?_)
  fin_cases d <;> simp [LoadRect.idx, Rect.toLoadRect, Rect.unit]

theorem read_writes_whole2 {e : EltTy} {a b : ℕ} (v : View sig .tc .vmem ⟨2, ![a, b]⟩ e) (f : v.ty.Contents (Elt F)) (inb)
    (w : (⟨2, ![a, b]⟩ : Shape).Idx → Elt F e) :
    v.read (Elt F) (v.writes (Elt F) f [⟨Rect.unit (s := ⟨2, ![a, b]⟩) ![0, 0] ![a, b] inb, w⟩]) = w := by
  funext y
  refine View.read_writes_cons_unit_of_mem v f inb w [] y y rfl fun d => ?_
  fin_cases d <;> simp

theorem readAt_whole3 {e : EltTy} {a b d : ℕ} (v : View sig .tc .vmem ⟨3, ![a, b, d]⟩ e) (f : v.ty.Contents (Elt F)) (inb) :
    v.readAt (Elt F) (Rect.unit (s := ⟨3, ![a, b, d]⟩) ![0, 0, 0] ![a, b, d] inb).toLoadRect f = v.read (Elt F) f := by
  funext y
  rw [View.readAt_apply]
  refine congrArg _ (funext fun d => Fin.ext ?_)
  fin_cases d <;> simp [LoadRect.idx, Rect.toLoadRect, Rect.unit]

/-- A load of one slab reads that slab. -/
theorem readAt_slabA (v : View sig .tc .vmem S11x128x512 .bf16) (f : v.ty.Contents (Elt F)) (k : ℕ) (hk : k < 11) (inb) :
    v.readAt (Elt F) (Rect.unit (s := S11x128x512) ![k, 0, 0] ![1, 128, 512] inb).toLoadRect f
      = slabA (v.read (Elt F) f) ⟨k, hk⟩ := by
  funext y
  rw [View.readAt_apply]
  refine congrArg _ (funext fun d => Fin.ext ?_)
  have h0 : (y 0).val = 0 := by have := (y 0).isLt; simpa [S1x128x512] using this
  fin_cases d <;> simp [LoadRect.idx, Rect.toLoadRect, Rect.unit, ix3, h0]

theorem readAt_slabB (v : View sig .tc .vmem S4x128x512 .f32) (f : v.ty.Contents (Elt F)) (k : ℕ) (hk : k < 4) (inb) :
    v.readAt (Elt F) (Rect.unit (s := S4x128x512) ![k, 0, 0] ![1, 128, 512] inb).toLoadRect f
      = slabB (v.read (Elt F) f) ⟨k, hk⟩ := by
  funext y
  rw [View.readAt_apply]
  refine congrArg _ (funext fun d => Fin.ext ?_)
  have h0 : (y 0).val = 0 := by have := (y 0).isLt; simpa [S1x128x512] using this
  fin_cases d <;> simp [LoadRect.idx, Rect.toLoadRect, Rect.unit, ix3, h0]

/-- A store of slab `k` leaves that slab at the stored payload and every other slab as it was. -/
theorem slabA_store (v : View sig .tc .vmem S11x128x512 .bf16) (f : v.ty.Contents (Elt F)) (off : Fin 3 → ℕ) (k : Fin 11)
    (hoff : off = ![k.val, 0, 0]) (inb) (w : Vec F S1x128x512 .bf16) (j : Fin 11) :
    slabA (v.read (Elt F) (v.writes (Elt F) f [⟨Rect.unit (s := S11x128x512) off ![1, 128, 512] inb, w⟩])) j
      = if j = k then w else slabA (v.read (Elt F) f) j := by
  funext z
  have h0 : (z 0).val = 0 := by have := (z 0).isLt; simpa [S1x128x512] using this
  by_cases h : j = k
  · rw [if_pos h, slabA]
    refine View.read_writes_cons_unit_of_mem v f inb w [] _ z hoff fun a => ?_
    subst h
    fin_cases a <;> simp [ix3, h0]
  · rw [if_neg h, slabA]
    refine (View.read_writes_cons_unit_of_not_mem v f inb w [] _ hoff 0 ?_).trans rfl
    have : j.val ≠ k.val := fun e => h (Fin.ext e)
    simp [ix3]; omega

theorem slabB_store (v : View sig .tc .vmem S4x128x512 .f32) (f : v.ty.Contents (Elt F)) (off : Fin 3 → ℕ) (k : Fin 4)
    (hoff : off = ![k.val, 0, 0]) (inb) (w : Vec F S1x128x512 .f32) (j : Fin 4) :
    slabB (v.read (Elt F) (v.writes (Elt F) f [⟨Rect.unit (s := S4x128x512) off ![1, 128, 512] inb, w⟩])) j
      = if j = k then w else slabB (v.read (Elt F) f) j := by
  funext z
  have h0 : (z 0).val = 0 := by have := (z 0).isLt; simpa [S1x128x512] using this
  by_cases h : j = k
  · rw [if_pos h, slabB]
    refine View.read_writes_cons_unit_of_mem v f inb w [] _ z hoff fun a => ?_
    subst h
    fin_cases a <;> simp [ix3, h0]
  · rw [if_neg h, slabB]
    refine (View.read_writes_cons_unit_of_not_mem v f inb w [] _ hoff 0 ?_).trans rfl
    have : j.val ≠ k.val := fun e => h (Fin.ext e)
    simp [ix3]; omega

/-! ## The three phases -/

/-- Where the second phase stores, in closed form: slab `(i 1) - 11`, written as the word arithmetic has it. -/
theorem off2_eq : ∀ i : grid0.Coords, k0_off2 i = ![((i 1).val + 4294967285) % 4294967296, 0, 0] := by
  decide +kernel
instance closedOff2 (i : grid0.Coords) : ClosedOff (k0_off2 i) := ⟨![((i 1).val + 4294967285) % 4294967296, 0, 0], off2_eq i⟩

set_option maxHeartbeats 1000000 in
/-- A point of the first phase stores one slab of activations. -/
theorem kernel_gate (c : Dev nD) (E : Set ℕ) (i : grid0.Coords) (k : Fin 11) (hoff : k0_off1 i = ![k.val, 0, 0]) (h1 : k0_cond1 i = 1#1) (h2 : ¬ k0_cond2 i = 1#1) (h3 : ¬ k0_cond3 i = 1#1)
    (arg2 : Memref sig .tc .vmem S128x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S5632x512 .bf16) (harg5 : arg5.IsWhole) (arg6 : Memref sig .tc .vmem S128x2048 .f32) (harg6 : arg6.IsWhole) (arg7 : Memref sig .tc .vmem S1x2048 .f32) (harg7 : arg7.IsWhole) (arg8 : Memref sig .tc .vmem S1x128x2048 .f32) (harg8 : arg8.IsWhole) (arg9 : Memref sig .tc .vmem S128x2048 .f32) (harg9 : arg9.IsWhole) (arg10 : Memref sig .tc .vmem S11x128x512 .bf16) (harg10 : arg10.IsWhole) (arg11 : Memref sig .tc .vmem S4x128x512 .f32) (harg11 : arg11.IsWhole)
    (x2 : Vec F S128x2048 .bf16) (x3 x4 : Vec F S2048x512 .bf16) (x10 : Vec F S11x128x512 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg10 fullShare x10
        ∗ (iprop(owns (c : Thread nD τ) arg2 fullShare x2 ∗ owns (c : Thread nD τ) arg3 fullShare x3 ∗ owns (c : Thread nD τ) arg4 fullShare x4
           ∗ ∃ y10 : Vec F S11x128x512 .bf16, ⌜∀ j, slabA y10 j = if j = k then k0_pay1 x2 x3 x4 else slabA x10 j⌝ ∗ owns (c : Thread nD τ) arg10 fullShare y10) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11) K := by
  simp only [cc0_swiglu_ffn_eq_skeleton]; unfold cc0_swiglu_ffn_skel
  simp only [dif_pos h1, dif_neg h2, dif_neg h3]

  unfold owns
  iintro ⟨⟨%f2, %hf2, H2⟩, ⟨%f3, %hf3, H3⟩, ⟨%f4, %hf4, H4⟩, ⟨%f10, %hf10, H10⟩, Hk⟩
  subst hf2 hf3 hf4 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _
  isplitr
  swap
  · iexists _; isplitr
    swap; · iexact H10
    ipureintro; rfl
  ipureintro
  intro j
  refine (slabA_store _ _ _ k hoff _ _ j).trans ?_
  rw [readAt_whole2, readAt_whole2, readAt_whole2]

set_option maxHeartbeats 1000000 in
/-- A point of the second phase stores one slab of products. -/
theorem kernel_down (c : Dev nD) (E : Set ℕ) (i : grid0.Coords) (k : Fin 4) (hoff : k0_off2 i = ![k.val, 0, 0]) (h1 : ¬ k0_cond1 i = 1#1) (h2 : k0_cond2 i = 1#1) (h3 : ¬ k0_cond3 i = 1#1)
    (arg2 : Memref sig .tc .vmem S128x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S5632x512 .bf16) (harg5 : arg5.IsWhole) (arg6 : Memref sig .tc .vmem S128x2048 .f32) (harg6 : arg6.IsWhole) (arg7 : Memref sig .tc .vmem S1x2048 .f32) (harg7 : arg7.IsWhole) (arg8 : Memref sig .tc .vmem S1x128x2048 .f32) (harg8 : arg8.IsWhole) (arg9 : Memref sig .tc .vmem S128x2048 .f32) (harg9 : arg9.IsWhole) (arg10 : Memref sig .tc .vmem S11x128x512 .bf16) (harg10 : arg10.IsWhole) (arg11 : Memref sig .tc .vmem S4x128x512 .f32) (harg11 : arg11.IsWhole)
    (x5 : Vec F S5632x512 .bf16) (x10 : Vec F S11x128x512 .bf16) (x11 : Vec F S4x128x512 .f32) (K : PUnit → sProp 𝕄) :
    iprop(owns (c : Thread nD τ) arg5 fullShare x5 ∗ owns (c : Thread nD τ) arg10 fullShare x10 ∗ owns (c : Thread nD τ) arg11 fullShare x11
        ∗ (iprop(owns (c : Thread nD τ) arg5 fullShare x5 ∗ owns (c : Thread nD τ) arg10 fullShare x10
           ∗ ∃ y11 : Vec F S4x128x512 .f32, ⌜∀ j, slabB y11 j = if j = k then down (slabA x10) x5 else slabB x11 j⌝ ∗ owns (c : Thread nD τ) arg11 fullShare y11) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11) K := by
  simp only [cc0_swiglu_ffn_eq_skeleton]; unfold cc0_swiglu_ffn_skel
  simp only [dif_neg h1, dif_pos h2, dif_neg h3]
  simp only [k0_part1_eq_skeleton]

  unfold owns
  iintro ⟨⟨%f5, %hf5, H5⟩, ⟨%f10, %hf10, H10⟩, ⟨%f11, %hf11, H11⟩, Hk⟩
  subst hf5 hf10 hf11
  sl_exec
  sl_step
  iapply Hk
  isplitl [H5]
  · iexists f5; isplitr; · ipureintro; rfl
    iexact H5
  isplitl [H10]
  · iexists f10; isplitr; · ipureintro; rfl
    iexact H10
  iexists _
  isplitr
  swap
  · iexists _; isplitr
    swap; · iexact H11
    ipureintro; rfl
  ipureintro
  intro j
  refine (slabB_store _ _ _ k hoff _ _ j).trans ?_
  delta kernel_down.sl.r kernel_down.sl.r_1
  rw [readAt_whole2, readAt_slabA _ _ 0 (by decide), readAt_slabA _ _ 1 (by decide), readAt_slabA _ _ 2 (by decide), readAt_slabA _ _ 3 (by decide),
    readAt_slabA _ _ 4 (by decide), readAt_slabA _ _ 5 (by decide), readAt_slabA _ _ 6 (by decide), readAt_slabA _ _ 7 (by decide),
    readAt_slabA _ _ 8 (by decide), readAt_slabA _ _ 9 (by decide), readAt_slabA _ _ 10 (by decide)]
  unfold down
  rfl

set_option maxHeartbeats 1000000 in
/-- The last point of a block stores the last slab of products and the block of results. -/
theorem kernel_last (c : Dev nD) (E : Set ℕ) (i : grid0.Coords) (hoff : k0_off2 i = ![3, 0, 0]) (h1 : ¬ k0_cond1 i = 1#1) (h2 : k0_cond2 i = 1#1) (h3 : k0_cond3 i = 1#1)
    (arg2 : Memref sig .tc .vmem S128x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S5632x512 .bf16) (harg5 : arg5.IsWhole) (arg6 : Memref sig .tc .vmem S128x2048 .f32) (harg6 : arg6.IsWhole) (arg7 : Memref sig .tc .vmem S1x2048 .f32) (harg7 : arg7.IsWhole) (arg8 : Memref sig .tc .vmem S1x128x2048 .f32) (harg8 : arg8.IsWhole) (arg9 : Memref sig .tc .vmem S128x2048 .f32) (harg9 : arg9.IsWhole) (arg10 : Memref sig .tc .vmem S11x128x512 .bf16) (harg10 : arg10.IsWhole) (arg11 : Memref sig .tc .vmem S4x128x512 .f32) (harg11 : arg11.IsWhole)
    (x5 : Vec F S5632x512 .bf16) (x6 : Vec F S128x2048 .f32) (x7 : Vec F S1x2048 .f32) (x8 : Vec F S1x128x2048 .f32) (x10 : Vec F S11x128x512 .bf16) (x11 : Vec F S4x128x512 .f32) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare x10 ∗ owns (c : Thread nD τ) arg11 fullShare x11 ∗ (∃ d, owns (c : Thread nD τ) arg9 fullShare d)
        ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg10 fullShare x10
           ∗ ∃ y11 : Vec F S4x128x512 .f32, ⌜∀ j, slabB y11 j = if j = 3 then down (slabA x10) x5 else slabB x11 j⌝ ∗ owns (c : Thread nD τ) arg11 fullShare y11
           ∗ owns (c : Thread nD τ) arg9 fullShare (k0_pay3 (slabB x11 0) (slabB x11 1) (slabB x11 2) (down (slabA x10) x5) x6 x8 x7)) -∗ K ⟨⟩))
      ⊢ wp frame (wpE (defs₀ (F := F)) Variants.none c none) E (cc0_swiglu_ffn i arg2 harg2 arg3 harg3 arg4 harg4 arg5 harg5 arg6 harg6 arg7 harg7 arg8 harg8 arg9 harg9 arg10 harg10 arg11 harg11) K := by
  simp only [cc0_swiglu_ffn_eq_skeleton]; unfold cc0_swiglu_ffn_skel
  simp only [dif_neg h1, dif_pos h2, dif_pos h3]
  simp only [k0_part1_eq_skeleton]
  have h14 : (i 1).val = 14 := by revert h3; revert i; decide +kernel
  unfold owns
  iintro ⟨⟨%f5, %hf5, H5⟩, ⟨%f6, %hf6, H6⟩, ⟨%f7, %hf7, H7⟩, ⟨%f8, %hf8, H8⟩, ⟨%f10, %hf10, H10⟩, ⟨%f11, %hf11, H11⟩, ⟨%d9, %f9, -, H9⟩, Hk⟩
  subst hf5 hf6 hf7 hf8 hf10 hf11
  sl_exec
  sl_step
  iapply Hk
  have hB : ∀ j, slabB (View.read (Elt F) arg11.view (arg11.view.writes (Elt F) f11 (kernel_last.sl.H11_1 c i h2 arg5 arg10 f5 f10))) j
      = if j = 3 then down (slabA (arg10.view.read (Elt F) f10)) (arg5.view.read (Elt F) f5) else slabB (arg11.view.read (Elt F) f11) j := by
    delta kernel_last.sl.H11_1
    intro j
    refine (slabB_store _ _ _ (3 : Fin 4) hoff _ _ j).trans ?_
    delta kernel_last.sl.r kernel_last.sl.r_1
    rw [readAt_whole2, readAt_slabA _ _ 0 (by decide), readAt_slabA _ _ 1 (by decide), readAt_slabA _ _ 2 (by decide), readAt_slabA _ _ 3 (by decide),
      readAt_slabA _ _ 4 (by decide), readAt_slabA _ _ 5 (by decide), readAt_slabA _ _ 6 (by decide), readAt_slabA _ _ 7 (by decide),
      readAt_slabA _ _ 8 (by decide), readAt_slabA _ _ 9 (by decide), readAt_slabA _ _ 10 (by decide)]
    unfold down
    rfl
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H10]
  · iexists f10; isplitr; · ipureintro; rfl
    iexact H10
  iexists _
  isplitr
  swap
  · isplitl [H11]
    · iexists _; isplitr
      swap; · iexact H11
      ipureintro; rfl
    iexists _; isplitr
    swap; · iexact H9
    ipureintro
    delta kernel_last.sl.v9 kernel_last.sl.v11 kernel_last.sl.v13 kernel_last.sl.v15
    rw [readAt_slabB _ _ 0 (by decide), readAt_slabB _ _ 1 (by decide), readAt_slabB _ _ 2 (by decide), readAt_slabB _ _ 3 (by decide),
      readAt_whole2, readAt_whole2, readAt_whole3, hB, hB, hB, hB]
    refine (read_writes_whole2 _ _ _ _).trans ?_
    rfl
  ipureintro
  exact hB

end Cert.SFfnIdeal.Body
-- ==== Proof.SFfnFrame.lean ====
/-
  The feed-forward call as a whole: what its scratch buffers hold between the points, what its result
  window holds when it is written back, and the run of the program from these.
-/
module

public import proofs.«01_k».proof.Proof.SFfnBody
public import proofs.«01_k».proof.Proof.Gen.SFfnIdeal.Frame
public import proofs.«01_k».proof.Proof.Gen.SFfnIdeal.Launch
public import proofs.«01_k».proof.Proof.Gen.SFfnIdeal.Skeleton
public import proofs.«01_k».proof.Proof.Gen.SFfnIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WritesUnit
public import Idealize.ShloMosaic.Lib.Pointwise
public import Idealize.ShloMosaic.Lib.UnfoldOut
public import Idealize.ShloMosaic.Lib.WordCmp

@[expose] public section

set_option maxRecDepth 16384

noncomputable section

namespace Cert.SFfnIdeal.Body

open Cert.SFfnIdeal Cert.SFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Point `s` of block `b`. -/
def pt (b : Fin 1) (s : Fin 15) : Fin cfg0.N := ⟨15 * b.val + s.val, by have := b.isLt; have := s.isLt; have := N_0; show _ < grid0.N; omega⟩

/-- The block a point belongs to. -/
def blockOf (t : Fin cfg0.N) : Fin 1 := ⟨t.val / 15, by have h : t.val < grid0.N := t.isLt; rw [N_0] at h; omega⟩

/-- Slab `j` of the activations of block `b`. -/
def actS (c : Dev nD) (b : Fin 1) (j : Fin 11) : Vec F S1x128x512 .bf16 :=
  k0_pay1 (iblk m c 0 (pt b (j.castLE (by decide)))) (iblk m c 1 (pt b (j.castLE (by decide)))) (iblk m c 2 (pt b (j.castLE (by decide))))

/-- Slab `j` of the products of block `b`. -/
def dnS (c : Dev nD) (b : Fin 1) (j : Fin 4) : Vec F S1x128x512 .f32 :=
  down (actS m c b) (iblk m c 3 (pt b (Fin.natAdd 11 j)))

/-- The results of block `b`. -/
def outS (c : Dev nD) (b : Fin 1) : Vec F S128x2048 .f32 :=
  k0_pay3 (dnS m c b 0) (dnS m c b 1) (dnS m c b 2) (dnS m c b 3) (iblk m c 4 (pt b 14)) (iblk m c 6 (pt b 14)) (iblk m c 5 (pt b 14))

/-- Before point `n` the slabs the block's earlier points stored are in place. -/
def Inv (c : Dev nD) (n : ℕ) (x10 : Vec F S11x128x512 .bf16) (x11 : Vec F S4x128x512 .f32) : Prop :=
  ∀ b : Fin 1, b.val = n / 15 → (∀ j : Fin 11, j.val < n % 15 → slabA x10 j = actS m c b j) ∧ (∀ j : Fin 4, 11 + j.val < n % 15 → slabB x11 j = dnS m c b j)

theorem pt_block (t : Fin cfg0.N) (b : Fin 1) (hb : b.val = t.val / 15) (s : Fin 15) (hs : s.val = t.val % 15) : pt b s = t :=
  Fin.ext (by show 15 * b.val + s.val = t.val; omega)

theorem inv_start (c : Dev nD) (n : ℕ) (h : n % 15 = 0) (x10) (x11) : Inv m c n x10 x11 := fun b _ => ⟨fun j hj => by omega, fun j hj => by omega⟩

theorem inv_gate (c : Dev nD) (t : Fin cfg0.N) (k : Fin 11) (hk : k.val = t.val % 15) (x10 y10) (x11) (h : Inv m c t.val x10 x11)
    (hy : ∀ j, slabA y10 j = if j = k then k0_pay1 (iblk m c 0 t) (iblk m c 1 t) (iblk m c 2 t) else slabA x10 j) : Inv m c (t.val + 1) y10 x11 := by
  intro b hb
  have hk' := k.isLt
  have hb' : b.val = t.val / 15 := by omega
  refine ⟨fun j hj => ?_, fun j hj => by omega⟩
  rw [hy]
  by_cases e : j = k
  · rw [if_pos e, actS, pt_block t b hb' (j.castLE (by decide)) (by subst e; exact hk)]
  · rw [if_neg e]
    have : j.val ≠ k.val := fun h => e (Fin.ext h)
    exact (h b hb').1 j (by omega)

theorem inv_all (c : Dev nD) (t : Fin cfg0.N) (hk : 11 ≤ t.val % 15) (x10) (x11) (h : Inv m c t.val x10 x11) (b : Fin 1) (hb : b.val = t.val / 15) :
    slabA x10 = actS m c b := funext fun j => (h b hb).1 j (by have := j.isLt; omega)

theorem inv_down (c : Dev nD) (t : Fin cfg0.N) (k : Fin 4) (hk : 11 + k.val = t.val % 15) (h14 : t.val % 15 < 14) (x10) (x11 y11) (h : Inv m c t.val x10 x11)
    (hy : ∀ j, slabB y11 j = if j = k then down (slabA x10) (iblk m c 3 t) else slabB x11 j) : Inv m c (t.val + 1) x10 y11 := by
  intro b hb
  have hb' : b.val = t.val / 15 := by omega
  refine ⟨fun j hj => (h b hb').1 j (by have := j.isLt; omega), fun j hj => ?_⟩
  rw [hy]
  by_cases e : j = k
  · rw [if_pos e, dnS, pt_block t b hb' (Fin.natAdd 11 j) (by subst e; exact hk), inv_all m c t (by omega) x10 x11 h b hb']
  · rw [if_neg e]
    have : j.val ≠ k.val := fun h => e (Fin.ext h)
    exact (h b hb').2 j (by omega)

theorem inv_out (c : Dev nD) (t : Fin cfg0.N) (h14 : t.val % 15 = 14) (x10) (x11) (h : Inv m c t.val x10 x11) :
    k0_pay3 (slabB x11 0) (slabB x11 1) (slabB x11 2) (down (slabA x10) (iblk m c 3 t)) (iblk m c 4 t) (iblk m c 6 t) (iblk m c 5 t) = outS m c (blockOf t) := by
  have hB := (h (blockOf t) rfl).2
  rw [hB 0 (by rw [h14]; decide), hB 1 (by rw [h14]; decide), hB 2 (by rw [h14]; decide), inv_all m c t (by omega) x10 x11 h (blockOf t) rfl, outS,
    pt_block t (blockOf t) rfl 14 h14.symm]
  rw [show dnS m c (blockOf t) 3 = down (actS m c (blockOf t)) (iblk m c 3 t) from by
    exact congrArg (fun s => down (actS m c (blockOf t)) (iblk m c 3 s)) (pt_block t (blockOf t) rfl (Fin.natAdd 11 (3 : Fin 4) : Fin 15) h14.symm)]

/-! ## The proof data -/

/-- The two scratch buffers with the slabs stored so far, and the generator register. -/
def held (c : Dev nD) (n : ℕ) : sProp 𝕄 :=
  iprop((∃ x10 : Vec F S11x128x512 .bf16, ∃ x11 : Vec F S4x128x512 .f32, ⌜Inv m c n x10 x11⌝ ∗ owns (c : Thread nD τ) (Memref.whole cc0_scratch0) fullShare x10
    ∗ owns (c : Thread nD τ) (Memref.whole cc0_scratch1) fullShare x11) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outS m c (blockOf t)
  Φ t := held m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outS m c (blockOf t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The conditions of a point -/

theorem coord : ∀ t : Fin cfg0.N, (grid0.coords t 1).val = t.val % 15 := by decide +kernel
theorem cond1_iff : ∀ i : grid0.Coords, k0_cond1 i = 1#1 ↔ (i 1).val < 11 := by decide +kernel
theorem cond2_iff : ∀ i : grid0.Coords, k0_cond2 i = 1#1 ↔ 11 ≤ (i 1).val := by decide +kernel
theorem cond3_iff : ∀ i : grid0.Coords, k0_cond3 i = 1#1 ↔ (i 1).val = 14 := by decide +kernel

/-- What the point leaves of the result window's buffer. -/
def leave7 (c : Dev nD) (t : Fin cfg0.N) : sProp 𝕄 :=
  match cfg0.idle 7 (cfg0.grid.coords t) with
  | true => match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

theorem leave7_idle (c : Dev nD) (t : Fin cfg0.N) (h : t.val % 15 ≠ 14) :
    leave7 m c t = iprop(∃ d, owns (c : Thread nD τ) (st0_7 t) fullShare ((dats m 0 c).before 7 t d)) := by
  have h1 : cfg0.idle 7 (cfg0.grid.coords t) = true := by
    show (!(k0_cond3 (grid0.coords t) == 1#1)) = true
    have : ¬ k0_cond3 (grid0.coords t) = 1#1 := fun e => h (by rw [← coord]; exact (cond3_iff _).1 e)
    simp [this]
  have h2 : (cfg0.win 7).flush t = false := by
    cases e : (cfg0.win 7).flush t
    · rfl
    · exact absurd ((flush0_7 t).1 e) h
  unfold leave7
  rw [h1, h2]

theorem leave7_last (c : Dev nD) (t : Fin cfg0.N) (h : t.val % 15 = 14) :
    leave7 m c t = owns (c : Thread nD τ) (st0_7 t) fullShare (outS m c (blockOf t)) := by
  have h1 : cfg0.idle 7 (cfg0.grid.coords t) = false := by
    show (!(k0_cond3 (grid0.coords t) == 1#1)) = false
    have : k0_cond3 (grid0.coords t) = 1#1 := (cond3_iff _).2 (by rw [coord]; exact h)
    simp [this]
  unfold leave7
  rw [h1, after_7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ leave7 m c t)

theorem body_gate (c : Dev nD) (t : Fin cfg0.N) (ht : t.val % 15 < 11) :
    bodyPre m c t ⊢ wp frame (wpE (defs₀ (F := F)) Variants.none c none) Set.univ (bodyAt0 t) (fun _ => bodyPost m c t) := by
  have e := coord t
  have h1 : k0_cond1 (grid0.coords t) = 1#1 := (cond1_iff _).2 (by omega)
  have h2 : ¬ k0_cond2 (grid0.coords t) = 1#1 := fun h => by have := (cond2_iff _).1 h; omega
  have h3 : ¬ k0_cond3 (grid0.coords t) = 1#1 := fun h => by have := (cond3_iff _).1 h; omega
  have hoff : k0_off1 (grid0.coords t) = ![(⟨t.val % 15, ht⟩ : Fin 11).val, 0, 0] := by rw [k0_off1_eq, e]
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6, leave7_idle m c t (by omega)]
  unfold held
  iintro ⟨⟨⟨%x10, %x11, %hI, HA, HB⟩, HR⟩, Ho, ⟨%d0, H0⟩, ⟨%d1, H1⟩, ⟨%d2, H2⟩, ⟨%d3, H3⟩, ⟨%d4, H4⟩, ⟨%d5, H5⟩, ⟨%d6, H6⟩, H7⟩
  iapply (kernel_gate c Set.univ (grid0.coords t) ⟨t.val % 15, ht⟩ hoff h1 h2 h3 _ _ _ _ _ _ _ _ _ _ _ _ _ _ _ _ _ _ _ _ (iblk m c 0 t) (iblk m c 1 t) (iblk m c 2 t) x10 _)
  isplitl [H0]; · iexact H0
  isplitl [H1]; · iexact H1
  isplitl [H2]; · iexact H2
  isplitl [HA]; · iexact HA
  iintro ⟨H0, H1, H2, %y10, %hy, HA⟩
  isplitl [HA HB HR]
  · isplitr [HR]
    · iexists y10; iexists x11
      isplitr; · ipureintro; exact inv_gate m c t ⟨t.val % 15, ht⟩ rfl x10 y10 x11 hI hy
      isplitl [HA]; · iexact HA
      iexact HB
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_down (c : Dev nD) (t : Fin cfg0.N) (hk : 11 ≤ t.val % 15) (ht : t.val % 15 < 14) :
    bodyPre m c t ⊢ wp frame (wpE (defs₀ (F := F)) Variants.none c none) Set.univ (bodyAt0 t) (fun _ => bodyPost m c t) := by
  have e := coord t
  have h1 : ¬ k0_cond1 (grid0.coords t) = 1#1 := fun h => by have := (cond1_iff _).1 h; omega
  have h2 : k0_cond2 (grid0.coords t) = 1#1 := (cond2_iff _).2 (by omega)
  have h3 : ¬ k0_cond3 (grid0.coords t) = 1#1 := fun h => by have := (cond3_iff _).1 h; omega
  have hlt : t.val % 15 - 11 < 4 := by omega
  have hoff : k0_off2 (grid0.coords t) = ![(⟨t.val % 15 - 11, hlt⟩ : Fin 4).val, 0, 0] := by
    rw [off2_eq, e, show (t.val % 15 + 4294967285) % 4294967296 = t.val % 15 - 11 from by omega]
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6, leave7_idle m c t (by omega)]
  unfold held
  iintro ⟨⟨⟨%x10, %x11, %hI, HA, HB⟩, HR⟩, Ho, ⟨%d0, H0⟩, ⟨%d1, H1⟩, ⟨%d2, H2⟩, ⟨%d3, H3⟩, ⟨%d4, H4⟩, ⟨%d5, H5⟩, ⟨%d6, H6⟩, H7⟩
  iapply (kernel_down c Set.univ (grid0.coords t) ⟨t.val % 15 - 11, hlt⟩ hoff h1 h2 h3 _ _ _ _ _ _ _ _ _ _ _ _ _ _ _ _ _ _ _ _ (iblk m c 3 t) x10 x11 _)
  isplitl [H3]; · iexact H3
  isplitl [HA]; · iexact HA
  isplitl [HB]; · iexact HB
  iintro ⟨H3, HA, %y11, %hy, HB⟩
  isplitl [HA HB HR]
  · isplitr [HR]
    · iexists x10; iexists y11
      isplitr; · ipureintro; exact inv_down m c t ⟨t.val % 15 - 11, hlt⟩ (by show 11 + (t.val % 15 - 11) = _; omega) ht x10 x11 y11 hI hy
      isplitl [HA]; · iexact HA
      iexact HB
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_last (c : Dev nD) (t : Fin cfg0.N) (ht : t.val % 15 = 14) :
    bodyPre m c t ⊢ wp frame (wpE (defs₀ (F := F)) Variants.none c none) Set.univ (bodyAt0 t) (fun _ => bodyPost m c t) := by
  have e := coord t
  have h1 : ¬ k0_cond1 (grid0.coords t) = 1#1 := fun h => by have := (cond1_iff _).1 h; omega
  have h2 : k0_cond2 (grid0.coords t) = 1#1 := (cond2_iff _).2 (by omega)
  have h3 : k0_cond3 (grid0.coords t) = 1#1 := (cond3_iff _).2 (by omega)
  have hoff : k0_off2 (grid0.coords t) = ![3, 0, 0] := by rw [off2_eq, e, ht]
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6, leave7_last m c t ht]
  unfold held
  iintro ⟨⟨⟨%x10, %x11, %hI, HA, HB⟩, HR⟩, Ho, ⟨%d0, H0⟩, ⟨%d1, H1⟩, ⟨%d2, H2⟩, ⟨%d3, H3⟩, ⟨%d4, H4⟩, ⟨%d5, H5⟩, ⟨%d6, H6⟩, H7⟩
  iapply (kernel_last c Set.univ (grid0.coords t) hoff h1 h2 h3 _ _ _ _ _ _ _ _ _ _ _ _ _ _ _ _ _ _ _ _ (iblk m c 3 t) (iblk m c 4 t) (iblk m c 5 t) (iblk m c 6 t) x10 x11 _)
  isplitl [H3]; · iexact H3
  isplitl [H4]; · iexact H4
  isplitl [H5]; · iexact H5
  isplitl [H6]; · iexact H6
  isplitl [HA]; · iexact HA
  isplitl [HB]; · iexact HB
  isplitl [H7]
  · icases H7 with ⟨%d7, H7⟩
    iexists _; iexact H7
  rw [inv_out m c t ht x10 x11 hI]
  iintro ⟨H3, H4, H5, H6, HA, %y11, %hy, HB, H7⟩
  isplitl [HA HB HR]
  · isplitr [HR]
    · iexists x10; iexists y11
      isplitr; · ipureintro; exact inv_start m c _ (by omega) _ _
      isplitl [HA]; · iexact HA
      iexact HB
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := F)) Variants.none c none) Set.univ (bodyAt0 t) (fun _ => bodyPost m c t) := by
  by_cases h : t.val % 15 < 11
  · exact body_gate m c t h
  · by_cases h' : t.val % 15 < 14
    · exact body_down m c t (by omega) h'
    · exact body_last m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The class's invariant is the tracked one before the first point, -/
theorem held_in (c : Dev nD) : Pipeline.ΦA spec0 c ⊢ (dats (F := F) m 0 c).Φ 0 := by
  show _ ⊢ held m c 0
  unfold Pipeline.ΦA held
  rw [scopedRest0_eq]
  iintro ⟨⟨⟨%f, HA⟩, ⟨%g, HB⟩⟩, HR⟩
  isplitr [HR]
  · iexists f; iexists g
    isplitr; · ipureintro; exact inv_start m c 0 rfl _ _
    rw [owns_whole, owns_whole]
    isplitl [HA]; · iexact HA
    iexact HB
  · iexact HR

/-- and the tracked one is the class's after the last. -/
theorem held_out (c : Dev nD) : (dats (F := F) m 0 c).Φ (Fin.last cfg0.N) ⊢ Pipeline.ΦA spec0 c := by
  show held m c _ ⊢ _
  unfold Pipeline.ΦA held
  rw [scopedRest0_eq]
  simp only [owns_whole]
  iintro ⟨⟨%x, %y, -, HA, HB⟩, HR⟩
  isplitr [HR]
  · isplitl [HA]
    · iexists x; iexact HA
    · iexists y; iexact HB
  · iexact HR

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_in m) (hout := held_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.SFfnIdeal.Body
-- ==== Proof.SFfnValue.lean ====
/-
The feed-forward half as the pipelined program computes it: its result array is, row by row, the gated residual of the
feed-forward map of the token's row.
-/
module

public import proofs.«01_k».proof.Proof.Model
public import proofs.«01_k».proof.Proof.SFfnFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SFfnIdeal.Model

open Cert.SFfnIdeal Cert.SFfnIdeal.Gen Cert.SFfnIdeal.Body Cert.Model

/-- One slab of the gated activation, entry by entry. -/
theorem pay1_at (x : FVec Ideal S128x2048 .bf16) (wa wb : FVec Ideal S2048x512 .bf16) (r : Fin 128) (q : Fin 512) :
    k0_pay1 (F := Ideal) x wa wb (ix3 0 r q)
      = (∑ k : Fin 2048, x (ix2 r k) * wa (ix2 k q)) * Ideal.logistic (∑ k : Fin 2048, x (ix2 r k) * wa (ix2 k q)) * ∑ k : Fin 2048, x (ix2 r k) * wb (ix2 k q) := by
  pointwise! [k0_pay1]

/-- The eleven slabs side by side. -/
theorem pay4_at (a : Fin 11 → FVec Ideal S1x128x512 .bf16) (r : Fin 128) (f : Fin 5632) :
    k0_pay4 (F := Ideal) (a 0) (a 1) (a 2) (a 3) (a 4) (a 5) (a 6) (a 7) (a 8) (a 9) (a 10) (ix2 r f)
      = a ⟨f.val / 512, by omega⟩ (ix3 0 r ⟨f.val % 512, by omega⟩) := by
  refine (concatenate_ofFn_apply (t := S128x5632) (s₁ := S128x512) 1 (fun n : Fin 11 => shapeCast S128x512 (a n) shapeCasts_S1x128x512_S128x512)
    concatenates_S128x512_S128x512_S128x512_S128x512_S128x512_S128x512_S128x512_S128x512_S128x512_S128x512_S128x512_S128x5632_d1 rfl 512 rfl (ix2 r f) ⟨f.val / 512, by omega⟩ rfl
    (ix2 r ⟨f.val % 512, by omega⟩) rfl ?_).trans ?_
  · intro b hb
    fin_cases b
    · rfl
    · exact absurd rfl hb
  · pointwise

/-- A slab of the down projection, entry by entry. -/
theorem down_at (a : Fin 11 → FVec Ideal S1x128x512 .bf16) (w : FVec Ideal S5632x512 .bf16) (r : Fin 128) (q : Fin 512) :
    down (F := Ideal) a w (ix3 0 r q) = ∑ f : Fin 5632, a ⟨f.val / 512, by omega⟩ (ix3 0 r ⟨f.val % 512, by omega⟩) * w (ix2 f q) := by
  unfold down
  have h := pay4_at a
  generalize k0_pay4 (F := Ideal) (a 0) (a 1) (a 2) (a 3) (a 4) (a 5) (a 6) (a 7) (a 8) (a 9) (a 10) = A at h ⊢
  pointwise! [k0_pay2, k0_pay5, h]

/-- The four slabs of products side by side. -/
def cat (b : Fin 4 → FVec Ideal S1x128x512 .f32) : FVec Ideal S128x2048 .f32 :=
  concatenate S128x2048 1 (List.ofFn fun n : Fin 4 => ⟨S128x512, shapeCast S128x512 (b n) shapeCasts_S1x128x512_S128x512⟩) concatenates_S128x512_S128x512_S128x512_S128x512_S128x2048_d1

theorem cat_at (b : Fin 4 → FVec Ideal S1x128x512 .f32) (r : Fin 128) (e : Fin 2048) :
    cat b (ix2 r e) = b ⟨e.val / 512, by omega⟩ (ix3 0 r ⟨e.val % 512, by omega⟩) := by
  refine (concatenate_ofFn_apply (t := S128x2048) (s₁ := S128x512) 1 (fun n : Fin 4 => shapeCast S128x512 (b n) shapeCasts_S1x128x512_S128x512)
    concatenates_S128x512_S128x512_S128x512_S128x512_S128x2048_d1 rfl 512 rfl (ix2 r e) ⟨e.val / 512, by omega⟩ rfl
    (ix2 r ⟨e.val % 512, by omega⟩) rfl ?_).trans ?_
  · intro b hb
    fin_cases b
    · rfl
    · exact absurd rfl hb
  · pointwise

/-- What the last point does with the products side by side. -/
def tail (v17 x : FVec Ideal S128x2048 .f32) (gate : FVec Ideal S1x128x2048 .f32) (g : FVec Ideal S1x2048 .f32) : FVec Ideal S128x2048 .f32 :=
  addf x (mulf (shapeCast S128x2048 gate shapeCasts_S1x128x2048_S128x2048)
    (mulf (mulf v17 (broadcastTo S128x2048 (rsqrt (addf (divf (shapeCast S128x1 (multiReduction .add [1] S128 (mulf v17 v17) 0x00000000#32 reduces_S128x2048_S128 (.inl rfl) rfl) shapeCasts_S128_S128x1)
        (broadcast S128x1 (Scalar.ofBits .f32 0x45000000#32))) (broadcast S128x1 (Scalar.ofBits .f32 0x358637BD#32)))) broadcasts_S128x1_S128x2048))
      (broadcastTo S128x2048 g broadcasts_S1x2048_S128x2048)))

theorem tail_at (o x : FVec Ideal S128x2048 .f32) (gate : FVec Ideal S1x128x2048 .f32) (g : FVec Ideal S1x2048 .f32) (r : Fin 128) (e : Fin 2048) :
    tail o x gate g (ix2 r e) = resid (fun e => x (ix2 r e)) (fun e => gate (ix3 0 r e)) (fun e => o (ix2 r e)) (fun e => g (ix2 0 e)) e := by
  pointwise! [tail, resid, rms]

theorem pay3_at (b : Fin 4 → FVec Ideal S1x128x512 .f32) (x : FVec Ideal S128x2048 .f32) (gate : FVec Ideal S1x128x2048 .f32) (g : FVec Ideal S1x2048 .f32) (r : Fin 128) (e : Fin 2048) :
    k0_pay3 (F := Ideal) (b 0) (b 1) (b 2) (b 3) x gate g (ix2 r e)
      = resid (fun e => x (ix2 r e)) (fun e => gate (ix3 0 r e)) (fun e => b ⟨e.val / 512, by omega⟩ (ix3 0 r ⟨e.val % 512, by omega⟩)) (fun e => g (ix2 0 e)) e := by
  refine (show _ = tail (cat b) x gate g (ix2 r e) from rfl).trans ?_
  rw [tail_at, funext fun e => cat_at b r e]

variable (m : (ℓ : Loc nD τ sig) → Buf (Elt Ideal) ℓ)

/-- Where each window's block sits: at the points of the first phase, -/
theorem idxA : ∀ (b : Fin 1) (j : Fin 11), win0_0.index (pt b (j.castLE (by decide))) = ![b.val, 0] ∧ win0_1.index (pt b (j.castLE (by decide))) = ![0, j.val] ∧ win0_2.index (pt b (j.castLE (by decide))) = ![0, 11 + j.val] := by
  decide +kernel
/-- of the second, -/
theorem idxB : ∀ (b : Fin 1) (j : Fin 4), win0_3.index (pt b (Fin.natAdd 11 j)) = ![0, j.val] := by decide +kernel
/-- and at the last. -/
theorem idxC : ∀ b : Fin 1, win0_4.index (pt b 14) = ![b.val, 0] ∧ win0_5.index (pt b 14) = ![0, 0] ∧ win0_6.index (pt b 14) = ![0, 0, 0] ∧ win0_7.index (pt b 14) = ![b.val, 0] := by
  decide +kernel

/-- The feed-forward row of token `n`. -/
def row (h : FVec Ideal S128x2048 .bf16) (w : FVec Ideal S1x2048x11264 .f32) (wd : FVec Ideal S1x5632x2048 .f32) (n : Fin 128) : Fin 2048 → EReal :=
  ffn (fun d => h (ix2 n d)) (fun d f => w (ix3 0 d f)) fun f e => wd (ix3 0 f e)

/-- The result array. -/
def Out (h : FVec Ideal S128x2048 .bf16) (w : FVec Ideal S1x2048x11264 .f32) (wd : FVec Ideal S1x5632x2048 .f32) (x : FVec Ideal S128x2048 .f32)
    (g : FVec Ideal S1x2048 .f32) (gate : FVec Ideal S32x2048 .f32) : FVec Ideal S128x2048 .f32 := fun i =>
  resid (fun e => x (ix2 (i 0) e)) (fun e => gate (ix2 ⟨(i 0).val / 4, by have h : (i 0).val < 128 := (i 0).isLt; omega⟩ e)) (row h w wd (i 0)) (fun e => g (ix2 0 e)) (i 1)

theorem act_at (c : Dev nD) (b : Fin 1) (j : Fin 11) (r : Fin 128) (q : Fin 512) (n : Fin 128) (hn : n.val = b.val * 128 + r.val) (f : Fin 5632) (hf : f.val = j.val * 512 + q.val) :
    actS (F := Ideal) m c b j (ix3 0 r q)
      = swiglu (fun d => m ((c : Thread nD τ).loc main_arg0) (ix2 n d : S128x2048.Idx)) (fun d f => m ((c : Thread nD τ).loc main_arg1) (ix3 0 d f : S1x2048x11264.Idx)) f := by
  obtain ⟨i0, i1, i2⟩ := idxA b j
  unfold actS
  rw [pay1_at]
  unfold swiglu
  pointwise
  blk_point [iblk, V, i0, i1, i2]

theorem dn_at (c : Dev nD) (b : Fin 1) (j : Fin 4) (r : Fin 128) (q : Fin 512) (n : Fin 128) (hn : n.val = b.val * 128 + r.val) (e : Fin 2048) (he : e.val = j.val * 512 + q.val) :
    dnS (F := Ideal) m c b j (ix3 0 r q)
      = row (m ((c : Thread nD τ).loc main_arg0)) (m ((c : Thread nD τ).loc main_arg1)) (m ((c : Thread nD τ).loc main_arg2)) n e := by
  have i3 := idxB b j
  unfold dnS row ffn
  rw [down_at]
  refine Finset.sum_congr rfl fun f _ => ?_
  rw [act_at m c b ⟨f.val / 512, by omega⟩ r ⟨f.val % 512, by omega⟩ n hn f (by show f.val = f.val / 512 * 512 + f.val % 512; omega)]
  refine congrArg _ ?_
  blk_point [iblk, V, i3]

/-- The gates spread over the tokens: four tokens to a row. -/
def spread (g : FVec Ideal S32x2048 .f32) : FVec Ideal S1x128x2048 .f32 :=
  broadcastInDim S1x128x2048 ![1, 2] bcast_S128x2048_S1x128x2048_1_2 (shapeCast S128x2048 (broadcastInDim S32x4x2048 ![0, 2] bcast_S32x2048_S32x4x2048_0_2 g) shapeCasts_S32x4x2048_S128x2048)

theorem spread_at (g : FVec Ideal S32x2048 .f32) (n : Fin 128) (e : Fin 2048) : spread g (ix3 0 n e) = g (ix2 ⟨n.val / 4, by omega⟩ e) := by
  unfold spread
  pointwise

theorem out_at (c : Dev nD) (b : Fin 1) (r : Fin 128) (e : Fin 2048) (n : Fin 128) (hn : n.val = b.val * 128 + r.val) :
    outS (F := Ideal) m c b (ix2 r e)
      = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 n e) := by
  obtain ⟨i4, i5, i6, -⟩ := idxC b
  unfold outS Out
  rw [pay3_at (dnS m c b)]
  rw [show (fun e : Fin 2048 => dnS (F := Ideal) m c b ⟨e.val / 512, by omega⟩ (ix3 0 r ⟨e.val % 512, by omega⟩)) = row (m ((c : Thread nD τ).loc main_arg0)) (m ((c : Thread nD τ).loc main_arg1)) (m ((c : Thread nD τ).loc main_arg2)) n from
    funext fun e => dn_at m c b ⟨e.val / 512, by omega⟩ r ⟨e.val % 512, by omega⟩ n hn e (by show e.val = e.val / 512 * 512 + e.val % 512; omega)]
  have hg : (fun e : Fin 2048 => (iblk (F := Ideal) m c 6 (pt b 14) : FVec Ideal S1x128x2048 .f32) (ix3 0 r e)) = fun e => (m ((c : Thread nD τ).loc main_arg5) : FVec Ideal S32x2048 .f32) (ix2 ⟨n.val / 4, by omega⟩ e) := by
    funext e
    refine Eq.trans ?_ (spread_at _ n e)
    rw [← show V m c main_v6 = spread (m ((c : Thread nD τ).loc main_arg5)) from rfl]
    blk_point [iblk, i6]
  rw [hg]
  pointwise
  generalize row _ _ _ n = O
  unfold resid
  pointwise [rms]
  blk_point [iblk, V, i4, i5]

/-- The result array after the run. -/
theorem final7 (c : Dev nD) : (dats (F := Ideal) m 0 c).arrAt 7 cfg0.N
    = Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t ht y => ?_
  have h14 : t.val % 15 = 14 := (flush0_7 t).1 ht
  have hp : pt (blockOf t) 14 = t := pt_block t (blockOf t) rfl 14 h14.symm
  have i7 := (idxC (blockOf t)).2.2.2
  rw [hp] at i7
  blk_simp
  rw [after_7]
  generalize blockOf t = b at i7
  idx_vars y
  obtain ⟨n, hn⟩ : ∃ n : Fin 128, n.val = b.val * 128 + y0.val := ⟨⟨b.val * 128 + y0.val, by omega⟩, rfl⟩
  have hemb : ((View.whole main_v7).slice (win0_7.rect t)).emb (ix2 y0 y1) = (ix2 n y1 : S128x2048.Idx) := by
    blk_ext [i7]
  rw [hemb]
  exact out_at m c b y0 y1 n hn

end Cert.SFfnIdeal.Model

end
-- ==== Proof.SFfnRef.lean ====
/-
The feed-forward half as the layer's mathematics writes it, read row by row.
-/
module

public import proofs.«01_k».proof.Proof.Model
public import proofs.«01_k».proof.Proof.Gen.SFfnRefIdeal.Run
public import Idealize.ShloMosaic.Lib.Pipeline.ValueKit

@[expose] public section

set_option maxRecDepth 16384

noncomputable section

open Idealize.ShloMosaic Idealize.ShloMosaic.TcCoe Idealize.SL.Sem

namespace Cert.SFfnRefIdeal.Model

open Cert.SFfnRefIdeal Cert.SFfnRefIdeal.Gen Cert.SFfnRefIdeal.Value Cert.Model

variable (m : (ℓ : Loc nD τ sig) → Buf (Elt Ideal) ℓ)

/-- The reference's normalisation of a row of 2048, as its host operations write it. -/
def hostRms (X : FVec Ideal S32x4x2048 .f32) (g : FVec Ideal S1x2048 .f32) : FVec Ideal S32x4x2048 .f32 :=
  mulf (mulf X (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf X X) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 (shapeCast _ g shapeCasts_S1x2048_S2048)))

theorem hostRms_at (X : FVec Ideal S32x4x2048 .f32) (g : FVec Ideal S1x2048 .f32) (b : Fin 32) (t : Fin 4) (e : Fin 2048) :
    hostRms X g (ix3 b t e) = rms n2048 (fun e => X (ix3 b t e)) (fun e => g (ix2 0 e)) e := by
  pointwise! [hostRms, rms]

/-- Both halves of the widened rows. -/
def hostUp (h : FVec Ideal S128x2048 .bf16) (w : FVec Ideal S1x2048x11264 .f32) : FVec Ideal S32x4x11264 .f32 :=
  Host.dotGeneral (φ₁ := .f32) (φ₂ := .f32) dot_S32x4x2048_S2048x11264_S32x4x11264_2_0_01_1_n_n none (shapeCast S32x4x2048 (extf .f32 h bitsLt_bf16_f32) shapeCasts_S128x2048_S32x4x2048) (shapeCast S2048x11264 w shapeCasts_S1x2048x11264_S2048x11264)

theorem hostUp_at (h : FVec Ideal S128x2048 .bf16) (w : FVec Ideal S1x2048x11264 .f32) (b : Fin 32) (t : Fin 4) (f : Fin 11264) :
    hostUp h w (ix3 b t f) = ∑ d : Fin 2048, h (ix2 ⟨b.val * 4 + t.val, by omega⟩ d) * w (ix3 0 d f) := by
  pointwise! [hostUp]

/-- The gated activation. -/
def hostAct (U : FVec Ideal S32x4x11264 .f32) : FVec Ideal S32x4x5632 .f32 :=
  mulf (mulf (extractStridedSlice S32x4x5632 ![0, 0, 0] U slices_S32x4x11264_S32x4x5632_0_0_0)
    (Host.divf (broadcastInDim S32x4x5632 ![] bcast_S_S32x4x5632 (constant S_ .f32 0x3F800000#32)) (addf (broadcastInDim S32x4x5632 ![] bcast_S_S32x4x5632 (constant S_ .f32 0x3F800000#32)) (Host.exp (Host.negf (extractStridedSlice S32x4x5632 ![0, 0, 0] U slices_S32x4x11264_S32x4x5632_0_0_0))))))
    (extractStridedSlice S32x4x5632 ![0, 0, 5632] U slices_S32x4x11264_S32x4x5632_0_0_5632)

theorem hostAct_at (U : FVec Ideal S32x4x11264 .f32) (b : Fin 32) (t : Fin 4) (f : Fin 5632) :
    hostAct U (ix3 b t f) = U (ix3 b t ⟨f.val, by omega⟩) * Ideal.logistic (U (ix3 b t ⟨f.val, by omega⟩)) * U (ix3 b t ⟨5632 + f.val, by omega⟩) := by
  pointwise! [hostAct, Ideal.logistic]

/-- The down projection. -/
def hostDown (A : FVec Ideal S32x4x5632 .f32) (wd : FVec Ideal S1x5632x2048 .f32) : FVec Ideal S32x4x2048 .f32 :=
  Host.dotGeneral (φ₁ := .f32) (φ₂ := .f32) dot_S32x4x5632_S5632x2048_S32x4x2048_2_0_01_1_n_n none A (shapeCast S5632x2048 wd shapeCasts_S1x5632x2048_S5632x2048)

theorem hostDown_at (A : FVec Ideal S32x4x5632 .f32) (wd : FVec Ideal S1x5632x2048 .f32) (b : Fin 32) (t : Fin 4) (e : Fin 2048) :
    hostDown A wd (ix3 b t e) = ∑ f : Fin 5632, A (ix3 b t f) * wd (ix3 0 f e) := by
  pointwise! [hostDown]

/-- The whole half, over both axes of tokens. -/
def hostOut (h : FVec Ideal S128x2048 .bf16) (w : FVec Ideal S1x2048x11264 .f32) (wd : FVec Ideal S1x5632x2048 .f32)
    (x : FVec Ideal S128x2048 .f32) (g : FVec Ideal S1x2048 .f32) (gate : FVec Ideal S32x2048 .f32) : FVec Ideal S32x4x2048 .f32 :=
  addf (shapeCast _ x shapeCasts_S128x2048_S32x4x2048) (mulf (broadcastInDim S32x4x2048 ![0, 1, 2] bcast_S32x1x2048_S32x4x2048_0_1_2 (broadcastInDim S32x1x2048 ![0, 2] bcast_S32x2048_S32x1x2048_0_2 gate)) (hostRms (hostDown (hostAct (hostUp h w)) wd) g))

/-- The feed-forward row of token `n`. -/
def row (h : FVec Ideal S128x2048 .bf16) (w : FVec Ideal S1x2048x11264 .f32) (wd : FVec Ideal S1x5632x2048 .f32) (n : Fin 128) : Fin 2048 → EReal :=
  ffn (fun d => h (ix2 n d)) (fun d f => w (ix3 0 d f)) fun f e => wd (ix3 0 f e)

theorem hostOut_at (h : FVec Ideal S128x2048 .bf16) (w : FVec Ideal S1x2048x11264 .f32) (wd : FVec Ideal S1x5632x2048 .f32)
    (x : FVec Ideal S128x2048 .f32) (g : FVec Ideal S1x2048 .f32) (gate : FVec Ideal S32x2048 .f32) (b : Fin 32) (t : Fin 4) (e : Fin 2048) :
    hostOut h w wd x g gate (ix3 b t e)
      = resid (fun e => x (ix2 ⟨b.val * 4 + t.val, by omega⟩ e)) (fun e => gate (ix2 b e)) (row h w wd ⟨b.val * 4 + t.val, by omega⟩) (fun e => g (ix2 0 e)) e := by
  have hrow : (fun e => hostDown (hostAct (hostUp h w)) wd (ix3 b t e)) = row h w wd ⟨b.val * 4 + t.val, by omega⟩ := by
    funext e
    unfold row ffn swiglu
    simp only [hostDown_at, hostAct_at, hostUp_at]
  unfold hostOut
  generalize hostDown (hostAct (hostUp h w)) wd = O at hrow
  rw [← hrow]
  pointwise [hostRms_at, resid]

/-- A token's index recovered from its batch and its place in it. -/
theorem tok (n : Fin 128) (h : n.val / 4 * 4 + n.val % 4 < 128) : (⟨n.val / 4 * 4 + n.val % 4, h⟩ : Fin 128) = n :=
  Fin.ext (by show n.val / 4 * 4 + n.val % 4 = n.val; omega)

/-- The result of the reference, entry by entry. -/
theorem out0_at (c : Dev nD) (n : Fin 128) (e : Fin 2048) :
    (res_out0 m c : FVec Ideal S128x2048 .f32) (ix2 n e)
      = resid (fun e => m ((c.tc : Thread nD τ).loc main_arg3) (ix2 n e : S128x2048.Idx)) (fun e => m ((c.tc : Thread nD τ).loc main_arg5) (ix2 ⟨n.val / 4, by omega⟩ e : S32x2048.Idx))
          (row (m ((c.tc : Thread nD τ).loc main_arg0)) (m ((c.tc : Thread nD τ).loc main_arg1)) (m ((c.tc : Thread nD τ).loc main_arg2)) n)
          (fun e => m ((c.tc : Thread nD τ).loc main_arg4) (ix2 0 e : S1x2048.Idx)) e := by
  show shapeCast S128x2048 (hostOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S32x4x2048_S128x2048 (ix2 n e) = _
  pointwise [hostOut_at, tok]
  try rfl

end Cert.SFfnRefIdeal.Model

end
-- ==== Proof.SFfnClaims.lean ====
/-
The claims of the feed-forward half: the runs, and that the pipelined program and the layer's mathematics end alike.
-/
module

public import proofs.«01_k».proof.Defs
public import proofs.«01_k».proof.Proof.SFfnValue
public import proofs.«01_k».proof.Proof.SFfnRef
public import proofs.«01_k».proof.Proof.SFfnFrame
public import proofs.«01_k».proof.Proof.Gen.SFfn
public import proofs.«01_k».proof.Proof.Gen.SFfnIdeal
public import proofs.«01_k».proof.Proof.Gen.SFfnRefIdeal
public import Idealize.ShloMosaic.Adequacy
public import Idealize.ShloMosaic.Init

@[expose] public section

set_option maxRecDepth 16384

noncomputable section

open Idealize.ShloMosaic Idealize.ShloMosaic.TcCoe Idealize.SL.Sem

namespace Cert.Proof.SFfnClaims

/-- The program read over bits runs the same body as the one read over the extended reals: the two are printed line for line alike. -/
theorem bodies_same : Cert.SFfn.defs₀ (F := Bits) = Cert.SFfnIdeal.defs₀ := by
  unfold Cert.SFfn.defs₀ Cert.SFfnIdeal.defs₀
  refine congrArg Defs.onTc (funext fun l => funext fun p => ?_)
  rcases l with ⟨_ | n, h⟩
  · rcases p with ⟨t, s⟩; rfl
  · exact absurd h (Nat.not_lt.2 (Nat.le_add_left _ _))

theorem defs_same : Cert.SFfn.defs (F := Bits) = Cert.SFfnIdeal.defs := congrArg (Idealize.ShloMosaic.Pipeline.defs (Cert.SFfn.pcfgs (F := Bits))) bodies_same

/-- So its frame is the frame proved for any float values, taken at bits. -/
theorem frame_bits : Cert.quiescent_SFfn := fun m ρ _ => by
  rw [defs_same]
  exact Cert.SFfnIdeal.Body.frame (F := Bits) m ρ

theorem frame_ideal : Cert.quiescent_SFfnIdeal := fun m ρ _ => Cert.SFfnIdeal.Body.frame m ρ
theorem frame_ref : Cert.quiescent_SFfnRefIdeal := fun m ρ _ =>
  (θ_run Cert.SFfnRefIdeal.defs _ _).mono (fun r h => ⟨fun c => (h c).2, Idealize.ShloMosaic.sem_eq_zero_of_no_sems (by decide) r.2⟩)
    (Cert.SFfnRefIdeal.Value.run (F := Ideal) m ρ)
theorem preserves : Cert.preserves_SFfn_SFfnIdeal := trivial

open Cert.SFfnIdeal.Model in
theorem algebraic : Cert.algebraic_SFfnIdeal_SFfnRefIdeal := by
  intro m ρ m' ρ' _ hagree
  refine ⟨fun c => Out (m ((c.tc : Thread Cert.SFfnIdeal.nD Cert.SFfnIdeal.τ).loc Cert.SFfnIdeal.main_arg0)) (m ((c.tc : Thread Cert.SFfnIdeal.nD Cert.SFfnIdeal.τ).loc Cert.SFfnIdeal.main_arg1)) (m ((c.tc : Thread Cert.SFfnIdeal.nD Cert.SFfnIdeal.τ).loc Cert.SFfnIdeal.main_arg2)) (m ((c.tc : Thread Cert.SFfnIdeal.nD Cert.SFfnIdeal.τ).loc Cert.SFfnIdeal.main_arg3)) (m ((c.tc : Thread Cert.SFfnIdeal.nD Cert.SFfnIdeal.τ).loc Cert.SFfnIdeal.main_arg4)) (m ((c.tc : Thread Cert.SFfnIdeal.nD Cert.SFfnIdeal.τ).loc Cert.SFfnIdeal.main_arg5)), ?_, ?_⟩
  · exact (θ_run Cert.SFfnIdeal.defs _ _).mono (fun r h c => ⟨((h.2.1 c).1 7).trans (final7 m c), h.1.1 c⟩)
      (θ_run_and (Cert.SFfnIdeal.Body.frame m ρ) (Cert.SFfnIdeal.Body.run_main_quiescent m ρ))
  · refine (θ_run Cert.SFfnRefIdeal.defs _ _).mono (fun r h c => ⟨(h c).1.trans ?_, (h c).2⟩) (Cert.SFfnRefIdeal.Value.run (F := Ideal) m' ρ')
    obtain ⟨h0, h1, h2, h3, h4, h5⟩ := hagree c
    beta_reduce
    rw [← h0, ← h1, ← h2, ← h3, ← h4, ← h5]
    funext i
    obtain ⟨n, e, rfl⟩ : ∃ (n : Fin 128) (e : Fin 2048), i = ix2 n e := ⟨i 0, i 1, eq_ix2 i⟩
    exact Cert.SFfnRefIdeal.Model.out0_at m' c n e

end Cert.Proof.SFfnClaims

end
-- ==== Proof.SMergeValue.lean ====
/-
The mixing half's output step as the pipelined program computes it: its two result arrays are, row by row, the gated
residual of the projected attention outputs and that residual normalised, scaled and shifted.
-/
module

public import proofs.«01_k».proof.Proof.Model
public import proofs.«01_k».proof.Proof.Gen.SMergeIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SMergeIdeal.Model

open Cert.SMergeIdeal Cert.SMergeIdeal.Gen Cert.Model

/-- The mixed row of token `n`, column by column. -/
def mixRow (oa ob : FVec Ideal S128x1024 .f32) (ga gb : FVec Ideal S1x1024 .f32) (w : FVec Ideal S1x2048x2048 .f32)
    (n : Fin 128) : Fin 2048 → EReal :=
  mix (fun k => oa (ix2 n k)) (fun k => ob (ix2 n k)) (fun k => ga (ix2 0 k)) (fun k => gb (ix2 0 k)) fun d e => w (ix3 0 d e)

/-- The residual stream's row of token `n`. -/
def x1Row (oa ob : FVec Ideal S128x1024 .f32) (ga gb : FVec Ideal S1x1024 .f32) (w : FVec Ideal S1x2048x2048 .f32)
    (x : FVec Ideal S128x2048 .f32) (gpost : FVec Ideal S1x2048 .f32) (gate : FVec Ideal S32x2048 .f32)
    (n : Fin 128) : Fin 2048 → EReal :=
  resid (fun e => x (ix2 n e)) (fun e => gate (ix2 ⟨n.val / 4, by omega⟩ e)) (mixRow oa ob ga gb w n) fun e => gpost (ix2 0 e)

/-- The first result array. -/
def X1 (oa ob : FVec Ideal S128x1024 .f32) (ga gb : FVec Ideal S1x1024 .f32) (w : FVec Ideal S1x2048x2048 .f32)
    (x : FVec Ideal S128x2048 .f32) (gpost : FVec Ideal S1x2048 .f32) (gate : FVec Ideal S32x2048 .f32) :
    FVec Ideal S128x2048 .f32 := fun i => x1Row oa ob ga gb w x gpost gate (i 0) (i 1)

/-- The second result array. -/
def H2 (oa ob : FVec Ideal S128x1024 .f32) (ga gb : FVec Ideal S1x1024 .f32) (w : FVec Ideal S1x2048x2048 .f32)
    (x : FVec Ideal S128x2048 .f32) (gpost : FVec Ideal S1x2048 .f32) (gate : FVec Ideal S32x2048 .f32)
    (gpre : FVec Ideal S1x2048 .f32) (shift scale : FVec Ideal S32x2048 .f32) : FVec Ideal S128x2048 .bf16 := fun i =>
  modulated (x1Row oa ob ga gb w x gpost gate (i 0)) (fun e => gpre (ix2 0 e)) (fun e => shift (ix2 ⟨(i 0).val / 4, by have h : (i 0).val < 128 := (i 0).isLt; omega⟩ e))
    (fun e => scale (ix2 ⟨(i 0).val / 4, by have h : (i 0).val < 128 := (i 0).isLt; omega⟩ e)) (i 1)

/-- The body's projected sum, entry by entry. -/
theorem pay2_at (a : FVec Ideal S128x1024 .f32) (ga : FVec Ideal S1x1024 .f32) (b : FVec Ideal S128x1024 .f32) (gb : FVec Ideal S1x1024 .f32)
    (wa wb : FVec Ideal S1024x2048 .bf16) (r : Fin 128) (e : Fin 2048) :
    k0_pay2 (F := Ideal) a ga b gb wa wb (ix2 r e)
      = (∑ k : Fin 1024, rms n1024 (fun k => a (ix2 r k)) (fun k => ga (ix2 0 k)) k * wa (ix2 k e))
        + ∑ k : Fin 1024, rms n1024 (fun k => b (ix2 r k)) (fun k => gb (ix2 0 k)) k * wb (ix2 k e) := by
  pointwise! [k0_pay2, rms]

/-- The body's residual, entry by entry. -/
theorem pay3_at (o x : FVec Ideal S128x2048 .f32) (gate : FVec Ideal S1x128x2048 .f32) (g : FVec Ideal S1x2048 .f32) (r : Fin 128) (e : Fin 2048) :
    k0_pay3 (F := Ideal) o x gate g (ix2 r e)
      = resid (fun e => x (ix2 r e)) (fun e => gate (ix3 0 r e)) (fun e => o (ix2 r e)) (fun e => g (ix2 0 e)) e := by
  pointwise! [k0_pay3, resid, rms]

/-- The body's second result, entry by entry, over its residual. -/
theorem pay1_at (o x : FVec Ideal S128x2048 .f32) (gate : FVec Ideal S1x128x2048 .f32) (g g2 : FVec Ideal S1x2048 .f32)
    (sc sh : FVec Ideal S1x128x2048 .f32) (r : Fin 128) (e : Fin 2048) :
    k0_pay1 (F := Ideal) (k0_pay4 o x gate g g2 sc) sh (ix2 r e)
      = modulated (fun e => k0_pay3 (F := Ideal) o x gate g (ix2 r e)) (fun e => g2 (ix2 0 e)) (fun e => sh (ix3 0 r e)) (fun e => sc (ix3 0 r e)) e := by
  generalize hP : k0_pay3 (F := Ideal) o x gate g = P
  pointwise! [k0_pay1, k0_pay4, hP, modulated, rms]

variable (m : (ℓ : Loc nD τ sig) → Buf (Elt Ideal) ℓ)

/-- Where each window's block sits at each point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![0, 0] ∧ win0_7.index t = ![0, 0, 0] ∧ win0_8.index t = ![0, 0]
    ∧ win0_9.index t = ![0, 0, 0] ∧ win0_10.index t = ![0, 0, 0] ∧ win0_11.index t = ![t.val, 0] ∧ win0_12.index t = ![t.val, 0] :=
  (by decide +kernel : ∀ t : Fin grid0.N, _)

theorem N_eq : cfg0.N = 1 := N_0

/-- The modulation rows spread over the tokens: four tokens to a row. -/
def spread (g : FVec Ideal S32x2048 .f32) : FVec Ideal S1x128x2048 .f32 :=
  broadcastInDim S1x128x2048 ![1, 2] bcast_S128x2048_S1x128x2048_1_2 (shapeCast S128x2048 (broadcastInDim S32x4x2048 ![0, 2] bcast_S32x2048_S32x4x2048_0_2 g) shapeCasts_S32x4x2048_S128x2048)

theorem spread_at (g : FVec Ideal S32x2048 .f32) (n : Fin 128) (e : Fin 2048) : spread g (ix3 0 n e) = g (ix2 ⟨n.val / 4, by omega⟩ e) := by
  unfold spread
  pointwise

theorem gate_at (c : Dev nD) (t : Fin cfg0.N) (r : Fin 128) (e : Fin 2048) (n : Fin 128) (hn : n.val = t.val * 128 + r.val) :
    (View.ld (iblk (F := Ideal) m c 7 t) r0_5 : FVec Ideal S1x128x2048 .f32) (ix3 0 r e) = (m ((c : Thread nD τ).loc main_arg7) : FVec Ideal S32x2048 .f32) (ix2 ⟨n.val / 4, by omega⟩ e) := by
  have ht : t.val < 1 := N_eq ▸ t.isLt
  obtain ⟨-, -, -, -, -, -, -, i7, -, i9, i10, -, -⟩ := idx t
  obtain rfl : n = r := Fin.ext (by omega)
  rw [show View.ld (iblk (F := Ideal) m c 7 t) r0_5 = iblk (F := Ideal) m c 7 t from View.ld_unit_zero (by funext a; fin_cases a <;> rfl) _ _]
  refine Eq.trans ?_ (spread_at (m ((c : Thread nD τ).loc main_arg7)) n e)
  rw [← show V m c main_v4 = spread (m ((c : Thread nD τ).loc main_arg7)) from rfl]
  blk_point [iblk, i7]

theorem shift_at (c : Dev nD) (t : Fin cfg0.N) (r : Fin 128) (e : Fin 2048) (n : Fin 128) (hn : n.val = t.val * 128 + r.val) :
    (View.ld (iblk (F := Ideal) m c 9 t) r0_5 : FVec Ideal S1x128x2048 .f32) (ix3 0 r e) = (m ((c : Thread nD τ).loc main_arg9) : FVec Ideal S32x2048 .f32) (ix2 ⟨n.val / 4, by omega⟩ e) := by
  have ht : t.val < 1 := N_eq ▸ t.isLt
  obtain ⟨-, -, -, -, -, -, -, i7, -, i9, i10, -, -⟩ := idx t
  obtain rfl : n = r := Fin.ext (by omega)
  rw [show View.ld (iblk (F := Ideal) m c 9 t) r0_5 = iblk (F := Ideal) m c 9 t from View.ld_unit_zero (by funext a; fin_cases a <;> rfl) _ _]
  refine Eq.trans ?_ (spread_at (m ((c : Thread nD τ).loc main_arg9)) n e)
  rw [← show V m c main_v7 = spread (m ((c : Thread nD τ).loc main_arg9)) from rfl]
  blk_point [iblk, i9]

theorem scale_at (c : Dev nD) (t : Fin cfg0.N) (r : Fin 128) (e : Fin 2048) (n : Fin 128) (hn : n.val = t.val * 128 + r.val) :
    (View.ld (iblk (F := Ideal) m c 10 t) r0_5 : FVec Ideal S1x128x2048 .f32) (ix3 0 r e) = (m ((c : Thread nD τ).loc main_arg10) : FVec Ideal S32x2048 .f32) (ix2 ⟨n.val / 4, by omega⟩ e) := by
  have ht : t.val < 1 := N_eq ▸ t.isLt
  obtain ⟨-, -, -, -, -, -, -, i7, -, i9, i10, -, -⟩ := idx t
  obtain rfl : n = r := Fin.ext (by omega)
  rw [show View.ld (iblk (F := Ideal) m c 10 t) r0_5 = iblk (F := Ideal) m c 10 t from View.ld_unit_zero (by funext a; fin_cases a <;> rfl) _ _]
  refine Eq.trans ?_ (spread_at (m ((c : Thread nD τ).loc main_arg10)) n e)
  rw [← show V m c main_v10 = spread (m ((c : Thread nD τ).loc main_arg10)) from rfl]
  blk_point [iblk, i10]

/-- The body's projected sum over the staged blocks is the mixed row of the token that the block's row holds. -/
theorem proj_at (c : Dev nD) (t : Fin cfg0.N) (r : Fin 128) (e : Fin 2048) (n : Fin 128) (hn : n.val = t.val * 128 + r.val) :
    Gen.k0_pay5 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r e)
      = mixRow (m ((c : Thread nD τ).loc main_arg0)) (m ((c : Thread nD τ).loc main_arg1)) (m ((c : Thread nD τ).loc main_arg2)) (m ((c : Thread nD τ).loc main_arg3)) (m ((c : Thread nD τ).loc main_arg4)) n e := by
  unfold Gen.k0_pay5
  rw [pay2_at]
  unfold mixRow mix
  pointwise [rms]
  blk_point [iblk, V, idx t]

/-- The body's residual over the staged blocks is the residual row of the token that the block's row holds. -/
theorem resid_at (c : Dev nD) (t : Fin cfg0.N) (r : Fin 128) (e : Fin 2048) (n : Fin 128) (hn : n.val = t.val * 128 + r.val) :
    k0_pay3 (F := Ideal) (Gen.k0_pay5 (iblk m c 0 t) (iblk m c 1 t) (iblk m c 2 t) (iblk m c 3 t) (iblk m c 4 t) (iblk m c 5 t) (iblk m c 6 t) (iblk m c 7 t) (iblk m c 8 t) (iblk m c 9 t) (iblk m c 10 t))
        (View.ld (iblk m c 5 t) r0_4) (View.ld (iblk m c 7 t) r0_5) (View.ld (iblk m c 6 t) r0_6) (ix2 r e)
      = x1Row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n e := by
  rw [pay3_at]
  unfold x1Row
  rw [funext fun e => proj_at m c t r e n hn, funext fun e => gate_at m c t r e n hn]
  generalize mixRow _ _ _ _ _ n = O
  unfold resid
  pointwise [rms]
  blk_point [iblk, V, idx t]

/-- The first result array after the run. -/
theorem final11 (c : Dev nD) : (dats m 0 c).arrAt 11 cfg0.N
    = X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]; unfold out0_11
  rw [View.canon_unit_zero (by funext a; fin_cases a <;> rfl)]
  have ht : t.val < 1 := N_eq ▸ t.isLt
  idx_vars y
  obtain ⟨n, hn⟩ : ∃ n : Fin 128, n.val = t.val * 128 + y0.val := ⟨⟨t.val * 128 + y0.val, by omega⟩, rfl⟩
  have hemb : ((View.whole main_v11_0).slice (win0_11.rect t)).emb (ix2 y0 y1) = (ix2 n y1 : S128x2048.Idx) := by
    blk_ext [idx t]
  rw [hemb]
  exact resid_at m c t y0 y1 n hn

/-- The second result array after the run. -/
theorem final12 (c : Dev nD) : (dats m 0 c).arrAt 12 cfg0.N
    = H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]; unfold out0_12
  rw [View.canon_unit_zero (by funext a; fin_cases a <;> rfl)]
  have ht : t.val < 1 := N_eq ▸ t.isLt
  idx_vars y
  obtain ⟨n, hn⟩ : ∃ n : Fin 128, n.val = t.val * 128 + y0.val := ⟨⟨t.val * 128 + y0.val, by omega⟩, rfl⟩
  have hemb : ((View.whole main_v11_1).slice (win0_12.rect t)).emb (ix2 y0 y1) = (ix2 n y1 : S128x2048.Idx) := by
    blk_ext [idx t]
  rw [hemb, pay1_at, funext fun e => shift_at m c t y0 e n hn, funext fun e => scale_at m c t y0 e n hn]
  refine (congrArg (fun f => modulated f _ _ _ y1) (funext fun e => resid_at m c t y0 e n hn)).trans ?_
  unfold H2
  pointwise
  generalize x1Row _ _ _ _ _ _ _ _ _ = O
  pointwise [modulated, rms]
  blk_point [iblk, V, idx t]

end Cert.SMergeIdeal.Model

end
-- ==== Proof.SMergeRef.lean ====
/-
The mixing half's output step as the layer's mathematics writes it, read row by row.
-/
module

public import proofs.«01_k».proof.Proof.Model
public import proofs.«01_k».proof.Proof.Gen.SMergeRefIdeal.Run
public import Idealize.ShloMosaic.Lib.Pipeline.ValueKit

@[expose] public section

set_option maxRecDepth 16384

noncomputable section

open Idealize.ShloMosaic Idealize.ShloMosaic.TcCoe Idealize.SL.Sem

namespace Cert.SMergeRefIdeal.Model

open Cert.SMergeRefIdeal Cert.SMergeRefIdeal.Gen Cert.SMergeRefIdeal.Value Cert.Model

variable (m : (ℓ : Loc nD τ sig) → Buf (Elt Ideal) ℓ)

/-- The residual row of token `n`. -/
def row (c : Dev nD) (n : Fin 128) : Fin 2048 → EReal :=
  resid (fun e => m ((c.tc : Thread nD τ).loc main_arg5) (ix2 n e : S128x2048.Idx)) (fun e => m ((c.tc : Thread nD τ).loc main_arg7) (ix2 ⟨n.val / 4, by omega⟩ e : S32x2048.Idx))
    (mix (fun k => m ((c.tc : Thread nD τ).loc main_arg0) (ix2 n k : S128x1024.Idx)) (fun k => m ((c.tc : Thread nD τ).loc main_arg1) (ix2 n k : S128x1024.Idx))
      (fun k => m ((c.tc : Thread nD τ).loc main_arg2) (ix2 0 k : S1x1024.Idx)) (fun k => m ((c.tc : Thread nD τ).loc main_arg3) (ix2 0 k : S1x1024.Idx))
      fun d e => m ((c.tc : Thread nD τ).loc main_arg4) (ix3 0 d e : S1x2048x2048.Idx))
    fun e => m ((c.tc : Thread nD τ).loc main_arg6) (ix2 0 e : S1x2048.Idx)

/-- The reference's normalisation of a row of 2048, as its host operations write it. -/
def hostRms (X : FVec Ideal S32x4x2048 .f32) (g : FVec Ideal S1x2048 .f32) : FVec Ideal S32x4x2048 .f32 :=
  mulf (mulf X (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf X X) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 (shapeCast _ g shapeCasts_S1x2048_S2048)))

/-- The same for a row of 1024, of an array with all tokens on one axis. -/
def hostRms1 (x : FVec Ideal S128x1024 .f32) (g : FVec Ideal S1x1024 .f32) : FVec Ideal S32x4x1024 .f32 :=
  mulf (mulf (shapeCast _ x shapeCasts_S128x1024_S32x4x1024) (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf (shapeCast _ x shapeCasts_S128x1024_S32x4x1024) (shapeCast _ x shapeCasts_S128x1024_S32x4x1024)) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 (shapeCast _ g shapeCasts_S1x1024_S1024)))

theorem hostRms_at (X : FVec Ideal S32x4x2048 .f32) (g : FVec Ideal S1x2048 .f32) (b : Fin 32) (t : Fin 4) (e : Fin 2048) :
    hostRms X g (ix3 b t e) = rms n2048 (fun e => X (ix3 b t e)) (fun e => g (ix2 0 e)) e := by
  pointwise! [hostRms, rms]

theorem hostRms1_at (x : FVec Ideal S128x1024 .f32) (g : FVec Ideal S1x1024 .f32) (b : Fin 32) (t : Fin 4) (k : Fin 1024) :
    hostRms1 x g (ix3 b t k)
      = rms n1024 (fun k => x (ix2 ⟨b.val * 4 + t.val, by omega⟩ k)) (fun k => g (ix2 0 k)) k := by
  pointwise! [hostRms1, rms]

/-- The output projection of both groups' normalised outputs. -/
def hostMix (oa ob : FVec Ideal S128x1024 .f32) (ga gb : FVec Ideal S1x1024 .f32) (w : FVec Ideal S1x2048x2048 .f32) : FVec Ideal S32x4x2048 .f32 :=
  Host.dotGeneral (φ₁ := .f32) (φ₂ := .f32) dot_S32x4x2048_S2048x2048_S32x4x2048_2_0_01_1_n_n none (concatenate S32x4x2048 2 [⟨S32x4x1024, hostRms1 oa ga⟩, ⟨S32x4x1024, hostRms1 ob gb⟩] concatenates_S32x4x1024_S32x4x1024_S32x4x2048_d2) (shapeCast _ w shapeCasts_S1x2048x2048_S2048x2048)

theorem hostMix_at (oa ob : FVec Ideal S128x1024 .f32) (ga gb : FVec Ideal S1x1024 .f32) (w : FVec Ideal S1x2048x2048 .f32) (b : Fin 32) (t : Fin 4) (e : Fin 2048) :
    hostMix oa ob ga gb w (ix3 b t e)
      = mix (fun k => oa (ix2 ⟨b.val * 4 + t.val, by omega⟩ k)) (fun k => ob (ix2 ⟨b.val * 4 + t.val, by omega⟩ k)) (fun k => ga (ix2 0 k)) (fun k => gb (ix2 0 k)) (fun d e => w (ix3 0 d e)) e := by
  pointwise [hostMix, hostRms1_at]
  rfl

/-- The residual stream over both axes of tokens. -/
def hostX1 (oa ob : FVec Ideal S128x1024 .f32) (ga gb : FVec Ideal S1x1024 .f32) (w : FVec Ideal S1x2048x2048 .f32)
    (x : FVec Ideal S128x2048 .f32) (gpost : FVec Ideal S1x2048 .f32) (gate : FVec Ideal S32x2048 .f32) : FVec Ideal S32x4x2048 .f32 :=
  addf (shapeCast _ x shapeCasts_S128x2048_S32x4x2048) (mulf (broadcastInDim S32x4x2048 ![0, 1, 2] bcast_S32x1x2048_S32x4x2048_0_1_2 (broadcastInDim S32x1x2048 ![0, 2] bcast_S32x2048_S32x1x2048_0_2 gate)) (hostRms (hostMix oa ob ga gb w) gpost))

theorem hostX1_at (oa ob : FVec Ideal S128x1024 .f32) (ga gb : FVec Ideal S1x1024 .f32) (w : FVec Ideal S1x2048x2048 .f32)
    (x : FVec Ideal S128x2048 .f32) (gpost : FVec Ideal S1x2048 .f32) (gate : FVec Ideal S32x2048 .f32) (b : Fin 32) (t : Fin 4) (e : Fin 2048) :
    hostX1 oa ob ga gb w x gpost gate (ix3 b t e)
      = resid (fun e => x (ix2 ⟨b.val * 4 + t.val, by omega⟩ e)) (fun e => gate (ix2 b e))
          (mix (fun k => oa (ix2 ⟨b.val * 4 + t.val, by omega⟩ k)) (fun k => ob (ix2 ⟨b.val * 4 + t.val, by omega⟩ k)) (fun k => ga (ix2 0 k)) (fun k => gb (ix2 0 k)) fun d e => w (ix3 0 d e))
          (fun e => gpost (ix2 0 e)) e := by
  pointwise [hostX1, hostRms_at, hostMix_at]
  rfl

/-- A token's index recovered from its batch and its place in it. -/
theorem tok (n : Fin 128) (h : n.val / 4 * 4 + n.val % 4 < 128) : (⟨n.val / 4 * 4 + n.val % 4, h⟩ : Fin 128) = n :=
  Fin.ext (by show n.val / 4 * 4 + n.val % 4 = n.val; omega)

/-- The first result of the reference, entry by entry. -/
theorem out0_at (c : Dev nD) (n : Fin 128) (e : Fin 2048) :
    (res_out0 m c : FVec Ideal S128x2048 .f32) (ix2 n e) = row m c n e := by
  show shapeCast S128x2048 (hostX1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) shapeCasts_S32x4x2048_S128x2048 (ix2 n e) = _
  pointwise [hostX1_at, tok]
  rfl

/-- The second result of the reference, entry by entry. -/
theorem out1_at (c : Dev nD) (n : Fin 128) (e : Fin 2048) :
    (res_out1 m c : FVec Ideal S128x2048 .bf16) (ix2 n e)
      = modulated (row m c n) (fun e => m ((c.tc : Thread nD τ).loc main_arg8) (ix2 0 e : S1x2048.Idx))
          (fun e => m ((c.tc : Thread nD τ).loc main_arg9) (ix2 ⟨n.val / 4, by omega⟩ e : S32x2048.Idx))
          (fun e => m ((c.tc : Thread nD τ).loc main_arg10) (ix2 ⟨n.val / 4, by omega⟩ e : S32x2048.Idx)) e := by
  show truncf (F := Ideal) .bf16 (shapeCast S128x2048 (addf (mulf (hostRms (hostX1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)))
    (broadcastInDim S32x4x2048 ![0, 1, 2] bcast_S32x1x2048_S32x4x2048_0_1_2 (addf (broadcastInDim S32x1x2048 ![] bcast_S_S32x1x2048 (constant S_ .f32 0x3F800000#32)) (broadcastInDim S32x1x2048 ![0, 2] bcast_S32x2048_S32x1x2048_0_2 (m ((c.tc : Thread nD τ).loc main_arg10)))))) (broadcastInDim S32x4x2048 ![0, 1, 2] bcast_S32x1x2048_S32x4x2048_0_1_2 (broadcastInDim S32x1x2048 ![0, 2] bcast_S32x2048_S32x1x2048_0_2 (m ((c.tc : Thread nD τ).loc main_arg9))))) shapeCasts_S32x4x2048_S128x2048) bitsLt_bf16_f32 (ix2 n e) = _
  pointwise [hostRms_at, hostX1_at, tok]
  rfl

end Cert.SMergeRefIdeal.Model

end
-- ==== Proof.SMergeClaims.lean ====
/-
The claims of the output step: the runs, and that the pipelined program and the layer's mathematics end alike.
-/
module

public import proofs.«01_k».proof.Defs
public import proofs.«01_k».proof.Proof.SMergeValue
public import proofs.«01_k».proof.Proof.SMergeRef
public import proofs.«01_k».proof.Proof.Gen.SMerge
public import proofs.«01_k».proof.Proof.Gen.SMerge.Frame
public import proofs.«01_k».proof.Proof.Gen.SMergeIdeal
public import proofs.«01_k».proof.Proof.Gen.SMergeRefIdeal
public import Idealize.ShloMosaic.Adequacy
public import Idealize.ShloMosaic.Init

@[expose] public section

set_option maxRecDepth 16384

noncomputable section

open Idealize.ShloMosaic Idealize.ShloMosaic.TcCoe Idealize.SL.Sem

namespace Cert.Proof.SMergeClaims

theorem frame_bits : Cert.quiescent_SMerge := fun m ρ _ => Cert.SMerge.Gen.frame m ρ
theorem frame_ideal : Cert.quiescent_SMergeIdeal := fun m ρ _ => Cert.SMergeIdeal.Gen.frame m ρ
theorem frame_ref : Cert.quiescent_SMergeRefIdeal := fun m ρ _ =>
  (θ_run Cert.SMergeRefIdeal.defs _ _).mono (fun r h => ⟨fun c => (h c).2.2, Idealize.ShloMosaic.sem_eq_zero_of_no_sems (by decide) r.2⟩)
    (Cert.SMergeRefIdeal.Value.run (F := Ideal) m ρ)
theorem preserves : Cert.preserves_SMerge_SMergeIdeal := trivial

open Cert.SMergeIdeal.Model in
theorem algebraic : Cert.algebraic_SMergeIdeal_SMergeRefIdeal := by
  intro m ρ m' ρ' _ hagree
  refine ⟨fun c => X1 (m ((c.tc : Thread Cert.SMergeIdeal.nD Cert.SMergeIdeal.τ).loc Cert.SMergeIdeal.main_arg0)) (m ((c.tc : Thread Cert.SMergeIdeal.nD Cert.SMergeIdeal.τ).loc Cert.SMergeIdeal.main_arg1)) (m ((c.tc : Thread Cert.SMergeIdeal.nD Cert.SMergeIdeal.τ).loc Cert.SMergeIdeal.main_arg2)) (m ((c.tc : Thread Cert.SMergeIdeal.nD Cert.SMergeIdeal.τ).loc Cert.SMergeIdeal.main_arg3)) (m ((c.tc : Thread Cert.SMergeIdeal.nD Cert.SMergeIdeal.τ).loc Cert.SMergeIdeal.main_arg4)) (m ((c.tc : Thread Cert.SMergeIdeal.nD Cert.SMergeIdeal.τ).loc Cert.SMergeIdeal.main_arg5)) (m ((c.tc : Thread Cert.SMergeIdeal.nD Cert.SMergeIdeal.τ).loc Cert.SMergeIdeal.main_arg6)) (m ((c.tc : Thread Cert.SMergeIdeal.nD Cert.SMergeIdeal.τ).loc Cert.SMergeIdeal.main_arg7)), fun c => H2 (m ((c.tc : Thread Cert.SMergeIdeal.nD Cert.SMergeIdeal.τ).loc Cert.SMergeIdeal.main_arg0)) (m ((c.tc : Thread Cert.SMergeIdeal.nD Cert.SMergeIdeal.τ).loc Cert.SMergeIdeal.main_arg1)) (m ((c.tc : Thread Cert.SMergeIdeal.nD Cert.SMergeIdeal.τ).loc Cert.SMergeIdeal.main_arg2)) (m ((c.tc : Thread Cert.SMergeIdeal.nD Cert.SMergeIdeal.τ).loc Cert.SMergeIdeal.main_arg3)) (m ((c.tc : Thread Cert.SMergeIdeal.nD Cert.SMergeIdeal.τ).loc Cert.SMergeIdeal.main_arg4)) (m ((c.tc : Thread Cert.SMergeIdeal.nD Cert.SMergeIdeal.τ).loc Cert.SMergeIdeal.main_arg5)) (m ((c.tc : Thread Cert.SMergeIdeal.nD Cert.SMergeIdeal.τ).loc Cert.SMergeIdeal.main_arg6)) (m ((c.tc : Thread Cert.SMergeIdeal.nD Cert.SMergeIdeal.τ).loc Cert.SMergeIdeal.main_arg7)) (m ((c.tc : Thread Cert.SMergeIdeal.nD Cert.SMergeIdeal.τ).loc Cert.SMergeIdeal.main_arg8)) (m ((c.tc : Thread Cert.SMergeIdeal.nD Cert.SMergeIdeal.τ).loc Cert.SMergeIdeal.main_arg9)) (m ((c.tc : Thread Cert.SMergeIdeal.nD Cert.SMergeIdeal.τ).loc Cert.SMergeIdeal.main_arg10)), ?_, ?_⟩
  · exact (θ_run Cert.SMergeIdeal.defs _ _).mono (fun r h c => ⟨(h c).1.trans (final11 m c), (h c).2.1.trans (final12 m c), (h c).2.2⟩)
      (Cert.SMergeIdeal.Value.run_blocks m ρ)
  · refine (θ_run Cert.SMergeRefIdeal.defs _ _).mono (fun r h c => ⟨(h c).1.trans ?_, (h c).2.1.trans ?_, (h c).2.2⟩) (Cert.SMergeRefIdeal.Value.run (F := Ideal) m' ρ')
    all_goals
      obtain ⟨h0, h1, h2, h3, h4, h5, h6, h7, h8, h9, h10⟩ := hagree c
      beta_reduce
    · rw [← h0, ← h1, ← h2, ← h3, ← h4, ← h5, ← h6, ← h7]
      funext i
      obtain ⟨n, e, rfl⟩ : ∃ (n : Fin 128) (e : Fin 2048), i = ix2 n e := ⟨i 0, i 1, eq_ix2 i⟩
      exact Cert.SMergeRefIdeal.Model.out0_at m' c n e
    · rw [← h0, ← h1, ← h2, ← h3, ← h4, ← h5, ← h6, ← h7, ← h8, ← h9, ← h10]
      funext i
      obtain ⟨n, e, rfl⟩ : ∃ (n : Fin 128) (e : Fin 2048), i = ix2 n e := ⟨i 0, i 1, eq_ix2 i⟩
      exact Cert.SMergeRefIdeal.Model.out1_at m' c n e

end Cert.Proof.SMergeClaims

end
-- ==== Proof.SProjBody.lean ====
/-
  The body of the projection call at one grid point.

  A block of 128 tokens takes seven points.  The first normalises and modulates the block into the scratch
  buffer and multiplies it with the first block of 1024 columns; the next five multiply it with one further block
  of columns each; the last multiplies it with the narrow remaining columns, once as they are and once transposed.
  The heads of the keys and values are stored as strided rows, one row of every token at a time.
-/
module

public import proofs.«01_k».proof.Proof.Gen.SProjIdeal.Frame
public import proofs.«01_k».proof.Proof.Gen.SProjIdeal.Launch
public import proofs.«01_k».proof.Proof.Gen.SProjIdeal.Skeleton
public import proofs.«01_k».proof.Proof.Gen.SProjIdeal.Points
public import Idealize.ShloMosaic.Lib.Pipeline.FrameBody
public import Idealize.ShloMosaic.Lib.Pipeline.DatRel
public import Idealize.ShloMosaic.Lib.Pipeline.ArrRel
public import Idealize.ShloMosaic.Lib.Claim
public import Idealize.ShloMosaic.Lib.Ring
public import Idealize.ShloMosaic.Lib.Tactic
public import Idealize.ShloMosaic.Lib.WritesUnit
public import Idealize.ShloMosaic.Lib.Pointwise
public import Idealize.ShloMosaic.Lib.UnfoldOut
public import Idealize.ShloMosaic.Lib.WordCmp

@[expose] public section

set_option maxRecDepth 16384

noncomputable section

namespace Cert.SProjIdeal.Body

open Cert.SProjIdeal Cert.SProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Loads and stores of whole buffers and of strided rows -/

/-- A load of a whole view reads its contents. -/
theorem readAt_whole2 {e : EltTy} {a b : ℕ} (v : View sig .tc .vmem ⟨2, ![a, b]⟩ e) (f : v.ty.Contents (Elt F)) (inb) :
    v.readAt (Elt F) (Rect.unit (s := ⟨2, ![a, b]⟩) ![0, 0] ![a, b] inb).toLoadRect f = v.read (Elt F) f := by
  funext y
  rw [View.readAt_apply]
  refine congrArg _ (funext fun d => Fin.ext ?_)
  fin_cases d <;> simp [LoadRect.idx, Rect.toLoadRect, Rect.unit]

theorem readAt_whole3 {e : EltTy} {a b d : ℕ} (v : View sig .tc .vmem ⟨3, ![a, b, d]⟩ e) (f : v.ty.Contents (Elt F)) (inb) :
    v.readAt (Elt F) (Rect.unit (s := ⟨3, ![a, b, d]⟩) ![0, 0, 0] ![a, b, d] inb).toLoadRect f = v.read (Elt F) f := by
  funext y
  rw [View.readAt_apply]
  refine congrArg _ (funext fun d => Fin.ext ?_)
  fin_cases d <;> simp [LoadRect.idx, Rect.toLoadRect, Rect.unit]

/-- After a store of a whole view it holds the payload. -/
theorem read_writes_whole2 {e : EltTy} {a b : ℕ} (v : View sig .tc .vmem ⟨2, ![a, b]⟩ e) (f : v.ty.Contents (Elt F)) (inb)
    (w : (⟨2, ![a, b]⟩ : Shape).Idx → Elt F e) :
    v.read (Elt F) (v.writes (Elt F) f [⟨Rect.unit (s := ⟨2, ![a, b]⟩) ![0, 0] ![a, b] inb, w⟩]) = w := by
  funext y
  refine View.read_writes_cons_unit_of_mem v f inb w [] y y rfl fun d => ?_
  fin_cases d <;> simp

/-- A load of a whole view after such a store is the payload. -/
theorem readCov_whole2 [∀ e, Nonempty (Elt F e)] {e : EltTy} {a b : ℕ} (v : View sig .tc .vmem ⟨2, ![a, b]⟩ e) (inb) (w : (⟨2, ![a, b]⟩ : Shape).Idx → Elt F e) :
    v.readCov [(⟨Rect.unit (s := ⟨2, ![a, b]⟩) ![0, 0] ![a, b] inb, w⟩ : View.Piece (Elt F) ⟨2, ![a, b]⟩ e)]
        (Rect.unit (s := ⟨2, ![a, b]⟩) ![0, 0] ![a, b] inb).toLoadRect = w :=
  (readAt_whole2 v _ inb).trans (read_writes_whole2 v _ inb w)

theorem read_writes_whole3 {e : EltTy} {a b d : ℕ} (v : View sig .tc .vmem ⟨3, ![a, b, d]⟩ e) (f : v.ty.Contents (Elt F)) (inb)
    (w : (⟨3, ![a, b, d]⟩ : Shape).Idx → Elt F e) :
    v.read (Elt F) (v.writes (Elt F) f [⟨Rect.unit (s := ⟨3, ![a, b, d]⟩) ![0, 0, 0] ![a, b, d] inb, w⟩]) = w := by
  funext y
  refine View.read_writes_cons_unit_of_mem v f inb w [] y y rfl fun d => ?_
  fin_cases d <;> simp

/-- Of a store of every `D`-th row from row `j` on, row `j + D·t` reads row `t` of the payload, -/
theorem strided_mem {e : EltTy} {R D j : ℕ} (v : View sig .tc .vmem ⟨2, ![R, 128]⟩ e) (f : v.ty.Contents (Elt F)) (inb) (pos)
    (w : S128x128.Idx → Elt F e) (L : List (View.Piece (Elt F) ⟨2, ![R, 128]⟩ e)) (n : Fin R) (t : Fin 128) (l : Fin 128) (hn : n.val = j + D * t.val) :
    v.read (Elt F) (v.writes (Elt F) f ((⟨⟨(⟨![j, 0], ![128, 128], ![D, 1], inb⟩ : LoadRect ⟨2, ![R, 128]⟩), pos⟩, w⟩ : View.Piece (Elt F) ⟨2, ![R, 128]⟩ e) :: L)) (ix2 n l)
      = w (ix2 t l) := by
  have hy : (⟨(⟨![j, 0], ![128, 128], ![D, 1], inb⟩ : LoadRect ⟨2, ![R, 128]⟩), pos⟩ : Rect ⟨2, ![R, 128]⟩).emb (ix2 t l) = ix2 n l :=
    funext fun a => Fin.ext (by
      fin_cases a
      · show j + D * t.val = n.val; omega
      · show 0 + 1 * l.val = l.val; omega)
  exact (congrArg (v.read (Elt F) (v.writes (Elt F) f ((⟨⟨(⟨![j, 0], ![128, 128], ![D, 1], inb⟩ : LoadRect ⟨2, ![R, 128]⟩), pos⟩, w⟩ : View.Piece (Elt F) ⟨2, ![R, 128]⟩ e) :: L))) hy.symm).trans
    (View.read_writes_cons_emb v f (⟨(⟨![j, 0], ![128, 128], ![D, 1], inb⟩ : LoadRect ⟨2, ![R, 128]⟩), pos⟩ : Rect ⟨2, ![R, 128]⟩) w L (ix2 t l))

/-- and a row of another remainder is left as it was. -/
theorem strided_not_mem {e : EltTy} {R D j : ℕ} (v : View sig .tc .vmem ⟨2, ![R, 128]⟩ e) (f : v.ty.Contents (Elt F)) (inb) (pos)
    (w : S128x128.Idx → Elt F e) (L : List (View.Piece (Elt F) ⟨2, ![R, 128]⟩ e)) (n : Fin R) (l : Fin 128) (hn : n.val % D ≠ j % D) :
    v.read (Elt F) (v.writes (Elt F) f ((⟨⟨(⟨![j, 0], ![128, 128], ![D, 1], inb⟩ : LoadRect ⟨2, ![R, 128]⟩), pos⟩, w⟩ : View.Piece (Elt F) ⟨2, ![R, 128]⟩ e) :: L)) (ix2 n l)
      = v.read (Elt F) (v.writes (Elt F) f L) (ix2 n l) := by
  rw [View.writes_cons]
  refine View.read_slice_write_of_not_mem _ _ _ _ fun hmem => hn ?_
  obtain ⟨x, -, hx⟩ := Finset.mem_map.1 hmem
  have h0 : j + D * (x 0).val = n.val := congrArg (fun y : (⟨2, ![R, 128]⟩ : Shape).Idx => (y 0).val) hx
  rw [← h0, Nat.add_mul_mod_self_left]

/-- Row `j` of token `t` among eight rows a token, -/
def row8 (t : Fin 128) (j : Fin 8) : Fin 1024 := ⟨j.val + 8 * t.val, by have := t.isLt; have := j.isLt; omega⟩

/-- and among sixteen. -/
def row16 (t : Fin 128) (j : Fin 16) : Fin 2048 := ⟨j.val + 16 * t.val, by have := t.isLt; have := j.isLt; omega⟩

/-- The condition of the first point of a block, as it is printed. -/
def first (i : grid0.Coords) : Prop :=
  Scalar.cmpi .ne (Scalar.extui (Scalar.cmpi .eq (BitVec.ofNat 32 (i 1).val) 0#32) : BitVec 32) 0#32 = 1#1

/-! ## The seven points -/

set_option maxHeartbeats 1600000 in
/-- The first point of a block fills the scratch buffer and stores the first block of columns. -/
theorem kernel_0 (c : Dev nD) (E : Set ℕ) (i : grid0.Coords) (h1 : first i) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1)
    (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S128x1024 .bf16) (harg9 : arg9.IsWhole) (arg10 : Memref sig .tc .vmem S1024x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S2048x128 .f32) (harg14 : arg14.IsWhole) (arg15 : Memref sig .tc .vmem S128x1024 .bf16) (harg15 : arg15.IsWhole) (arg16 : Memref sig .tc .vmem S128x128 .f32) (harg16 : arg16.IsWhole) (arg17 : Memref sig .tc .vmem S1x64x128 .f32) (harg17 : arg17.IsWhole) (arg18 : Memref sig .tc .vmem S128x2048 .bf16) (harg18 : arg18.IsWhole)
    (x2 : Vec F S128x2048 .f32) (x3 : Vec F S1x2048 .f32) (x4 : Vec F S1x128x2048 .f32) (x5 : Vec F S1x128x2048 .f32) (x6 : Vec F S2048x1024 .bf16) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg9 fullShare d) ∗ (∃ d, owns (c : Thread nD τ) arg18 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg18 fullShare (k0_pay3 x2 x3 x5 x4) ∗ owns (c : Thread nD τ) arg9 fullShare (k0_pay4 (k0_pay3 x2 x3 x5 x4) x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_pos h1, dif_pos h2, dif_neg h3, dif_neg h4, dif_neg h5, dif_neg h6, dif_neg h7, dif_neg h8]
  unfold owns
  iintro ⟨⟨%f2, %hf2, H2⟩, ⟨%f3, %hf3, H3⟩, ⟨%f4, %hf4, H4⟩, ⟨%f5, %hf5, H5⟩, ⟨%f6, %hf6, H6⟩, ⟨%d9, %f9, -, H9⟩, ⟨%d18, %f18, -, H18⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H18]
  · iexists _; isplitr
    swap; · iexact H18
    ipureintro
    refine (read_writes_whole2 _ _ _ _).trans ?_
    rw [readAt_whole2, readAt_whole2, readAt_whole3, readAt_whole3]
  · iexists _; isplitr
    swap; · iexact H9
    ipureintro
    refine (read_writes_whole2 _ _ _ _).trans ?_
    delta kernel_0.sl.v32
    refine congrArg₂ k0_pay4 ((readCov_whole2 _ _ _).trans ?_) (readAt_whole2 _ _ _)
    rw [readAt_whole2, readAt_whole2, readAt_whole3, readAt_whole3]

set_option maxHeartbeats 1600000 in
/-- The second point stores the keys and values of the first attention, by heads and whole. -/
theorem kernel_1 (c : Dev nD) (E : Set ℕ) (i : grid0.Coords) (h1 : ¬ first i) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (h8 : ¬ k0_cond8 i = 1#1)
    (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S128x1024 .bf16) (harg9 : arg9.IsWhole) (arg10 : Memref sig .tc .vmem S1024x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S2048x128 .f32) (harg14 : arg14.IsWhole) (arg15 : Memref sig .tc .vmem S128x1024 .bf16) (harg15 : arg15.IsWhole) (arg16 : Memref sig .tc .vmem S128x128 .f32) (harg16 : arg16.IsWhole) (arg17 : Memref sig .tc .vmem S1x64x128 .f32) (harg17 : arg17.IsWhole) (arg18 : Memref sig .tc .vmem S128x2048 .bf16) (harg18 : arg18.IsWhole)
    (x6 : Vec F S2048x1024 .bf16) (x18 : Vec F S128x2048 .bf16) (K : PUnit → sProp 𝕄) :
    iprop(owns (c : Thread nD τ) arg6 fullShare x6 ∗ owns (c : Thread nD τ) arg18 fullShare x18 ∗ (∃ d, owns (c : Thread nD τ) arg10 fullShare d) ∗ (∃ d, owns (c : Thread nD τ) arg11 fullShare d)
        ∗ (iprop(owns (c : Thread nD τ) arg6 fullShare x6 ∗ owns (c : Thread nD τ) arg18 fullShare x18 ∗ (∃ y10 : Vec F S1024x128 .f32, ⌜∀ (t : Fin 128) (j : Fin 8) (l : Fin 128), y10 (ix2 (row8 t j) l) = ![k0_pay6 x18 x6, k0_pay7 x18 x6, k0_pay8 x18 x6, k0_pay9 x18 x6, k0_pay10 x18 x6, k0_pay11 x18 x6, k0_pay12 x18 x6, k0_pay13 x18 x6] j (ix2 t l)⌝ ∗ owns (c : Thread nD τ) arg10 fullShare y10) ∗ owns (c : Thread nD τ) arg11 fullShare (k0_pay14 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_pos h3, dif_neg h4, dif_neg h5, dif_neg h6, dif_neg h7, dif_neg h8]
  unfold owns
  iintro ⟨⟨%f6, %hf6, H6⟩, ⟨%f18, %hf18, H18⟩, ⟨%d10, %f10, -, H10⟩, ⟨%d11, %f11, -, H11⟩, Hk⟩
  subst hf6 hf18
  sl_exec
  sl_step
  iapply Hk
  isplitl [H6]
  · iexists f6; isplitr; · ipureintro; rfl
    iexact H6
  isplitl [H18]
  · iexists f18; isplitr; · ipureintro; rfl
    iexact H18
  isplitl [H10]
  · iexists _
    isplitr
    swap
    · iexists _; isplitr
      swap; · iexact H10
      ipureintro; rfl
    ipureintro
    rw [readAt_whole2, readAt_whole2]
    intro t j l
    fin_cases j
    · refine (strided_not_mem _ _ _ _ _ _ _ _ (by show (0 + 8 * t.val) % 8 ≠ 7 % 8; omega)).trans ?_
      refine (strided_not_mem _ _ _ _ _ _ _ _ (by show (0 + 8 * t.val) % 8 ≠ 6 % 8; omega)).trans ?_
      refine (strided_not_mem _ _ _ _ _ _ _ _ (by show (0 + 8 * t.val) % 8 ≠ 5 % 8; omega)).trans ?_
      refine (strided_not_mem _ _ _ _ _ _ _ _ (by show (0 + 8 * t.val) % 8 ≠ 4 % 8; omega)).trans ?_
      refine (strided_not_mem _ _ _ _ _ _ _ _ (by show (0 + 8 * t.val) % 8 ≠ 3 % 8; omega)).trans ?_
      refine (strided_not_mem _ _ _ _ _ _ _ _ (by show (0 + 8 * t.val) % 8 ≠ 2 % 8; omega)).trans ?_
      refine (strided_not_mem _ _ _ _ _ _ _ _ (by show (0 + 8 * t.val) % 8 ≠ 1 % 8; omega)).trans ?_
      exact strided_mem _ _ _ _ _ _ _ t l rfl
    · refine (strided_not_mem _ _ _ _ _ _ _ _ (by show (1 + 8 * t.val) % 8 ≠ 7 % 8; omega)).trans ?_
      refine (strided_not_mem _ _ _ _ _ _ _ _ (by show (1 + 8 * t.val) % 8 ≠ 6 % 8; omega)).trans ?_
      refine (strided_not_mem _ _ _ _ _ _ _ _ (by show (1 + 8 * t.val) % 8 ≠ 5 % 8; omega)).trans ?_
      refine (strided_not_mem _ _ _ _ _ _ _ _ (by show (1 + 8 * t.val) % 8 ≠ 4 % 8; omega)).trans ?_
      refine (strided_not_mem _ _ _ _ _ _ _ _ (by show (1 + 8 * t.val) % 8 ≠ 3 % 8; omega)).trans ?_
      refine (strided_not_mem _ _ _ _ _ _ _ _ (by show (1 + 8 * t.val) % 8 ≠ 2 % 8; omega)).trans ?_
      exact strided_mem _ _ _ _ _ _ _ t l rfl
    · refine (strided_not_mem _ _ _ _ _ _ _ _ (by show (2 + 8 * t.val) % 8 ≠ 7 % 8; omega)).trans ?_
      refine (strided_not_mem _ _ _ _ _ _ _ _ (by show (2 + 8 * t.val) % 8 ≠ 6 % 8; omega)).trans ?_
      refine (strided_not_mem _ _ _ _ _ _ _ _ (by show (2 + 8 * t.val) % 8 ≠ 5 % 8; omega)).trans ?_
      refine (strided_not_mem _ _ _ _ _ _ _ _ (by show (2 + 8 * t.val) % 8 ≠ 4 % 8; omega)).trans ?_
      refine (strided_not_mem _ _ _ _ _ _ _ _ (by show (2 + 8 * t.val) % 8 ≠ 3 % 8; omega)).trans ?_
      exact strided_mem _ _ _ _ _ _ _ t l rfl
    · refine (strided_not_mem _ _ _ _ _ _ _ _ (by show (3 + 8 * t.val) % 8 ≠ 7 % 8; omega)).trans ?_
      refine (strided_not_mem _ _ _ _ _ _ _ _ (by show (3 + 8 * t.val) % 8 ≠ 6 % 8; omega)).trans ?_
      refine (strided_not_mem _ _ _ _ _ _ _ _ (by show (3 + 8 * t.val) % 8 ≠ 5 % 8; omega)).trans ?_
      refine (strided_not_mem _ _ _ _ _ _ _ _ (by show (3 + 8 * t.val) % 8 ≠ 4 % 8; omega)).trans ?_
      exact strided_mem _ _ _ _ _ _ _ t l rfl
    · refine (strided_not_mem _ _ _ _ _ _ _ _ (by show (4 + 8 * t.val) % 8 ≠ 7 % 8; omega)).trans ?_
      refine (strided_not_mem _ _ _ _ _ _ _ _ (by show (4 + 8 * t.val) % 8 ≠ 6 % 8; omega)).trans ?_
      refine (strided_not_mem _ _ _ _ _ _ _ _ (by show (4 + 8 * t.val) % 8 ≠ 5 % 8; omega)).trans ?_
      exact strided_mem _ _ _ _ _ _ _ t l rfl
    · refine (strided_not_mem _ _ _ _ _ _ _ _ (by show (5 + 8 * t.val) % 8 ≠ 7 % 8; omega)).trans ?_
      refine (strided_not_mem _ _ _ _ _ _ _ _ (by show (5 + 8 * t.val) % 8 ≠ 6 % 8; omega)).trans ?_
      exact strided_mem _ _ _ _ _ _ _ t l rfl
    · refine (strided_not_mem _ _ _ _ _ _ _ _ (by show (6 + 8 * t.val) % 8 ≠ 7 % 8; omega)).trans ?_
      exact strided_mem _ _ _ _ _ _ _ t l rfl
    · exact strided_mem _ _ _ _ _ _ _ t l rfl
  · iexists _; isplitr
    swap; · iexact H11
    ipureintro
    refine (read_writes_whole2 _ _ _ _).trans ?_
    rw [readAt_whole2, readAt_whole2]

set_option maxHeartbeats 1600000 in
/-- The third point stores one block of columns, the queries of the indexer. -/
theorem kernel_2 (c : Dev nD) (E : Set ℕ) (i : grid0.Coords) (h1 : ¬ first i) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) (h8 : ¬ k0_cond8 i = 1#1)
    (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S128x1024 .bf16) (harg9 : arg9.IsWhole) (arg10 : Memref sig .tc .vmem S1024x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S2048x128 .f32) (harg14 : arg14.IsWhole) (arg15 : Memref sig .tc .vmem S128x1024 .bf16) (harg15 : arg15.IsWhole) (arg16 : Memref sig .tc .vmem S128x128 .f32) (harg16 : arg16.IsWhole) (arg17 : Memref sig .tc .vmem S1x64x128 .f32) (harg17 : arg17.IsWhole) (arg18 : Memref sig .tc .vmem S128x2048 .bf16) (harg18 : arg18.IsWhole)
    (x6 : Vec F S2048x1024 .bf16) (x18 : Vec F S128x2048 .bf16) (K : PUnit → sProp 𝕄) :
    iprop(owns (c : Thread nD τ) arg6 fullShare x6 ∗ owns (c : Thread nD τ) arg18 fullShare x18 ∗ (∃ d, owns (c : Thread nD τ) arg12 fullShare d)
        ∗ (iprop(owns (c : Thread nD τ) arg6 fullShare x6 ∗ owns (c : Thread nD τ) arg18 fullShare x18 ∗ owns (c : Thread nD τ) arg12 fullShare (k0_pay15 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_pos h4, dif_neg h5, dif_neg h6, dif_neg h7, dif_neg h8]
  unfold owns
  iintro ⟨⟨%f6, %hf6, H6⟩, ⟨%f18, %hf18, H18⟩, ⟨%d12, %f12, -, H12⟩, Hk⟩
  subst hf6 hf18
  sl_exec
  sl_step
  iapply Hk
  isplitl [H6]
  · iexists f6; isplitr; · ipureintro; rfl
    iexact H6
  isplitl [H18]
  · iexists f18; isplitr; · ipureintro; rfl
    iexact H18
  · iexists _; isplitr
    swap; · iexact H12
    ipureintro
    refine (read_writes_whole2 _ _ _ _).trans ?_
    rw [readAt_whole2, readAt_whole2]

set_option maxHeartbeats 1600000 in
/-- The fourth point stores one block of columns, the queries of the second attention. -/
theorem kernel_3 (c : Dev nD) (E : Set ℕ) (i : grid0.Coords) (h1 : ¬ first i) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) (h8 : ¬ k0_cond8 i = 1#1)
    (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S128x1024 .bf16) (harg9 : arg9.IsWhole) (arg10 : Memref sig .tc .vmem S1024x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S2048x128 .f32) (harg14 : arg14.IsWhole) (arg15 : Memref sig .tc .vmem S128x1024 .bf16) (harg15 : arg15.IsWhole) (arg16 : Memref sig .tc .vmem S128x128 .f32) (harg16 : arg16.IsWhole) (arg17 : Memref sig .tc .vmem S1x64x128 .f32) (harg17 : arg17.IsWhole) (arg18 : Memref sig .tc .vmem S128x2048 .bf16) (harg18 : arg18.IsWhole)
    (x6 : Vec F S2048x1024 .bf16) (x18 : Vec F S128x2048 .bf16) (K : PUnit → sProp 𝕄) :
    iprop(owns (c : Thread nD τ) arg6 fullShare x6 ∗ owns (c : Thread nD τ) arg18 fullShare x18 ∗ (∃ d, owns (c : Thread nD τ) arg13 fullShare d)
        ∗ (iprop(owns (c : Thread nD τ) arg6 fullShare x6 ∗ owns (c : Thread nD τ) arg18 fullShare x18 ∗ owns (c : Thread nD τ) arg13 fullShare (k0_pay16 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_neg h4, dif_pos h5, dif_neg h6, dif_neg h7, dif_neg h8]
  unfold owns
  iintro ⟨⟨%f6, %hf6, H6⟩, ⟨%f18, %hf18, H18⟩, ⟨%d13, %f13, -, H13⟩, Hk⟩
  subst hf6 hf18
  sl_exec
  sl_step
  iapply Hk
  isplitl [H6]
  · iexists f6; isplitr; · ipureintro; rfl
    iexact H6
  isplitl [H18]
  · iexists f18; isplitr; · ipureintro; rfl
    iexact H18
  · iexists _; isplitr
    swap; · iexact H13
    ipureintro
    refine (read_writes_whole2 _ _ _ _).trans ?_
    rw [readAt_whole2, readAt_whole2]

set_option maxHeartbeats 1600000 in
/-- The fifth point stores the first eight rows of every token, and the same columns whole. -/
theorem kernel_4 (c : Dev nD) (E : Set ℕ) (i : grid0.Coords) (h1 : ¬ first i) (h2 : ¬ k0_cond2 i = 1#1) (h3 : ¬ k0_cond3 i = 1#1) (h4 : ¬ k0_cond4 i = 1#1) (h5 : ¬ k0_cond5 i = 1#1) (h6 : k0_cond6 i = 1#1) (h7 : ¬ k0_cond7 i = 1#1) (h8 : ¬ k0_cond8 i = 1#1)
    (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S128x1024 .bf16) (harg9 : arg9.IsWhole) (arg10 : Memref sig .tc .vmem S1024x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S2048x128 .f32) (harg14 : arg14.IsWhole) (arg15 : Memref sig .tc .vmem S128x1024 .bf16) (harg15 : arg15.IsWhole) (arg16 : Memref sig .tc .vmem S128x128 .f32) (harg16 : arg16.IsWhole) (arg17 : Memref sig .tc .vmem S1x64x128 .f32) (harg17 : arg17.IsWhole) (arg18 : Memref sig .tc .vmem S128x2048 .bf16) (harg18 : arg18.IsWhole)
    (x6 : Vec F S2048x1024 .bf16) (x18 : Vec F S128x2048 .bf16) (x14 : Vec F S2048x128 .f32) (K : PUnit → sProp 𝕄) :
    iprop(owns (c : Thread nD τ) arg6 fullShare x6 ∗ owns (c : Thread nD τ) arg18 fullShare x18 ∗ owns (c : Thread nD τ) arg14 fullShare x14 ∗ (∃ d, owns (c : Thread nD τ) arg15 fullShare d)
        ∗ (iprop(owns (c : Thread nD τ) arg6 fullShare x6 ∗ owns (c : Thread nD τ) arg18 fullShare x18 ∗ (∃ y14 : Vec F S2048x128 .f32, ⌜∀ (t : Fin 128) (j : Fin 8) (l : Fin 128), y14 (ix2 (row16 t (j.castLE (by decide))) l) = ![k0_pay18 x18 x6, k0_pay19 x18 x6, k0_pay20 x18 x6, k0_pay21 x18 x6, k0_pay22 x18 x6, k0_pay23 x18 x6, k0_pay24 x18 x6, k0_pay25 x18 x6] j (ix2 t l)⌝ ∗ owns (c : Thread nD τ) arg14 fullShare y14) ∗ owns (c : Thread nD τ) arg15 fullShare (k0_pay26 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_neg h4, dif_neg h5, dif_pos h6, dif_neg h7, dif_neg h8]
  unfold owns
  iintro ⟨⟨%f6, %hf6, H6⟩, ⟨%f18, %hf18, H18⟩, ⟨%f14, %hf14, H14⟩, ⟨%d15, %f15, -, H15⟩, Hk⟩
  subst hf6 hf18 hf14
  sl_exec
  sl_step
  iapply Hk
  isplitl [H6]
  · iexists f6; isplitr; · ipureintro; rfl
    iexact H6
  isplitl [H18]
  · iexists f18; isplitr; · ipureintro; rfl
    iexact H18
  isplitl [H14]
  · iexists _
    isplitr
    swap
    · iexists _; isplitr
      swap; · iexact H14
      ipureintro; rfl
    ipureintro
    rw [readAt_whole2, readAt_whole2]
    intro t j l
    fin_cases j
    · refine (strided_not_mem _ _ _ _ _ _ _ _ (by show (0 + 16 * t.val) % 16 ≠ 7 % 16; omega)).trans ?_
      refine (strided_not_mem _ _ _ _ _ _ _ _ (by show (0 + 16 * t.val) % 16 ≠ 6 % 16; omega)).trans ?_
      refine (strided_not_mem _ _ _ _ _ _ _ _ (by show (0 + 16 * t.val) % 16 ≠ 5 % 16; omega)).trans ?_
      refine (strided_not_mem _ _ _ _ _ _ _ _ (by show (0 + 16 * t.val) % 16 ≠ 4 % 16; omega)).trans ?_
      refine (strided_not_mem _ _ _ _ _ _ _ _ (by show (0 + 16 * t.val) % 16 ≠ 3 % 16; omega)).trans ?_
      refine (strided_not_mem _ _ _ _ _ _ _ _ (by show (0 + 16 * t.val) % 16 ≠ 2 % 16; omega)).trans ?_
      refine (strided_not_mem _ _ _ _ _ _ _ _ (by show (0 + 16 * t.val) % 16 ≠ 1 % 16; omega)).trans ?_
      exact strided_mem _ _ _ _ _ _ _ t l rfl
    · refine (strided_not_mem _ _ _ _ _ _ _ _ (by show (1 + 16 * t.val) % 16 ≠ 7 % 16; omega)).trans ?_
      refine (strided_not_mem _ _ _ _ _ _ _ _ (by show (1 + 16 * t.val) % 16 ≠ 6 % 16; omega)).trans ?_
      refine (strided_not_mem _ _ _ _ _ _ _ _ (by show (1 + 16 * t.val) % 16 ≠ 5 % 16; omega)).trans ?_
      refine (strided_not_mem _ _ _ _ _ _ _ _ (by show (1 + 16 * t.val) % 16 ≠ 4 % 16; omega)).trans ?_
      refine (strided_not_mem _ _ _ _ _ _ _ _ (by show (1 + 16 * t.val) % 16 ≠ 3 % 16; omega)).trans ?_
      refine (strided_not_mem _ _ _ _ _ _ _ _ (by show (1 + 16 * t.val) % 16 ≠ 2 % 16; omega)).trans ?_
      exact strided_mem _ _ _ _ _ _ _ t l rfl
    · refine (strided_not_mem _ _ _ _ _ _ _ _ (by show (2 + 16 * t.val) % 16 ≠ 7 % 16; omega)).trans ?_
      refine (strided_not_mem _ _ _ _ _ _ _ _ (by show (2 + 16 * t.val) % 16 ≠ 6 % 16; omega)).trans ?_
      refine (strided_not_mem _ _ _ _ _ _ _ _ (by show (2 + 16 * t.val) % 16 ≠ 5 % 16; omega)).trans ?_
      refine (strided_not_mem _ _ _ _ _ _ _ _ (by show (2 + 16 * t.val) % 16 ≠ 4 % 16; omega)).trans ?_
      refine (strided_not_mem _ _ _ _ _ _ _ _ (by show (2 + 16 * t.val) % 16 ≠ 3 % 16; omega)).trans ?_
      exact strided_mem _ _ _ _ _ _ _ t l rfl
    · refine (strided_not_mem _ _ _ _ _ _ _ _ (by show (3 + 16 * t.val) % 16 ≠ 7 % 16; omega)).trans ?_
      refine (strided_not_mem _ _ _ _ _ _ _ _ (by show (3 + 16 * t.val) % 16 ≠ 6 % 16; omega)).trans ?_
      refine (strided_not_mem _ _ _ _ _ _ _ _ (by show (3 + 16 * t.val) % 16 ≠ 5 % 16; omega)).trans ?_
      refine (strided_not_mem _ _ _ _ _ _ _ _ (by show (3 + 16 * t.val) % 16 ≠ 4 % 16; omega)).trans ?_
      exact strided_mem _ _ _ _ _ _ _ t l rfl
    · refine (strided_not_mem _ _ _ _ _ _ _ _ (by show (4 + 16 * t.val) % 16 ≠ 7 % 16; omega)).trans ?_
      refine (strided_not_mem _ _ _ _ _ _ _ _ (by show (4 + 16 * t.val) % 16 ≠ 6 % 16; omega)).trans ?_
      refine (strided_not_mem _ _ _ _ _ _ _ _ (by show (4 + 16 * t.val) % 16 ≠ 5 % 16; omega)).trans ?_
      exact strided_mem _ _ _ _ _ _ _ t l rfl
    · refine (strided_not_mem _ _ _ _ _ _ _ _ (by show (5 + 16 * t.val) % 16 ≠ 7 % 16; omega)).trans ?_
      refine (strided_not_mem _ _ _ _ _ _ _ _ (by show (5 + 16 * t.val) % 16 ≠ 6 % 16; omega)).trans ?_
      exact strided_mem _ _ _ _ _ _ _ t l rfl
    · refine (strided_not_mem _ _ _ _ _ _ _ _ (by show (6 + 16 * t.val) % 16 ≠ 7 % 16; omega)).trans ?_
      exact strided_mem _ _ _ _ _ _ _ t l rfl
    · exact strided_mem _ _ _ _ _ _ _ t l rfl
  · iexists _; isplitr
    swap; · iexact H15
    ipureintro
    refine (read_writes_whole2 _ _ _ _).trans ?_
    rw [readAt_whole2, readAt_whole2]

set_option maxHeartbeats 1600000 in
/-- The sixth point stores the other eight rows of every token, leaving the first eight, and the same columns whole. -/
theorem kernel_5 (c : Dev nD) (E : Set ℕ) (i : grid0.Coords) (h1 : ¬ first i) (h2 : ¬ k0_cond2 i = 1#1) (h3 : ¬ k0_cond3 i = 1#1) (h4 : ¬ k0_cond4 i = 1#1) (h5 : ¬ k0_cond5 i = 1#1) (h6 : ¬ k0_cond6 i = 1#1) (h7 : k0_cond7 i = 1#1) (h8 : ¬ k0_cond8 i = 1#1)
    (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S128x1024 .bf16) (harg9 : arg9.IsWhole) (arg10 : Memref sig .tc .vmem S1024x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S2048x128 .f32) (harg14 : arg14.IsWhole) (arg15 : Memref sig .tc .vmem S128x1024 .bf16) (harg15 : arg15.IsWhole) (arg16 : Memref sig .tc .vmem S128x128 .f32) (harg16 : arg16.IsWhole) (arg17 : Memref sig .tc .vmem S1x64x128 .f32) (harg17 : arg17.IsWhole) (arg18 : Memref sig .tc .vmem S128x2048 .bf16) (harg18 : arg18.IsWhole)
    (x6 : Vec F S2048x1024 .bf16) (x18 : Vec F S128x2048 .bf16) (x14 : Vec F S2048x128 .f32) (K : PUnit → sProp 𝕄) :
    iprop(owns (c : Thread nD τ) arg6 fullShare x6 ∗ owns (c : Thread nD τ) arg18 fullShare x18 ∗ owns (c : Thread nD τ) arg14 fullShare x14 ∗ (∃ d, owns (c : Thread nD τ) arg15 fullShare d)
        ∗ (iprop(owns (c : Thread nD τ) arg6 fullShare x6 ∗ owns (c : Thread nD τ) arg18 fullShare x18 ∗ (∃ y14 : Vec F S2048x128 .f32, ⌜(∀ (t : Fin 128) (j : Fin 8) (l : Fin 128), y14 (ix2 (row16 t (j.castLE (by decide))) l) = x14 (ix2 (row16 t (j.castLE (by decide))) l)) ∧ ∀ (t : Fin 128) (j : Fin 8) (l : Fin 128), y14 (ix2 (row16 t (Fin.natAdd 8 j)) l) = ![k0_pay28 x18 x6, k0_pay29 x18 x6, k0_pay30 x18 x6, k0_pay31 x18 x6, k0_pay32 x18 x6, k0_pay33 x18 x6, k0_pay34 x18 x6, k0_pay35 x18 x6] j (ix2 t l)⌝ ∗ owns (c : Thread nD τ) arg14 fullShare y14) ∗ owns (c : Thread nD τ) arg15 fullShare (k0_pay36 x18 x6)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_neg h4, dif_neg h5, dif_neg h6, dif_pos h7, dif_neg h8]
  unfold owns
  iintro ⟨⟨%f6, %hf6, H6⟩, ⟨%f18, %hf18, H18⟩, ⟨%f14, %hf14, H14⟩, ⟨%d15, %f15, -, H15⟩, Hk⟩
  subst hf6 hf18 hf14
  sl_exec
  sl_step
  iapply Hk
  isplitl [H6]
  · iexists f6; isplitr; · ipureintro; rfl
    iexact H6
  isplitl [H18]
  · iexists f18; isplitr; · ipureintro; rfl
    iexact H18
  isplitl [H14]
  · iexists _
    isplitr
    swap
    · iexists _; isplitr
      swap; · iexact H14
      ipureintro; rfl
    ipureintro
    rw [readAt_whole2, readAt_whole2]
    constructor
    · intro t j l
      fin_cases j
      · refine (strided_not_mem _ _ _ _ _ _ _ _ (by show (0 + 16 * t.val) % 16 ≠ 15 % 16; omega)).trans ?_
        refine (strided_not_mem _ _ _ _ _ _ _ _ (by show (0 + 16 * t.val) % 16 ≠ 14 % 16; omega)).trans ?_
        refine (strided_not_mem _ _ _ _ _ _ _ _ (by show (0 + 16 * t.val) % 16 ≠ 13 % 16; omega)).trans ?_
        refine (strided_not_mem _ _ _ _ _ _ _ _ (by show (0 + 16 * t.val) % 16 ≠ 12 % 16; omega)).trans ?_
        refine (strided_not_mem _ _ _ _ _ _ _ _ (by show (0 + 16 * t.val) % 16 ≠ 11 % 16; omega)).trans ?_
        refine (strided_not_mem _ _ _ _ _ _ _ _ (by show (0 + 16 * t.val) % 16 ≠ 10 % 16; omega)).trans ?_
        refine (strided_not_mem _ _ _ _ _ _ _ _ (by show (0 + 16 * t.val) % 16 ≠ 9 % 16; omega)).trans ?_
        refine (strided_not_mem _ _ _ _ _ _ _ _ (by show (0 + 16 * t.val) % 16 ≠ 8 % 16; omega)).trans ?_
        rfl
      · refine (strided_not_mem _ _ _ _ _ _ _ _ (by show (1 + 16 * t.val) % 16 ≠ 15 % 16; omega)).trans ?_
        refine (strided_not_mem _ _ _ _ _ _ _ _ (by show (1 + 16 * t.val) % 16 ≠ 14 % 16; omega)).trans ?_
        refine (strided_not_mem _ _ _ _ _ _ _ _ (by show (1 + 16 * t.val) % 16 ≠ 13 % 16; omega)).trans ?_
        refine (strided_not_mem _ _ _ _ _ _ _ _ (by show (1 + 16 * t.val) % 16 ≠ 12 % 16; omega)).trans ?_
        refine (strided_not_mem _ _ _ _ _ _ _ _ (by show (1 + 16 * t.val) % 16 ≠ 11 % 16; omega)).trans ?_
        refine (strided_not_mem _ _ _ _ _ _ _ _ (by show (1 + 16 * t.val) % 16 ≠ 10 % 16; omega)).trans ?_
        refine (strided_not_mem _ _ _ _ _ _ _ _ (by show (1 + 16 * t.val) % 16 ≠ 9 % 16; omega)).trans ?_
        refine (strided_not_mem _ _ _ _ _ _ _ _ (by show (1 + 16 * t.val) % 16 ≠ 8 % 16; omega)).trans ?_
        rfl
      · refine (strided_not_mem _ _ _ _ _ _ _ _ (by show (2 + 16 * t.val) % 16 ≠ 15 % 16; omega)).trans ?_
        refine (strided_not_mem _ _ _ _ _ _ _ _ (by show (2 + 16 * t.val) % 16 ≠ 14 % 16; omega)).trans ?_
        refine (strided_not_mem _ _ _ _ _ _ _ _ (by show (2 + 16 * t.val) % 16 ≠ 13 % 16; omega)).trans ?_
        refine (strided_not_mem _ _ _ _ _ _ _ _ (by show (2 + 16 * t.val) % 16 ≠ 12 % 16; omega)).trans ?_
        refine (strided_not_mem _ _ _ _ _ _ _ _ (by show (2 + 16 * t.val) % 16 ≠ 11 % 16; omega)).trans ?_
        refine (strided_not_mem _ _ _ _ _ _ _ _ (by show (2 + 16 * t.val) % 16 ≠ 10 % 16; omega)).trans ?_
        refine (strided_not_mem _ _ _ _ _ _ _ _ (by show (2 + 16 * t.val) % 16 ≠ 9 % 16; omega)).trans ?_
        refine (strided_not_mem _ _ _ _ _ _ _ _ (by show (2 + 16 * t.val) % 16 ≠ 8 % 16; omega)).trans ?_
        rfl
      · refine (strided_not_mem _ _ _ _ _ _ _ _ (by show (3 + 16 * t.val) % 16 ≠ 15 % 16; omega)).trans ?_
        refine (strided_not_mem _ _ _ _ _ _ _ _ (by show (3 + 16 * t.val) % 16 ≠ 14 % 16; omega)).trans ?_
        refine (strided_not_mem _ _ _ _ _ _ _ _ (by show (3 + 16 * t.val) % 16 ≠ 13 % 16; omega)).trans ?_
        refine (strided_not_mem _ _ _ _ _ _ _ _ (by show (3 + 16 * t.val) % 16 ≠ 12 % 16; omega)).trans ?_
        refine (strided_not_mem _ _ _ _ _ _ _ _ (by show (3 + 16 * t.val) % 16 ≠ 11 % 16; omega)).trans ?_
        refine (strided_not_mem _ _ _ _ _ _ _ _ (by show (3 + 16 * t.val) % 16 ≠ 10 % 16; omega)).trans ?_
        refine (strided_not_mem _ _ _ _ _ _ _ _ (by show (3 + 16 * t.val) % 16 ≠ 9 % 16; omega)).trans ?_
        refine (strided_not_mem _ _ _ _ _ _ _ _ (by show (3 + 16 * t.val) % 16 ≠ 8 % 16; omega)).trans ?_
        rfl
      · refine (strided_not_mem _ _ _ _ _ _ _ _ (by show (4 + 16 * t.val) % 16 ≠ 15 % 16; omega)).trans ?_
        refine (strided_not_mem _ _ _ _ _ _ _ _ (by show (4 + 16 * t.val) % 16 ≠ 14 % 16; omega)).trans ?_
        refine (strided_not_mem _ _ _ _ _ _ _ _ (by show (4 + 16 * t.val) % 16 ≠ 13 % 16; omega)).trans ?_
        refine (strided_not_mem _ _ _ _ _ _ _ _ (by show (4 + 16 * t.val) % 16 ≠ 12 % 16; omega)).trans ?_
        refine (strided_not_mem _ _ _ _ _ _ _ _ (by show (4 + 16 * t.val) % 16 ≠ 11 % 16; omega)).trans ?_
        refine (strided_not_mem _ _ _ _ _ _ _ _ (by show (4 + 16 * t.val) % 16 ≠ 10 % 16; omega)).trans ?_
        refine (strided_not_mem _ _ _ _ _ _ _ _ (by show (4 + 16 * t.val) % 16 ≠ 9 % 16; omega)).trans ?_
        refine (strided_not_mem _ _ _ _ _ _ _ _ (by show (4 + 16 * t.val) % 16 ≠ 8 % 16; omega)).trans ?_
        rfl
      · refine (strided_not_mem _ _ _ _ _ _ _ _ (by show (5 + 16 * t.val) % 16 ≠ 15 % 16; omega)).trans ?_
        refine (strided_not_mem _ _ _ _ _ _ _ _ (by show (5 + 16 * t.val) % 16 ≠ 14 % 16; omega)).trans ?_
        refine (strided_not_mem _ _ _ _ _ _ _ _ (by show (5 + 16 * t.val) % 16 ≠ 13 % 16; omega)).trans ?_
        refine (strided_not_mem _ _ _ _ _ _ _ _ (by show (5 + 16 * t.val) % 16 ≠ 12 % 16; omega)).trans ?_
        refine (strided_not_mem _ _ _ _ _ _ _ _ (by show (5 + 16 * t.val) % 16 ≠ 11 % 16; omega)).trans ?_
        refine (strided_not_mem _ _ _ _ _ _ _ _ (by show (5 + 16 * t.val) % 16 ≠ 10 % 16; omega)).trans ?_
        refine (strided_not_mem _ _ _ _ _ _ _ _ (by show (5 + 16 * t.val) % 16 ≠ 9 % 16; omega)).trans ?_
        refine (strided_not_mem _ _ _ _ _ _ _ _ (by show (5 + 16 * t.val) % 16 ≠ 8 % 16; omega)).trans ?_
        rfl
      · refine (strided_not_mem _ _ _ _ _ _ _ _ (by show (6 + 16 * t.val) % 16 ≠ 15 % 16; omega)).trans ?_
        refine (strided_not_mem _ _ _ _ _ _ _ _ (by show (6 + 16 * t.val) % 16 ≠ 14 % 16; omega)).trans ?_
        refine (strided_not_mem _ _ _ _ _ _ _ _ (by show (6 + 16 * t.val) % 16 ≠ 13 % 16; omega)).trans ?_
        refine (strided_not_mem _ _ _ _ _ _ _ _ (by show (6 + 16 * t.val) % 16 ≠ 12 % 16; omega)).trans ?_
        refine (strided_not_mem _ _ _ _ _ _ _ _ (by show (6 + 16 * t.val) % 16 ≠ 11 % 16; omega)).trans ?_
        refine (strided_not_mem _ _ _ _ _ _ _ _ (by show (6 + 16 * t.val) % 16 ≠ 10 % 16; omega)).trans ?_
        refine (strided_not_mem _ _ _ _ _ _ _ _ (by show (6 + 16 * t.val) % 16 ≠ 9 % 16; omega)).trans ?_
        refine (strided_not_mem _ _ _ _ _ _ _ _ (by show (6 + 16 * t.val) % 16 ≠ 8 % 16; omega)).trans ?_
        rfl
      · refine (strided_not_mem _ _ _ _ _ _ _ _ (by show (7 + 16 * t.val) % 16 ≠ 15 % 16; omega)).trans ?_
        refine (strided_not_mem _ _ _ _ _ _ _ _ (by show (7 + 16 * t.val) % 16 ≠ 14 % 16; omega)).trans ?_
        refine (strided_not_mem _ _ _ _ _ _ _ _ (by show (7 + 16 * t.val) % 16 ≠ 13 % 16; omega)).trans ?_
        refine (strided_not_mem _ _ _ _ _ _ _ _ (by show (7 + 16 * t.val) % 16 ≠ 12 % 16; omega)).trans ?_
        refine (strided_not_mem _ _ _ _ _ _ _ _ (by show (7 + 16 * t.val) % 16 ≠ 11 % 16; omega)).trans ?_
        refine (strided_not_mem _ _ _ _ _ _ _ _ (by show (7 + 16 * t.val) % 16 ≠ 10 % 16; omega)).trans ?_
        refine (strided_not_mem _ _ _ _ _ _ _ _ (by show (7 + 16 * t.val) % 16 ≠ 9 % 16; omega)).trans ?_
        refine (strided_not_mem _ _ _ _ _ _ _ _ (by show (7 + 16 * t.val) % 16 ≠ 8 % 16; omega)).trans ?_
        rfl
    · intro t j l
      fin_cases j
      · refine (strided_not_mem _ _ _ _ _ _ _ _ (by show (8 + 16 * t.val) % 16 ≠ 15 % 16; omega)).trans ?_
        refine (strided_not_mem _ _ _ _ _ _ _ _ (by show (8 + 16 * t.val) % 16 ≠ 14 % 16; omega)).trans ?_
        refine (strided_not_mem _ _ _ _ _ _ _ _ (by show (8 + 16 * t.val) % 16 ≠ 13 % 16; omega)).trans ?_
        refine (strided_not_mem _ _ _ _ _ _ _ _ (by show (8 + 16 * t.val) % 16 ≠ 12 % 16; omega)).trans ?_
        refine (strided_not_mem _ _ _ _ _ _ _ _ (by show (8 + 16 * t.val) % 16 ≠ 11 % 16; omega)).trans ?_
        refine (strided_not_mem _ _ _ _ _ _ _ _ (by show (8 + 16 * t.val) % 16 ≠ 10 % 16; omega)).trans ?_
        refine (strided_not_mem _ _ _ _ _ _ _ _ (by show (8 + 16 * t.val) % 16 ≠ 9 % 16; omega)).trans ?_
        exact strided_mem _ _ _ _ _ _ _ t l rfl
      · refine (strided_not_mem _ _ _ _ _ _ _ _ (by show (9 + 16 * t.val) % 16 ≠ 15 % 16; omega)).trans ?_
        refine (strided_not_mem _ _ _ _ _ _ _ _ (by show (9 + 16 * t.val) % 16 ≠ 14 % 16; omega)).trans ?_
        refine (strided_not_mem _ _ _ _ _ _ _ _ (by show (9 + 16 * t.val) % 16 ≠ 13 % 16; omega)).trans ?_
        refine (strided_not_mem _ _ _ _ _ _ _ _ (by show (9 + 16 * t.val) % 16 ≠ 12 % 16; omega)).trans ?_
        refine (strided_not_mem _ _ _ _ _ _ _ _ (by show (9 + 16 * t.val) % 16 ≠ 11 % 16; omega)).trans ?_
        refine (strided_not_mem _ _ _ _ _ _ _ _ (by show (9 + 16 * t.val) % 16 ≠ 10 % 16; omega)).trans ?_
        exact strided_mem _ _ _ _ _ _ _ t l rfl
      · refine (strided_not_mem _ _ _ _ _ _ _ _ (by show (10 + 16 * t.val) % 16 ≠ 15 % 16; omega)).trans ?_
        refine (strided_not_mem _ _ _ _ _ _ _ _ (by show (10 + 16 * t.val) % 16 ≠ 14 % 16; omega)).trans ?_
        refine (strided_not_mem _ _ _ _ _ _ _ _ (by show (10 + 16 * t.val) % 16 ≠ 13 % 16; omega)).trans ?_
        refine (strided_not_mem _ _ _ _ _ _ _ _ (by show (10 + 16 * t.val) % 16 ≠ 12 % 16; omega)).trans ?_
        refine (strided_not_mem _ _ _ _ _ _ _ _ (by show (10 + 16 * t.val) % 16 ≠ 11 % 16; omega)).trans ?_
        exact strided_mem _ _ _ _ _ _ _ t l rfl
      · refine (strided_not_mem _ _ _ _ _ _ _ _ (by show (11 + 16 * t.val) % 16 ≠ 15 % 16; omega)).trans ?_
        refine (strided_not_mem _ _ _ _ _ _ _ _ (by show (11 + 16 * t.val) % 16 ≠ 14 % 16; omega)).trans ?_
        refine (strided_not_mem _ _ _ _ _ _ _ _ (by show (11 + 16 * t.val) % 16 ≠ 13 % 16; omega)).trans ?_
        refine (strided_not_mem _ _ _ _ _ _ _ _ (by show (11 + 16 * t.val) % 16 ≠ 12 % 16; omega)).trans ?_
        exact strided_mem _ _ _ _ _ _ _ t l rfl
      · refine (strided_not_mem _ _ _ _ _ _ _ _ (by show (12 + 16 * t.val) % 16 ≠ 15 % 16; omega)).trans ?_
        refine (strided_not_mem _ _ _ _ _ _ _ _ (by show (12 + 16 * t.val) % 16 ≠ 14 % 16; omega)).trans ?_
        refine (strided_not_mem _ _ _ _ _ _ _ _ (by show (12 + 16 * t.val) % 16 ≠ 13 % 16; omega)).trans ?_
        exact strided_mem _ _ _ _ _ _ _ t l rfl
      · refine (strided_not_mem _ _ _ _ _ _ _ _ (by show (13 + 16 * t.val) % 16 ≠ 15 % 16; omega)).trans ?_
        refine (strided_not_mem _ _ _ _ _ _ _ _ (by show (13 + 16 * t.val) % 16 ≠ 14 % 16; omega)).trans ?_
        exact strided_mem _ _ _ _ _ _ _ t l rfl
      · refine (strided_not_mem _ _ _ _ _ _ _ _ (by show (14 + 16 * t.val) % 16 ≠ 15 % 16; omega)).trans ?_
        exact strided_mem _ _ _ _ _ _ _ t l rfl
      · exact strided_mem _ _ _ _ _ _ _ t l rfl
  · iexists _; isplitr
    swap; · iexact H15
    ipureintro
    refine (read_writes_whole2 _ _ _ _).trans ?_
    rw [readAt_whole2, readAt_whole2]

set_option maxHeartbeats 1600000 in
/-- The last point stores the narrow columns, once as they are and once transposed. -/
theorem kernel_6 (c : Dev nD) (E : Set ℕ) (i : grid0.Coords) (h1 : ¬ first i) (h2 : ¬ k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (h8 : k0_cond8 i = 1#1)
    (arg2 : Memref sig .tc .vmem S128x2048 .f32) (harg2 : arg2.IsWhole) (arg3 : Memref sig .tc .vmem S1x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S2048x1024 .bf16) (harg6 : arg6.IsWhole) (arg7 : Memref sig .tc .vmem S2048x128 .bf16) (harg7 : arg7.IsWhole) (arg8 : Memref sig .tc .vmem S128x2048 .bf16) (harg8 : arg8.IsWhole) (arg9 : Memref sig .tc .vmem S128x1024 .bf16) (harg9 : arg9.IsWhole) (arg10 : Memref sig .tc .vmem S1024x128 .f32) (harg10 : arg10.IsWhole) (arg11 : Memref sig .tc .vmem S128x1024 .bf16) (harg11 : arg11.IsWhole) (arg12 : Memref sig .tc .vmem S128x1024 .bf16) (harg12 : arg12.IsWhole) (arg13 : Memref sig .tc .vmem S128x1024 .bf16) (harg13 : arg13.IsWhole) (arg14 : Memref sig .tc .vmem S2048x128 .f32) (harg14 : arg14.IsWhole) (arg15 : Memref sig .tc .vmem S128x1024 .bf16) (harg15 : arg15.IsWhole) (arg16 : Memref sig .tc .vmem S128x128 .f32) (harg16 : arg16.IsWhole) (arg17 : Memref sig .tc .vmem S1x64x128 .f32) (harg17 : arg17.IsWhole) (arg18 : Memref sig .tc .vmem S128x2048 .bf16) (harg18 : arg18.IsWhole)
    (x7 : Vec F S2048x128 .bf16) (x8 : Vec F S128x2048 .bf16) (x18 : Vec F S128x2048 .bf16) (K : PUnit → sProp 𝕄) :
    iprop(owns (c : Thread nD τ) arg7 fullShare x7 ∗ owns (c : Thread nD τ) arg8 fullShare x8 ∗ owns (c : Thread nD τ) arg18 fullShare x18 ∗ (∃ d, owns (c : Thread nD τ) arg16 fullShare d) ∗ (∃ d, owns (c : Thread nD τ) arg17 fullShare d)
        ∗ (iprop(owns (c : Thread nD τ) arg7 fullShare x7 ∗ owns (c : Thread nD τ) arg8 fullShare x8 ∗ owns (c : Thread nD τ) arg18 fullShare x18 ∗ owns (c : Thread nD τ) arg16 fullShare (k0_pay1 x18 x7) ∗ owns (c : Thread nD τ) arg17 fullShare (k0_pay2 x8 x18)) -∗ K ⟨⟩))
      ⊢ wp frame (wpE (defs₀ (F := F)) Variants.none c none) E (cc0_prenorm_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_prenorm_proj_eq_skeleton]; unfold cc0_prenorm_proj_skel
  simp only [k0_part1_eq_skeleton]; unfold k0_part1_skel
  unfold first at h1
  simp only [dif_neg h1, dif_neg h2, dif_neg h3, dif_neg h4, dif_neg h5, dif_neg h6, dif_neg h7, dif_pos h8]
  unfold owns
  iintro ⟨⟨%f7, %hf7, H7⟩, ⟨%f8, %hf8, H8⟩, ⟨%f18, %hf18, H18⟩, ⟨%d16, %f16, -, H16⟩, ⟨%d17, %f17, -, H17⟩, Hk⟩
  subst hf7 hf8 hf18
  sl_exec
  sl_step
  iapply Hk
  isplitl [H7]
  · iexists f7; isplitr; · ipureintro; rfl
    iexact H7
  isplitl [H8]
  · iexists f8; isplitr; · ipureintro; rfl
    iexact H8
  isplitl [H18]
  · iexists f18; isplitr; · ipureintro; rfl
    iexact H18
  isplitl [H16]
  · iexists _; isplitr
    swap; · iexact H16
    ipureintro
    refine (read_writes_whole2 _ _ _ _).trans ?_
    rw [readAt_whole2, readAt_whole2]
  · iexists _; isplitr
    swap; · iexact H17
    ipureintro
    refine (read_writes_whole3 _ _ _ _).trans ?_
    rw [readAt_whole2, readAt_whole2]

end Cert.SProjIdeal.Body
-- ==== Proof.SProjFrame.lean ====
/-
  The projection call as a whole: what its scratch buffer and its result windows hold between the points,
  and the run of the program from these.

  A result window is filled at one point of its block (two of them at two) and written back after the
  block's last point; in between it is carried along.  What a window holds before it is filled is not known, so
  the windows are held to predicates that say nothing until then.
-/
module

public import proofs.«01_k».proof.Proof.Gen.SProjIdeal.Frame
public import proofs.«01_k».proof.Proof.Gen.SProjIdeal.Launch
public import proofs.«01_k».proof.Proof.Gen.SProjIdeal.Skeleton
public import proofs.«01_k».proof.Proof.Gen.SProjIdeal.Points
public import proofs.«01_k».proof.Proof.SProjBody
public import Idealize.ShloMosaic.Lib.Pipeline.FrameBody
public import Idealize.ShloMosaic.Lib.Pipeline.DatRel
public import Idealize.ShloMosaic.Lib.Pipeline.ArrRel
public import Idealize.ShloMosaic.Lib.Claim
public import Idealize.ShloMosaic.Lib.Ring
public import Idealize.ShloMosaic.Lib.Tactic
public import Idealize.ShloMosaic.Lib.WritesUnit
public import Idealize.ShloMosaic.Lib.Pointwise
public import Idealize.ShloMosaic.Lib.UnfoldOut
public import Idealize.ShloMosaic.Lib.WordCmp

@[expose] public section

set_option maxRecDepth 16384

noncomputable section

namespace Cert.SProjIdeal.Body

open Cert.SProjIdeal Cert.SProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- Point `s` of block `b`. -/
def pt (b : Fin 1) (s : Fin 7) : Fin cfg0.N := ⟨7 * b.val + s.val, by have := b.isLt; have := s.isLt; have := N_0; show _ < grid0.N; omega⟩

/-- The block a point belongs to. -/
def blockOf (t : Fin cfg0.N) : Fin 1 := ⟨t.val / 7, by have h : t.val < grid0.N := t.isLt; rw [N_0] at h; omega⟩

/-- The point before. -/
def pred (t : Fin cfg0.N) : Fin cfg0.N := ⟨t.val - 1, Nat.lt_of_le_of_lt (Nat.sub_le _ _) t.isLt⟩

theorem pt_block (t : Fin cfg0.N) (s : Fin 7) (hs : t.val % 7 = s.val) : pt (blockOf t) s = t :=
  Fin.ext (by show 7 * (t.val / 7) + s.val = t.val; omega)

theorem blockOf_pred (t : Fin cfg0.N) (h0 : t.val % 7 ≠ 0) : blockOf (pred t) = blockOf t :=
  Fin.ext (by show (t.val - 1) / 7 = t.val / 7; omega)

/-- The normalised and modulated tokens of block `b`. -/
def hS (c : Dev nD) (b : Fin 1) : Vec F S128x2048 .bf16 :=
  k0_pay3 (iblk m c 0 (pt b 0)) (iblk m c 1 (pt b 0)) (iblk m c 3 (pt b 0)) (iblk m c 2 (pt b 0))

/-- Block `s` of the columns. -/
def wS (c : Dev nD) (b : Fin 1) (s : Fin 7) : Vec F S2048x1024 .bf16 := iblk m c 4 (pt b s)

/-- The eight groups of columns a block of columns falls into, at each of the three points that store them apart. -/
def headA (h : Vec F S128x2048 .bf16) (w : Vec F S2048x1024 .bf16) : Fin 8 → FVec F S128x128 .f32 :=
  ![k0_pay6 h w, k0_pay7 h w, k0_pay8 h w, k0_pay9 h w, k0_pay10 h w, k0_pay11 h w, k0_pay12 h w, k0_pay13 h w]
def headB (h : Vec F S128x2048 .bf16) (w : Vec F S2048x1024 .bf16) : Fin 8 → FVec F S128x128 .f32 :=
  ![k0_pay18 h w, k0_pay19 h w, k0_pay20 h w, k0_pay21 h w, k0_pay22 h w, k0_pay23 h w, k0_pay24 h w, k0_pay25 h w]
def headC (h : Vec F S128x2048 .bf16) (w : Vec F S2048x1024 .bf16) : Fin 8 → FVec F S128x128 .f32 :=
  ![k0_pay28 h w, k0_pay29 h w, k0_pay30 h w, k0_pay31 h w, k0_pay32 h w, k0_pay33 h w, k0_pay34 h w, k0_pay35 h w]

/-- The rows of the keys and values of the first attention. -/
def RowsA (c : Dev nD) (b : Fin 1) (X : Vec F S1024x128 .f32) : Prop :=
  ∀ (t : Fin 128) (j : Fin 8) (l : Fin 128), X (ix2 (row8 t j) l) = headA (hS m c b) (wS m c b 1) j (ix2 t l)

/-- The first eight rows of every token of those of the second, -/
def RowsB (c : Dev nD) (b : Fin 1) (X : Vec F S2048x128 .f32) : Prop :=
  ∀ (t : Fin 128) (j : Fin 8) (l : Fin 128), X (ix2 (row16 t (j.castLE (by decide))) l) = headB (hS m c b) (wS m c b 4) j (ix2 t l)

/-- and the other eight. -/
def RowsC (c : Dev nD) (b : Fin 1) (X : Vec F S2048x128 .f32) : Prop :=
  ∀ (t : Fin 128) (j : Fin 8) (l : Fin 128), X (ix2 (row16 t (Fin.natAdd 8 j)) l) = headC (hS m c b) (wS m c b 5) j (ix2 t l)

/-- What the point leaves in each result window. -/
def Left (c : Dev nD) (w : Fin cfg0.W) (t : Fin cfg0.N) : ((cfg0.win w).block.Idx → Elt F (cfg0.win w).elt) → Prop :=
  match w with
  | ⟨7, _⟩ => fun X => X = k0_pay4 (hS m c (blockOf t)) (wS m c (blockOf t) 0)
  | ⟨8, _⟩ => fun X => 1 ≤ t.val % 7 → RowsA m c (blockOf t) X
  | ⟨9, _⟩ => fun X => 1 ≤ t.val % 7 → X = k0_pay14 (hS m c (blockOf t)) (wS m c (blockOf t) 1)
  | ⟨10, _⟩ => fun X => 2 ≤ t.val % 7 → X = k0_pay15 (hS m c (blockOf t)) (wS m c (blockOf t) 2)
  | ⟨11, _⟩ => fun X => 3 ≤ t.val % 7 → X = k0_pay16 (hS m c (blockOf t)) (wS m c (blockOf t) 3)
  | ⟨12, _⟩ => fun X => (4 ≤ t.val % 7 → RowsB m c (blockOf t) X) ∧ (5 ≤ t.val % 7 → RowsC m c (blockOf t) X)
  | ⟨13, _⟩ => fun X => (t.val % 7 = 4 → X = k0_pay26 (hS m c (blockOf t)) (wS m c (blockOf t) 4))
      ∧ (5 ≤ t.val % 7 → X = k0_pay36 (hS m c (blockOf t)) (wS m c (blockOf t) 5))
  | ⟨14, _⟩ => fun X => 6 ≤ t.val % 7 → X = k0_pay1 (hS m c (blockOf t)) (iblk m c 5 t)
  | ⟨15, _⟩ => fun X => 6 ≤ t.val % 7 → X = k0_pay2 (iblk m c 6 t) (hS m c (blockOf t))
  | _ => fun _ => True

/-- The result windows. -/
def isRes (w : Fin cfg0.W) : Bool := Nat.ble 7 w.val

/-! ## The proof data -/

/-- Within a block the scratch buffer holds the block's tokens. -/
def Inv (c : Dev nD) (n : ℕ) (x : Vec F S128x2048 .bf16) : Prop := n % 7 ≠ 0 → ∀ b : Fin 1, b.val = n / 7 → x = hS m c b

/-- The scratch buffer, and the generator register. -/
def held (c : Dev nD) (n : ℕ) : sProp 𝕄 :=
  iprop((∃ x : Vec F S128x2048 .bf16, ⌜Inv m c n x⌝ ∗ owns (c : Thread nD τ) (Memref.whole cc0_scratch0) fullShare x) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | _ => fun _ => Classical.arbitrary _
  Φ t := held m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The data with every result window held to what the points leave in it. -/
def rdat (c : Dev nD) : Pipeline.RDat τ (Elt F) Unit ℕ (UR sig nD τ) ℕ cfg0 c := (dats m 0 c).toRRel isRes (Left m c)

/-! ## What a result window is found with -/

theorem flush13 : ∀ t : Fin cfg0.N, (cfg0.win 13).flush t = true → t.val % 7 = 4 ∨ t.val % 7 = 6 := by decide +kernel

theorem prev_7 (c : Dev nD) (t : Fin cfg0.N) (h0 : t.val % 7 ≠ 0) (Y) (h : (rdat m c).Finds 7 t Y) : Left m c 7 (pred t) Y := by
  rcases (Pipeline.RDat.finds_of_pos (rd := rdat m c) (w := 7) (t := t) rfl (by omega) Y).1 h with hfl | hl
  · exact absurd ((flush0_7 _).1 hfl) (by show ¬ (t.val - 1) % 7 = 6; omega)
  · exact (dats m 0 c).toRRel_leaves rfl hl

theorem prev_8 (c : Dev nD) (t : Fin cfg0.N) (h0 : t.val % 7 ≠ 0) (Y) (h : (rdat m c).Finds 8 t Y) : Left m c 8 (pred t) Y := by
  rcases (Pipeline.RDat.finds_of_pos (rd := rdat m c) (w := 8) (t := t) rfl (by omega) Y).1 h with hfl | hl
  · exact absurd ((flush0_8 _).1 hfl) (by show ¬ (t.val - 1) % 7 = 6; omega)
  · exact (dats m 0 c).toRRel_leaves rfl hl

theorem prev_9 (c : Dev nD) (t : Fin cfg0.N) (h0 : t.val % 7 ≠ 0) (Y) (h : (rdat m c).Finds 9 t Y) : Left m c 9 (pred t) Y := by
  rcases (Pipeline.RDat.finds_of_pos (rd := rdat m c) (w := 9) (t := t) rfl (by omega) Y).1 h with hfl | hl
  · exact absurd ((flush0_9 _).1 hfl) (by show ¬ (t.val - 1) % 7 = 6; omega)
  · exact (dats m 0 c).toRRel_leaves rfl hl

theorem prev_10 (c : Dev nD) (t : Fin cfg0.N) (h0 : t.val % 7 ≠ 0) (Y) (h : (rdat m c).Finds 10 t Y) : Left m c 10 (pred t) Y := by
  rcases (Pipeline.RDat.finds_of_pos (rd := rdat m c) (w := 10) (t := t) rfl (by omega) Y).1 h with hfl | hl
  · exact absurd ((flush0_10 _).1 hfl) (by show ¬ (t.val - 1) % 7 = 6; omega)
  · exact (dats m 0 c).toRRel_leaves rfl hl

theorem prev_11 (c : Dev nD) (t : Fin cfg0.N) (h0 : t.val % 7 ≠ 0) (Y) (h : (rdat m c).Finds 11 t Y) : Left m c 11 (pred t) Y := by
  rcases (Pipeline.RDat.finds_of_pos (rd := rdat m c) (w := 11) (t := t) rfl (by omega) Y).1 h with hfl | hl
  · exact absurd ((flush0_11 _).1 hfl) (by show ¬ (t.val - 1) % 7 = 6; omega)
  · exact (dats m 0 c).toRRel_leaves rfl hl

theorem prev_12 (c : Dev nD) (t : Fin cfg0.N) (h0 : t.val % 7 ≠ 0) (Y) (h : (rdat m c).Finds 12 t Y) : Left m c 12 (pred t) Y := by
  rcases (Pipeline.RDat.finds_of_pos (rd := rdat m c) (w := 12) (t := t) rfl (by omega) Y).1 h with hfl | hl
  · exact absurd ((flush0_12 _).1 hfl) (by show ¬ (t.val - 1) % 7 = 6; omega)
  · exact (dats m 0 c).toRRel_leaves rfl hl

theorem prev_13 (c : Dev nD) (t : Fin cfg0.N) (h0 : t.val % 7 ≠ 0) (h5 : t.val % 7 ≠ 5) (Y) (h : (rdat m c).Finds 13 t Y) : Left m c 13 (pred t) Y := by
  rcases (Pipeline.RDat.finds_of_pos (rd := rdat m c) (w := 13) (t := t) rfl (by omega) Y).1 h with hfl | hl
  · have h := flush13 _ hfl; exact absurd h (by show ¬ ((t.val - 1) % 7 = 4 ∨ (t.val - 1) % 7 = 6); omega)
  · exact (dats m 0 c).toRRel_leaves rfl hl

theorem prev_14 (c : Dev nD) (t : Fin cfg0.N) (h0 : t.val % 7 ≠ 0) (Y) (h : (rdat m c).Finds 14 t Y) : Left m c 14 (pred t) Y := by
  rcases (Pipeline.RDat.finds_of_pos (rd := rdat m c) (w := 14) (t := t) rfl (by omega) Y).1 h with hfl | hl
  · exact absurd ((flush0_14 _).1 hfl) (by show ¬ (t.val - 1) % 7 = 6; omega)
  · exact (dats m 0 c).toRRel_leaves rfl hl

theorem prev_15 (c : Dev nD) (t : Fin cfg0.N) (h0 : t.val % 7 ≠ 0) (Y) (h : (rdat m c).Finds 15 t Y) : Left m c 15 (pred t) Y := by
  rcases (Pipeline.RDat.finds_of_pos (rd := rdat m c) (w := 15) (t := t) rfl (by omega) Y).1 h with hfl | hl
  · exact absurd ((flush0_15 _).1 hfl) (by show ¬ (t.val - 1) % 7 = 6; omega)
  · exact (dats m 0 c).toRRel_leaves rfl hl

theorem carry_7 (c : Dev nD) (t : Fin cfg0.N) (h0 : t.val % 7 ≠ 0) (Y) (h : (rdat m c).Finds 7 t Y) : Left m c 7 t Y := by
  have hp : Y = _ := prev_7 m c t h0 Y h
  rw [blockOf_pred t h0] at hp
  exact hp

theorem carry_8 (c : Dev nD) (t : Fin cfg0.N) (hs : t.val % 7 ≠ 1) (Y) (h : (rdat m c).Finds 8 t Y) : Left m c 8 t Y := by
  intro hle
  have h0 : t.val % 7 ≠ 0 := by omega
  have hp := (prev_8 m c t h0 Y h) (by show 1 ≤ (t.val - 1) % 7; omega)
  rw [blockOf_pred t h0] at hp
  exact hp

theorem carry_9 (c : Dev nD) (t : Fin cfg0.N) (hs : t.val % 7 ≠ 1) (Y) (h : (rdat m c).Finds 9 t Y) : Left m c 9 t Y := by
  intro hle
  have h0 : t.val % 7 ≠ 0 := by omega
  have hp := (prev_9 m c t h0 Y h) (by show 1 ≤ (t.val - 1) % 7; omega)
  rw [blockOf_pred t h0] at hp
  exact hp

theorem carry_10 (c : Dev nD) (t : Fin cfg0.N) (hs : t.val % 7 ≠ 2) (Y) (h : (rdat m c).Finds 10 t Y) : Left m c 10 t Y := by
  intro hle
  have h0 : t.val % 7 ≠ 0 := by omega
  have hp := (prev_10 m c t h0 Y h) (by show 2 ≤ (t.val - 1) % 7; omega)
  rw [blockOf_pred t h0] at hp
  exact hp

theorem carry_11 (c : Dev nD) (t : Fin cfg0.N) (hs : t.val % 7 ≠ 3) (Y) (h : (rdat m c).Finds 11 t Y) : Left m c 11 t Y := by
  intro hle
  have h0 : t.val % 7 ≠ 0 := by omega
  have hp := (prev_11 m c t h0 Y h) (by show 3 ≤ (t.val - 1) % 7; omega)
  rw [blockOf_pred t h0] at hp
  exact hp

theorem carry_14 (c : Dev nD) (t : Fin cfg0.N) (hs : t.val % 7 ≠ 6) (Y) (h : (rdat m c).Finds 14 t Y) : Left m c 14 t Y := by
  intro hle
  exact absurd hle (by omega)

theorem carry_15 (c : Dev nD) (t : Fin cfg0.N) (hs : t.val % 7 ≠ 6) (Y) (h : (rdat m c).Finds 15 t Y) : Left m c 15 t Y := by
  intro hle
  exact absurd hle (by omega)

/-- At the sixth point of a block the rows stored at the fifth are found, -/
theorem found_12 (c : Dev nD) (t : Fin cfg0.N) (hs : t.val % 7 = 5) (Y) (h : (rdat m c).Finds 12 t Y) : RowsB m c (blockOf t) Y := by
  have h0 : t.val % 7 ≠ 0 := by omega
  have hp := (prev_12 m c t h0 Y h).1 (by show 4 ≤ (t.val - 1) % 7; omega)
  rw [blockOf_pred t h0] at hp
  exact hp

theorem carry_12 (c : Dev nD) (t : Fin cfg0.N) (hs : t.val % 7 ≠ 4) (hs5 : t.val % 7 ≠ 5) (Y) (h : (rdat m c).Finds 12 t Y) : Left m c 12 t Y := by
  refine ⟨fun hle => ?_, fun hle => ?_⟩
  · have h0 : t.val % 7 ≠ 0 := by omega
    have hp := (prev_12 m c t h0 Y h).1 (by show 4 ≤ (t.val - 1) % 7; omega)
    rw [blockOf_pred t h0] at hp
    exact hp
  · have h0 : t.val % 7 ≠ 0 := by omega
    have hp := (prev_12 m c t h0 Y h).2 (by show 5 ≤ (t.val - 1) % 7; omega)
    rw [blockOf_pred t h0] at hp
    exact hp

theorem carry_13 (c : Dev nD) (t : Fin cfg0.N) (hs : t.val % 7 ≠ 4) (hs5 : t.val % 7 ≠ 5) (Y) (h : (rdat m c).Finds 13 t Y) : Left m c 13 t Y := by
  refine ⟨fun hle => absurd hle hs, fun hle => ?_⟩
  have h0 : t.val % 7 ≠ 0 := by omega
  have hp := (prev_13 m c t h0 hs5 Y h).2 (by show 5 ≤ (t.val - 1) % 7; omega)
  rw [blockOf_pred t h0] at hp
  exact hp

/-! ## The conditions of a point -/

theorem coord : ∀ t : Fin cfg0.N, (grid0.coords t 1).val = t.val % 7 := by decide +kernel
theorem first_iff : ∀ i : grid0.Coords, first i ↔ (i 1).val = 0 := by unfold first; decide +kernel
theorem cond2_iff : ∀ i : grid0.Coords, k0_cond2 i = 1#1 ↔ (i 1).val = 0 := by decide +kernel
theorem cond3_iff : ∀ i : grid0.Coords, k0_cond3 i = 1#1 ↔ (i 1).val = 1 := by decide +kernel
theorem cond4_iff : ∀ i : grid0.Coords, k0_cond4 i = 1#1 ↔ (i 1).val = 2 := by decide +kernel
theorem cond5_iff : ∀ i : grid0.Coords, k0_cond5 i = 1#1 ↔ (i 1).val = 3 := by decide +kernel
theorem cond6_iff : ∀ i : grid0.Coords, k0_cond6 i = 1#1 ↔ (i 1).val = 4 := by decide +kernel
theorem cond7_iff : ∀ i : grid0.Coords, k0_cond7 i = 1#1 ↔ (i 1).val = 5 := by decide +kernel
theorem cond8_iff : ∀ i : grid0.Coords, k0_cond8 i = 1#1 ↔ (i 1).val = 6 := by decide +kernel

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜(rdat m c).Finds 7 t Y⌝ ∗ owns (c : Thread nD τ) (st0_7 t) fullShare Y)
    ∗ (∃ Y, ⌜(rdat m c).Finds 8 t Y⌝ ∗ owns (c : Thread nD τ) (st0_8 t) fullShare Y)
    ∗ (∃ Y, ⌜(rdat m c).Finds 9 t Y⌝ ∗ owns (c : Thread nD τ) (st0_9 t) fullShare Y)
    ∗ (∃ Y, ⌜(rdat m c).Finds 10 t Y⌝ ∗ owns (c : Thread nD τ) (st0_10 t) fullShare Y)
    ∗ (∃ Y, ⌜(rdat m c).Finds 11 t Y⌝ ∗ owns (c : Thread nD τ) (st0_11 t) fullShare Y)
    ∗ (∃ Y, ⌜(rdat m c).Finds 12 t Y⌝ ∗ owns (c : Thread nD τ) (st0_12 t) fullShare Y)
    ∗ (∃ Y, ⌜(rdat m c).Finds 13 t Y⌝ ∗ owns (c : Thread nD τ) (st0_13 t) fullShare Y)
    ∗ (∃ Y, ⌜(rdat m c).Finds 14 t Y⌝ ∗ owns (c : Thread nD τ) (st0_14 t) fullShare Y)
    ∗ (∃ Y, ⌜(rdat m c).Finds 15 t Y⌝ ∗ owns (c : Thread nD τ) (st0_15 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜Left m c 7 t X⌝ ∗ owns (c : Thread nD τ) (st0_7 t) fullShare X)
    ∗ (∃ X, ⌜Left m c 8 t X⌝ ∗ owns (c : Thread nD τ) (st0_8 t) fullShare X)
    ∗ (∃ X, ⌜Left m c 9 t X⌝ ∗ owns (c : Thread nD τ) (st0_9 t) fullShare X)
    ∗ (∃ X, ⌜Left m c 10 t X⌝ ∗ owns (c : Thread nD τ) (st0_10 t) fullShare X)
    ∗ (∃ X, ⌜Left m c 11 t X⌝ ∗ owns (c : Thread nD τ) (st0_11 t) fullShare X)
    ∗ (∃ X, ⌜Left m c 12 t X⌝ ∗ owns (c : Thread nD τ) (st0_12 t) fullShare X)
    ∗ (∃ X, ⌜Left m c 13 t X⌝ ∗ owns (c : Thread nD τ) (st0_13 t) fullShare X)
    ∗ (∃ X, ⌜Left m c 14 t X⌝ ∗ owns (c : Thread nD τ) (st0_14 t) fullShare X)
    ∗ (∃ X, ⌜Left m c 15 t X⌝ ∗ owns (c : Thread nD τ) (st0_15 t) fullShare X))

set_option maxHeartbeats 1600000 in
theorem body_0 (c : Dev nD) (t : Fin cfg0.N) (ht : t.val % 7 = 0) :
    bodyPre m c t ⊢ wp frame (wpE (defs₀ (F := F)) Variants.none c none) Set.univ (bodyAt0 t) (fun _ => bodyPost m c t) := by
  have e := coord t
  have h1 : first (grid0.coords t) := (first_iff _).2 (by omega)
  have h2 : k0_cond2 (grid0.coords t) = 1#1 := (cond2_iff _).2 (by omega)
  have h3 : ¬ k0_cond3 (grid0.coords t) = 1#1 := fun h => by have := (cond3_iff _).1 h; omega
  have h4 : ¬ k0_cond4 (grid0.coords t) = 1#1 := fun h => by have := (cond4_iff _).1 h; omega
  have h5 : ¬ k0_cond5 (grid0.coords t) = 1#1 := fun h => by have := (cond5_iff _).1 h; omega
  have h6 : ¬ k0_cond6 (grid0.coords t) = 1#1 := fun h => by have := (cond6_iff _).1 h; omega
  have h7 : ¬ k0_cond7 (grid0.coords t) = 1#1 := fun h => by have := (cond7_iff _).1 h; omega
  have h8 : ¬ k0_cond8 (grid0.coords t) = 1#1 := fun h => by have := (cond8_iff _).1 h; omega
  have hp := pt_block t 0 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  iapply (kernel_0 c Set.univ (grid0.coords t) h1 h2 h3 h4 h5 h6 h7 h8 _ _ _ _ _ _ _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H7]; · iexists _; iexact H7
  isplitl [HS]; · iexists _; iexact HS
  iintro ⟨H0, H1, H2, H3, H4, HS, H7⟩
  isplitl [HS HR]
  · isplitr [HR]
    · iexists _
      isplitr
      swap; · iexact HS
      ipureintro
      intro _ b hb; obtain rfl : b = blockOf t := Fin.ext (by rw [hb]; show (t.val + 1) / 7 = t.val / 7; omega); unfold hS; rw [hp]
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    show k0_pay4 _ _ = _
    unfold hS wS; rw [hp]
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_1 (c : Dev nD) (t : Fin cfg0.N) (ht : t.val % 7 = 1) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : k0_cond3 (grid0.coords t) = 1#1 := (cond3_iff _).2 (by omega)
  have h4 : ¬ k0_cond4 (grid0.coords t) = 1#1 := fun h => by have := (cond4_iff _).1 h; omega
  have h5 : ¬ k0_cond5 (grid0.coords t) = 1#1 := fun h => by have := (cond5_iff _).1 h; omega
  have h6 : ¬ k0_cond6 (grid0.coords t) = 1#1 := fun h => by have := (cond6_iff _).1 h; omega
  have h7 : ¬ k0_cond7 (grid0.coords t) = 1#1 := fun h => by have := (cond7_iff _).1 h; omega
  have h8 : ¬ k0_cond8 (grid0.coords t) = 1#1 := fun h => by have := (cond8_iff _).1 h; omega
  have hp := pt_block t 1 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_1 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) _)
  isplitl [H4]; · iexact H4
  isplitl [HS]; · iexact HS
  isplitl [H8]; · iexists _; iexact H8
  isplitl [H9]; · iexists _; iexact H9
  iintro ⟨H4, HS, ⟨%y8, %hy8, H8⟩, H9⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    intro _; unfold RowsA wS; rw [hp]; exact hy8
  isplitl [H9]
  · iexists _; isplitr
    swap; · iexact H9
    ipureintro
    intro _; unfold wS; rw [hp]
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_2 (c : Dev nD) (t : Fin cfg0.N) (ht : t.val % 7 = 2) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : k0_cond4 (grid0.coords t) = 1#1 := (cond4_iff _).2 (by omega)
  have h5 : ¬ k0_cond5 (grid0.coords t) = 1#1 := fun h => by have := (cond5_iff _).1 h; omega
  have h6 : ¬ k0_cond6 (grid0.coords t) = 1#1 := fun h => by have := (cond6_iff _).1 h; omega
  have h7 : ¬ k0_cond7 (grid0.coords t) = 1#1 := fun h => by have := (cond7_iff _).1 h; omega
  have h8 : ¬ k0_cond8 (grid0.coords t) = 1#1 := fun h => by have := (cond8_iff _).1 h; omega
  have hp := pt_block t 2 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_2 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) _)
  isplitl [H4]; · iexact H4
  isplitl [HS]; · iexact HS
  isplitl [H10]; · iexists _; iexact H10
  iintro ⟨H4, HS, H10⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    intro _; unfold wS; rw [hp]
  isplitl [H11]
  · iexists _; isplitr
    swap; · iexact H11
    ipureintro
    exact carry_11 m c t (by omega) Y11 hY11
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_3 (c : Dev nD) (t : Fin cfg0.N) (ht : t.val % 7 = 3) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : ¬ k0_cond4 (grid0.coords t) = 1#1 := fun h => by have := (cond4_iff _).1 h; omega
  have h5 : k0_cond5 (grid0.coords t) = 1#1 := (cond5_iff _).2 (by omega)
  have h6 : ¬ k0_cond6 (grid0.coords t) = 1#1 := fun h => by have := (cond6_iff _).1 h; omega
  have h7 : ¬ k0_cond7 (grid0.coords t) = 1#1 := fun h => by have := (cond7_iff _).1 h; omega
  have h8 : ¬ k0_cond8 (grid0.coords t) = 1#1 := fun h => by have := (cond8_iff _).1 h; omega
  have hp := pt_block t 3 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_3 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) _)
  isplitl [H4]; · iexact H4
  isplitl [HS]; · iexact HS
  isplitl [H11]; · iexists _; iexact H11
  iintro ⟨H4, HS, H11⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    intro _; unfold wS; rw [hp]
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_4 (c : Dev nD) (t : Fin cfg0.N) (ht : t.val % 7 = 4) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : ¬ k0_cond4 (grid0.coords t) = 1#1 := fun h => by have := (cond4_iff _).1 h; omega
  have h5 : ¬ k0_cond5 (grid0.coords t) = 1#1 := fun h => by have := (cond5_iff _).1 h; omega
  have h6 : k0_cond6 (grid0.coords t) = 1#1 := (cond6_iff _).2 (by omega)
  have h7 : ¬ k0_cond7 (grid0.coords t) = 1#1 := fun h => by have := (cond7_iff _).1 h; omega
  have h8 : ¬ k0_cond8 (grid0.coords t) = 1#1 := fun h => by have := (cond8_iff _).1 h; omega
  have hp := pt_block t 4 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_4 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) Y12 _)
  isplitl [H4]; · iexact H4
  isplitl [HS]; · iexact HS
  isplitl [H12]; · iexact H12
  isplitl [H13]; · iexists _; iexact H13
  iintro ⟨H4, HS, ⟨%y12, %hy12, H12⟩, H13⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    refine ⟨fun _ => ?_, fun h => absurd h (by omega)⟩
    unfold RowsB wS; rw [hp]; exact hy12
  isplitl [H13]
  · iexists _; isplitr
    swap; · iexact H13
    ipureintro
    refine ⟨fun _ => ?_, fun h => absurd h (by omega)⟩
    unfold wS; rw [hp]
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_5 (c : Dev nD) (t : Fin cfg0.N) (ht : t.val % 7 = 5) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : ¬ k0_cond4 (grid0.coords t) = 1#1 := fun h => by have := (cond4_iff _).1 h; omega
  have h5 : ¬ k0_cond5 (grid0.coords t) = 1#1 := fun h => by have := (cond5_iff _).1 h; omega
  have h6 : ¬ k0_cond6 (grid0.coords t) = 1#1 := fun h => by have := (cond6_iff _).1 h; omega
  have h7 : k0_cond7 (grid0.coords t) = 1#1 := (cond7_iff _).2 (by omega)
  have h8 : ¬ k0_cond8 (grid0.coords t) = 1#1 := fun h => by have := (cond8_iff _).1 h; omega
  have hp := pt_block t 5 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_5 c Set.univ (grid0.coords t) h1 h2 h3 h4 h5 h6 h7 h8 _ _ _ _ _ _ _ _ _ _ _ _ _ _ _ _ _ _ _ _ _ _ _ _ _ _ _ _ _ _ _ _ _ _ (iblk m c 4 t) (hS m c (blockOf t)) Y12 _)
  isplitl [H4]; · iexact H4
  isplitl [HS]; · iexact HS
  isplitl [H12]; · iexact H12
  isplitl [H13]; · iexists _; iexact H13
  iintro ⟨H4, HS, ⟨%y12, %hy12, H12⟩, H13⟩
  isplitl [HS HR]
  · isplitr [HR]
    · iexists _
      isplitr
      swap; · iexact HS
      ipureintro
      intro _ b hb; obtain rfl : b = blockOf t := Fin.ext (by rw [hb]; show (t.val + 1) / 7 = t.val / 7; omega); rfl
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    refine ⟨fun _ => ?_, fun _ => ?_⟩
    · have hB := found_12 m c t ht Y12 hY12
      exact fun a j l => (hy12.1 a j l).trans (hB a j l)
    · unfold RowsC wS; rw [hp]; exact hy12.2
  isplitl [H13]
  · iexists _; isplitr
    swap; · iexact H13
    ipureintro
    refine ⟨fun h => absurd h (by omega), fun _ => ?_⟩
    unfold wS; rw [hp]
  isplitl [H14]
  · iexists _; isplitr
    swap; · iexact H14
    ipureintro
    exact carry_14 m c t (by omega) Y14 hY14
  · iexists _; isplitr
    swap; · iexact H15
    ipureintro
    exact carry_15 m c t (by omega) Y15 hY15

set_option maxHeartbeats 1600000 in
theorem body_6 (c : Dev nD) (t : Fin cfg0.N) (ht : t.val % 7 = 6) :
    bodyPre m c t ⊢ wp frame (wpE (defs₀ (F := F)) Variants.none c none) Set.univ (bodyAt0 t) (fun _ => bodyPost m c t) := by
  have e := coord t
  have h1 : ¬ first (grid0.coords t) := fun h => by have := (first_iff _).1 h; omega
  have h2 : ¬ k0_cond2 (grid0.coords t) = 1#1 := fun h => by have := (cond2_iff _).1 h; omega
  have h3 : ¬ k0_cond3 (grid0.coords t) = 1#1 := fun h => by have := (cond3_iff _).1 h; omega
  have h4 : ¬ k0_cond4 (grid0.coords t) = 1#1 := fun h => by have := (cond4_iff _).1 h; omega
  have h5 : ¬ k0_cond5 (grid0.coords t) = 1#1 := fun h => by have := (cond5_iff _).1 h; omega
  have h6 : ¬ k0_cond6 (grid0.coords t) = 1#1 := fun h => by have := (cond6_iff _).1 h; omega
  have h7 : ¬ k0_cond7 (grid0.coords t) = 1#1 := fun h => by have := (cond7_iff _).1 h; omega
  have h8 : k0_cond8 (grid0.coords t) = 1#1 := (cond8_iff _).2 (by omega)
  have hp := pt_block t 6 ht
  unfold bodyPre bodyPost bodyAt0
  simp only [before_0, before_1, before_2, before_3, before_4, before_5, before_6]
  rw [show (dats m 0 c).Φ t.succ = held m c (t.val + 1) from rfl, show (dats m 0 c).Φ t.castSucc = held m c t.val from rfl,
    show (dats m 0 c).owesAt () t.succ = (dats m 0 c).owesAt () t.castSucc from rfl,
    after_0, after_1, after_2, after_3, after_4, after_5, after_6]
  unfold held
  iintro ⟨⟨⟨%x, %hI, HS⟩, HR⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩, ⟨%Y13, %hY13, H13⟩, ⟨%Y14, %hY14, H14⟩, ⟨%Y15, %hY15, H15⟩⟩
  obtain rfl : x = hS m c (blockOf t) := hI (by omega) (blockOf t) rfl
  iapply (kernel_6 c Set.univ (grid0.coords t) h1 h2 h3 h4 h5 h6 h7 h8 _ _ _ _ _ _ _ _ _ _ _ _ _ _ _ _ _ _ _ _ _ _ _ _ _ _ _ _ _ _ _ _ _ _ (iblk m c 5 t) (iblk m c 6 t) (hS m c (blockOf t)) _)
  isplitl [H5]; · iexact H5
  isplitl [H6]; · iexact H6
  isplitl [HS]; · iexact HS
  isplitl [H14]; · iexists _; iexact H14
  isplitl [H15]; · iexists _; iexact H15
  iintro ⟨H5, H6, HS, H14, H15⟩
  isplitl [HS HR]
  · isplitr [HR]
    · iexists _
      isplitr
      swap; · iexact HS
      ipureintro
      intro h; exact absurd h (by omega)
    · iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr
    swap; · iexact H7
    ipureintro
    exact carry_7 m c t (by omega) Y7 hY7
  isplitl [H8]
  · iexists _; isplitr
    swap; · iexact H8
    ipureintro
    exact carry_8 m c t (by omega) Y8 hY8
  isplitl [H9]
  · iexists _; isplitr
    swap; · iexact H9
    ipureintro
    exact carry_9 m c t (by omega) Y9 hY9
  isplitl [H10]
  · iexists _; isplitr
    swap; · iexact H10
    ipureintro
    exact carry_10 m c t (by omega) Y10 hY10
  isplitl [H11]
  · iexists _; isplitr
    swap; · iexact H11
    ipureintro
    exact carry_11 m c t (by omega) Y11 hY11
  isplitl [H12]
  · iexists _; isplitr
    swap; · iexact H12
    ipureintro
    exact carry_12 m c t (by omega) (by omega) Y12 hY12
  isplitl [H13]
  · iexists _; isplitr
    swap; · iexact H13
    ipureintro
    exact carry_13 m c t (by omega) (by omega) Y13 hY13
  isplitl [H14]
  · iexists _; isplitr
    swap; · iexact H14
    ipureintro
    intro _; rfl
  · iexists _; isplitr
    swap; · iexact H15
    ipureintro
    intro _; rfl

theorem sound_body (c : Dev nD) (t : Fin cfg0.N) :
    bodyPre m c t ⊢ wp frame (wpE (defs₀ (F := F)) Variants.none c none) Set.univ (bodyAt0 t) (fun _ => bodyPost m c t) := by
  have h : t.val % 7 < 7 := Nat.mod_lt _ (by decide)
  obtain h | h | h | h | h | h | h : t.val % 7 = 0 ∨ t.val % 7 = 1 ∨ t.val % 7 = 2 ∨ t.val % 7 = 3 ∨ t.val % 7 = 4 ∨ t.val % 7 = 5 ∨ t.val % 7 = 6 := by omega
  · exact body_0 m c t h
  · exact body_1 m c t h
  · exact body_2 m c t h
  · exact body_3 m c t h
  · exact body_4 m c t h
  · exact body_5 m c t h
  · exact body_6 m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ isRes (Left m c) := fun t => by
  rw [bigSep_W0, bigSep_W0, defs₀_row]
  exact triple_restated (sound_body m c t) rfl .rfl fun _ => .rfl

/-! ## The run -/

/-- The class's invariant is the tracked one before the first point, -/
theorem held_in (c : Dev nD) : Pipeline.ΦA spec0 c ⊢ (rdat (F := F) m c).Φ 0 := by
  show _ ⊢ held m c 0
  unfold Pipeline.ΦA held
  rw [scopedRest0_eq]
  iintro ⟨⟨%f, HA⟩, HR⟩
  isplitr [HR]
  · iexists f
    isplitr; · ipureintro; intro h; exact absurd rfl h
    rw [owns_whole]
    iexact HA
  · iexact HR

/-- and the tracked one is the class's after the last. -/
theorem held_out (c : Dev nD) : (rdat (F := F) m c).Φ (Fin.last cfg0.N) ⊢ Pipeline.ΦA spec0 c := by
  show held m c _ ⊢ _
  unfold Pipeline.ΦA held
  rw [scopedRest0_eq]
  simp only [owns_whole]
  iintro ⟨⟨%x, -, HA⟩, HR⟩
  isplitr [HR]
  · iexists x; iexact HA
  · iexact HR

set_option backward.isDefEq.respectTransparency.types false in
set_option maxHeartbeats 800000 in
theorem run_main_quiescent : θ_run defs (onTc (τ := τ) (main (F := F))) (s₀ m ρ) (fun r => Pipeline.RDat.FramePost cfg0 (rdat m) (V m) r ∧ r.2.sem = fun _ => 0) :=
  Pipeline.RDat.θ_run_frame_track cfgs (0 : Fin 1) launch0 defs₀ Variants.none (rdat m) m ρ main
    (hbody := fun c => (body_obligation m c).toRRel) (hshare := fun c w => by show (if (cfg0.win w).isOut then fullShare else fullShare) = fullShare; exact ite_self _)
    (howed := fun _ _ => rfl) (V := V m) (hmain := hmain m Variants.none) (hA := A_eq m) (hin := held_in m) (hout := held_out m) (Q' := _)

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Cert.SProjIdeal.Body
-- ==== Proof.SProjModel.lean ====
/-
  What the projection call makes of the rows projected for the sample batch's 128 tokens, in plain sums over the
  extended reals.
-/
module

public import proofs.«01_k».proof.Proof.ProjModel

@[expose] public section

noncomputable section

namespace Cert.SModel

open Idealize.ShloMosaic
open Cert.Model (wscale)

variable (Z : Fin 128 → Fin 6224 → EReal)

/-- Queries of the first attention, -/
def queryA (n : Fin 128) (e : Fin 1024) : EReal := Z n ⟨e.val, by omega⟩
/-- its keys and values, one row for each of a token's eight heads of them, -/
def rowsA (p : Fin 1024) (l : Fin 128) : EReal := Z ⟨p.val / 8, by omega⟩ ⟨1024 + p.val % 8 * 128 + l.val, by omega⟩
/-- and the same one row for each token. -/
def tokA (n : Fin 128) (e : Fin 1024) : EReal := Z n ⟨1024 + e.val, by omega⟩
/-- Queries of the indexer. -/
def queryI (n : Fin 128) (e : Fin 1024) : EReal := Z n ⟨2048 + e.val, by omega⟩
/-- Queries of the second attention, -/
def queryB (n : Fin 128) (e : Fin 1024) : EReal := Z n ⟨3152 + e.val, by omega⟩
/-- its keys and values, one row for each of a token's sixteen heads of them, -/
def rowsB (p : Fin 2048) (l : Fin 128) : EReal := Z ⟨p.val / 16, by omega⟩ ⟨4176 + p.val % 16 * 128 + l.val, by omega⟩
/-- and the same one row for each token. -/
def tokB (n : Fin 128) (e : Fin 2048) : EReal := Z n ⟨4176 + e.val, by omega⟩
/-- The indexer's key, then its scaled weights, then zeros. -/
def small (n : Fin 128) (l : Fin 128) : EReal :=
  if l.val < 64 then Z n ⟨3072 + l.val, by omega⟩ else if l.val < 80 then Z n ⟨3072 + l.val, by omega⟩ * wscale else 0
/-- The indexer's keys, each one a column. -/
def keyT (b : Fin 1) (l : Fin 64) (t : Fin 128) : EReal := Z ⟨b.val * 128 + t.val, by omega⟩ ⟨3072 + l.val, by omega⟩

end Cert.SModel

end
-- ==== Proof.SProjValue.lean ====
/-
The input projection as the pipelined program computes it: each of its nine result arrays holds, entry by entry, a column of the
projected row of a token.
-/
module

public import proofs.«01_k».proof.Proof.SProjModel
public import proofs.«01_k».proof.Proof.SProjFrame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SProjIdeal.Model

open Cert.SProjIdeal Cert.SProjIdeal.Gen Cert.SProjIdeal.Body Cert.SModel
open Cert.Model (proj wscale modulated rms)

/-! ## The points' expressions -/

theorem pay3_at (x : FVec Ideal S128x2048 .f32) (g : FVec Ideal S1x2048 .f32) (sc sh : FVec Ideal S1x128x2048 .f32) (r : Fin 128) (d : Fin 2048) :
    k0_pay3 (F := Ideal) x g sc sh (ix2 r d) = modulated (fun d => x (ix2 r d)) (fun d => g (ix2 0 d)) (fun d => sh (ix3 0 r d)) (fun d => sc (ix3 0 r d)) d := by
  pointwise! [k0_pay3, modulated, rms]

variable (h : FVec Ideal S128x2048 .bf16) (w : FVec Ideal S2048x1024 .bf16)

/-- A block of tokens times a block of columns. -/
def prod (r : Fin 128) (q : Fin 1024) : EReal := ∑ d : Fin 2048, h (ix2 r d) * w (ix2 d q)

theorem pay4_at (r : Fin 128) (q : Fin 1024) : k0_pay4 (F := Ideal) h w (ix2 r q) = prod h w r q := by pointwise! [k0_pay4, prod]
theorem pay5_at (r : Fin 128) (q : Fin 1024) : k0_pay5 (F := Ideal) h w (ix2 r q) = prod h w r q := by pointwise! [k0_pay5, prod]
theorem pay14_at (r : Fin 128) (q : Fin 1024) : k0_pay14 (F := Ideal) h w (ix2 r q) = prod h w r q := by pointwise [k0_pay14, pay5_at]
theorem pay15_at (r : Fin 128) (q : Fin 1024) : k0_pay15 (F := Ideal) h w (ix2 r q) = prod h w r q := by pointwise! [k0_pay15, prod]
theorem pay16_at (r : Fin 128) (q : Fin 1024) : k0_pay16 (F := Ideal) h w (ix2 r q) = prod h w r q := by pointwise! [k0_pay16, prod]
theorem pay17_at (r : Fin 128) (q : Fin 1024) : k0_pay17 (F := Ideal) h w (ix2 r q) = prod h w r q := by pointwise! [k0_pay17, prod]
theorem pay26_at (r : Fin 128) (q : Fin 1024) : k0_pay26 (F := Ideal) h w (ix2 r q) = prod h w r q := by pointwise [k0_pay26, pay17_at]
theorem pay27_at (r : Fin 128) (q : Fin 1024) : k0_pay27 (F := Ideal) h w (ix2 r q) = prod h w r q := by pointwise! [k0_pay27, prod]
theorem pay36_at (r : Fin 128) (q : Fin 1024) : k0_pay36 (F := Ideal) h w (ix2 r q) = prod h w r q := by pointwise [k0_pay36, pay27_at]

theorem headA_at (j : Fin 8) (r : Fin 128) (l : Fin 128) : headA (F := Ideal) h w j (ix2 r l) = prod h w r ⟨j.val * 128 + l.val, by omega⟩ := by
  fin_cases j
  · show k0_pay6 (F := Ideal) h w (ix2 r l) = _; pointwise [k0_pay6, pay5_at]
  · show k0_pay7 (F := Ideal) h w (ix2 r l) = _; pointwise [k0_pay7, pay5_at]
  · show k0_pay8 (F := Ideal) h w (ix2 r l) = _; pointwise [k0_pay8, pay5_at]
  · show k0_pay9 (F := Ideal) h w (ix2 r l) = _; pointwise [k0_pay9, pay5_at]
  · show k0_pay10 (F := Ideal) h w (ix2 r l) = _; pointwise [k0_pay10, pay5_at]
  · show k0_pay11 (F := Ideal) h w (ix2 r l) = _; pointwise [k0_pay11, pay5_at]
  · show k0_pay12 (F := Ideal) h w (ix2 r l) = _; pointwise [k0_pay12, pay5_at]
  · show k0_pay13 (F := Ideal) h w (ix2 r l) = _; pointwise [k0_pay13, pay5_at]

theorem headB_at (j : Fin 8) (r : Fin 128) (l : Fin 128) : headB (F := Ideal) h w j (ix2 r l) = prod h w r ⟨j.val * 128 + l.val, by omega⟩ := by
  fin_cases j
  · show k0_pay18 (F := Ideal) h w (ix2 r l) = _; pointwise [k0_pay18, pay17_at]
  · show k0_pay19 (F := Ideal) h w (ix2 r l) = _; pointwise [k0_pay19, pay17_at]
  · show k0_pay20 (F := Ideal) h w (ix2 r l) = _; pointwise [k0_pay20, pay17_at]
  · show k0_pay21 (F := Ideal) h w (ix2 r l) = _; pointwise [k0_pay21, pay17_at]
  · show k0_pay22 (F := Ideal) h w (ix2 r l) = _; pointwise [k0_pay22, pay17_at]
  · show k0_pay23 (F := Ideal) h w (ix2 r l) = _; pointwise [k0_pay23, pay17_at]
  · show k0_pay24 (F := Ideal) h w (ix2 r l) = _; pointwise [k0_pay24, pay17_at]
  · show k0_pay25 (F := Ideal) h w (ix2 r l) = _; pointwise [k0_pay25, pay17_at]

theorem headC_at (j : Fin 8) (r : Fin 128) (l : Fin 128) : headC (F := Ideal) h w j (ix2 r l) = prod h w r ⟨j.val * 128 + l.val, by omega⟩ := by
  fin_cases j
  · show k0_pay28 (F := Ideal) h w (ix2 r l) = _; pointwise [k0_pay28, pay27_at]
  · show k0_pay29 (F := Ideal) h w (ix2 r l) = _; pointwise [k0_pay29, pay27_at]
  · show k0_pay30 (F := Ideal) h w (ix2 r l) = _; pointwise [k0_pay30, pay27_at]
  · show k0_pay31 (F := Ideal) h w (ix2 r l) = _; pointwise [k0_pay31, pay27_at]
  · show k0_pay32 (F := Ideal) h w (ix2 r l) = _; pointwise [k0_pay32, pay27_at]
  · show k0_pay33 (F := Ideal) h w (ix2 r l) = _; pointwise [k0_pay33, pay27_at]
  · show k0_pay34 (F := Ideal) h w (ix2 r l) = _; pointwise [k0_pay34, pay27_at]
  · show k0_pay35 (F := Ideal) h w (ix2 r l) = _; pointwise [k0_pay35, pay27_at]

/-- A block of tokens times the indexer's columns, the ones of its weights scaled. -/
theorem pay1_at (v : FVec Ideal S2048x128 .bf16) (r : Fin 128) (l : Fin 128) :
    k0_pay1 (F := Ideal) h v (ix2 r l)
      = if 64 ≤ l.val ∧ l.val < 80 then (∑ d : Fin 2048, h (ix2 r d) * v (ix2 d l)) * wscale else ∑ d : Fin 2048, h (ix2 r d) * v (ix2 d l) := by
  have hc : ∀ l : Fin 128, IntOp.andi (IntOp.cmpi .sge (BitVec.ofNat 32 l.val) 64#32) (IntOp.cmpi .slt (BitVec.ofNat 32 l.val) 80#32)
      = if 64 ≤ l.val ∧ l.val < 80 then 1#1 else 0#1 := by decide +kernel
  pointwise [k0_pay1]
  rw [hc l]
  split_ifs <;> rfl

theorem pay2_at (v : FVec Ideal S128x2048 .bf16) (l : Fin 64) (t : Fin 128) :
    k0_pay2 (F := Ideal) v h (ix3 0 l t) = ∑ d : Fin 2048, v (ix2 ⟨l.val, by omega⟩ d) * h (ix2 t d) := by
  pointwise! [k0_pay2]

/-! ## The columns as the host lays them out -/

/-- The pieces of the columns of the attentions and of the indexer's queries, -/
def pieces (W : FVec Ideal S1x2048x6224 .f32) : List ((s : Shape) × (s.Idx → EReal)) := [⟨S2048x1024, extractStridedSlice S2048x1024 ![0, 0] (shapeCast S2048x6224 W shapeCasts_S1x2048x6224_S2048x6224) slices_S2048x6224_S2048x1024_0_0⟩, ⟨S2048x512, extractStridedSlice S2048x512 ![0, 1024] (shapeCast S2048x6224 W shapeCasts_S1x2048x6224_S2048x6224) slices_S2048x6224_S2048x512_0_1024⟩, ⟨S2048x512, extractStridedSlice S2048x512 ![0, 1536] (shapeCast S2048x6224 W shapeCasts_S1x2048x6224_S2048x6224) slices_S2048x6224_S2048x512_0_1536⟩, ⟨S2048x1024, extractStridedSlice S2048x1024 ![0, 2048] (shapeCast S2048x6224 W shapeCasts_S1x2048x6224_S2048x6224) slices_S2048x6224_S2048x1024_0_2048⟩, ⟨S2048x1024, extractStridedSlice S2048x1024 ![0, 3152] (shapeCast S2048x6224 W shapeCasts_S1x2048x6224_S2048x6224) slices_S2048x6224_S2048x1024_0_3152⟩, ⟨S2048x1024, extractStridedSlice S2048x1024 ![0, 4176] (shapeCast S2048x6224 W shapeCasts_S1x2048x6224_S2048x6224) slices_S2048x6224_S2048x1024_0_4176⟩, ⟨S2048x1024, extractStridedSlice S2048x1024 ![0, 5200] (shapeCast S2048x6224 W shapeCasts_S1x2048x6224_S2048x6224) slices_S2048x6224_S2048x1024_0_5200⟩]

/-- and the columns of the attentions and of the indexer's queries, side by side. -/
def wmain (W : FVec Ideal S1x2048x6224 .f32) : FVec Ideal S2048x6144 .bf16 :=
  truncf .bf16 (concatenate S2048x6144 1 (pieces W) concatenates_S2048x1024_S2048x512_S2048x512_S2048x1024_S2048x1024_S2048x1024_S2048x1024_S2048x6144_d1) bitsLt_bf16_f32

/-- The indexer's columns: its key's, its weights', then zeros. -/
def wsmall (W : FVec Ideal S1x2048x6224 .f32) : FVec Ideal S2048x128 .bf16 :=
  truncf .bf16 (concatenate S2048x128 1 [⟨S2048x64, extractStridedSlice S2048x64 ![0, 3072] (shapeCast S2048x6224 W shapeCasts_S1x2048x6224_S2048x6224) slices_S2048x6224_S2048x64_0_3072⟩, ⟨S2048x16, extractStridedSlice S2048x16 ![0, 3136] (shapeCast S2048x6224 W shapeCasts_S1x2048x6224_S2048x6224) slices_S2048x6224_S2048x16_0_3136⟩, ⟨S2048x48, broadcastInDim S2048x48 ![] bcast_S_S2048x48 (constant S_ .f32 0x00000000#32)⟩] concatenates_S2048x64_S2048x16_S2048x48_S2048x128_d1) bitsLt_bf16_f32

theorem wmain_at (W : FVec Ideal S1x2048x6224 .f32) (d : Fin 2048) (F : Fin 6144) (G : Fin 6224) (hG : G.val = if F.val < 3072 then F.val else F.val + 80) :
    wmain W (ix2 d F) = W (ix3 0 d G) := by
  have hF := F.isLt
  rcases Nat.lt_or_ge F.val 1024 with h0 | h0
  · have e : G = ⟨0 + (F.val - 0), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 0 (by show _ < 7; omega) S2048x1024 _ rfl rfl 0 rfl (ix2 d ⟨F.val - 0, by omega⟩) ?_ (by show 0 + (F.val - 0) = F.val; omega)).trans ?_
    · intro b hb
      fin_cases b
      · rfl
      · exact absurd rfl hb
    · rw [e]; pointwise
  rcases Nat.lt_or_ge F.val 1536 with h1 | h1
  · have e : G = ⟨1024 + (F.val - 1024), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 1 (by show _ < 7; omega) S2048x512 _ rfl rfl 1024 rfl (ix2 d ⟨F.val - 1024, by omega⟩) ?_ (by show 1024 + (F.val - 1024) = F.val; omega)).trans ?_
    · intro b hb
      fin_cases b
      · rfl
      · exact absurd rfl hb
    · rw [e]; pointwise
  rcases Nat.lt_or_ge F.val 2048 with h2 | h2
  · have e : G = ⟨1536 + (F.val - 1536), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 2 (by show _ < 7; omega) S2048x512 _ rfl rfl 1536 rfl (ix2 d ⟨F.val - 1536, by omega⟩) ?_ (by show 1536 + (F.val - 1536) = F.val; omega)).trans ?_
    · intro b hb
      fin_cases b
      · rfl
      · exact absurd rfl hb
    · rw [e]; pointwise
  rcases Nat.lt_or_ge F.val 3072 with h3 | h3
  · have e : G = ⟨2048 + (F.val - 2048), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 3 (by show _ < 7; omega) S2048x1024 _ rfl rfl 2048 rfl (ix2 d ⟨F.val - 2048, by omega⟩) ?_ (by show 2048 + (F.val - 2048) = F.val; omega)).trans ?_
    · intro b hb
      fin_cases b
      · rfl
      · exact absurd rfl hb
    · rw [e]; pointwise
  rcases Nat.lt_or_ge F.val 4096 with h4 | h4
  · have e : G = ⟨3152 + (F.val - 3072), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 4 (by show _ < 7; omega) S2048x1024 _ rfl rfl 3072 rfl (ix2 d ⟨F.val - 3072, by omega⟩) ?_ (by show 3072 + (F.val - 3072) = F.val; omega)).trans ?_
    · intro b hb
      fin_cases b
      · rfl
      · exact absurd rfl hb
    · rw [e]; pointwise
  rcases Nat.lt_or_ge F.val 5120 with h5 | h5
  · have e : G = ⟨4176 + (F.val - 4096), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 5 (by show _ < 7; omega) S2048x1024 _ rfl rfl 4096 rfl (ix2 d ⟨F.val - 4096, by omega⟩) ?_ (by show 4096 + (F.val - 4096) = F.val; omega)).trans ?_
    · intro b hb
      fin_cases b
      · rfl
      · exact absurd rfl hb
    · rw [e]; pointwise
  · have e : G = ⟨5200 + (F.val - 5120), by omega⟩ := Fin.ext (by rw [hG]; split_ifs <;> dsimp only <;> omega)
    refine (concatenate_apply_piece (t := S2048x6144) 1 (pieces W) concatenates_S2048x1024_S2048x512_S2048x512_S2048x1024_S2048x1024_S2048x1024_S2048x1024_S2048x6144_d1 (ix2 d F) 6 (by show _ < 7; omega) S2048x1024 _ rfl rfl 5120 rfl (ix2 d ⟨F.val - 5120, by omega⟩) ?_ (by show 5120 + (F.val - 5120) = F.val; omega)).trans ?_
    · intro b hb
      fin_cases b
      · rfl
      · exact absurd rfl hb
    · rw [e]; pointwise

theorem wsmall_at (W : FVec Ideal S1x2048x6224 .f32) (d : Fin 2048) (l : Fin 128) :
    wsmall W (ix2 d l) = if h : l.val < 80 then W (ix3 0 d ⟨3072 + l.val, by omega⟩) else 0 := by
  have hi : ∀ a : ℕ, a = 3072 + l.val → ∀ h h', W (ix3 0 d ⟨a, h⟩) = W (ix3 0 d ⟨3072 + l.val, h'⟩) := fun a ha h h' => by subst ha; rfl
  pointwise [wsmall]
  rcases Nat.lt_or_ge l.val 64 with h1 | h1
  · rw [dif_pos h1, dif_pos (by omega)]
  · rw [dif_neg (by omega)]
    rcases Nat.lt_or_ge l.val 80 with h2 | h2
    · rw [dif_pos (by omega), dif_pos h2]
      exact hi _ (by omega) _ _
    · rw [dif_neg (by omega), dif_neg (by omega)]

variable (m : (ℓ : Loc nD τ sig) → Buf (Elt Ideal) ℓ)

theorem V_v9 (c : Dev nD) : (V m c main_v9 : FVec Ideal S2048x6144 .bf16) = wmain (m ((c : Thread nD τ).loc main_arg4)) := by
  rfl
theorem V_v14 (c : Dev nD) : (V m c main_v14 : FVec Ideal S2048x128 .bf16) = wsmall (m ((c : Thread nD τ).loc main_arg4)) := by
  rfl
theorem V_v15 (c : Dev nD) : (V m c main_v15 : FVec Ideal S128x2048 .bf16) = transpose S128x2048 [1, 0] (wsmall (m ((c : Thread nD τ).loc main_arg4))) transposes_S2048x128_S128x2048_1_0 := by
  rfl

/-! ## Blocks -/

/-- Where each input block sits. -/
theorem idx_in : ∀ b : Fin 1, win0_0.index (pt b 0) = ![b.val, 0] ∧ win0_1.index (pt b 0) = ![0, 0] ∧ win0_2.index (pt b 0) = ![0, 0, 0]
    ∧ win0_3.index (pt b 0) = ![0, 0, 0] ∧ win0_5.index (pt b 6) = ![0, 0] ∧ win0_6.index (pt b 6) = ![0, 0] := by decide +kernel
theorem idx_w : ∀ (b : Fin 1) (s : Fin 6), win0_4.index (pt b (s.castLE (by decide))) = ![0, s.val] := by decide +kernel
/-- Where each result block sits when it is written back. -/
theorem idx_out : ∀ b : Fin 1, win0_7.index (pt b 6) = ![b.val, 0] ∧ win0_8.index (pt b 6) = ![b.val, 0] ∧ win0_9.index (pt b 6) = ![b.val, 0]
    ∧ win0_10.index (pt b 6) = ![b.val, 0] ∧ win0_11.index (pt b 6) = ![b.val, 0] ∧ win0_12.index (pt b 6) = ![b.val, 0]
    ∧ win0_13.index (pt b 4) = ![b.val, 0] ∧ win0_13.index (pt b 6) = ![b.val, 1] ∧ win0_14.index (pt b 6) = ![b.val, 0]
    ∧ win0_15.index (pt b 6) = ![b.val, 0, 0] := by decide +kernel

/-- The normalised and modulated row of token `n`. -/
def hrow (X : FVec Ideal S32x4x2048 .f32) (g : FVec Ideal S1x2048 .f32) (sh sc : FVec Ideal S32x2048 .f32) (n : Fin 128) : Fin 2048 → EReal :=
  modulated (fun d => X (ix3 ⟨n.val / 4, by omega⟩ ⟨n.val % 4, by omega⟩ d)) (fun d => g (ix2 0 d)) (fun d => sh (ix2 ⟨n.val / 4, by omega⟩ d))
    (fun d => sc (ix2 ⟨n.val / 4, by omega⟩ d))

/-- The projected rows. -/
def zed (X : FVec Ideal S32x4x2048 .f32) (g : FVec Ideal S1x2048 .f32) (sh sc : FVec Ideal S32x2048 .f32) (W : FVec Ideal S1x2048x6224 .f32) (n : Fin 128) :
    Fin 6224 → EReal :=
  proj (hrow X g sh sc n) fun d f => W (ix3 0 d f)

/-- The same of the program's arguments. -/
abbrev hr (c : Dev nD) : Fin 128 → Fin 2048 → EReal :=
  hrow (m ((c : Thread nD τ).loc main_arg0)) (m ((c : Thread nD τ).loc main_arg1)) (m ((c : Thread nD τ).loc main_arg2)) (m ((c : Thread nD τ).loc main_arg3))
abbrev zz (c : Dev nD) : Fin 128 → Fin 6224 → EReal :=
  zed (m ((c : Thread nD τ).loc main_arg0)) (m ((c : Thread nD τ).loc main_arg1)) (m ((c : Thread nD τ).loc main_arg2)) (m ((c : Thread nD τ).loc main_arg3)) (m ((c : Thread nD τ).loc main_arg4))

/-- The modulation rows spread over the tokens: four tokens to a row. -/
def spread (g : FVec Ideal S32x2048 .f32) : FVec Ideal S1x128x2048 .f32 :=
  broadcastInDim S1x128x2048 ![1, 2] bcast_S128x2048_S1x128x2048_1_2 (shapeCast S128x2048 (broadcastInDim S32x4x2048 ![0, 2] bcast_S32x2048_S32x4x2048_0_2 g) shapeCasts_S32x4x2048_S128x2048)

theorem spread_at (g : FVec Ideal S32x2048 .f32) (n : Fin 128) (e : Fin 2048) : spread g (ix3 0 n e) = g (ix2 ⟨n.val / 4, by omega⟩ e) := by
  unfold spread
  pointwise

theorem hS_at (c : Dev nD) (b : Fin 1) (r : Fin 128) (d : Fin 2048) (n : Fin 128) (hn : n.val = b.val * 128 + r.val) :
    hS (F := Ideal) m c b (ix2 r d) = hr m c n d := by
  obtain ⟨i0, i1, i2, i3, -⟩ := idx_in b
  unfold hS
  rw [pay3_at]
  have hsh : (fun d : Fin 2048 => (iblk (F := Ideal) m c 2 (pt b 0) : FVec Ideal S1x128x2048 .f32) (ix3 0 r d)) = fun d => (m ((c : Thread nD τ).loc main_arg2) : FVec Ideal S32x2048 .f32) (ix2 ⟨n.val / 4, by omega⟩ d) := by
    funext d
    refine Eq.trans ?_ (spread_at _ n d)
    rw [← show V m c main_v19 = spread (m ((c : Thread nD τ).loc main_arg2)) from rfl]
    blk_point [iblk, i2]
  have hsc : (fun d : Fin 2048 => (iblk (F := Ideal) m c 3 (pt b 0) : FVec Ideal S1x128x2048 .f32) (ix3 0 r d)) = fun d => (m ((c : Thread nD τ).loc main_arg3) : FVec Ideal S32x2048 .f32) (ix2 ⟨n.val / 4, by omega⟩ d) := by
    funext d
    refine Eq.trans ?_ (spread_at _ n d)
    rw [← show V m c main_v22 = spread (m ((c : Thread nD τ).loc main_arg3)) from rfl]
    blk_point [iblk, i3]
  rw [hsh, hsc]
  unfold hr hrow modulated
  pointwise [rms]
  blk_point [iblk, V, i0, i1]

theorem wS_at (c : Dev nD) (b : Fin 1) (s : Fin 6) (d : Fin 2048) (q : Fin 1024) (G : Fin 6224) (hG : G.val = if s.val < 3 then s.val * 1024 + q.val else s.val * 1024 + q.val + 80) :
    wS (F := Ideal) m c b (s.castLE (by decide)) (ix2 d q) = (m ((c : Thread nD τ).loc main_arg4) : FVec Ideal S1x2048x6224 .f32) (ix3 0 d G) := by
  have i4 := idx_w b s
  refine Eq.trans ?_ (wmain_at _ d ⟨s.val * 1024 + q.val, by omega⟩ G (by rw [hG]; split_ifs <;> dsimp only at * <;> omega))
  rw [← V_v9]
  unfold wS
  blk_point [iblk, i4]

/-- A block of tokens times a block of columns is a block of the projection. -/
theorem prod_at (c : Dev nD) (b : Fin 1) (s : Fin 6) (r : Fin 128) (q : Fin 1024) (n : Fin 128) (hn : n.val = b.val * 128 + r.val) (G : Fin 6224)
    (hG : G.val = if s.val < 3 then s.val * 1024 + q.val else s.val * 1024 + q.val + 80) :
    prod (hS m c b) (wS m c b (s.castLE (by decide))) r q = zz m c n G := by
  unfold prod zz zed proj
  exact Finset.sum_congr rfl fun d _ => by rw [hS_at m c b r d n hn, wS_at m c b s d q G hG]

theorem w5_at (c : Dev nD) (b : Fin 1) (d : Fin 2048) (l : Fin 128) :
    (iblk m c 5 (pt b 6) : FVec Ideal S2048x128 .bf16) (ix2 d l) = if h : l.val < 80 then (m ((c : Thread nD τ).loc main_arg4) : FVec Ideal S1x2048x6224 .f32) (ix3 0 d ⟨3072 + l.val, by omega⟩) else (0 : EReal) := by
  obtain ⟨-, -, -, -, i5, -⟩ := idx_in b
  refine Eq.trans ?_ (wsmall_at _ d l)
  rw [← V_v14]
  blk_point [iblk, i5]

theorem w6_at (c : Dev nD) (b : Fin 1) (d : Fin 2048) (l : Fin 128) :
    (iblk m c 6 (pt b 6) : FVec Ideal S128x2048 .bf16) (ix2 l d) = if h : l.val < 80 then (m ((c : Thread nD τ).loc main_arg4) : FVec Ideal S1x2048x6224 .f32) (ix3 0 d ⟨3072 + l.val, by omega⟩) else (0 : EReal) := by
  obtain ⟨-, -, -, -, -, i6⟩ := idx_in b
  refine Eq.trans ?_ (wsmall_at _ d l)
  refine Eq.trans (b := (V m c main_v15 : FVec Ideal S128x2048 .bf16) (ix2 l d)) ?_ ?_
  · blk_point [iblk, i6]
  · rw [V_v15]; pointwise

theorem small_at (c : Dev nD) (b : Fin 1) (r : Fin 128) (l : Fin 128) (n : Fin 128) (hn : n.val = b.val * 128 + r.val) :
    k0_pay1 (F := Ideal) (hS m c b) (iblk m c 5 (pt b 6)) (ix2 r l) = small (zz m c) n l := by
  rw [pay1_at]
  simp only [hS_at m c b r _ n hn, w5_at]
  unfold small zz zed proj
  by_cases h1 : l.val < 80
  · simp only [dif_pos h1, h1, and_true, if_true]
    rcases Nat.lt_or_ge l.val 64 with h2 | h2
    · rw [if_neg (by omega), if_pos h2]
      exact Finset.sum_congr rfl fun d _ => by rw [dif_pos trivial]
    · rw [if_pos h2, if_neg (by omega)]
      exact congrArg (· * wscale) (Finset.sum_congr rfl fun d _ => by rw [dif_pos trivial])
  · rw [if_neg (by omega), if_neg (by omega), if_neg h1]
    exact Finset.sum_eq_zero fun d _ => by rw [dif_neg h1, mul_zero]

theorem keyT_at (c : Dev nD) (b : Fin 1) (l : Fin 64) (r : Fin 128) (a : Fin 1) (ha : a.val = b.val) (t : Fin 128) (ht : t.val = r.val) :
    k0_pay2 (F := Ideal) (iblk m c 6 (pt b 6)) (hS m c b) (ix3 0 l r) = keyT (zz m c) a l t := by
  rw [pay2_at]
  unfold keyT zz zed proj
  refine Finset.sum_congr rfl fun d _ => ?_
  rw [w6_at, hS_at m c b r d ⟨a.val * 128 + t.val, by omega⟩ (by dsimp only; omega), dif_pos (by dsimp only; omega)]
  exact mul_comm _ _

/-! ## The nine result arrays -/

variable {m} {c : Dev nD} {after : (w : Fin cfg0.W) → Fin cfg0.N → (cfg0.win w).block.Idx → Elt Ideal (cfg0.win w).elt}

/-- What the run leaves in a result window's block at the points that write it back. -/
def Ends (m : (ℓ : Loc nD τ sig) → Buf (Elt Ideal) ℓ) (c : Dev nD) (after : (w : Fin cfg0.W) → Fin cfg0.N → (cfg0.win w).block.Idx → Elt Ideal (cfg0.win w).elt) (w : Fin cfg0.W) : Prop :=
  ∀ u : Fin cfg0.N, (cfg0.win w).flush u = true → Left m c w u (after w u)

theorem final7 (h : Ends m c after 7) : ((rdat m c).withAfter after).arrAt 7 cfg0.N = (fun i => queryA (zz m c) (i 0) (i 1) : FVec Ideal S128x1024 .bf16) := by
  refine ((rdat m c).withAfter after).arrAt_eq_of_covers 7 _ (by decide +kernel) fun t ht y => ?_
  have h6 : t.val % 7 = 6 := (flush0_7 t).1 ht
  have hp : pt (blockOf t) 6 = t := pt_block t 6 h6
  have io := (idx_out (blockOf t)).1
  rw [hp] at io
  have hl := h t ht
  blk_simp
  rw [Pipeline.RDat.withAfter_after]
  generalize after 7 t = A at hl ⊢
  replace hl : A = k0_pay4 (hS m c (blockOf t)) (wS m c (blockOf t) 0) := hl
  generalize blockOf t = b at *
  idx_vars y
  obtain ⟨n, hn⟩ : ∃ n : Fin 128, n.val = b.val * 128 + y0.val := ⟨⟨b.val * 128 + y0.val, by omega⟩, rfl⟩
  have hemb : ((View.whole main_v23_0).slice (win0_7.rect t)).emb (ix2 y0 y1) = (ix2 n y1 : S128x1024.Idx) := by
    blk_ext [io]
  rw [hemb, hl, pay4_at]
  exact prod_at m c b 0 y0 y1 n hn _ (by show y1.val = _; rw [if_pos (by decide)]; show _ = 0 * 1024 + y1.val; omega)

theorem final9 (h : Ends m c after 9) : ((rdat m c).withAfter after).arrAt 9 cfg0.N = (fun i => tokA (zz m c) (i 0) (i 1) : FVec Ideal S128x1024 .bf16) := by
  refine ((rdat m c).withAfter after).arrAt_eq_of_covers 9 _ (by decide +kernel) fun t ht y => ?_
  have h6 : t.val % 7 = 6 := (flush0_9 t).1 ht
  have hp : pt (blockOf t) 6 = t := pt_block t 6 h6
  have io := (idx_out (blockOf t)).2.2.1
  rw [hp] at io
  have hl := h t ht
  blk_simp
  rw [Pipeline.RDat.withAfter_after]
  generalize after 9 t = A at hl ⊢
  replace hl : A = k0_pay14 (hS m c (blockOf t)) (wS m c (blockOf t) 1) := hl (by omega)
  generalize blockOf t = b at *
  idx_vars y
  obtain ⟨n, hn⟩ : ∃ n : Fin 128, n.val = b.val * 128 + y0.val := ⟨⟨b.val * 128 + y0.val, by omega⟩, rfl⟩
  have hemb : ((View.whole main_v23_2).slice (win0_9.rect t)).emb (ix2 y0 y1) = (ix2 n y1 : S128x1024.Idx) := by
    blk_ext [io]
  rw [hemb, hl, pay14_at]
  exact prod_at m c b 1 y0 y1 n hn _ (by show 1024 + y1.val = _; rw [if_pos (by decide)]; show _ = 1 * 1024 + y1.val; omega)

theorem final10 (h : Ends m c after 10) : ((rdat m c).withAfter after).arrAt 10 cfg0.N = (fun i => queryI (zz m c) (i 0) (i 1) : FVec Ideal S128x1024 .bf16) := by
  refine ((rdat m c).withAfter after).arrAt_eq_of_covers 10 _ (by decide +kernel) fun t ht y => ?_
  have h6 : t.val % 7 = 6 := (flush0_10 t).1 ht
  have hp : pt (blockOf t) 6 = t := pt_block t 6 h6
  have io := (idx_out (blockOf t)).2.2.2.1
  rw [hp] at io
  have hl := h t ht
  blk_simp
  rw [Pipeline.RDat.withAfter_after]
  generalize after 10 t = A at hl ⊢
  replace hl : A = k0_pay15 (hS m c (blockOf t)) (wS m c (blockOf t) 2) := hl (by omega)
  generalize blockOf t = b at *
  idx_vars y
  obtain ⟨n, hn⟩ : ∃ n : Fin 128, n.val = b.val * 128 + y0.val := ⟨⟨b.val * 128 + y0.val, by omega⟩, rfl⟩
  have hemb : ((View.whole main_v23_3).slice (win0_10.rect t)).emb (ix2 y0 y1) = (ix2 n y1 : S128x1024.Idx) := by
    blk_ext [io]
  rw [hemb, hl, pay15_at]
  exact prod_at m c b 2 y0 y1 n hn _ (by show 2048 + y1.val = _; rw [if_pos (by decide)]; show _ = 2 * 1024 + y1.val; omega)

theorem final11 (h : Ends m c after 11) : ((rdat m c).withAfter after).arrAt 11 cfg0.N = (fun i => queryB (zz m c) (i 0) (i 1) : FVec Ideal S128x1024 .bf16) := by
  refine ((rdat m c).withAfter after).arrAt_eq_of_covers 11 _ (by decide +kernel) fun t ht y => ?_
  have h6 : t.val % 7 = 6 := (flush0_11 t).1 ht
  have hp : pt (blockOf t) 6 = t := pt_block t 6 h6
  have io := (idx_out (blockOf t)).2.2.2.2.1
  rw [hp] at io
  have hl := h t ht
  blk_simp
  rw [Pipeline.RDat.withAfter_after]
  generalize after 11 t = A at hl ⊢
  replace hl : A = k0_pay16 (hS m c (blockOf t)) (wS m c (blockOf t) 3) := hl (by omega)
  generalize blockOf t = b at *
  idx_vars y
  obtain ⟨n, hn⟩ : ∃ n : Fin 128, n.val = b.val * 128 + y0.val := ⟨⟨b.val * 128 + y0.val, by omega⟩, rfl⟩
  have hemb : ((View.whole main_v23_4).slice (win0_11.rect t)).emb (ix2 y0 y1) = (ix2 n y1 : S128x1024.Idx) := by
    blk_ext [io]
  rw [hemb, hl, pay16_at]
  exact prod_at m c b 3 y0 y1 n hn _ (by show 3152 + y1.val = _; rw [if_neg (by decide)]; show _ = 3 * 1024 + y1.val + 80; omega)

theorem final14 (h : Ends m c after 14) : ((rdat m c).withAfter after).arrAt 14 cfg0.N = (fun i => small (zz m c) (i 0) (i 1) : FVec Ideal S128x128 .f32) := by
  refine ((rdat m c).withAfter after).arrAt_eq_of_covers 14 _ (by decide +kernel) fun t ht y => ?_
  have h6 : t.val % 7 = 6 := (flush0_14 t).1 ht
  have hp : pt (blockOf t) 6 = t := pt_block t 6 h6
  have io := (idx_out (blockOf t)).2.2.2.2.2.2.2.2.1
  rw [hp] at io
  have hl := h t ht
  blk_simp
  rw [Pipeline.RDat.withAfter_after]
  generalize after 14 t = A at hl ⊢
  replace hl : A = k0_pay1 (hS m c (blockOf t)) (iblk m c 5 (pt (blockOf t) 6)) := by rw [hp]; exact hl (by omega)
  generalize blockOf t = b at *
  idx_vars y
  obtain ⟨n, hn⟩ : ∃ n : Fin 128, n.val = b.val * 128 + y0.val := ⟨⟨b.val * 128 + y0.val, by omega⟩, rfl⟩
  have hemb : ((View.whole main_v23_7).slice (win0_14.rect t)).emb (ix2 y0 y1) = (ix2 n y1 : S128x128.Idx) := by
    blk_ext [io]
  rw [hemb, hl]
  exact small_at m c b y0 y1 n hn

theorem final15 (h : Ends m c after 15) : ((rdat m c).withAfter after).arrAt 15 cfg0.N = (fun i => keyT (zz m c) (i 0) (i 1) (i 2) : FVec Ideal S1x64x128 .f32) := by
  refine ((rdat m c).withAfter after).arrAt_eq_of_covers 15 _ (by decide +kernel) fun t ht y => ?_
  have h6 : t.val % 7 = 6 := (flush0_15 t).1 ht
  have hp : pt (blockOf t) 6 = t := pt_block t 6 h6
  have io := (idx_out (blockOf t)).2.2.2.2.2.2.2.2.2
  rw [hp] at io
  have hl := h t ht
  blk_simp
  rw [Pipeline.RDat.withAfter_after]
  generalize after 15 t = A at hl ⊢
  replace hl : A = k0_pay2 (iblk m c 6 (pt (blockOf t) 6)) (hS m c (blockOf t)) := by rw [hp]; exact hl (by omega)
  generalize blockOf t = b at *
  idx_vars y
  obtain ⟨a, ha⟩ : ∃ a : Fin 1, a.val = b.val := ⟨b, rfl⟩
  obtain ⟨s, hs⟩ : ∃ s : Fin 128, s.val = y2.val := ⟨y2, rfl⟩
  obtain rfl : y0 = 0 := Subsingleton.elim _ _
  have hemb : ((View.whole main_v23_8).slice (win0_15.rect t)).emb (ix3 0 y1 y2) = (ix3 a y1 s : S1x64x128.Idx) := by
    blk_ext [io]
  rw [hemb, hl]
  exact keyT_at m c b y1 y2 a ha s hs

theorem final8 (h : Ends m c after 8) : ((rdat m c).withAfter after).arrAt 8 cfg0.N = (fun i => rowsA (zz m c) (i 0) (i 1) : FVec Ideal S1024x128 .f32) := by
  refine ((rdat m c).withAfter after).arrAt_eq_of_covers 8 _ (by decide +kernel) fun t ht y => ?_
  have h6 : t.val % 7 = 6 := (flush0_8 t).1 ht
  have hp : pt (blockOf t) 6 = t := pt_block t 6 h6
  have io := (idx_out (blockOf t)).2.1
  rw [hp] at io
  have hl := h t ht
  blk_simp
  rw [Pipeline.RDat.withAfter_after]
  generalize after 8 t = A at hl ⊢
  replace hl : RowsA m c (blockOf t) A := hl (by omega)
  generalize blockOf t = b at *
  idx_vars y
  obtain ⟨r, hr⟩ : ∃ r : Fin 128, r.val = y0.val / 8 := ⟨⟨y0.val / 8, by omega⟩, rfl⟩
  obtain ⟨j, hj⟩ : ∃ j : Fin 8, j.val = y0.val % 8 := ⟨⟨y0.val % 8, by omega⟩, rfl⟩
  obtain ⟨n, hn⟩ : ∃ n : Fin 1024, n.val = b.val * 1024 + y0.val := ⟨⟨b.val * 1024 + y0.val, by omega⟩, rfl⟩
  have hemb : ((View.whole main_v23_1).slice (win0_8.rect t)).emb (ix2 y0 y1) = (ix2 n y1 : S1024x128.Idx) := by
    blk_ext [io]
  obtain rfl : y0 = row8 r j := Fin.ext (by show y0.val = j.val + 8 * r.val; omega)
  rw [hemb, hl, headA_at]
  exact prod_at m c b 1 r ⟨j.val * 128 + y1.val, by omega⟩ ⟨n.val / 8, by omega⟩ (by show n.val / 8 = _; omega) ⟨1024 + n.val % 8 * 128 + y1.val, by omega⟩
    (by rw [if_pos (by decide)]; show 1024 + n.val % 8 * 128 + y1.val = 1 * 1024 + (j.val * 128 + y1.val); omega)

theorem final12 (h : Ends m c after 12) : ((rdat m c).withAfter after).arrAt 12 cfg0.N = (fun i => rowsB (zz m c) (i 0) (i 1) : FVec Ideal S2048x128 .f32) := by
  refine ((rdat m c).withAfter after).arrAt_eq_of_covers 12 _ (by decide +kernel) fun t ht y => ?_
  have h6 : t.val % 7 = 6 := (flush0_12 t).1 ht
  have hp : pt (blockOf t) 6 = t := pt_block t 6 h6
  have io := (idx_out (blockOf t)).2.2.2.2.2.1
  rw [hp] at io
  have hl := h t ht
  blk_simp
  rw [Pipeline.RDat.withAfter_after]
  generalize after 12 t = A at hl ⊢
  replace hl : RowsB m c (blockOf t) A ∧ RowsC m c (blockOf t) A := ⟨hl.1 (by omega), hl.2 (by omega)⟩
  generalize blockOf t = b at *
  idx_vars y
  obtain ⟨r, hr⟩ : ∃ r : Fin 128, r.val = y0.val / 16 := ⟨⟨y0.val / 16, by omega⟩, rfl⟩
  obtain ⟨n, hn⟩ : ∃ n : Fin 2048, n.val = b.val * 2048 + y0.val := ⟨⟨b.val * 2048 + y0.val, by omega⟩, rfl⟩
  have hemb : ((View.whole main_v23_5).slice (win0_12.rect t)).emb (ix2 y0 y1) = (ix2 n y1 : S2048x128.Idx) := by
    blk_ext [io]
  rw [hemb]
  rcases Nat.lt_or_ge (y0.val % 16) 8 with h8 | h8
  · obtain ⟨j, hj⟩ : ∃ j : Fin 8, j.val = y0.val % 16 := ⟨⟨y0.val % 16, h8⟩, rfl⟩
    obtain rfl : y0 = row16 r (j.castLE (by decide)) := Fin.ext (by show y0.val = j.val + 16 * r.val; omega)
    rw [hl.1, headB_at]
    exact prod_at m c b 4 r ⟨j.val * 128 + y1.val, by omega⟩ ⟨n.val / 16, by omega⟩ (by show n.val / 16 = _; omega) ⟨4176 + n.val % 16 * 128 + y1.val, by omega⟩
      (by rw [if_neg (by decide)]; show 4176 + n.val % 16 * 128 + y1.val = 4 * 1024 + (j.val * 128 + y1.val) + 80; omega)
  · obtain ⟨j, hj⟩ : ∃ j : Fin 8, j.val = y0.val % 16 - 8 := ⟨⟨y0.val % 16 - 8, by omega⟩, rfl⟩
    obtain rfl : y0 = row16 r (Fin.natAdd 8 j) := Fin.ext (by show y0.val = 8 + j.val + 16 * r.val; omega)
    rw [hl.2, headC_at]
    exact prod_at m c b 5 r ⟨j.val * 128 + y1.val, by omega⟩ ⟨n.val / 16, by omega⟩ (by show n.val / 16 = _; omega) ⟨4176 + n.val % 16 * 128 + y1.val, by omega⟩
      (by rw [if_neg (by decide)]; show 4176 + n.val % 16 * 128 + y1.val = 5 * 1024 + (j.val * 128 + y1.val) + 80; omega)

theorem final13 (h : Ends m c after 13) : ((rdat m c).withAfter after).arrAt 13 cfg0.N = (fun i => tokB (zz m c) (i 0) (i 1) : FVec Ideal S128x2048 .bf16) := by
  refine ((rdat m c).withAfter after).arrAt_eq_of_covers 13 _ (by decide +kernel) fun t ht y => ?_
  have hl := h t ht
  have hf := flush13 t ht
  blk_simp
  rw [Pipeline.RDat.withAfter_after]
  generalize after 13 t = A at hl ⊢
  rcases hf with h6 | h6
  · have hp : pt (blockOf t) 4 = t := pt_block t 4 h6
    have io := (idx_out (blockOf t)).2.2.2.2.2.2.1
    rw [hp] at io
    replace hl : A = k0_pay26 (hS m c (blockOf t)) (wS m c (blockOf t) 4) := hl.1 h6
    generalize blockOf t = b at *
    idx_vars y
    obtain ⟨n, hn⟩ : ∃ n : Fin 128, n.val = b.val * 128 + y0.val := ⟨⟨b.val * 128 + y0.val, by omega⟩, rfl⟩
    obtain ⟨e, he⟩ : ∃ e : Fin 2048, e.val = 0 * 1024 + y1.val := ⟨⟨0 * 1024 + y1.val, by omega⟩, rfl⟩
    have hemb : ((View.whole main_v23_6).slice (win0_13.rect t)).emb (ix2 y0 y1) = (ix2 n e : S128x2048.Idx) := by
      blk_ext [io]
    rw [hemb, hl, pay26_at]
    exact prod_at m c b 4 y0 y1 n hn ⟨4176 + e.val, by omega⟩ (by rw [if_neg (by decide)]; show 4176 + e.val = 4 * 1024 + y1.val + 80; omega)
  · have hp : pt (blockOf t) 6 = t := pt_block t 6 h6
    have io := (idx_out (blockOf t)).2.2.2.2.2.2.2.1
    rw [hp] at io
    replace hl : A = k0_pay36 (hS m c (blockOf t)) (wS m c (blockOf t) 5) := hl.2 (by omega)
    generalize blockOf t = b at *
    idx_vars y
    obtain ⟨n, hn⟩ : ∃ n : Fin 128, n.val = b.val * 128 + y0.val := ⟨⟨b.val * 128 + y0.val, by omega⟩, rfl⟩
    obtain ⟨e, he⟩ : ∃ e : Fin 2048, e.val = 1 * 1024 + y1.val := ⟨⟨1 * 1024 + y1.val, by omega⟩, rfl⟩
    have hemb : ((View.whole main_v23_6).slice (win0_13.rect t)).emb (ix2 y0 y1) = (ix2 n e : S128x2048.Idx) := by
      blk_ext [io]
    rw [hemb, hl, pay36_at]
    exact prod_at m c b 5 y0 y1 n hn ⟨4176 + e.val, by omega⟩ (by rw [if_neg (by decide)]; show 4176 + e.val = 5 * 1024 + y1.val + 80; omega)

end Cert.SProjIdeal.Model

end
-- ==== Proof.SProjRef.lean ====
/-
The input projection as the layer's mathematics writes it, read entry by entry.
-/
module

public import proofs.«01_k».proof.Proof.SProjModel
public import proofs.«01_k».proof.Proof.Gen.SProjRefIdeal.Run
public import Idealize.ShloMosaic.Lib.Pipeline.ValueKit

@[expose] public section

set_option maxRecDepth 16384

noncomputable section

open Idealize.ShloMosaic Idealize.ShloMosaic.TcCoe Idealize.SL.Sem

namespace Cert.SProjRefIdeal.Model

open Cert.SProjRefIdeal Cert.SProjRefIdeal.Gen Cert.SProjRefIdeal.Value Cert.SModel
open Cert.Model (proj wscale modulated rms)

/-- The normalised and modulated tokens, as the host operations write them. -/
def hostH (X : FVec Ideal S32x4x2048 .f32) (G : FVec Ideal S1x2048 .f32) (SH SC : FVec Ideal S32x2048 .f32) : FVec Ideal S32x4x2048 .f32 :=
  (addf (mulf (mulf (mulf X (broadcastInDim S32x4x2048 ![0, 1, 2] bcast_S32x4x1_S32x4x2048_0_1_2 (Host.rsqrt (addf (Host.divf (broadcastInDim S32x4x1 ![0, 1] bcast_S32x4_S32x4x1_0_1 (Host.reduceAdd (mulf X X) (constant S_ .f32 0x00000000#32) reducesTo_S32x4x2048_S32x4_d2 h_S_)) (broadcastInDim S32x4x1 ![] bcast_S_S32x4x1 (constant S_ .f32 0x45000000#32))) (broadcastInDim S32x4x1 ![] bcast_S_S32x4x1 (constant S_ .f32 0x358637BD#32)))))) (broadcastInDim S32x4x2048 ![0, 1, 2] bcast_S1x1x2048_S32x4x2048_0_1_2 (broadcastInDim S1x1x2048 ![2] bcast_S2048_S1x1x2048_2 (shapeCast _ G shapeCasts_S1x2048_S2048)))) (broadcastInDim S32x4x2048 ![0, 1, 2] bcast_S32x1x2048_S32x4x2048_0_1_2 (addf (broadcastInDim S32x1x2048 ![] bcast_S_S32x1x2048 (constant S_ .f32 0x3F800000#32)) (broadcastInDim S32x1x2048 ![0, 2] bcast_S32x2048_S32x1x2048_0_2 SC)))) (broadcastInDim S32x4x2048 ![0, 1, 2] bcast_S32x1x2048_S32x4x2048_0_1_2 (broadcastInDim S32x1x2048 ![0, 2] bcast_S32x2048_S32x1x2048_0_2 SH)))

theorem hostH_at (X : FVec Ideal S32x4x2048 .f32) (G : FVec Ideal S1x2048 .f32) (SH SC : FVec Ideal S32x2048 .f32) (b : Fin 32) (t : Fin 4) (d : Fin 2048) :
    hostH X G SH SC (ix3 b t d) = modulated (fun d => X (ix3 b t d)) (fun d => G (ix2 0 d)) (fun d => SH (ix2 b d)) (fun d => SC (ix2 b d)) d := by
  pointwise! [hostH, modulated, rms]

/-- The projection. -/
def hostZ (H : FVec Ideal S32x4x2048 .f32) (W : FVec Ideal S1x2048x6224 .f32) : FVec Ideal S32x4x6224 .f32 :=
  Host.dotGeneral (φ₁ := .f32) (φ₂ := .f32) dot_S32x4x2048_S2048x6224_S32x4x6224_2_0_01_1_n_n none H (shapeCast _ W shapeCasts_S1x2048x6224_S2048x6224)

theorem hostZ_at (H : FVec Ideal S32x4x2048 .f32) (W : FVec Ideal S1x2048x6224 .f32) (b : Fin 32) (t : Fin 4) (f : Fin 6224) :
    hostZ H W (ix3 b t f) = proj (fun d => H (ix3 b t d)) (fun d f => W (ix3 0 d f)) f := by
  pointwise! [hostZ, proj]

/-- The projection with its two axes of tokens run together. -/
def rows (Z : FVec Ideal S32x4x6224 .f32) (n : Fin 128) (f : Fin 6224) : EReal := Z (ix3 ⟨n.val / 4, by omega⟩ ⟨n.val % 4, by omega⟩ f)

variable (Z : FVec Ideal S32x4x6224 .f32)

/-- Two entries of the projection are the same where their coordinates are. -/
theorem same {b b' : Fin 32} {t t' : Fin 4} {f f' : Fin 6224} (hb : b.val = b'.val) (ht : t.val = t'.val) (hf : f.val = f'.val) :
    Z (ix3 b t f) = Z (ix3 b' t' f') := by
  rw [Fin.ext hb, Fin.ext ht, Fin.ext hf]

/-- Queries of the first attention, as the host operations cut them out of the projection, -/
def hostQueryA : FVec Ideal S128x1024 .bf16 :=
  truncf .bf16 (shapeCast S128x1024 (extractStridedSlice S32x4x1024 ![0, 0, 0] Z slices_S32x4x6224_S32x4x1024_0_0_0) shapeCasts_S32x4x1024_S128x1024) bitsLt_bf16_f32

theorem hostQueryA_at (n : Fin 128) (e : Fin 1024) : hostQueryA Z (ix2 n e) = queryA (rows Z) n e := by
  pointwise [hostQueryA]
  unfold queryA
  unfold rows
  rfl

theorem hostQueryA_eq : hostQueryA Z = fun i => queryA (rows Z) (i 0) (i 1) := by
  funext i
  obtain ⟨n, e, rfl⟩ : ∃ (n : Fin 128) (e : Fin 1024), i = ix2 n e := ⟨i 0, i 1, eq_ix2 i⟩
  exact hostQueryA_at Z n e

/-- its keys and values head by head, -/
def hostRowsA : FVec Ideal S1024x128 .f32 :=
  shapeCast S1024x128 (concatenate S32x4x2x4x128 2 [⟨S32x4x1x4x128, (broadcastInDim S32x4x1x4x128 ![0, 1, 3, 4] bcast_S32x4x4x128_S32x4x1x4x128_0_1_3_4 (shapeCast S32x4x4x128 (extractStridedSlice S32x4x512 ![0, 0, 1024] Z slices_S32x4x6224_S32x4x512_0_0_1024) shapeCasts_S32x4x512_S32x4x4x128))⟩, ⟨S32x4x1x4x128, (broadcastInDim S32x4x1x4x128 ![0, 1, 3, 4] bcast_S32x4x4x128_S32x4x1x4x128_0_1_3_4 (shapeCast S32x4x4x128 (extractStridedSlice S32x4x512 ![0, 0, 1536] Z slices_S32x4x6224_S32x4x512_0_0_1536) shapeCasts_S32x4x512_S32x4x4x128))⟩] concatenates_S32x4x1x4x128_S32x4x1x4x128_S32x4x2x4x128_d2) shapeCasts_S32x4x2x4x128_S1024x128

theorem hostRowsA_at (n : Fin 1024) (e : Fin 128) : hostRowsA Z (ix2 n e) = rowsA (rows Z) n e := by
  pointwise [hostRowsA]
  unfold rowsA
  unfold rows
  by_cases h : n.val / 4 % 2 < 1
  · rw [dif_pos h]
    exact same Z (by first | rfl | (dsimp only; omega)) (by first | rfl | (dsimp only; omega)) (by dsimp only; omega)
  · rw [dif_neg h]
    exact same Z (by first | rfl | (dsimp only; omega)) (by first | rfl | (dsimp only; omega)) (by dsimp only; omega)

theorem hostRowsA_eq : hostRowsA Z = fun i => rowsA (rows Z) (i 0) (i 1) := by
  funext i
  obtain ⟨n, e, rfl⟩ : ∃ (n : Fin 1024) (e : Fin 128), i = ix2 n e := ⟨i 0, i 1, eq_ix2 i⟩
  exact hostRowsA_at Z n e

/-- and token by token. -/
def hostTokA : FVec Ideal S128x1024 .bf16 :=
  truncf .bf16 (shapeCast S128x1024 (concatenate S32x4x2x4x128 2 [⟨S32x4x1x4x128, (broadcastInDim S32x4x1x4x128 ![0, 1, 3, 4] bcast_S32x4x4x128_S32x4x1x4x128_0_1_3_4 (shapeCast S32x4x4x128 (extractStridedSlice S32x4x512 ![0, 0, 1024] Z slices_S32x4x6224_S32x4x512_0_0_1024) shapeCasts_S32x4x512_S32x4x4x128))⟩, ⟨S32x4x1x4x128, (broadcastInDim S32x4x1x4x128 ![0, 1, 3, 4] bcast_S32x4x4x128_S32x4x1x4x128_0_1_3_4 (shapeCast S32x4x4x128 (extractStridedSlice S32x4x512 ![0, 0, 1536] Z slices_S32x4x6224_S32x4x512_0_0_1536) shapeCasts_S32x4x512_S32x4x4x128))⟩] concatenates_S32x4x1x4x128_S32x4x1x4x128_S32x4x2x4x128_d2) shapeCasts_S32x4x2x4x128_S128x1024) bitsLt_bf16_f32

theorem hostTokA_at (n : Fin 128) (e : Fin 1024) : hostTokA Z (ix2 n e) = tokA (rows Z) n e := by
  pointwise [hostTokA]
  unfold tokA
  unfold rows
  by_cases h : e.val / 512 < 1
  · rw [dif_pos h]
    exact same Z (by first | rfl | (dsimp only; omega)) (by first | rfl | (dsimp only; omega)) (by dsimp only; omega)
  · rw [dif_neg h]
    exact same Z (by first | rfl | (dsimp only; omega)) (by first | rfl | (dsimp only; omega)) (by dsimp only; omega)

theorem hostTokA_eq : hostTokA Z = fun i => tokA (rows Z) (i 0) (i 1) := by
  funext i
  obtain ⟨n, e, rfl⟩ : ∃ (n : Fin 128) (e : Fin 1024), i = ix2 n e := ⟨i 0, i 1, eq_ix2 i⟩
  exact hostTokA_at Z n e

/-- Queries of the indexer. -/
def hostQueryI : FVec Ideal S128x1024 .bf16 :=
  truncf .bf16 (shapeCast S128x1024 (extractStridedSlice S32x4x1024 ![0, 0, 2048] Z slices_S32x4x6224_S32x4x1024_0_0_2048) shapeCasts_S32x4x1024_S128x1024) bitsLt_bf16_f32

theorem hostQueryI_at (n : Fin 128) (e : Fin 1024) : hostQueryI Z (ix2 n e) = queryI (rows Z) n e := by
  pointwise [hostQueryI]
  unfold queryI
  unfold rows
  rfl

theorem hostQueryI_eq : hostQueryI Z = fun i => queryI (rows Z) (i 0) (i 1) := by
  funext i
  obtain ⟨n, e, rfl⟩ : ∃ (n : Fin 128) (e : Fin 1024), i = ix2 n e := ⟨i 0, i 1, eq_ix2 i⟩
  exact hostQueryI_at Z n e

/-- Queries of the second attention, -/
def hostQueryB : FVec Ideal S128x1024 .bf16 :=
  truncf .bf16 (shapeCast S128x1024 (extractStridedSlice S32x4x1024 ![0, 0, 3152] Z slices_S32x4x6224_S32x4x1024_0_0_3152) shapeCasts_S32x4x1024_S128x1024) bitsLt_bf16_f32

theorem hostQueryB_at (n : Fin 128) (e : Fin 1024) : hostQueryB Z (ix2 n e) = queryB (rows Z) n e := by
  pointwise [hostQueryB]
  unfold queryB
  unfold rows
  rfl

theorem hostQueryB_eq : hostQueryB Z = fun i => queryB (rows Z) (i 0) (i 1) := by
  funext i
  obtain ⟨n, e, rfl⟩ : ∃ (n : Fin 128) (e : Fin 1024), i = ix2 n e := ⟨i 0, i 1, eq_ix2 i⟩
  exact hostQueryB_at Z n e

/-- its keys and values head by head, -/
def hostRowsB : FVec Ideal S2048x128 .f32 :=
  shapeCast S2048x128 (concatenate S32x4x2x8x128 2 [⟨S32x4x1x8x128, (broadcastInDim S32x4x1x8x128 ![0, 1, 3, 4] bcast_S32x4x8x128_S32x4x1x8x128_0_1_3_4 (shapeCast S32x4x8x128 (extractStridedSlice S32x4x1024 ![0, 0, 4176] Z slices_S32x4x6224_S32x4x1024_0_0_4176) shapeCasts_S32x4x1024_S32x4x8x128))⟩, ⟨S32x4x1x8x128, (broadcastInDim S32x4x1x8x128 ![0, 1, 3, 4] bcast_S32x4x8x128_S32x4x1x8x128_0_1_3_4 (shapeCast S32x4x8x128 (extractStridedSlice S32x4x1024 ![0, 0, 5200] Z slices_S32x4x6224_S32x4x1024_0_0_5200) shapeCasts_S32x4x1024_S32x4x8x128))⟩] concatenates_S32x4x1x8x128_S32x4x1x8x128_S32x4x2x8x128_d2) shapeCasts_S32x4x2x8x128_S2048x128

theorem hostRowsB_at (n : Fin 2048) (e : Fin 128) : hostRowsB Z (ix2 n e) = rowsB (rows Z) n e := by
  pointwise [hostRowsB]
  unfold rowsB
  unfold rows
  by_cases h : n.val / 8 % 2 < 1
  · rw [dif_pos h]
    exact same Z (by first | rfl | (dsimp only; omega)) (by first | rfl | (dsimp only; omega)) (by dsimp only; omega)
  · rw [dif_neg h]
    exact same Z (by first | rfl | (dsimp only; omega)) (by first | rfl | (dsimp only; omega)) (by dsimp only; omega)

theorem hostRowsB_eq : hostRowsB Z = fun i => rowsB (rows Z) (i 0) (i 1) := by
  funext i
  obtain ⟨n, e, rfl⟩ : ∃ (n : Fin 2048) (e : Fin 128), i = ix2 n e := ⟨i 0, i 1, eq_ix2 i⟩
  exact hostRowsB_at Z n e

/-- and token by token. -/
def hostTokB : FVec Ideal S128x2048 .bf16 :=
  truncf .bf16 (shapeCast S128x2048 (concatenate S32x4x2x8x128 2 [⟨S32x4x1x8x128, (broadcastInDim S32x4x1x8x128 ![0, 1, 3, 4] bcast_S32x4x8x128_S32x4x1x8x128_0_1_3_4 (shapeCast S32x4x8x128 (extractStridedSlice S32x4x1024 ![0, 0, 4176] Z slices_S32x4x6224_S32x4x1024_0_0_4176) shapeCasts_S32x4x1024_S32x4x8x128))⟩, ⟨S32x4x1x8x128, (broadcastInDim S32x4x1x8x128 ![0, 1, 3, 4] bcast_S32x4x8x128_S32x4x1x8x128_0_1_3_4 (shapeCast S32x4x8x128 (extractStridedSlice S32x4x1024 ![0, 0, 5200] Z slices_S32x4x6224_S32x4x1024_0_0_5200) shapeCasts_S32x4x1024_S32x4x8x128))⟩] concatenates_S32x4x1x8x128_S32x4x1x8x128_S32x4x2x8x128_d2) shapeCasts_S32x4x2x8x128_S128x2048) bitsLt_bf16_f32

theorem hostTokB_at (n : Fin 128) (e : Fin 2048) : hostTokB Z (ix2 n e) = tokB (rows Z) n e := by
  pointwise [hostTokB]
  unfold tokB
  unfold rows
  by_cases h : e.val / 1024 < 1
  · rw [dif_pos h]
    exact same Z (by first | rfl | (dsimp only; omega)) (by first | rfl | (dsimp only; omega)) (by dsimp only; omega)
  · rw [dif_neg h]
    exact same Z (by first | rfl | (dsimp only; omega)) (by first | rfl | (dsimp only; omega)) (by dsimp only; omega)

theorem hostTokB_eq : hostTokB Z = fun i => tokB (rows Z) (i 0) (i 1) := by
  funext i
  obtain ⟨n, e, rfl⟩ : ∃ (n : Fin 128) (e : Fin 2048), i = ix2 n e := ⟨i 0, i 1, eq_ix2 i⟩
  exact hostTokB_at Z n e

/-- The indexer's key and weights beside zeros. -/
def hostSmall : FVec Ideal S128x128 .f32 :=
  shapeCast S128x128 ((concatenate S32x4x128 2 [⟨S32x4x64, ((extractStridedSlice S32x4x64 ![0, 0, 3072] Z slices_S32x4x6224_S32x4x64_0_0_3072))⟩, ⟨S32x4x16, ((mulf (extractStridedSlice S32x4x16 ![0, 0, 3136] Z slices_S32x4x6224_S32x4x16_0_0_3136) (broadcastInDim S32x4x16 ![] bcast_S_S32x4x16 (constant (F := Ideal) S_ .f32 0x3D000000#32))))⟩, ⟨S32x4x48, ((broadcastInDim S32x4x48 ![] bcast_S_S32x4x48 (constant (F := Ideal) S_ .f32 0x00000000#32)))⟩] concatenates_S32x4x64_S32x4x16_S32x4x48_S32x4x128_d2)) shapeCasts_S32x4x128_S128x128

theorem hostSmall_at (n : Fin 128) (e : Fin 128) : hostSmall Z (ix2 n e) = small (rows Z) n e := by
  pointwise [hostSmall]
  unfold small
  unfold rows
  rcases Nat.lt_or_ge e.val 64 with h1 | h1
  · rw [dif_pos h1, if_pos h1]
  · rw [dif_neg (show ¬ e.val < 64 by omega), if_neg (show ¬ e.val < 64 by omega)]
    rcases Nat.lt_or_ge e.val 80 with h2 | h2
    · rw [dif_pos (show e.val - 64 < 16 by omega), if_pos h2]
      exact congrArg (· * wscale) (same Z rfl rfl (by dsimp only; omega))
    · rw [dif_neg (show ¬ e.val - 64 < 16 by omega), if_neg (show ¬ e.val < 80 by omega)]

theorem hostSmall_eq : hostSmall Z = fun i => small (rows Z) (i 0) (i 1) := by
  funext i
  obtain ⟨n, e, rfl⟩ : ∃ (n : Fin 128) (e : Fin 128), i = ix2 n e := ⟨i 0, i 1, eq_ix2 i⟩
  exact hostSmall_at Z n e

/-- The indexer's keys as columns. -/
def hostKeyT : FVec Ideal S1x64x128 .f32 :=
  broadcastInDim S1x64x128 ![1, 2] bcast_S64x128_S1x64x128_1_2 (transpose S64x128 [1, 0] (shapeCast S128x64 (extractStridedSlice S32x4x64 ![0, 0, 3072] Z slices_S32x4x6224_S32x4x64_0_0_3072) shapeCasts_S32x4x64_S128x64) transposes_S128x64_S64x128_1_0)

theorem hostKeyT_at (b : Fin 1) (l : Fin 64) (t : Fin 128) : hostKeyT Z (ix3 b l t) = keyT (rows Z) b l t := by
  pointwise [hostKeyT]
  unfold keyT
  unfold rows
  exact same Z (by dsimp only; omega) (by dsimp only; omega) rfl

theorem hostKeyT_eq : hostKeyT Z = fun i => keyT (rows Z) (i 0) (i 1) (i 2) := by
  funext i
  obtain ⟨b, l, t, rfl⟩ : ∃ (b : Fin 1) (l : Fin 64) (t : Fin 128), i = ix3 b l t := ⟨i 0, i 1, i 2, eq_ix3 i⟩
  exact hostKeyT_at Z b l t

/-- The projected rows of the reference's arguments. -/
theorem rows_at (X : FVec Ideal S32x4x2048 .f32) (G : FVec Ideal S1x2048 .f32) (SH SC : FVec Ideal S32x2048 .f32) (W : FVec Ideal S1x2048x6224 .f32) :
    rows (hostZ (hostH X G SH SC) W) = fun n f =>
      proj (modulated (fun d => X (ix3 ⟨n.val / 4, by omega⟩ ⟨n.val % 4, by omega⟩ d)) (fun d => G (ix2 0 d)) (fun d => SH (ix2 ⟨n.val / 4, by omega⟩ d))
        (fun d => SC (ix2 ⟨n.val / 4, by omega⟩ d))) (fun d f => W (ix3 0 d f)) f := by
  funext n f
  unfold rows
  rw [hostZ_at]
  exact congrArg (fun H => proj H _ f) (funext fun d => hostH_at X G SH SC _ _ d)

variable (m : (ℓ : Loc nD τ sig) → Buf (Elt Ideal) ℓ)

/-- The projection of the reference's arguments. -/
def Zm (c : Dev nD) : FVec Ideal S32x4x6224 .f32 :=
  hostZ (hostH (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))

/-- The reference's run, its results by name. -/
theorem run_named (ρ : Dev nD → PrngReg) : θ_run defs (onTc (τ := τ) (main (F := Ideal))) ⟨m, fun _ => 0, ρ⟩ fun r => ∀ c : Dev nD,
      r.2.mem ((c.tc : Thread nD τ).loc main_v46) = hostQueryA (Zm m c)
      ∧ r.2.mem ((c.tc : Thread nD τ).loc main_v47) = hostRowsA (Zm m c)
      ∧ r.2.mem ((c.tc : Thread nD τ).loc main_v49) = hostTokA (Zm m c)
      ∧ r.2.mem ((c.tc : Thread nD τ).loc main_v51) = hostQueryI (Zm m c)
      ∧ r.2.mem ((c.tc : Thread nD τ).loc main_v53) = hostQueryB (Zm m c)
      ∧ r.2.mem ((c.tc : Thread nD τ).loc main_v54) = hostRowsB (Zm m c)
      ∧ r.2.mem ((c.tc : Thread nD τ).loc main_v56) = hostTokB (Zm m c)
      ∧ r.2.mem ((c.tc : Thread nD τ).loc main_v59) = hostSmall (Zm m c)
      ∧ r.2.mem ((c.tc : Thread nD τ).loc main_v62) = hostKeyT (Zm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => h c) (Cert.SProjRefIdeal.Value.run (F := Ideal) m ρ)

end Cert.SProjRefIdeal.Model

end
-- ==== Proof.SProjClaims.lean ====
/-
The claims about the input projection.
-/
module

public import proofs.«01_k».proof.Defs
public import proofs.«01_k».proof.Proof.SProjFrame
public import proofs.«01_k».proof.Proof.Gen.SProj
public import proofs.«01_k».proof.Proof.SProjValue
public import proofs.«01_k».proof.Proof.SProjRef

@[expose] public section

set_option maxRecDepth 16384

noncomputable section

open Idealize.ShloMosaic Idealize.ShloMosaic.TcCoe Idealize.SL.Sem

namespace Cert.Proof.SProjClaims

set_option maxHeartbeats 4000000 in
/-- The program read over bits runs the same body as the one read over the extended reals: the two are printed line for line alike. -/
theorem bodies_same : Cert.SProj.defs₀ (F := Bits) = Cert.SProjIdeal.defs₀ := by
  unfold Cert.SProj.defs₀ Cert.SProjIdeal.defs₀
  refine congrArg Defs.onTc (funext fun l => funext fun p => ?_)
  rcases l with ⟨_ | n, h⟩
  · rcases p with ⟨t, s⟩
    show Cert.SProj.cc0_prenorm_proj .. = Cert.SProjIdeal.cc0_prenorm_proj ..
    unfold Cert.SProj.cc0_prenorm_proj Cert.SProjIdeal.cc0_prenorm_proj
    rfl
  · exact absurd h (Nat.not_lt.2 (Nat.le_add_left _ _))

theorem defs_same : Cert.SProj.defs (F := Bits) = Cert.SProjIdeal.defs := congrArg (Idealize.ShloMosaic.Pipeline.defs (Cert.SProj.pcfgs (F := Bits))) bodies_same

/-- So its frame is the frame proved for any float values, taken at bits. -/
theorem frame_bits : Cert.quiescent_SProj := fun m ρ _ => by
  rw [defs_same]
  exact Cert.SProjIdeal.Body.frame (F := Bits) m ρ

theorem frame_ideal : Cert.quiescent_SProjIdeal := fun m ρ _ => Cert.SProjIdeal.Body.frame m ρ
theorem frame_ref : Cert.quiescent_SProjRefIdeal := fun m ρ _ =>
  (θ_run Cert.SProjRefIdeal.defs _ _).mono (fun r h => ⟨fun c => (h c).2.2.2.2.2.2.2.2.2, Idealize.ShloMosaic.sem_eq_zero_of_no_sems (by decide) r.2⟩)
    (Cert.SProjRefIdeal.Value.run (F := Ideal) m ρ)
theorem preserves : Cert.preserves_SProj_SProjIdeal := trivial

set_option maxHeartbeats 1000000 in
open Cert.SProjIdeal.Model Cert.SModel in
theorem algebraic : Cert.algebraic_SProjIdeal_SProjRefIdeal := by
  intro m ρ m' ρ' _ hagree
  refine ⟨fun c i => queryA (zz m c) (i 0) (i 1), fun c i => rowsA (zz m c) (i 0) (i 1), fun c i => tokA (zz m c) (i 0) (i 1), fun c i => queryI (zz m c) (i 0) (i 1),
    fun c i => queryB (zz m c) (i 0) (i 1), fun c i => rowsB (zz m c) (i 0) (i 1), fun c i => tokB (zz m c) (i 0) (i 1), fun c i => small (zz m c) (i 0) (i 1),
    fun c i => keyT (zz m c) (i 0) (i 1) (i 2), ?_, ?_⟩
  · refine (θ_run Cert.SProjIdeal.defs _ _).mono (fun r h c => ?_)
      (θ_run_and (Cert.SProjIdeal.Body.frame m ρ) (Cert.SProjIdeal.Body.run_main_quiescent m ρ))
    obtain ⟨after, hL, hA⟩ := Idealize.ShloMosaic.Pipeline.RDat.FramePost.exists_exact h.2.1 c
    have E : ∀ w, Cert.SProjIdeal.Body.isRes w = true → Ends m c after w := fun w hw u hf => (Cert.SProjIdeal.Body.dats m 0 c).toRRel_leaves hw (hL w u hf)
    exact ⟨(hA 7).trans (final7 (E 7 rfl)), (hA 8).trans (final8 (E 8 rfl)), (hA 9).trans (final9 (E 9 rfl)), (hA 10).trans (final10 (E 10 rfl)),
      (hA 11).trans (final11 (E 11 rfl)), (hA 12).trans (final12 (E 12 rfl)), (hA 13).trans (final13 (E 13 rfl)), (hA 14).trans (final14 (E 14 rfl)),
      (hA 15).trans (final15 (E 15 rfl)), h.1.1 c⟩
  · refine (θ_run Cert.SProjRefIdeal.defs _ _).mono (fun r h c => ?_) (Cert.SProjRefIdeal.Model.run_named m' ρ')
    obtain ⟨h0, h1, h2, h3, h4⟩ := hagree c
    have hz : Cert.SProjRefIdeal.Model.rows (Cert.SProjRefIdeal.Model.Zm m' c) = zz m c := by
      unfold Cert.SProjRefIdeal.Model.Zm
      rw [Cert.SProjRefIdeal.Model.rows_at, h0, h1, h2, h3, h4]
      rfl
    obtain ⟨r0, r1, r2, r3, r4, r5, r6, r7, r8, rest⟩ := h c
    generalize Cert.SProjRefIdeal.Model.Zm m' c = Z at *
    have e0 : Cert.SProjRefIdeal.Model.hostQueryA Z = fun i : Cert.SProjRefIdeal.S128x1024.Idx => queryA (zz m c) (i 0) (i 1) := by
      rw [Cert.SProjRefIdeal.Model.hostQueryA_eq, hz]
    have e1 : Cert.SProjRefIdeal.Model.hostRowsA Z = fun i : Cert.SProjRefIdeal.S1024x128.Idx => rowsA (zz m c) (i 0) (i 1) := by
      rw [Cert.SProjRefIdeal.Model.hostRowsA_eq, hz]
    have e2 : Cert.SProjRefIdeal.Model.hostTokA Z = fun i : Cert.SProjRefIdeal.S128x1024.Idx => tokA (zz m c) (i 0) (i 1) := by
      rw [Cert.SProjRefIdeal.Model.hostTokA_eq, hz]
    have e3 : Cert.SProjRefIdeal.Model.hostQueryI Z = fun i : Cert.SProjRefIdeal.S128x1024.Idx => queryI (zz m c) (i 0) (i 1) := by
      rw [Cert.SProjRefIdeal.Model.hostQueryI_eq, hz]
    have e4 : Cert.SProjRefIdeal.Model.hostQueryB Z = fun i : Cert.SProjRefIdeal.S128x1024.Idx => queryB (zz m c) (i 0) (i 1) := by
      rw [Cert.SProjRefIdeal.Model.hostQueryB_eq, hz]
    have e5 : Cert.SProjRefIdeal.Model.hostRowsB Z = fun i : Cert.SProjRefIdeal.S2048x128.Idx => rowsB (zz m c) (i 0) (i 1) := by
      rw [Cert.SProjRefIdeal.Model.hostRowsB_eq, hz]
    have e6 : Cert.SProjRefIdeal.Model.hostTokB Z = fun i : Cert.SProjRefIdeal.S128x2048.Idx => tokB (zz m c) (i 0) (i 1) := by
      rw [Cert.SProjRefIdeal.Model.hostTokB_eq, hz]
    have e7 : Cert.SProjRefIdeal.Model.hostSmall Z = fun i : Cert.SProjRefIdeal.S128x128.Idx => small (zz m c) (i 0) (i 1) := by
      rw [Cert.SProjRefIdeal.Model.hostSmall_eq, hz]
    have e8 : Cert.SProjRefIdeal.Model.hostKeyT Z = fun i : Cert.SProjRefIdeal.S1x64x128.Idx => keyT (zz m c) (i 0) (i 1) (i 2) := by
      rw [Cert.SProjRefIdeal.Model.hostKeyT_eq, hz]
    exact ⟨r0.trans e0, r1.trans e1, r2.trans e2, r3.trans e3, r4.trans e4, r5.trans e5, r6.trans e6, r7.trans e7, r8.trans e8, rest⟩

end Cert.Proof.SProjClaims

end
-- ==== Proof.ModValue.lean ====
/-
The modulation vectors as the pipelined program computes them: the result array is, entry by entry, the gated
conditioning rows of both batches times the modulation weights, plus the bias.
-/
module

public import proofs.«01_k».proof.Proof.Model
public import proofs.«01_k».proof.Proof.Gen.ModIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ModIdeal.Model

open Cert.ModIdeal Cert.ModIdeal.Gen

/-- One modulation value: the conditioning row `c` through `a ↦ a · σ(a)`, times a column `w` of weights, plus the bias. -/
def modEntry (c w : Fin 2048 → EReal) (b : EReal) : EReal := (∑ d, c d * Ideal.logistic (c d) * w d) + b

/-- The conditioning row of entry `r`: the prompt batch's eight rows, then the sample batch's thirty-two. -/
def condRow (cp : FVec Ideal S8x2048 .f32) (cs : FVec Ideal S32x2048 .f32) (r : Fin 40) (d : Fin 2048) : EReal :=
  if h : r.val < 8 then cp (ix2 ⟨r.val, h⟩ d) else cs (ix2 ⟨r.val - 8, by omega⟩ d)

/-- The result array. -/
def Mods (cp : FVec Ideal S8x2048 .f32) (cs : FVec Ideal S32x2048 .f32) (w : FVec Ideal S1x2048x12288 .f32) (b : FVec Ideal S1x12288 .f32) :
    FVec Ideal S40x12288 .f32 := fun i => modEntry (condRow cp cs (i 0)) (fun d => w (ix3 0 d (i 1))) (b (ix2 0 (i 1)))

/-- The body's result, entry by entry. -/
theorem pay1_at (c : FVec Ideal S40x2048 .f32) (w : FVec Ideal S2048x1024 .f32) (b : FVec Ideal S1x1024 .f32) (r : Fin 40) (e : Fin 1024) :
    k0_pay1 (F := Ideal) c w b (ix2 r e) = modEntry (fun d => c (ix2 r d)) (fun d => w (ix2 d e)) (b (ix2 0 e)) := by
  pointwise! [k0_pay1, modEntry, Ideal.logistic]

variable (m : (ℓ : Loc nD τ sig) → Buf (Elt Ideal) ℓ)

/-- Where each window's block sits at each point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem N_eq : cfg0.N = 12 := N_0

/-- Both batches' conditioning rows, one after the other. -/
def both (cp : FVec Ideal S8x2048 .f32) (cs : FVec Ideal S32x2048 .f32) : FVec Ideal S40x2048 .f32 :=
  concatenate S40x2048 0 [⟨S8x2048, cp⟩, ⟨S32x2048, cs⟩] concatenates_S8x2048_S32x2048_S40x2048_d0

theorem both_at (cp : FVec Ideal S8x2048 .f32) (cs : FVec Ideal S32x2048 .f32) (r : Fin 40) (d : Fin 2048) :
    both cp cs (ix2 r d) = condRow cp cs r d := by
  unfold both condRow
  pointwise

/-- The first window's block holds both batches' rows at every point. -/
theorem cond_at (c : Dev nD) (t : Fin cfg0.N) (r : Fin 40) (d : Fin 2048) :
    (View.ld (iblk (F := Ideal) m c 0 t) r0_0 : FVec Ideal S40x2048 .f32) (ix2 r d)
      = condRow (m ((c : Thread nD τ).loc main_arg0)) (m ((c : Thread nD τ).loc main_arg1)) r d := by
  obtain ⟨i0, -, -, -⟩ := idx t
  rw [show View.ld (iblk (F := Ideal) m c 0 t) r0_0 = iblk (F := Ideal) m c 0 t from View.ld_unit_zero (by funext a; fin_cases a <;> rfl) _ _]
  refine Eq.trans ?_ (both_at (m ((c : Thread nD τ).loc main_arg0)) (m ((c : Thread nD τ).loc main_arg1)) r d)
  rw [← show V m c main_v0 = both (m ((c : Thread nD τ).loc main_arg0)) (m ((c : Thread nD τ).loc main_arg1)) from rfl]
  blk_point [iblk, i0]

/-- The weights without their leading axis of one. -/
def plane (w : FVec Ideal S1x2048x12288 .f32) : FVec Ideal S2048x12288 .f32 := shapeCast S2048x12288 w shapeCasts_S1x2048x12288_S2048x12288

theorem plane_at (w : FVec Ideal S1x2048x12288 .f32) (d : Fin 2048) (n : Fin 12288) : plane w (ix2 d n) = w (ix3 0 d n) := by
  unfold plane
  pointwise

/-- The second window's block holds the point's 1024 columns of the weights. -/
theorem wt_at (c : Dev nD) (t : Fin cfg0.N) (d : Fin 2048) (e : Fin 1024) (n : Fin 12288) (hn : n.val = t.val * 1024 + e.val) :
    (View.ld (iblk (F := Ideal) m c 1 t) r0_1 : FVec Ideal S2048x1024 .f32) (ix2 d e) = (m ((c : Thread nD τ).loc main_arg2) : FVec Ideal S1x2048x12288 .f32) (ix3 0 d n) := by
  obtain ⟨-, i1, -, -⟩ := idx t
  rw [show View.ld (iblk (F := Ideal) m c 1 t) r0_1 = iblk (F := Ideal) m c 1 t from View.ld_unit_zero (by funext a; fin_cases a <;> rfl) _ _]
  refine Eq.trans ?_ (plane_at (m ((c : Thread nD τ).loc main_arg2)) d n)
  rw [← show V m c main_v1 = plane (m ((c : Thread nD τ).loc main_arg2)) from rfl]
  blk_point [iblk, i1]

/-- The result array after the run. -/
theorem final3 (c : Dev nD) : (dats m 0 c).arrAt 3 cfg0.N
    = Mods (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; unfold out0_3
  rw [View.canon_unit_zero (by funext a; fin_cases a <;> rfl)]
  have ht : t.val < 12 := N_eq ▸ t.isLt
  idx_vars y
  obtain ⟨n, hn⟩ : ∃ n : Fin 12288, n.val = t.val * 1024 + y1.val := ⟨⟨t.val * 1024 + y1.val, by omega⟩, rfl⟩
  have hemb : ((View.whole main_v2).slice (win0_3.rect t)).emb (ix2 y0 y1) = (ix2 y0 n : S40x12288.Idx) := by
    blk_ext [idx t]
  rw [hemb, pay1_at, funext fun d => cond_at m c t y0 d, funext fun d => wt_at m c t d y1 n hn]
  unfold Mods
  pointwise
  generalize condRow _ _ y0 = O
  unfold modEntry
  blk_point [iblk, V, idx t]

end Cert.ModIdeal.Model

end
-- ==== Proof.ModRef.lean ====
/-
The modulation vectors as the layer's mathematics writes them, batch by batch, read entry by entry.
-/
module

public import proofs.«01_k».proof.Proof.ModValue
public import proofs.«01_k».proof.Proof.Gen.ModRefIdeal.Run
public import Idealize.ShloMosaic.Lib.Pipeline.ValueKit

@[expose] public section

set_option maxRecDepth 16384

noncomputable section

open Idealize.ShloMosaic Idealize.ShloMosaic.TcCoe Idealize.SL.Sem

namespace Cert.ModRefIdeal.Model

open Cert.ModRefIdeal Cert.ModRefIdeal.Gen Cert.ModRefIdeal.Value
open Cert.ModIdeal.Model (modEntry condRow)

/-- The prompt batch's modulation. -/
def hostP (c : FVec Ideal S8x2048 .f32) (w : FVec Ideal S1x2048x12288 .f32) (b : FVec Ideal S1x12288 .f32) : FVec Ideal S8x12288 .f32 :=
  addf (Host.dotGeneral (φ₁ := .f32) (φ₂ := .f32) dot_S8x2048_S2048x12288_S8x12288_1_0_0_1_n_n none (mulf c (Host.divf (broadcastInDim S8x2048 ![] bcast_S_S8x2048 (constant S_ .f32 0x3F800000#32)) (addf (broadcastInDim S8x2048 ![] bcast_S_S8x2048 (constant S_ .f32 0x3F800000#32)) (Host.exp (Host.negf c))))) (shapeCast S2048x12288 w shapeCasts_S1x2048x12288_S2048x12288)) (broadcastInDim S8x12288 ![0, 1] bcast_S1x12288_S8x12288_0_1 (broadcastInDim S1x12288 ![1] bcast_S12288_S1x12288_1 (shapeCast S12288 b shapeCasts_S1x12288_S12288)))

/-- The sample batch's modulation. -/
def hostS (c : FVec Ideal S32x2048 .f32) (w : FVec Ideal S1x2048x12288 .f32) (b : FVec Ideal S1x12288 .f32) : FVec Ideal S32x12288 .f32 :=
  addf (Host.dotGeneral (φ₁ := .f32) (φ₂ := .f32) dot_S32x2048_S2048x12288_S32x12288_1_0_0_1_n_n none (mulf c (Host.divf (broadcastInDim S32x2048 ![] bcast_S_S32x2048 (constant S_ .f32 0x3F800000#32)) (addf (broadcastInDim S32x2048 ![] bcast_S_S32x2048 (constant S_ .f32 0x3F800000#32)) (Host.exp (Host.negf c))))) (shapeCast S2048x12288 w shapeCasts_S1x2048x12288_S2048x12288)) (broadcastInDim S32x12288 ![0, 1] bcast_S1x12288_S32x12288_0_1 (broadcastInDim S1x12288 ![1] bcast_S12288_S1x12288_1 (shapeCast S12288 b shapeCasts_S1x12288_S12288)))

theorem hostP_at (c : FVec Ideal S8x2048 .f32) (w : FVec Ideal S1x2048x12288 .f32) (b : FVec Ideal S1x12288 .f32) (r : Fin 8) (e : Fin 12288) :
    hostP c w b (ix2 r e) = modEntry (fun d => c (ix2 r d)) (fun d => w (ix3 0 d e)) (b (ix2 0 e)) := by
  pointwise! [hostP, modEntry, Ideal.logistic]

theorem hostS_at (c : FVec Ideal S32x2048 .f32) (w : FVec Ideal S1x2048x12288 .f32) (b : FVec Ideal S1x12288 .f32) (r : Fin 32) (e : Fin 12288) :
    hostS c w b (ix2 r e) = modEntry (fun d => c (ix2 r d)) (fun d => w (ix3 0 d e)) (b (ix2 0 e)) := by
  pointwise! [hostS, modEntry, Ideal.logistic]

/-- The reference's result. -/
def out (cp : FVec Ideal S8x2048 .f32) (cs : FVec Ideal S32x2048 .f32) (w : FVec Ideal S1x2048x12288 .f32) (b : FVec Ideal S1x12288 .f32) : FVec Ideal S40x12288 .f32 :=
  concatenate S40x12288 0 [⟨S8x12288, hostP cp w b⟩, ⟨S32x12288, hostS cs w b⟩] concatenates_S8x12288_S32x12288_S40x12288_d0

/-- It is the program's, entry by entry. -/
theorem out_at (cp : FVec Ideal S8x2048 .f32) (cs : FVec Ideal S32x2048 .f32) (w : FVec Ideal S1x2048x12288 .f32) (b : FVec Ideal S1x12288 .f32) (r : Fin 40) (e : Fin 12288) :
    out cp cs w b (ix2 r e) = modEntry (condRow cp cs r) (fun d => w (ix3 0 d e)) (b (ix2 0 e)) := by
  unfold out
  rcases Nat.lt_or_ge r.val 8 with h | h
  · rw [show condRow cp cs r = fun d => cp (ix2 ⟨r.val, h⟩ d) from funext fun d => dif_pos h]
    pointwise [h, hostP_at]
  · rw [show condRow cp cs r = fun d => cs (ix2 ⟨r.val - 8, by omega⟩ d) from funext fun d => dif_neg (by omega)]
    pointwise [show ¬ r.val < 8 by omega, hostS_at]

end Cert.ModRefIdeal.Model

end
-- ==== Proof.ModClaims.lean ====
/-
The claims of the modulation call: the runs, and that the pipelined program and the layer's mathematics end alike.
-/
module

public import proofs.«01_k».proof.Defs
public import proofs.«01_k».proof.Proof.ModValue
public import proofs.«01_k».proof.Proof.ModRef
public import proofs.«01_k».proof.Proof.Gen.Mod
public import proofs.«01_k».proof.Proof.Gen.Mod.Frame
public import proofs.«01_k».proof.Proof.Gen.ModIdeal
public import proofs.«01_k».proof.Proof.Gen.ModRefIdeal
public import Idealize.ShloMosaic.Adequacy
public import Idealize.ShloMosaic.Init

@[expose] public section

set_option maxRecDepth 16384

noncomputable section

open Idealize.ShloMosaic Idealize.ShloMosaic.TcCoe Idealize.SL.Sem

namespace Cert.Proof.ModClaims

theorem frame_bits : Cert.quiescent_Mod := fun m ρ _ => Cert.Mod.Gen.frame m ρ
theorem frame_ideal : Cert.quiescent_ModIdeal := fun m ρ _ => Cert.ModIdeal.Gen.frame m ρ
theorem frame_ref : Cert.quiescent_ModRefIdeal := fun m ρ _ =>
  (θ_run Cert.ModRefIdeal.defs _ _).mono (fun r h => ⟨fun c => (h c).2, Idealize.ShloMosaic.sem_eq_zero_of_no_sems (by decide) r.2⟩)
    (Cert.ModRefIdeal.Value.run (F := Ideal) m ρ)
theorem preserves : Cert.preserves_Mod_ModIdeal := trivial

open Cert.ModIdeal.Model in
theorem algebraic : Cert.algebraic_ModIdeal_ModRefIdeal := by
  intro m ρ m' ρ' _ hagree
  refine ⟨fun c => Mods (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3)), ?_, ?_⟩
  · exact (θ_run Cert.ModIdeal.defs _ _).mono (fun r h c => ⟨(h c).1.trans (final3 m c), (h c).2⟩)
      (Cert.ModIdeal.Value.run_blocks m ρ)
  · refine (θ_run Cert.ModRefIdeal.defs _ _).mono (fun r h c => ⟨(h c).1.trans ?_, (h c).2⟩) (Cert.ModRefIdeal.Value.run (F := Ideal) m' ρ')
    obtain ⟨h0, h1, h2, h3⟩ := hagree c
    beta_reduce
    rw [← h0, ← h1, ← h2, ← h3]
    funext i
    obtain ⟨r, e, rfl⟩ : ∃ (r : Fin 40) (e : Fin 12288), i = ix2 r e := ⟨i 0, i 1, eq_ix2 i⟩
    exact Cert.ModRefIdeal.Model.out_at _ _ _ _ r e

end Cert.Proof.ModClaims

end
-- ==== Proof.BiasModel.lean ====
/-
The distance buckets of the relative position bias: which of the 32 buckets a distance falls into, once by comparing
with whole numbers and once by the logarithm.
-/
module

public import Idealize.ShloMosaic.Lib.Pointwise

@[expose] public section

set_option maxRecDepth 16384

noncomputable section

namespace Cert.Model.Bias

open Idealize.ShloMosaic

/-- The bucket of the distance `n`: distances below 16 have one each, the others share sixteen of growing width. -/
def bucket (n : ℕ) : ℕ :=
  if 113 ≤ n then 31 else if 99 ≤ n then 30 else if 87 ≤ n then 29 else if 77 ≤ n then 28 else if 67 ≤ n then 27
  else if 59 ≤ n then 26 else if 52 ≤ n then 25 else if 46 ≤ n then 24 else if 40 ≤ n then 23 else if 35 ≤ n then 22
  else if 31 ≤ n then 21 else if 27 ≤ n then 20 else if 24 ≤ n then 19 else if 21 ≤ n then 18 else if 19 ≤ n then 17
  else if 16 ≤ n then 16 else n

/-- Below 512 there are no more than 32 of them. -/
theorem bucket_lt : ∀ n : Fin 512, bucket n < 32 := by decide +kernel

/-- The buckets from the sixteenth on, each with the distances that fall into it. -/
theorem bucket_tab : ∀ n : Fin 512, ∀ k : Fin 16, ![16, 19, 21, 24, 27, 31, 35, 40, 46, 52, 59, 67, 77, 87, 99, 113] k ≤ n.val →
    n.val < ![19, 21, 24, 27, 31, 35, 40, 46, 52, 59, 67, 77, 87, 99, 113, 512] k → 16 + k.val = bucket n := by decide +kernel

/-- The bucket's entry picked by comparing the distance `w` with each first distance of a bucket in turn. -/
def chain {α : Type} (f : ℕ → α) (w : BitVec 32) : α :=
  Scalar.select (IntOp.cmpi .sge w 113#32) (f 31)
  (Scalar.select (IntOp.cmpi .sge w 99#32) (f 30)
  (Scalar.select (IntOp.cmpi .sge w 87#32) (f 29)
  (Scalar.select (IntOp.cmpi .sge w 77#32) (f 28)
  (Scalar.select (IntOp.cmpi .sge w 67#32) (f 27)
  (Scalar.select (IntOp.cmpi .sge w 59#32) (f 26)
  (Scalar.select (IntOp.cmpi .sge w 52#32) (f 25)
  (Scalar.select (IntOp.cmpi .sge w 46#32) (f 24)
  (Scalar.select (IntOp.cmpi .sge w 40#32) (f 23)
  (Scalar.select (IntOp.cmpi .sge w 35#32) (f 22)
  (Scalar.select (IntOp.cmpi .sge w 31#32) (f 21)
  (Scalar.select (IntOp.cmpi .sge w 27#32) (f 20)
  (Scalar.select (IntOp.cmpi .sge w 24#32) (f 19)
  (Scalar.select (IntOp.cmpi .sge w 21#32) (f 18)
  (Scalar.select (IntOp.cmpi .sge w 19#32) (f 17)
  (Scalar.select (IntOp.cmpi .sge w 16#32) (f 16)
  (Scalar.select (IntOp.cmpi .sge w 15#32) (f 15)
  (Scalar.select (IntOp.cmpi .sge w 14#32) (f 14)
  (Scalar.select (IntOp.cmpi .sge w 13#32) (f 13)
  (Scalar.select (IntOp.cmpi .sge w 12#32) (f 12)
  (Scalar.select (IntOp.cmpi .sge w 11#32) (f 11)
  (Scalar.select (IntOp.cmpi .sge w 10#32) (f 10)
  (Scalar.select (IntOp.cmpi .sge w 9#32) (f 9)
  (Scalar.select (IntOp.cmpi .sge w 8#32) (f 8)
  (Scalar.select (IntOp.cmpi .sge w 7#32) (f 7)
  (Scalar.select (IntOp.cmpi .sge w 6#32) (f 6)
  (Scalar.select (IntOp.cmpi .sge w 5#32) (f 5)
  (Scalar.select (IntOp.cmpi .sge w 4#32) (f 4)
  (Scalar.select (IntOp.cmpi .sge w 3#32) (f 3)
  (Scalar.select (IntOp.cmpi .sge w 2#32) (f 2)
  (Scalar.select (IntOp.cmpi .sge w 1#32) (f 1)
  (f 0)))))))))))))))))))))))))))))))

/-- A comparison of a signed word with a positive whole number. -/
theorem sge_iff {w : BitVec 32} {n : ℕ} (hw : max w.toInt 0 = n) (t : ℕ) (h0 : 0 < t) (ht : t < 1000) :
    IntOp.cmpi .sge w (BitVec.ofNat 32 t) = 1 ↔ t ≤ n := by
  have e : (BitVec.ofNat 32 t).toInt = t := by
    rw [BitVec.toInt_eq_toNat_cond, BitVec.toNat_ofNat, Nat.mod_eq_of_lt (by omega), if_pos (by omega)]
  show BitVec.ofBool ((BitVec.ofNat 32 t).sle w) = 1 ↔ _
  rw [show (BitVec.ofBool ((BitVec.ofNat 32 t).sle w) = 1 ↔ (BitVec.ofNat 32 t).sle w = true) by cases (BitVec.ofNat 32 t).sle w <;> decide,
    BitVec.sle_iff_toInt_le, e]
  omega

/-- The comparisons in turn pick the entry of the distance's bucket; a negative distance counts as nought. -/
theorem chain_eq {α : Type} (f : ℕ → α) {w : BitVec 32} {n : ℕ} (hw : max w.toInt 0 = n) : chain f w = f (bucket n) := by
  unfold chain Scalar.select
  simp only [sge_iff hw 1 (by norm_num) (by norm_num), sge_iff hw 2 (by norm_num) (by norm_num), sge_iff hw 3 (by norm_num) (by norm_num), sge_iff hw 4 (by norm_num) (by norm_num), sge_iff hw 5 (by norm_num) (by norm_num), sge_iff hw 6 (by norm_num) (by norm_num), sge_iff hw 7 (by norm_num) (by norm_num), sge_iff hw 8 (by norm_num) (by norm_num), sge_iff hw 9 (by norm_num) (by norm_num), sge_iff hw 10 (by norm_num) (by norm_num), sge_iff hw 11 (by norm_num) (by norm_num), sge_iff hw 12 (by norm_num) (by norm_num), sge_iff hw 13 (by norm_num) (by norm_num), sge_iff hw 14 (by norm_num) (by norm_num), sge_iff hw 15 (by norm_num) (by norm_num), sge_iff hw 16 (by norm_num) (by norm_num), sge_iff hw 19 (by norm_num) (by norm_num), sge_iff hw 21 (by norm_num) (by norm_num), sge_iff hw 24 (by norm_num) (by norm_num), sge_iff hw 27 (by norm_num) (by norm_num), sge_iff hw 31 (by norm_num) (by norm_num), sge_iff hw 35 (by norm_num) (by norm_num), sge_iff hw 40 (by norm_num) (by norm_num), sge_iff hw 46 (by norm_num) (by norm_num), sge_iff hw 52 (by norm_num) (by norm_num), sge_iff hw 59 (by norm_num) (by norm_num), sge_iff hw 67 (by norm_num) (by norm_num), sge_iff hw 77 (by norm_num) (by norm_num), sge_iff hw 87 (by norm_num) (by norm_num), sge_iff hw 99 (by norm_num) (by norm_num), sge_iff hw 113 (by norm_num) (by norm_num)]
  unfold bucket
  simp only [apply_ite f]
  rcases Nat.lt_or_ge n 16 with h | h
  · interval_cases n <;> simp
  · simp only [if_pos h]

/-- The logarithm of eight as the program writes it, rounded up at the ninth digit. -/
def c8 : ℝ := 8721810 / 4194304

theorem c8_pos : 0 < c8 := by unfold c8; norm_num

/-- The logarithm of two from above. -/
theorem log_two_hi : Real.log 2 ≤ 69316 / 100000 := by
  rw [Real.log_le_iff_le_exp (by norm_num)]
  refine le_trans ?_ (Real.sum_le_exp_of_nonneg (by norm_num) 8)
  norm_num [Finset.sum_range_succ, Nat.factorial]

/-- The logarithm of two from below. -/
theorem log_two_lo : 69314 / 100000 ≤ Real.log 2 := by
  rw [Real.le_log_iff_exp_le (by norm_num)]
  refine le_trans (Real.exp_bound' (n := 9) (by norm_num) (by norm_num) (by norm_num)) ?_
  norm_num [Finset.sum_range_succ, Nat.factorial]

/-- The written constant is not far below three times the logarithm of two. -/
theorem c8_lo : 3 * Real.log 2 ≤ c8 + 5 / 100000 := by
  have := log_two_hi
  unfold c8; linarith

/-- Nor is it far above. -/
theorem c8_hi : c8 ≤ 3 * Real.log 2 + 5 / 100000 := by
  have := log_two_lo
  unfold c8; linarith

/-- Sixteen times the logarithm of `t / 16`, less that of a power of two. -/
theorem log_pow (t e : ℕ) (ht : 0 < t) :
    16 * Real.log ((t : ℝ) / 16) - e * Real.log 2 = Real.log ((t : ℝ) ^ 16 / 2 ^ (64 + e)) := by
  have h : (0 : ℝ) < t := by exact_mod_cast ht
  rw [Real.log_div h.ne' (by norm_num), Real.log_div (by positivity) (by positivity), Real.log_pow, Real.log_pow,
    show (16 : ℝ) = 2 ^ 4 by norm_num, Real.log_pow]
  push_cast; ring

/-- From a distance whose sixteenth power passes the power of two on, the scaled logarithm is at least `k`. -/
theorem lower {n t k : ℕ} (ht : 0 < t) (hk : k ≤ 15) (hn : t ≤ n) (h : 2 ^ (64 + 3 * k) * 1000 ≤ t ^ 16 * 999) :
    (k : ℝ) ≤ Real.log ((n : ℝ) / 16) / c8 * 16 := by
  have h0 : (0 : ℝ) < t := by exact_mod_cast ht
  have hp : (0 : ℝ) < (t : ℝ) ^ 16 := by positivity
  have h1 := Real.one_sub_inv_le_log_of_pos (show (0 : ℝ) < (t : ℝ) ^ 16 / 2 ^ (64 + 3 * k) by positivity)
  rw [← log_pow t (3 * k) ht] at h1
  have h2 : ((t : ℝ) ^ 16 / 2 ^ (64 + 3 * k))⁻¹ ≤ 999 / 1000 := by
    rw [inv_div, div_le_div_iff₀ hp (by norm_num)]
    have : ((2 ^ (64 + 3 * k) * 1000 : ℕ) : ℝ) ≤ ((t ^ 16 * 999 : ℕ) : ℝ) := by exact_mod_cast h
    push_cast at this; linarith
  have h3 : Real.log ((t : ℝ) / 16) ≤ Real.log ((n : ℝ) / 16) := by
    apply Real.log_le_log (by positivity)
    have : (t : ℝ) ≤ n := by exact_mod_cast hn
    linarith
  have hk' : (k : ℝ) ≤ 15 := by exact_mod_cast hk
  have hk0 : (0 : ℝ) ≤ k := Nat.cast_nonneg k
  have h4 := mul_le_mul_of_nonneg_left c8_hi hk0
  push_cast at h1
  rw [div_mul_eq_mul_div, le_div_iff₀ c8_pos]
  nlinarith

/-- Up to a distance whose sixteenth power stays below the power of two, the scaled logarithm is below `k + 1`. -/
theorem upper {n u k : ℕ} (h16 : 16 ≤ n) (hk : k ≤ 26) (hn : n ≤ u) (h : u ^ 16 * 1000 ≤ 2 ^ (67 + 3 * k) * 998) :
    Real.log ((n : ℝ) / 16) / c8 * 16 < (k + 1 : ℕ) := by
  have h0 : (0 : ℝ) < n := by exact_mod_cast (by omega : 0 < n)
  have hlt : n ^ 16 * 1000 ≤ 2 ^ (64 + 3 * (k + 1)) * 998 :=
    le_trans (Nat.mul_le_mul_right _ (Nat.pow_le_pow_left hn 16)) (by rw [show 64 + 3 * (k + 1) = 67 + 3 * k by ring]; exact h)
  have h1 := Real.log_le_sub_one_of_pos (show (0 : ℝ) < (n : ℝ) ^ 16 / 2 ^ (64 + 3 * (k + 1)) by positivity)
  rw [← log_pow n (3 * (k + 1)) (by omega)] at h1
  have h2 : (n : ℝ) ^ 16 / 2 ^ (64 + 3 * (k + 1)) ≤ 998 / 1000 := by
    rw [div_le_div_iff₀ (by positivity) (by norm_num)]
    have : ((n ^ 16 * 1000 : ℕ) : ℝ) ≤ ((2 ^ (64 + 3 * (k + 1)) * 998 : ℕ) : ℝ) := by exact_mod_cast hlt
    push_cast at this; linarith
  have hk' : (k : ℝ) ≤ 26 := by exact_mod_cast hk
  have hk0 : (0 : ℝ) ≤ (k + 1 : ℕ) := Nat.cast_nonneg _
  have h4 := mul_le_mul_of_nonneg_left c8_lo hk0
  push_cast at h1 h4 ⊢
  rw [div_mul_eq_mul_div, div_lt_iff₀ c8_pos]
  nlinarith

/-- The scaled logarithm of a distance from sixteen on, cut to a whole number. -/
theorem floor_log {n : ℕ} (h16 : 16 ≤ n) (hn : n < 512) :
    ∃ k : ℕ, k < 27 ∧ ⌊Real.log ((n : ℝ) / 16) / c8 * 16⌋ = (k : ℤ) ∧ min (16 + k) 31 = bucket n := by
  have key : ∀ k : ℕ, (k : ℝ) ≤ Real.log ((n : ℝ) / 16) / c8 * 16 → Real.log ((n : ℝ) / 16) / c8 * 16 < (k + 1 : ℕ) →
      ⌊Real.log ((n : ℝ) / 16) / c8 * 16⌋ = (k : ℤ) := by
    intro k h1 h2
    rw [Int.floor_eq_iff]
    push_cast at h2 ⊢
    exact ⟨h1, h2⟩
  have lo0 : ((0 : ℕ) : ℝ) ≤ Real.log ((n : ℝ) / 16) / c8 * 16 := by
    have h : (16 : ℝ) ≤ n := by exact_mod_cast h16
    have := Real.log_nonneg (show (1 : ℝ) ≤ (n : ℝ) / 16 by linarith)
    have := c8_pos
    push_cast; positivity
  rcases Nat.lt_or_ge n 19 with h | h
  · exact ⟨0, by norm_num, key 0 lo0 (upper h16 (by norm_num) (Nat.le_sub_one_of_lt h) (by norm_num)), (by rw [← bucket_tab ⟨n, hn⟩ 0 h16 h]; rfl)⟩
  rcases Nat.lt_or_ge n 21 with h' | h'
  · exact ⟨1, by norm_num, key 1 (lower (by norm_num) (by norm_num) h (by norm_num)) (upper h16 (by norm_num) (Nat.le_sub_one_of_lt h') (by norm_num)), (by rw [← bucket_tab ⟨n, hn⟩ 1 h h']; rfl)⟩
  clear h; rename' h' => h
  rcases Nat.lt_or_ge n 24 with h' | h'
  · exact ⟨2, by norm_num, key 2 (lower (by norm_num) (by norm_num) h (by norm_num)) (upper h16 (by norm_num) (Nat.le_sub_one_of_lt h') (by norm_num)), (by rw [← bucket_tab ⟨n, hn⟩ 2 h h']; rfl)⟩
  clear h; rename' h' => h
  rcases Nat.lt_or_ge n 27 with h' | h'
  · exact ⟨3, by norm_num, key 3 (lower (by norm_num) (by norm_num) h (by norm_num)) (upper h16 (by norm_num) (Nat.le_sub_one_of_lt h') (by norm_num)), (by rw [← bucket_tab ⟨n, hn⟩ 3 h h']; rfl)⟩
  clear h; rename' h' => h
  rcases Nat.lt_or_ge n 31 with h' | h'
  · exact ⟨4, by norm_num, key 4 (lower (by norm_num) (by norm_num) h (by norm_num)) (upper h16 (by norm_num) (Nat.le_sub_one_of_lt h') (by norm_num)), (by rw [← bucket_tab ⟨n, hn⟩ 4 h h']; rfl)⟩
  clear h; rename' h' => h
  rcases Nat.lt_or_ge n 35 with h' | h'
  · exact ⟨5, by norm_num, key 5 (lower (by norm_num) (by norm_num) h (by norm_num)) (upper h16 (by norm_num) (Nat.le_sub_one_of_lt h') (by norm_num)), (by rw [← bucket_tab ⟨n, hn⟩ 5 h h']; rfl)⟩
  clear h; rename' h' => h
  rcases Nat.lt_or_ge n 40 with h' | h'
  · exact ⟨6, by norm_num, key 6 (lower (by norm_num) (by norm_num) h (by norm_num)) (upper h16 (by norm_num) (Nat.le_sub_one_of_lt h') (by norm_num)), (by rw [← bucket_tab ⟨n, hn⟩ 6 h h']; rfl)⟩
  clear h; rename' h' => h
  rcases Nat.lt_or_ge n 46 with h' | h'
  · exact ⟨7, by norm_num, key 7 (lower (by norm_num) (by norm_num) h (by norm_num)) (upper h16 (by norm_num) (Nat.le_sub_one_of_lt h') (by norm_num)), (by rw [← bucket_tab ⟨n, hn⟩ 7 h h']; rfl)⟩
  clear h; rename' h' => h
  rcases Nat.lt_or_ge n 52 with h' | h'
  · exact ⟨8, by norm_num, key 8 (lower (by norm_num) (by norm_num) h (by norm_num)) (upper h16 (by norm_num) (Nat.le_sub_one_of_lt h') (by norm_num)), (by rw [← bucket_tab ⟨n, hn⟩ 8 h h']; rfl)⟩
  clear h; rename' h' => h
  rcases Nat.lt_or_ge n 59 with h' | h'
  · exact ⟨9, by norm_num, key 9 (lower (by norm_num) (by norm_num) h (by norm_num)) (upper h16 (by norm_num) (Nat.le_sub_one_of_lt h') (by norm_num)), (by rw [← bucket_tab ⟨n, hn⟩ 9 h h']; rfl)⟩
  clear h; rename' h' => h
  rcases Nat.lt_or_ge n 67 with h' | h'
  · exact ⟨10, by norm_num, key 10 (lower (by norm_num) (by norm_num) h (by norm_num)) (upper h16 (by norm_num) (Nat.le_sub_one_of_lt h') (by norm_num)), (by rw [← bucket_tab ⟨n, hn⟩ 10 h h']; rfl)⟩
  clear h; rename' h' => h
  rcases Nat.lt_or_ge n 77 with h' | h'
  · exact ⟨11, by norm_num, key 11 (lower (by norm_num) (by norm_num) h (by norm_num)) (upper h16 (by norm_num) (Nat.le_sub_one_of_lt h') (by norm_num)), (by rw [← bucket_tab ⟨n, hn⟩ 11 h h']; rfl)⟩
  clear h; rename' h' => h
  rcases Nat.lt_or_ge n 87 with h' | h'
  · exact ⟨12, by norm_num, key 12 (lower (by norm_num) (by norm_num) h (by norm_num)) (upper h16 (by norm_num) (Nat.le_sub_one_of_lt h') (by norm_num)), (by rw [← bucket_tab ⟨n, hn⟩ 12 h h']; rfl)⟩
  clear h; rename' h' => h
  rcases Nat.lt_or_ge n 99 with h' | h'
  · exact ⟨13, by norm_num, key 13 (lower (by norm_num) (by norm_num) h (by norm_num)) (upper h16 (by norm_num) (Nat.le_sub_one_of_lt h') (by norm_num)), (by rw [← bucket_tab ⟨n, hn⟩ 13 h h']; rfl)⟩
  clear h; rename' h' => h
  rcases Nat.lt_or_ge n 113 with h' | h'
  · exact ⟨14, by norm_num, key 14 (lower (by norm_num) (by norm_num) h (by norm_num)) (upper h16 (by norm_num) (Nat.le_sub_one_of_lt h') (by norm_num)), (by rw [← bucket_tab ⟨n, hn⟩ 14 h h']; rfl)⟩
  have l15 := lower (n := n) (t := 113) (k := 15) (by norm_num) (by norm_num) h' (by norm_num)
  have u26 := upper (n := n) (u := 511) (k := 26) h16 (by norm_num) (by omega) (by norm_num)
  have f0 : (15 : ℤ) ≤ ⌊Real.log ((n : ℝ) / 16) / c8 * 16⌋ := Int.le_floor.mpr (by exact_mod_cast l15)
  have f1 : ⌊Real.log ((n : ℝ) / 16) / c8 * 16⌋ < (27 : ℤ) := Int.floor_lt.mpr (by exact_mod_cast u26)
  exact ⟨⌊Real.log ((n : ℝ) / 16) / c8 * 16⌋.toNat, by omega, by omega, by rw [← bucket_tab ⟨n, hn⟩ 15 h' hn]; simp; omega⟩

/-- The constant sixteen as the program writes it. -/
theorem c16_eq : Ideal.ofBits .f32 1098907648#32 = ((16 : ℝ) : EReal) := by
  simp [Ideal.ofBits, Ideal.ieee, -EReal.coe_mul]; norm_num

/-- The constant next to the logarithm of eight. -/
theorem c8_eq : Ideal.ofBits .f32 1074075026#32 = (c8 : EReal) := by
  unfold c8
  simp [Ideal.ofBits, Ideal.ieee, -EReal.coe_mul]; norm_num

/-- The logarithmic bucket of the clamped distance `d`, as the reference computes it. -/
def steps (d : BitVec 32) : BitVec 32 :=
  IntOp.minsi (IntOp.addi 16#32 (FloatOps.fptosi (F := Ideal) (φ := .f32) 32
    (Ideal.div (Ideal.log (Ideal.div (FloatOps.sitofp (F := Ideal) .f32 (IntOp.maxsi d 1#32)) (Ideal.ofBits .f32 1098907648#32)))
      (Ideal.ofBits .f32 1074075026#32) * Ideal.ofBits .f32 1098907648#32))) 31#32

/-- The bucket: the distance itself below sixteen, else the logarithmic one. -/
def refWord (d : BitVec 32) : BitVec 32 := Scalar.select (IntOp.cmpi .slt d 16#32) d (steps d)

/-- The row read from the table: a negative index would count from the end. -/
def row (d : BitVec 32) : BitVec 32 :=
  Scalar.select (IntOp.cmpi .slt (refWord d) 0#32) (IntOp.addi (refWord d) 32#32) (refWord d)

theorem slt_16 : ∀ n : Fin 512, IntOp.cmpi .slt (BitVec.ofNat 32 n) 16#32 = 1 ↔ n.val < 16 := by decide +kernel

theorem maxsi_one : ∀ n : Fin 512, 16 ≤ n.val → (IntOp.maxsi (BitVec.ofNat 32 n) 1#32).toInt = (n.val : ℤ) := by decide +kernel

theorem minsi_31 : ∀ k : Fin 27, IntOp.minsi (IntOp.addi 16#32 (BitVec.ofNat 32 k)) 31#32 = BitVec.ofNat 32 (min (16 + k.val) 31) := by
  decide +kernel

theorem row_wrap : ∀ b : Fin 32, Scalar.select (IntOp.cmpi .slt (BitVec.ofNat 32 b) 0#32) (IntOp.addi (BitVec.ofNat 32 b) 32#32)
    (BitVec.ofNat 32 b) = BitVec.ofNat 32 b.val := by decide +kernel

theorem toInt_row : ∀ b : Fin 32, min (BitVec.ofNat 32 b).toInt.toNat 31 = b.val := by decide +kernel

/-- From sixteen on the logarithmic bucket is the bucket. -/
theorem steps_eq {n : ℕ} (h16 : 16 ≤ n) (hn : n < 512) : steps (BitVec.ofNat 32 n) = BitVec.ofNat 32 (bucket n) := by
  obtain ⟨k, hk, hf, hb⟩ := floor_log h16 hn
  have hm := maxsi_one ⟨n, hn⟩ h16
  have hn0 : (0 : ℝ) < n := by exact_mod_cast (by omega : 0 < n)
  have hpos : (0 : ℝ) ≤ Real.log ((n : ℝ) / 16) / c8 * 16 := by
    rw [← Int.floor_nonneg, hf]; positivity
  unfold steps
  rw [c16_eq, c8_eq]
  have e : Ideal.div (Ideal.log (Ideal.div (FloatOps.sitofp (F := Ideal) .f32 (IntOp.maxsi (BitVec.ofNat 32 n) 1#32)) ((16 : ℝ) : EReal)))
      (c8 : EReal) * ((16 : ℝ) : EReal) = ((Real.log ((n : ℝ) / 16) / c8 * 16 : ℝ) : EReal) := by
    show Ideal.div (Ideal.log (Ideal.div ((((IntOp.maxsi (BitVec.ofNat 32 n) 1#32).toInt : ℝ) : EReal)) ((16 : ℝ) : EReal)))
      (c8 : EReal) * ((16 : ℝ) : EReal) = _
    rw [hm, Ideal.div_coe (y := 16) (by norm_num), ← EReal.coe_mul, Ideal.log_coe, if_neg (by push_cast; apply not_le.mpr; positivity), Ideal.div_coe c8_pos.ne', ← EReal.coe_mul,
      ← EReal.coe_mul]
    congr 1
    push_cast
    ring_nf
  rw [e]
  show IntOp.minsi (IntOp.addi 16#32 (Ideal.fptosi 32 _)) 31#32 = _
  rw [Ideal.fptosi, Ideal.toIntClamped_coe, if_pos hpos, hf]
  have hc : max (-(2 ^ (32 - 1) : ℕ) : ℤ) (min ((2 ^ (32 - 1) : ℕ) - 1) (k : ℤ)) = k := by norm_num; omega
  rw [hc, ← hb, ← minsi_31 ⟨k, hk⟩]
  rfl

/-- The row read is the bucket's. -/
theorem row_eq {n : ℕ} (hn : n < 512) : row (BitVec.ofNat 32 n) = BitVec.ofNat 32 (bucket n) := by
  have h : refWord (BitVec.ofNat 32 n) = BitVec.ofNat 32 (bucket n) := by
    unfold refWord Scalar.select
    rcases Nat.lt_or_ge n 16 with h | h
    · rw [if_pos ((slt_16 ⟨n, hn⟩).mpr h)]
      unfold bucket
      interval_cases n <;> rfl
    · rw [if_neg fun e => absurd ((slt_16 ⟨n, hn⟩).mp e) (by simp; omega), steps_eq h hn]
  unfold row
  rw [h]
  exact row_wrap ⟨bucket n, bucket_lt ⟨n, hn⟩⟩

/-- The difference of two small whole numbers as a signed word. -/
theorem sub_toInt {a b : ℕ} (ha : a < 1000) (hb : b < 1000) : (IntOp.subi (BitVec.ofNat 32 a) (BitVec.ofNat 32 b)).toInt = (a : ℤ) - b := by
  show (BitVec.ofNat 32 a - BitVec.ofNat 32 b).toInt = _
  rw [BitVec.toInt_eq_toNat_cond, BitVec.toNat_sub, BitVec.toNat_ofNat, BitVec.toNat_ofNat, Nat.mod_eq_of_lt (by omega : a < 2 ^ 32),
    Nat.mod_eq_of_lt (by omega : b < 2 ^ 32)]
  split_ifs <;> omega

/-- Clamped at nought it is the truncated difference. -/
theorem sub_max {a b : ℕ} (ha : a < 1000) (hb : b < 1000) :
    max (IntOp.subi (BitVec.ofNat 32 a) (BitVec.ofNat 32 b)).toInt 0 = ((a - b : ℕ) : ℤ) := by
  rw [sub_toInt ha hb]; omega

/-- The same as words. -/
theorem maxsi_zero {a b : ℕ} (ha : a < 1000) (hb : b < 1000) :
    IntOp.maxsi (IntOp.subi (BitVec.ofNat 32 a) (BitVec.ofNat 32 b)) 0#32 = BitVec.ofNat 32 (a - b) := by
  have h := sub_toInt ha hb
  apply BitVec.eq_of_toInt_eq
  have e : (BitVec.ofNat 32 (a - b)).toInt = ((a - b : ℕ) : ℤ) := by
    rw [BitVec.toInt_eq_toNat_cond, BitVec.toNat_ofNat, Nat.mod_eq_of_lt (by omega), if_pos (by omega)]
  rw [e]
  unfold IntOp.maxsi
  split_ifs with hs
  · rw [BitVec.slt_iff_toInt_lt, h] at hs
    rw [h]; simp at hs; omega
  · rw [BitVec.slt_iff_toInt_lt, h] at hs
    simp at hs ⊢; omega

/-- The bias tiles: entry `(k, h, key, query)` is the table's, at head `h`, for the bucket of the distance of query `256 k + query` from the key. -/
def Tiles (x : (⟨2, ![32, 8]⟩ : Shape).Idx → EReal) : (⟨4, ![2, 8, 256, 256]⟩ : Shape).Idx → EReal := fun y =>
  x (ix2 ⟨bucket ((y 0).val * 256 + (y 3).val - (y 2).val) % 32, Nat.mod_lt _ (by norm_num)⟩ ⟨(y 1).val, (y 1).isLt⟩)

end Cert.Model.Bias

end
-- ==== Proof.BiasValue.lean ====
/-
The relative position bias as the pipelined program computes it: at each head the kernel fills two tiles, each entry
picked from the head's column of the table by comparing the distance with the first distance of each bucket.
-/
module

public import proofs.«01_k».proof.Proof.BiasModel
public import proofs.«01_k».proof.Proof.Gen.BiasIdeal.Value
public import Idealize.ShloMosaic.Lib.Pipeline.ValueKit
public import Idealize.ShloMosaic.Lib.WholeRead
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.BiasIdeal.Model

open Cert.BiasIdeal Cert.BiasIdeal.Gen Cert.Model.Bias

/-- The first tile's entry: the distance is the query less the key. -/
theorem tile0 (f : ℕ → EReal) (x y : Fin 256) : k0_pay9 (F := Ideal) k0_pay2 (k0_pay7 k0_pay2 (k0_pay6 k0_pay2 (k0_pay4 k0_pay2 (k0_pay3 (f 0) (f 1) (f 2) (f 3) (f 4) (f 5) (f 6)) 7#32 (f 7) (f 8) (f 9) (f 10) (f 11) (f 12) (f 13)) (k0_pay5 k0_pay2) (f 14) (f 15) (f 16) (f 17) (f 18) (f 19) (f 20) (f 21)) 35#32 (f 22) (f 23) (f 24) (f 25) (f 26) (f 27) (f 28)) (k0_pay8 k0_pay2) (f 29) (f 30) (f 31) (ix4 0 0 x y)
    = chain f (IntOp.subi (BitVec.ofNat 32 (0 * 256 + y.val)) (BitVec.ofNat 32 x.val)) := by
  rw [show IntOp.subi (BitVec.ofNat 32 (0 * 256 + y.val)) (BitVec.ofNat 32 x.val)
    = IntOp.addi (IntOp.subi (BitVec.ofNat 32 y.val) (BitVec.ofNat 32 x.val)) 0#32 by
      show BitVec.ofNat 32 (0 * 256 + y.val) - BitVec.ofNat 32 x.val = BitVec.ofNat 32 y.val - BitVec.ofNat 32 x.val + 0#32
      rw [Nat.zero_mul, Nat.zero_add, BitVec.add_zero]]
  pointwise [k0_pay2, k0_pay3, k0_pay4, k0_pay5, k0_pay6, k0_pay7, k0_pay8, k0_pay9]
  rfl

/-- The second tile's entry: its queries are 256 further on. -/
theorem tile1 (f : ℕ → EReal) (x y : Fin 256) : k0_pay1 (F := Ideal) (k0_pay10 kernelRun0_A.sl.v0 kernelRun0_A.sl.v1) (k0_pay15 (k0_pay10 kernelRun0_A.sl.v0 kernelRun0_A.sl.v1) (k0_pay14 (k0_pay10 kernelRun0_A.sl.v0 kernelRun0_A.sl.v1) (k0_pay12 (k0_pay10 kernelRun0_A.sl.v0 kernelRun0_A.sl.v1) (k0_pay11 kernelRun0_A.sl.v0 kernelRun0_A.sl.v1 (f 0) (f 1) (f 2) (f 3)) 4#32 (f 4) (f 5) (f 6) (f 7) (f 8) (f 9) (f 10)) (k0_pay13 (k0_pay10 kernelRun0_A.sl.v0 kernelRun0_A.sl.v1)) (f 11) (f 12) (f 13) (f 14) (f 15) (f 16) (f 17) (f 18)) 24#32 (f 19) (f 20) (f 21) (f 22) (f 23) (f 24) (f 25)) (k0_pay16 (k0_pay10 kernelRun0_A.sl.v0 kernelRun0_A.sl.v1)) (f 26) (f 27) (f 28) (f 29) (f 30) (f 31) (ix4 0 0 x y)
    = chain f (IntOp.subi (BitVec.ofNat 32 (1 * 256 + y.val)) (BitVec.ofNat 32 x.val)) := by
  rw [show IntOp.subi (BitVec.ofNat 32 (1 * 256 + y.val)) (BitVec.ofNat 32 x.val)
    = IntOp.addi (IntOp.subi (BitVec.ofNat 32 y.val) (BitVec.ofNat 32 x.val)) 256#32 by
      show BitVec.ofNat 32 (1 * 256 + y.val) - BitVec.ofNat 32 x.val = BitVec.ofNat 32 y.val - BitVec.ofNat 32 x.val + 256#32
      rw [BitVec.ofNat_add, BitVec.sub_eq_add_neg, BitVec.sub_eq_add_neg, BitVec.add_assoc, BitVec.add_comm]]
  pointwise [k0_pay1, k0_pay10, k0_pay11, k0_pay12, k0_pay13, k0_pay14, k0_pay15, k0_pay16, kernelRun0_A.sl.v0, kernelRun0_A.sl.v1]
  rfl

/-- The head's number as a whole number again. -/
theorem head_eq (i : grid0.Coords) : (Scalar.indexCast (BitVec.ofNat 32 (i 0).val)).toNat = (i 0).val := by
  have h8 : (i 0).val < 8 := (i 0).isLt
  generalize (i 0).val = n at *
  interval_cases n <;> rfl

/-- A scalar read from the table. -/
theorem read_at (off : Fin 2 → ℕ) (h) (arg1 : Memref sig .tc .smem S32x8 .f32) (harg1 : arg1.IsWhole) (x0 : FVec Ideal S32x8 .f32)
    (b : Fin 32) (e : Fin 8) (h1) (hoff : off = ![b.val, e.val]) :
    View.readAt (Elt Ideal) arg1.view (Rect.unit (s := S32x8) off S1x1.size h).toLoadRect (harg1.unread x0) (Shape.Idx.first h1) = x0 (ix2 b e) := by
  subst hoff
  rw [harg1.readAt_unread]
  congr 1
  funext a
  apply Fin.ext
  fin_cases a <;> simp [LoadRect.idx, Rect.unit]

/-- The head's column of the table. -/
def col (x0 : FVec Ideal S32x8 .f32) (e : Fin 8) (b : ℕ) : EReal := x0 (ix2 ⟨b % 32, Nat.mod_lt _ (by norm_num)⟩ e)

variable (c : Dev nD) (i : grid0.Coords) (arg1 : Memref sig .tc .smem S32x8 .f32) (harg1 : arg1.IsWhole) (x0 : FVec Ideal S32x8 .f32)

theorem at_r_1 : kernelRun0_A.sl.r_1 (F := Ideal) c i arg1 harg1 x0 = col x0 (i 0) 1 :=
  read_at _ _ arg1 harg1 x0 1 (i 0) _ (congrArg (fun k => (![1, k] : Fin 2 → ℕ)) (head_eq i))

theorem at_r_2 : kernelRun0_A.sl.r_2 (F := Ideal) c i arg1 harg1 x0 = col x0 (i 0) 2 :=
  read_at _ _ arg1 harg1 x0 2 (i 0) _ (congrArg (fun k => (![2, k] : Fin 2 → ℕ)) (head_eq i))

theorem at_r_3 : kernelRun0_A.sl.r_3 (F := Ideal) c i arg1 harg1 x0 = col x0 (i 0) 3 :=
  read_at _ _ arg1 harg1 x0 3 (i 0) _ (congrArg (fun k => (![3, k] : Fin 2 → ℕ)) (head_eq i))

theorem at_r_4 : kernelRun0_A.sl.r_4 (F := Ideal) c i arg1 harg1 x0 = col x0 (i 0) 4 :=
  read_at _ _ arg1 harg1 x0 4 (i 0) _ (congrArg (fun k => (![4, k] : Fin 2 → ℕ)) (head_eq i))

theorem at_r_5 : kernelRun0_A.sl.r_5 (F := Ideal) c i arg1 harg1 x0 = col x0 (i 0) 5 :=
  read_at _ _ arg1 harg1 x0 5 (i 0) _ (congrArg (fun k => (![5, k] : Fin 2 → ℕ)) (head_eq i))

theorem at_r_6 : kernelRun0_A.sl.r_6 (F := Ideal) c i arg1 harg1 x0 = col x0 (i 0) 6 :=
  read_at _ _ arg1 harg1 x0 6 (i 0) _ (congrArg (fun k => (![6, k] : Fin 2 → ℕ)) (head_eq i))

theorem at_r : kernelRun0_A.sl.r (F := Ideal) c i arg1 harg1 x0 = col x0 (i 0) 0 :=
  read_at _ _ arg1 harg1 x0 0 (i 0) _ (congrArg (fun k => (![0, k] : Fin 2 → ℕ)) (head_eq i))

theorem at_r_8 : kernelRun0_A.sl.r_8 (F := Ideal) c i arg1 harg1 x0 = col x0 (i 0) 7 :=
  read_at _ _ arg1 harg1 x0 7 (i 0) _ (congrArg (fun k => (![7, k] : Fin 2 → ℕ)) (head_eq i))

theorem at_r_9 : kernelRun0_A.sl.r_9 (F := Ideal) c i arg1 harg1 x0 = col x0 (i 0) 8 :=
  read_at _ _ arg1 harg1 x0 8 (i 0) _ (congrArg (fun k => (![8, k] : Fin 2 → ℕ)) (head_eq i))

theorem at_r_10 : kernelRun0_A.sl.r_10 (F := Ideal) c i arg1 harg1 x0 = col x0 (i 0) 9 :=
  read_at _ _ arg1 harg1 x0 9 (i 0) _ (congrArg (fun k => (![9, k] : Fin 2 → ℕ)) (head_eq i))

theorem at_r_11 : kernelRun0_A.sl.r_11 (F := Ideal) c i arg1 harg1 x0 = col x0 (i 0) 10 :=
  read_at _ _ arg1 harg1 x0 10 (i 0) _ (congrArg (fun k => (![10, k] : Fin 2 → ℕ)) (head_eq i))

theorem at_r_12 : kernelRun0_A.sl.r_12 (F := Ideal) c i arg1 harg1 x0 = col x0 (i 0) 11 :=
  read_at _ _ arg1 harg1 x0 11 (i 0) _ (congrArg (fun k => (![11, k] : Fin 2 → ℕ)) (head_eq i))

theorem at_r_13 : kernelRun0_A.sl.r_13 (F := Ideal) c i arg1 harg1 x0 = col x0 (i 0) 12 :=
  read_at _ _ arg1 harg1 x0 12 (i 0) _ (congrArg (fun k => (![12, k] : Fin 2 → ℕ)) (head_eq i))

theorem at_r_14 : kernelRun0_A.sl.r_14 (F := Ideal) c i arg1 harg1 x0 = col x0 (i 0) 13 :=
  read_at _ _ arg1 harg1 x0 13 (i 0) _ (congrArg (fun k => (![13, k] : Fin 2 → ℕ)) (head_eq i))

theorem at_r_16 : kernelRun0_A.sl.r_16 (F := Ideal) c i arg1 harg1 x0 = col x0 (i 0) 14 :=
  read_at _ _ arg1 harg1 x0 14 (i 0) _ (congrArg (fun k => (![14, k] : Fin 2 → ℕ)) (head_eq i))

theorem at_r_17 : kernelRun0_A.sl.r_17 (F := Ideal) c i arg1 harg1 x0 = col x0 (i 0) 15 :=
  read_at _ _ arg1 harg1 x0 15 (i 0) _ (congrArg (fun k => (![15, k] : Fin 2 → ℕ)) (head_eq i))

theorem at_r_18 : kernelRun0_A.sl.r_18 (F := Ideal) c i arg1 harg1 x0 = col x0 (i 0) 16 :=
  read_at _ _ arg1 harg1 x0 16 (i 0) _ (congrArg (fun k => (![16, k] : Fin 2 → ℕ)) (head_eq i))

theorem at_r_19 : kernelRun0_A.sl.r_19 (F := Ideal) c i arg1 harg1 x0 = col x0 (i 0) 17 :=
  read_at _ _ arg1 harg1 x0 17 (i 0) _ (congrArg (fun k => (![17, k] : Fin 2 → ℕ)) (head_eq i))

theorem at_r_20 : kernelRun0_A.sl.r_20 (F := Ideal) c i arg1 harg1 x0 = col x0 (i 0) 18 :=
  read_at _ _ arg1 harg1 x0 18 (i 0) _ (congrArg (fun k => (![18, k] : Fin 2 → ℕ)) (head_eq i))

theorem at_r_21 : kernelRun0_A.sl.r_21 (F := Ideal) c i arg1 harg1 x0 = col x0 (i 0) 19 :=
  read_at _ _ arg1 harg1 x0 19 (i 0) _ (congrArg (fun k => (![19, k] : Fin 2 → ℕ)) (head_eq i))

theorem at_r_22 : kernelRun0_A.sl.r_22 (F := Ideal) c i arg1 harg1 x0 = col x0 (i 0) 20 :=
  read_at _ _ arg1 harg1 x0 20 (i 0) _ (congrArg (fun k => (![20, k] : Fin 2 → ℕ)) (head_eq i))

theorem at_r_23 : kernelRun0_A.sl.r_23 (F := Ideal) c i arg1 harg1 x0 = col x0 (i 0) 21 :=
  read_at _ _ arg1 harg1 x0 21 (i 0) _ (congrArg (fun k => (![21, k] : Fin 2 → ℕ)) (head_eq i))

theorem at_r_25 : kernelRun0_A.sl.r_25 (F := Ideal) c i arg1 harg1 x0 = col x0 (i 0) 22 :=
  read_at _ _ arg1 harg1 x0 22 (i 0) _ (congrArg (fun k => (![22, k] : Fin 2 → ℕ)) (head_eq i))

theorem at_r_26 : kernelRun0_A.sl.r_26 (F := Ideal) c i arg1 harg1 x0 = col x0 (i 0) 23 :=
  read_at _ _ arg1 harg1 x0 23 (i 0) _ (congrArg (fun k => (![23, k] : Fin 2 → ℕ)) (head_eq i))

theorem at_r_27 : kernelRun0_A.sl.r_27 (F := Ideal) c i arg1 harg1 x0 = col x0 (i 0) 24 :=
  read_at _ _ arg1 harg1 x0 24 (i 0) _ (congrArg (fun k => (![24, k] : Fin 2 → ℕ)) (head_eq i))

theorem at_r_28 : kernelRun0_A.sl.r_28 (F := Ideal) c i arg1 harg1 x0 = col x0 (i 0) 25 :=
  read_at _ _ arg1 harg1 x0 25 (i 0) _ (congrArg (fun k => (![25, k] : Fin 2 → ℕ)) (head_eq i))

theorem at_r_29 : kernelRun0_A.sl.r_29 (F := Ideal) c i arg1 harg1 x0 = col x0 (i 0) 26 :=
  read_at _ _ arg1 harg1 x0 26 (i 0) _ (congrArg (fun k => (![26, k] : Fin 2 → ℕ)) (head_eq i))

theorem at_r_30 : kernelRun0_A.sl.r_30 (F := Ideal) c i arg1 harg1 x0 = col x0 (i 0) 27 :=
  read_at _ _ arg1 harg1 x0 27 (i 0) _ (congrArg (fun k => (![27, k] : Fin 2 → ℕ)) (head_eq i))

theorem at_r_31 : kernelRun0_A.sl.r_31 (F := Ideal) c i arg1 harg1 x0 = col x0 (i 0) 28 :=
  read_at _ _ arg1 harg1 x0 28 (i 0) _ (congrArg (fun k => (![28, k] : Fin 2 → ℕ)) (head_eq i))

theorem at_r_33 : kernelRun0_A.sl.r_33 (F := Ideal) c i arg1 harg1 x0 = col x0 (i 0) 29 :=
  read_at _ _ arg1 harg1 x0 29 (i 0) _ (congrArg (fun k => (![29, k] : Fin 2 → ℕ)) (head_eq i))

theorem at_r_34 : kernelRun0_A.sl.r_34 (F := Ideal) c i arg1 harg1 x0 = col x0 (i 0) 30 :=
  read_at _ _ arg1 harg1 x0 30 (i 0) _ (congrArg (fun k => (![30, k] : Fin 2 → ℕ)) (head_eq i))

theorem at_r_35 : kernelRun0_A.sl.r_35 (F := Ideal) c i arg1 harg1 x0 = col x0 (i 0) 31 :=
  read_at _ _ arg1 harg1 x0 31 (i 0) _ (congrArg (fun k => (![31, k] : Fin 2 → ℕ)) (head_eq i))

theorem at_r_40 : kernelRun0_A.sl.r_40 (F := Ideal) c i arg1 harg1 x0 = col x0 (i 0) 26 :=
  read_at _ _ arg1 harg1 x0 26 (i 0) _ (congrArg (fun k => (![26, k] : Fin 2 → ℕ)) (head_eq i))

theorem at_r_41 : kernelRun0_A.sl.r_41 (F := Ideal) c i arg1 harg1 x0 = col x0 (i 0) 27 :=
  read_at _ _ arg1 harg1 x0 27 (i 0) _ (congrArg (fun k => (![27, k] : Fin 2 → ℕ)) (head_eq i))

theorem at_r_42 : kernelRun0_A.sl.r_42 (F := Ideal) c i arg1 harg1 x0 = col x0 (i 0) 28 :=
  read_at _ _ arg1 harg1 x0 28 (i 0) _ (congrArg (fun k => (![28, k] : Fin 2 → ℕ)) (head_eq i))

theorem at_r_43 : kernelRun0_A.sl.r_43 (F := Ideal) c i arg1 harg1 x0 = col x0 (i 0) 29 :=
  read_at _ _ arg1 harg1 x0 29 (i 0) _ (congrArg (fun k => (![29, k] : Fin 2 → ℕ)) (head_eq i))

theorem at_r_44 : kernelRun0_A.sl.r_44 (F := Ideal) c i arg1 harg1 x0 = col x0 (i 0) 30 :=
  read_at _ _ arg1 harg1 x0 30 (i 0) _ (congrArg (fun k => (![30, k] : Fin 2 → ℕ)) (head_eq i))

theorem at_r_45 : kernelRun0_A.sl.r_45 (F := Ideal) c i arg1 harg1 x0 = col x0 (i 0) 31 :=
  read_at _ _ arg1 harg1 x0 31 (i 0) _ (congrArg (fun k => (![31, k] : Fin 2 → ℕ)) (head_eq i))

/-- The block written at a head. -/
theorem out_at (arg2 : Memref sig .tc .vmem S2x1x256x256 .f32) (harg2 : arg2.IsWhole) (k : Fin 2) (x y : Fin 256) :
    out0_A_1 (F := Ideal) c i arg1 harg1 arg2 harg2 x0 (ix4 k 0 x y) = col x0 (i 0) (bucket (k.val * 256 + y.val - x.val)) := by
  rw [← chain_eq (col x0 (i 0)) (sub_max (a := k.val * 256 + y.val) (b := x.val) (by omega) (by omega))]
  unfold out0_A_1 kernelRun0_A
  dsimp only
  fin_cases k
  · rw [View.read_writes_cons_unit_of_not_mem _ _ _ _ _ _ rfl 0 (Or.inl Nat.zero_lt_one),
      View.read_writes_cons_unit_of_mem _ _ _ _ _ _ (ix4 0 0 x y) rfl (by intro a; fin_cases a <;> simp)]
    unfold kernelRun0_A.sl.r_32 kernelRun0_A.sl.r_24 kernelRun0_A.sl.r_15 kernelRun0_A.sl.r_7
    simp only [at_r_1, at_r_2, at_r_3, at_r_4, at_r_5, at_r_6, at_r, at_r_8, at_r_9, at_r_10, at_r_11, at_r_12, at_r_13, at_r_14, at_r_16, at_r_17, at_r_18, at_r_19, at_r_20, at_r_21, at_r_22, at_r_23, at_r_25, at_r_26, at_r_27, at_r_28, at_r_29, at_r_30, at_r_31, at_r_33, at_r_34, at_r_35, at_r_40, at_r_41, at_r_42, at_r_43, at_r_44, at_r_45]
    exact tile0 (col x0 (i 0)) x y
  · rw [View.read_writes_cons_unit_of_mem _ _ _ _ _ _ (ix4 0 0 x y) rfl (by intro a; fin_cases a <;> simp)]
    unfold kernelRun0_A.sl.r_39 kernelRun0_A.sl.r_38 kernelRun0_A.sl.r_37 kernelRun0_A.sl.r_36
    simp only [at_r_1, at_r_2, at_r_3, at_r_4, at_r_5, at_r_6, at_r, at_r_8, at_r_9, at_r_10, at_r_11, at_r_12, at_r_13, at_r_14, at_r_16, at_r_17, at_r_18, at_r_19, at_r_20, at_r_21, at_r_22, at_r_23, at_r_25, at_r_26, at_r_27, at_r_28, at_r_29, at_r_30, at_r_31, at_r_33, at_r_34, at_r_35, at_r_40, at_r_41, at_r_42, at_r_43, at_r_44, at_r_45]
    exact tile1 (col x0 (i 0)) x y

variable (m : (ℓ : Loc nD τ sig) → Buf (Elt Ideal) ℓ)

/-- Where each window's block sits at each point. -/
theorem idx : ∀ t : Fin cfg0.N, win0_0.index t = ![0, 0] ∧ win0_1.index t = ![0, t.val, 0, 0] := (by decide +kernel : ∀ t : Fin grid0.N, _)

theorem coord : ∀ t : Fin cfg0.N, (grid0.coords t 0).val = t.val := (by decide +kernel : ∀ t : Fin grid0.N, _)

theorem N_eq : cfg0.N = 8 := N_0

/-- The first window's block is the table at every point. -/
theorem tab_at (t : Fin cfg0.N) (b : Fin 32) (h : Fin 8) :
    (iblk (F := Ideal) m c 0 t : FVec Ideal S32x8 .f32) (ix2 b h) = (m ((c : Thread nD τ).loc main_arg0) : FVec Ideal S32x8 .f32) (ix2 b h) := by
  blk_point [iblk, V, idx t]

/-- The result array after the run. -/
theorem final1 : (dats m 0 c).arrAt 1 cfg0.N = Tiles (m ((c : Thread nD τ).loc main_arg0)) := by
  refine (dats m 0 c).arrAt_eq_of_covers 1 _ (by decide +kernel) fun t _ y => ?_
  blk_simp
  rw [after0_1]
  have ht : t.val < 8 := N_eq ▸ t.isLt
  idx_vars y
  obtain rfl : y1 = 0 := Subsingleton.elim _ _
  have hemb : ((View.whole main_v0).slice (win0_1.rect t)).emb (ix4 y0 0 y2 y3) = (ix4 y0 ⟨t.val, ht⟩ y2 y3 : S2x8x256x256.Idx) := by
    blk_ext [idx t]
  rw [hemb]
  unfold outsAt0
  refine (out_at c (grid0.coords t) _ _ (iblk (F := Ideal) m c 0 t) _ _ y0 y2 y3).trans ?_
  refine (tab_at c m t _ _).trans ?_
  unfold Tiles
  congr 2
  exact Fin.ext (coord t)

end Cert.BiasIdeal.Model

end
-- ==== Proof.BiasRef.lean ====
/-
The reference's relative position bias: the table gathered at the bucket of each distance, the bucket by the logarithm.
-/
module

public import proofs.«01_k».proof.Proof.BiasModel
public import proofs.«01_k».proof.Proof.Gen.BiasRefIdeal.Run
public import Idealize.ShloMosaic.Lib.Pipeline.ValueKit

@[expose] public section

set_option maxRecDepth 16384

noncomputable section

open Idealize.ShloMosaic Idealize.ShloMosaic.TcCoe Idealize.SL.Sem

namespace Cert.BiasRefIdeal.Model

open Cert.BiasRefIdeal Cert.BiasRefIdeal.Gen Cert.BiasRefIdeal.Value Cert.Model.Bias

/-- The gather's dimension numbers: whole rows of the table, one row index per entry. -/
abbrev G := gather_S32x8_S2x256x256x1_S2x256x256x8_3_0_n_n_0_3_18

/-- The gather at an entry: the row at the index, read signed and kept inside the table. -/
theorem gather_at (x : FVec Ideal S32x8 .f32) (idx : IVec S2x256x256x1 32) (k : Fin 2) (p q : Fin 256) (h : Fin 8) :
    Host.gather G x idx (ix4 k p q h) = x (ix2 ⟨min (idx (ix4 k p q 0)).toInt.toNat 31, by omega⟩ h) := by
  unfold Host.gather
  congr 1
  funext a
  refine Fin.ext ?_
  match a with
  | ⟨0, _⟩ =>
    show G.start (ix4 k p q h) idx 0 + G.batchCoord (ix4 k p q h) 0 + G.offCoord (ix4 k p q h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix4 k p q h) ⟨List.idxOf (0 : Fin 2) G.startIndexMap,
        List.idxOf_lt_length_iff.2 (List.mem_singleton.mpr rfl)⟩ = ix4 k p q 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show G.start (ix4 k p q h) idx 1 + G.batchCoord (ix4 k p q h) 1 + G.offCoord (ix4 k p q h) 1 = _
    rw [GatherDims.batchCoord_eq_zero _ _ _ List.not_mem_nil]
    unfold GatherDims.start
    rw [dif_neg (by decide), Nat.zero_add]
    unfold GatherDims.offCoord
    rw [dif_pos (by decide)]
    rfl

/-- The clamped distances. -/
def dist : IVec S2x256x256 32 :=
  maxsi (subi (broadcastInDim S2x256x256 ![0, 1, 2] bcast_S2x1x256_S2x256x256_0_1_2 (shapeCast S2x1x256 (iotaInDim S512 32 0) shapeCasts_S512_S2x1x256))
    (broadcastInDim S2x256x256 ![0, 1, 2] bcast_S1x256x1_S2x256x256_0_1_2 (broadcastInDim S1x256x1 ![1] bcast_S256_S1x256x1_1 (iotaInDim S256 32 0))))
    (broadcastInDim S2x256x256 ![] bcast_S_S2x256x256 (constantI S_ 32 0#32))

theorem dist_at (k : Fin 2) (x y : Fin 256) : dist (ix3 k x y) = BitVec.ofNat 32 (k.val * 256 + y.val - x.val) := by
  rw [← maxsi_zero (a := k.val * 256 + y.val) (b := x.val) (by omega) (by omega)]
  pointwise! [dist]

/-- The buckets of the distances `D`. -/
def buckets (D : IVec S2x256x256 32) : IVec S2x256x256 32 :=
  select (cmpi .slt D (broadcastInDim S2x256x256 ![] bcast_S_S2x256x256 (constantI S_ 32 16#32))) D
    (minsi (addi (broadcastInDim S2x256x256 ![] bcast_S_S2x256x256 (constantI S_ 32 16#32))
      (fptosi 32 (mulf (F := Ideal) (Host.divf (Host.log (Host.divf
        (sitofp .f32 (maxsi D (broadcastInDim S2x256x256 ![] bcast_S_S2x256x256 (constantI S_ 32 1#32))))
        (broadcastInDim S2x256x256 ![] bcast_S_S2x256x256 (constant S_ .f32 1098907648#32))))
        (broadcastInDim S2x256x256 ![] bcast_S_S2x256x256 (constant S_ .f32 1074075026#32)))
        (broadcastInDim S2x256x256 ![] bcast_S_S2x256x256 (constant S_ .f32 1098907648#32)))))
      (broadcastInDim S2x256x256 ![] bcast_S_S2x256x256 (constantI S_ 32 31#32)))

theorem buckets_at (D : IVec S2x256x256 32) (k : Fin 2) (x y : Fin 256) : buckets D (ix3 k x y) = refWord (D (ix3 k x y)) := by
  unfold refWord steps
  pointwise! [buckets]

/-- The rows read for the buckets `B`. -/
def rows (B : IVec S2x256x256 32) : IVec S2x256x256x1 32 :=
  broadcastInDim S2x256x256x1 ![0, 1, 2] bcast_S2x256x256_S2x256x256x1_0_1_2
    (select (cmpi .slt B (broadcastInDim S2x256x256 ![] bcast_S_S2x256x256 (constantI S_ 32 0#32)))
      (addi B (broadcastInDim S2x256x256 ![] bcast_S_S2x256x256 (constantI S_ 32 32#32))) B)

theorem rows_at (B : IVec S2x256x256 32) (k : Fin 2) (x y : Fin 256) : rows B (ix4 k x y 0)
    = Scalar.select (IntOp.cmpi .slt (B (ix3 k x y)) 0#32) (IntOp.addi (B (ix3 k x y)) 32#32) (B (ix3 k x y)) := by
  pointwise! [rows]

/-- The reference's result. -/
def out (x : FVec Ideal S32x8 .f32) : FVec Ideal S2x8x256x256 .f32 :=
  transpose S2x8x256x256 [0, 3, 1, 2] (Host.gather G x (rows (buckets dist))) transposes_S2x256x256x8_S2x8x256x256_0_3_1_2

theorem out_gather (g : FVec Ideal S2x256x256x8 .f32) (k : Fin 2) (h : Fin 8) (x y : Fin 256) :
    transpose S2x8x256x256 [0, 3, 1, 2] g transposes_S2x256x256x8_S2x8x256x256_0_3_1_2 (ix4 k h x y) = g (ix4 k x y h) := by
  pointwise!

/-- The row read at an entry is the bucket of its distance. -/
theorem row_at (k : Fin 2) (x y : Fin 256) : rows (buckets dist) (ix4 k x y 0) = BitVec.ofNat 32 (bucket (k.val * 256 + y.val - x.val)) := by
  rw [rows_at, buckets_at, dist_at]
  exact row_eq (by omega)

/-- The gathered table, its head axis moved forward, is the bias tiles as soon as the rows read are the buckets. -/
theorem tiles_of (x : FVec Ideal S32x8 .f32) (I : IVec S2x256x256x1 32)
    (hI : ∀ (k : Fin 2) (x y : Fin 256), I (ix4 k x y 0) = BitVec.ofNat 32 (bucket (k.val * 256 + y.val - x.val))) :
    transpose S2x8x256x256 [0, 3, 1, 2] (Host.gather G x I) transposes_S2x256x256x8_S2x8x256x256_0_3_1_2 = Tiles x := by
  funext j
  obtain ⟨k, h, p, q, rfl⟩ : ∃ k h p q, j = ix4 k h p q := ⟨j 0, j 1, j 2, j 3, by funext a; fin_cases a <;> rfl⟩
  have hb : k.val * 256 + q.val - p.val < 512 := by have := k.isLt; have := q.isLt; omega
  have h32 := bucket_lt ⟨_, hb⟩
  rw [out_gather, gather_at]
  show x _ = x _
  congr 2
  refine Fin.ext ?_
  show min (I (ix4 k p q 0)).toInt.toNat 31 = _
  rw [hI]
  exact (toInt_row ⟨_, h32⟩).trans (Nat.mod_eq_of_lt h32).symm

/-- The reference's result is the bias tiles. -/
theorem out_eq (x : FVec Ideal S32x8 .f32) : out x = Tiles x := tiles_of x _ row_at

/-- The reference's run leaves it. -/
theorem res_eq (m : (ℓ : Loc nD τ sig) → Buf (Elt Ideal) ℓ) (c : Dev nD) :
    res_main_v34 m c = Tiles (m ((c : Thread nD τ).loc main_arg0)) :=
  Eq.trans rfl (out_eq (m ((c : Thread nD τ).loc main_arg0)))

end Cert.BiasRefIdeal.Model

end
-- ==== Proof.BiasClaims.lean ====
/-
The claims of the relative-bias call: the runs, and that the pipelined program and the layer's mathematics end alike.
-/
module

public import proofs.«01_k».proof.Defs
public import proofs.«01_k».proof.Proof.BiasValue
public import proofs.«01_k».proof.Proof.BiasRef
public import proofs.«01_k».proof.Proof.Gen.Bias
public import proofs.«01_k».proof.Proof.Gen.Bias.Frame
public import proofs.«01_k».proof.Proof.Gen.BiasIdeal
public import proofs.«01_k».proof.Proof.Gen.BiasRefIdeal
public import Idealize.ShloMosaic.Adequacy
public import Idealize.ShloMosaic.Init

@[expose] public section

set_option maxRecDepth 16384

noncomputable section

open Idealize.ShloMosaic Idealize.ShloMosaic.TcCoe Idealize.SL.Sem

namespace Cert.Proof.BiasClaims

theorem frame_bits : Cert.quiescent_Bias := fun m ρ _ => Cert.Bias.Gen.frame m ρ
theorem frame_ideal : Cert.quiescent_BiasIdeal := fun m ρ _ => Cert.BiasIdeal.Gen.frame m ρ
theorem frame_ref : Cert.quiescent_BiasRefIdeal := fun m ρ _ =>
  (θ_run Cert.BiasRefIdeal.defs _ _).mono (fun r h => ⟨fun c => (h c).2, Idealize.ShloMosaic.sem_eq_zero_of_no_sems (by decide) r.2⟩)
    (Cert.BiasRefIdeal.Value.run (F := Ideal) m ρ)
theorem preserves : Cert.preserves_Bias_BiasIdeal := trivial

open Cert.BiasIdeal.Model in
theorem algebraic : Cert.algebraic_BiasIdeal_BiasRefIdeal := by
  intro m ρ m' ρ' _ hagree
  refine ⟨fun c => Cert.Model.Bias.Tiles (m ((c.tc : Thread Cert.BiasIdeal.nD Cert.BiasIdeal.τ).loc Cert.BiasIdeal.main_arg0)), ?_, ?_⟩
  · exact (θ_run Cert.BiasIdeal.defs _ _).mono (fun r h c => ⟨(h c).1.trans (final1 c m), (h c).2⟩)
      (Cert.BiasIdeal.Value.run_blocks m ρ)
  · refine (θ_run Cert.BiasRefIdeal.defs _ _).mono (fun r h c => ⟨(h c).1.trans ?_, (h c).2⟩) (Cert.BiasRefIdeal.Value.run (F := Ideal) m' ρ')
    have h0 := hagree c
    beta_reduce
    rw [← h0]
    exact Cert.BiasRefIdeal.Model.out_eq _

end Cert.Proof.BiasClaims

end
-- ==== Proof.lean ====
/-
The certificate: each call's claims, one module per call.
-/
module

public import proofs.«01_k».proof.Defs
public import proofs.«01_k».proof.Proof.FfnClaims
public import proofs.«01_k».proof.Proof.MergeClaims
public import proofs.«01_k».proof.Proof.ProjClaims
public import proofs.«01_k».proof.Proof.SFfnClaims
public import proofs.«01_k».proof.Proof.SMergeClaims
public import proofs.«01_k».proof.Proof.SProjClaims
public import proofs.«01_k».proof.Proof.ModClaims
public import proofs.«01_k».proof.Proof.BiasClaims

@[expose] public section

noncomputable section

namespace Cert.Proof

open Idealize.ShloMosaic Idealize.SL.Sem

theorem claim : Cert.Claim := ⟨Cert.Ffn.Gen.facts, Cert.FfnIdeal.Gen.facts, Cert.FfnRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.SFfn.Gen.facts, Cert.SFfnIdeal.Gen.facts, Cert.SFfnRefIdeal.Gen.facts, Cert.SMerge.Gen.facts, Cert.SMergeIdeal.Gen.facts, Cert.SMergeRefIdeal.Gen.facts, Cert.SProj.Gen.facts, Cert.SProjIdeal.Gen.facts, Cert.SProjRefIdeal.Gen.facts, Cert.Mod.Gen.facts, Cert.ModIdeal.Gen.facts, Cert.ModRefIdeal.Gen.facts, Cert.Bias.Gen.facts, Cert.BiasIdeal.Gen.facts, Cert.BiasRefIdeal.Gen.facts,
  FfnClaims.frame_bits, FfnClaims.frame_ideal, FfnClaims.frame_ref, MergeClaims.frame_bits, MergeClaims.frame_ideal, MergeClaims.frame_ref, ProjClaims.frame_bits, ProjClaims.frame_ideal, ProjClaims.frame_ref, SFfnClaims.frame_bits, SFfnClaims.frame_ideal, SFfnClaims.frame_ref, SMergeClaims.frame_bits, SMergeClaims.frame_ideal, SMergeClaims.frame_ref, SProjClaims.frame_bits, SProjClaims.frame_ideal, SProjClaims.frame_ref, ModClaims.frame_bits, ModClaims.frame_ideal, ModClaims.frame_ref, BiasClaims.frame_bits, BiasClaims.frame_ideal, BiasClaims.frame_ref,
  FfnClaims.preserves, FfnClaims.algebraic, MergeClaims.preserves, MergeClaims.algebraic, ProjClaims.preserves, ProjClaims.algebraic, SFfnClaims.preserves, SFfnClaims.algebraic, SMergeClaims.preserves, SMergeClaims.algebraic, SProjClaims.preserves, SProjClaims.algebraic, ModClaims.preserves, ModClaims.algebraic, BiasClaims.preserves, BiasClaims.algebraic⟩

end Cert.Proof

end
